-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite [hPre_finite : Cert.Pre_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_InInput (m : (ℓ : Loc Cert.InInput.nD Cert.InInput.τ Cert.InInput.sig) → Buf (Elt Bits) ℓ) : Prop :=
  True

def Pre_InInputIdeal (m : (ℓ : Loc Cert.InInputIdeal.nD Cert.InInputIdeal.τ Cert.InInputIdeal.sig) → Buf (Elt Ideal) ℓ) : Prop :=
  True

def Pre_InInputRefIdeal (m : (ℓ : Loc Cert.InInputRefIdeal.nD Cert.InInputRefIdeal.τ Cert.InInputRefIdeal.sig) → Buf (Elt Ideal) ℓ) : Prop :=
  True

def Pre_OutInput (m : (ℓ : Loc Cert.OutInput.nD Cert.OutInput.τ Cert.OutInput.sig) → Buf (Elt Bits) ℓ) : Prop :=
  True

def Pre_OutInputIdeal (m : (ℓ : Loc Cert.OutInputIdeal.nD Cert.OutInputIdeal.τ Cert.OutInputIdeal.sig) → Buf (Elt Ideal) ℓ) : Prop :=
  True

def Pre_OutInputRefIdeal (m : (ℓ : Loc Cert.OutInputRefIdeal.nD Cert.OutInputRefIdeal.τ Cert.OutInputRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))) = (fun _ => 1#1)

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepGate (m : (ℓ : Loc Cert.StepGate.nD Cert.StepGate.τ Cert.StepGate.sig) → Buf (Elt Bits) ℓ) : Prop :=
  True

def Pre_StepGateIdeal (m : (ℓ : Loc Cert.StepGateIdeal.nD Cert.StepGateIdeal.τ Cert.StepGateIdeal.sig) → Buf (Elt Ideal) ℓ) : Prop :=
  True

def Pre_StepGateRefIdeal (m : (ℓ : Loc Cert.StepGateRefIdeal.nD Cert.StepGateRefIdeal.τ Cert.StepGateRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_NormOut (m : (ℓ : Loc Cert.NormOut.nD Cert.NormOut.τ Cert.NormOut.sig) → Buf (Elt Bits) ℓ) : Prop :=
  True

def Pre_NormOutIdeal (m : (ℓ : Loc Cert.NormOutIdeal.nD Cert.NormOutIdeal.τ Cert.NormOutIdeal.sig) → Buf (Elt Ideal) ℓ) : Prop :=
  True

def Pre_NormOutRefIdeal (m : (ℓ : Loc Cert.NormOutRefIdeal.nD Cert.NormOutRefIdeal.τ Cert.NormOutRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite [hGateRefIdeal : Cert.GateRefIdeal.Facts] [hPre_finite : Cert.Pre_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_InInput [hInInput : Cert.InInput.Facts] : Prop :=
  ∀ (m : (ℓ : Loc Cert.InInput.nD Cert.InInput.τ Cert.InInput.sig) → Buf (Elt Bits) ℓ) (g : Dev Cert.InInput.nD → PrngReg), Pre_InInput m →
    θ_run (Cert.InInput.defs (F := Bits)) (onTc (τ := Cert.InInput.τ) (Cert.InInput.main (F := Bits))) ⟨m, fun _ => 0, g⟩ (fun r => (∀ c : Dev Cert.InInput.nD,
      r.2.mem ((c.tc : Thread Cert.InInput.nD Cert.InInput.τ).loc Cert.InInput.main_arg0) = m ((c.tc : Thread Cert.InInput.nD Cert.InInput.τ).loc Cert.InInput.main_arg0)
      ∧ r.2.mem ((c.tc : Thread Cert.InInput.nD Cert.InInput.τ).loc Cert.InInput.main_arg1) = m ((c.tc : Thread Cert.InInput.nD Cert.InInput.τ).loc Cert.InInput.main_arg1))
      ∧ r.2.sem = fun _ => 0)

def quiescent_InInputIdeal [hInInputIdeal : Cert.InInputIdeal.Facts] : Prop :=
  ∀ (m : (ℓ : Loc Cert.InInputIdeal.nD Cert.InInputIdeal.τ Cert.InInputIdeal.sig) → Buf (Elt Ideal) ℓ) (g : Dev Cert.InInputIdeal.nD → PrngReg), Pre_InInputIdeal m →
    θ_run (Cert.InInputIdeal.defs (F := Ideal)) (onTc (τ := Cert.InInputIdeal.τ) (Cert.InInputIdeal.main (F := Ideal))) ⟨m, fun _ => 0, g⟩ (fun r => (∀ c : Dev Cert.InInputIdeal.nD,
      r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
      ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ r.2.sem = fun _ => 0)

def quiescent_InInputRefIdeal [hInInputRefIdeal : Cert.InInputRefIdeal.Facts] : Prop :=
  ∀ (m : (ℓ : Loc Cert.InInputRefIdeal.nD Cert.InInputRefIdeal.τ Cert.InInputRefIdeal.sig) → Buf (Elt Ideal) ℓ) (g : Dev Cert.InInputRefIdeal.nD → PrngReg), Pre_InInputRefIdeal m →
    θ_run (Cert.InInputRefIdeal.defs (F := Ideal)) (onTc (τ := Cert.InInputRefIdeal.τ) (Cert.InInputRefIdeal.main (F := Ideal))) ⟨m, fun _ => 0, g⟩ (fun r => (∀ c : Dev Cert.InInputRefIdeal.nD,
      r.2.mem ((c.tc : Thread Cert.InInputRefIdeal.nD Cert.InInputRefIdeal.τ).loc Cert.InInputRefIdeal.main_arg0) = m ((c.tc : Thread Cert.InInputRefIdeal.nD Cert.InInputRefIdeal.τ).loc Cert.InInputRefIdeal.main_arg0)
      ∧ r.2.mem ((c.tc : Thread Cert.InInputRefIdeal.nD Cert.InInputRefIdeal.τ).loc Cert.InInputRefIdeal.main_arg1) = m ((c.tc : Thread Cert.InInputRefIdeal.nD Cert.InInputRefIdeal.τ).loc Cert.InInputRefIdeal.main_arg1))
      ∧ r.2.sem = fun _ => 0)

def quiescent_OutInput [hOutInput : Cert.OutInput.Facts] : Prop :=
  ∀ (m : (ℓ : Loc Cert.OutInput.nD Cert.OutInput.τ Cert.OutInput.sig) → Buf (Elt Bits) ℓ) (g : Dev Cert.OutInput.nD → PrngReg), Pre_OutInput m →
    θ_run (Cert.OutInput.defs (F := Bits)) (onTc (τ := Cert.OutInput.τ) (Cert.OutInput.main (F := Bits))) ⟨m, fun _ => 0, g⟩ (fun r => (∀ c : Dev Cert.OutInput.nD,
      r.2.mem ((c.tc : Thread Cert.OutInput.nD Cert.OutInput.τ).loc Cert.OutInput.main_arg0) = m ((c.tc : Thread Cert.OutInput.nD Cert.OutInput.τ).loc Cert.OutInput.main_arg0)
      ∧ r.2.mem ((c.tc : Thread Cert.OutInput.nD Cert.OutInput.τ).loc Cert.OutInput.main_arg1) = m ((c.tc : Thread Cert.OutInput.nD Cert.OutInput.τ).loc Cert.OutInput.main_arg1))
      ∧ r.2.sem = fun _ => 0)

def quiescent_OutInputIdeal [hOutInputIdeal : Cert.OutInputIdeal.Facts] : Prop :=
  ∀ (m : (ℓ : Loc Cert.OutInputIdeal.nD Cert.OutInputIdeal.τ Cert.OutInputIdeal.sig) → Buf (Elt Ideal) ℓ) (g : Dev Cert.OutInputIdeal.nD → PrngReg), Pre_OutInputIdeal m →
    θ_run (Cert.OutInputIdeal.defs (F := Ideal)) (onTc (τ := Cert.OutInputIdeal.τ) (Cert.OutInputIdeal.main (F := Ideal))) ⟨m, fun _ => 0, g⟩ (fun r => (∀ c : Dev Cert.OutInputIdeal.nD,
      r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
      ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ r.2.sem = fun _ => 0)

def quiescent_OutInputRefIdeal [hOutInputRefIdeal : Cert.OutInputRefIdeal.Facts] : Prop :=
  ∀ (m : (ℓ : Loc Cert.OutInputRefIdeal.nD Cert.OutInputRefIdeal.τ Cert.OutInputRefIdeal.sig) → Buf (Elt Ideal) ℓ) (g : Dev Cert.OutInputRefIdeal.nD → PrngReg), Pre_OutInputRefIdeal m →
    θ_run (Cert.OutInputRefIdeal.defs (F := Ideal)) (onTc (τ := Cert.OutInputRefIdeal.τ) (Cert.OutInputRefIdeal.main (F := Ideal))) ⟨m, fun _ => 0, g⟩ (fun r => (∀ c : Dev Cert.OutInputRefIdeal.nD,
      r.2.mem ((c.tc : Thread Cert.OutInputRefIdeal.nD Cert.OutInputRefIdeal.τ).loc Cert.OutInputRefIdeal.main_arg0) = m ((c.tc : Thread Cert.OutInputRefIdeal.nD Cert.OutInputRefIdeal.τ).loc Cert.OutInputRefIdeal.main_arg0)
      ∧ r.2.mem ((c.tc : Thread Cert.OutInputRefIdeal.nD Cert.OutInputRefIdeal.τ).loc Cert.OutInputRefIdeal.main_arg1) = m ((c.tc : Thread Cert.OutInputRefIdeal.nD Cert.OutInputRefIdeal.τ).loc Cert.OutInputRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepGate [hStepGate : Cert.StepGate.Facts] : Prop :=
  ∀ (m : (ℓ : Loc Cert.StepGate.nD Cert.StepGate.τ Cert.StepGate.sig) → Buf (Elt Bits) ℓ) (g : Dev Cert.StepGate.nD → PrngReg), Pre_StepGate m →
    θ_run (Cert.StepGate.defs (F := Bits)) (onTc (τ := Cert.StepGate.τ) (Cert.StepGate.main (F := Bits))) ⟨m, fun _ => 0, g⟩ (fun r => (∀ c : Dev Cert.StepGate.nD,
      r.2.mem ((c.tc : Thread Cert.StepGate.nD Cert.StepGate.τ).loc Cert.StepGate.main_arg0) = m ((c.tc : Thread Cert.StepGate.nD Cert.StepGate.τ).loc Cert.StepGate.main_arg0)
      ∧ r.2.mem ((c.tc : Thread Cert.StepGate.nD Cert.StepGate.τ).loc Cert.StepGate.main_arg1) = m ((c.tc : Thread Cert.StepGate.nD Cert.StepGate.τ).loc Cert.StepGate.main_arg1)
      ∧ r.2.mem ((c.tc : Thread Cert.StepGate.nD Cert.StepGate.τ).loc Cert.StepGate.main_arg2) = m ((c.tc : Thread Cert.StepGate.nD Cert.StepGate.τ).loc Cert.StepGate.main_arg2)
      ∧ r.2.mem ((c.tc : Thread Cert.StepGate.nD Cert.StepGate.τ).loc Cert.StepGate.main_arg3) = m ((c.tc : Thread Cert.StepGate.nD Cert.StepGate.τ).loc Cert.StepGate.main_arg3))
      ∧ r.2.sem = fun _ => 0)

def quiescent_StepGateIdeal [hStepGateIdeal : Cert.StepGateIdeal.Facts] : Prop :=
  ∀ (m : (ℓ : Loc Cert.StepGateIdeal.nD Cert.StepGateIdeal.τ Cert.StepGateIdeal.sig) → Buf (Elt Ideal) ℓ) (g : Dev Cert.StepGateIdeal.nD → PrngReg), Pre_StepGateIdeal m →
    θ_run (Cert.StepGateIdeal.defs (F := Ideal)) (onTc (τ := Cert.StepGateIdeal.τ) (Cert.StepGateIdeal.main (F := Ideal))) ⟨m, fun _ => 0, g⟩ (fun r => (∀ c : Dev Cert.StepGateIdeal.nD,
      r.2.mem ((c.tc : Thread Cert.StepGateIdeal.nD Cert.StepGateIdeal.τ).loc Cert.StepGateIdeal.main_arg0) = m ((c.tc : Thread Cert.StepGateIdeal.nD Cert.StepGateIdeal.τ).loc Cert.StepGateIdeal.main_arg0)
      ∧ r.2.mem ((c.tc : Thread Cert.StepGateIdeal.nD Cert.StepGateIdeal.τ).loc Cert.StepGateIdeal.main_arg1) = m ((c.tc : Thread Cert.StepGateIdeal.nD Cert.StepGateIdeal.τ).loc Cert.StepGateIdeal.main_arg1)
      ∧ r.2.mem ((c.tc : Thread Cert.StepGateIdeal.nD Cert.StepGateIdeal.τ).loc Cert.StepGateIdeal.main_arg2) = m ((c.tc : Thread Cert.StepGateIdeal.nD Cert.StepGateIdeal.τ).loc Cert.StepGateIdeal.main_arg2)
      ∧ r.2.mem ((c.tc : Thread Cert.StepGateIdeal.nD Cert.StepGateIdeal.τ).loc Cert.StepGateIdeal.main_arg3) = m ((c.tc : Thread Cert.StepGateIdeal.nD Cert.StepGateIdeal.τ).loc Cert.StepGateIdeal.main_arg3))
      ∧ r.2.sem = fun _ => 0)

def quiescent_StepGateRefIdeal [hStepGateRefIdeal : Cert.StepGateRefIdeal.Facts] : Prop :=
  ∀ (m : (ℓ : Loc Cert.StepGateRefIdeal.nD Cert.StepGateRefIdeal.τ Cert.StepGateRefIdeal.sig) → Buf (Elt Ideal) ℓ) (g : Dev Cert.StepGateRefIdeal.nD → PrngReg), Pre_StepGateRefIdeal m →
    θ_run (Cert.StepGateRefIdeal.defs (F := Ideal)) (onTc (τ := Cert.StepGateRefIdeal.τ) (Cert.StepGateRefIdeal.main (F := Ideal))) ⟨m, fun _ => 0, g⟩ (fun r => (∀ c : Dev Cert.StepGateRefIdeal.nD,
      r.2.mem ((c.tc : Thread Cert.StepGateRefIdeal.nD Cert.StepGateRefIdeal.τ).loc Cert.StepGateRefIdeal.main_arg0) = m ((c.tc : Thread Cert.StepGateRefIdeal.nD Cert.StepGateRefIdeal.τ).loc Cert.StepGateRefIdeal.main_arg0)
      ∧ r.2.mem ((c.tc : Thread Cert.StepGateRefIdeal.nD Cert.StepGateRefIdeal.τ).loc Cert.StepGateRefIdeal.main_arg1) = m ((c.tc : Thread Cert.StepGateRefIdeal.nD Cert.StepGateRefIdeal.τ).loc Cert.StepGateRefIdeal.main_arg1)
      ∧ r.2.mem ((c.tc : Thread Cert.StepGateRefIdeal.nD Cert.StepGateRefIdeal.τ).loc Cert.StepGateRefIdeal.main_arg2) = m ((c.tc : Thread Cert.StepGateRefIdeal.nD Cert.StepGateRefIdeal.τ).loc Cert.StepGateRefIdeal.main_arg2)
      ∧ r.2.mem ((c.tc : Thread Cert.StepGateRefIdeal.nD Cert.StepGateRefIdeal.τ).loc Cert.StepGateRefIdeal.main_arg3) = m ((c.tc : Thread Cert.StepGateRefIdeal.nD Cert.StepGateRefIdeal.τ).loc Cert.StepGateRefIdeal.main_arg3))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3))
      ∧ r.2.sem = fun _ => 0)

def quiescent_NormOut [hNormOut : Cert.NormOut.Facts] : Prop :=
  ∀ (m : (ℓ : Loc Cert.NormOut.nD Cert.NormOut.τ Cert.NormOut.sig) → Buf (Elt Bits) ℓ) (g : Dev Cert.NormOut.nD → PrngReg), Pre_NormOut m →
    θ_run (Cert.NormOut.defs (F := Bits)) (onTc (τ := Cert.NormOut.τ) (Cert.NormOut.main (F := Bits))) ⟨m, fun _ => 0, g⟩ (fun r => (∀ c : Dev Cert.NormOut.nD,
      r.2.mem ((c.tc : Thread Cert.NormOut.nD Cert.NormOut.τ).loc Cert.NormOut.main_arg0) = m ((c.tc : Thread Cert.NormOut.nD Cert.NormOut.τ).loc Cert.NormOut.main_arg0)
      ∧ r.2.mem ((c.tc : Thread Cert.NormOut.nD Cert.NormOut.τ).loc Cert.NormOut.main_arg1) = m ((c.tc : Thread Cert.NormOut.nD Cert.NormOut.τ).loc Cert.NormOut.main_arg1))
      ∧ r.2.sem = fun _ => 0)

def quiescent_NormOutIdeal [hNormOutIdeal : Cert.NormOutIdeal.Facts] : Prop :=
  ∀ (m : (ℓ : Loc Cert.NormOutIdeal.nD Cert.NormOutIdeal.τ Cert.NormOutIdeal.sig) → Buf (Elt Ideal) ℓ) (g : Dev Cert.NormOutIdeal.nD → PrngReg), Pre_NormOutIdeal m →
    θ_run (Cert.NormOutIdeal.defs (F := Ideal)) (onTc (τ := Cert.NormOutIdeal.τ) (Cert.NormOutIdeal.main (F := Ideal))) ⟨m, fun _ => 0, g⟩ (fun r => (∀ c : Dev Cert.NormOutIdeal.nD,
      r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
      ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1))
      ∧ r.2.sem = fun _ => 0)

def quiescent_NormOutRefIdeal [hNormOutRefIdeal : Cert.NormOutRefIdeal.Facts] : Prop :=
  ∀ (m : (ℓ : Loc Cert.NormOutRefIdeal.nD Cert.NormOutRefIdeal.τ Cert.NormOutRefIdeal.sig) → Buf (Elt Ideal) ℓ) (g : Dev Cert.NormOutRefIdeal.nD → PrngReg), Pre_NormOutRefIdeal m →
    θ_run (Cert.NormOutRefIdeal.defs (F := Ideal)) (onTc (τ := Cert.NormOutRefIdeal.τ) (Cert.NormOutRefIdeal.main (F := Ideal))) ⟨m, fun _ => 0, g⟩ (fun r => (∀ c : Dev Cert.NormOutRefIdeal.nD,
      r.2.mem ((c.tc : Thread Cert.NormOutRefIdeal.nD Cert.NormOutRefIdeal.τ).loc Cert.NormOutRefIdeal.main_arg0) = m ((c.tc : Thread Cert.NormOutRefIdeal.nD Cert.NormOutRefIdeal.τ).loc Cert.NormOutRefIdeal.main_arg0)
      ∧ r.2.mem ((c.tc : Thread Cert.NormOutRefIdeal.nD Cert.NormOutRefIdeal.τ).loc Cert.NormOutRefIdeal.main_arg1) = m ((c.tc : Thread Cert.NormOutRefIdeal.nD Cert.NormOutRefIdeal.τ).loc Cert.NormOutRefIdeal.main_arg1))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)
  ∧ IdealRules.named_const.Statement Cert.KernelIdeal.κ "mask" .f32 0xF149F2CA#32 ⊥

def preserves_Gate_GateIdeal : Prop :=
  True

def algebraic_GateIdeal_GateRefIdeal_pre_finite [hGateIdeal : Cert.GateIdeal.Facts] [hGateRefIdeal : Cert.GateRefIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v22_0)) (v1 : (c : Dev Cert.GateIdeal.nD) → Buf (Elt Ideal) ((c.tc : Thread Cert.GateIdeal.nD Cert.GateIdeal.τ).loc Cert.GateIdeal.main_v22_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v22_0) = v0 c
          ∧ r.2.mem ((c.tc : Thread Cert.GateIdeal.nD Cert.GateIdeal.τ).loc Cert.GateIdeal.main_v22_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m' ((c.tc : Thread Cert.WeightsRefIdeal.nD Cert.WeightsRefIdeal.τ).loc Cert.WeightsRefIdeal.main_arg0) = m ((c.tc : Thread Cert.WeightsIdeal.nD Cert.WeightsIdeal.τ).loc Cert.WeightsIdeal.main_arg0)
      ∧ m' ((c.tc : Thread Cert.WeightsRefIdeal.nD Cert.WeightsRefIdeal.τ).loc Cert.WeightsRefIdeal.main_arg1) = m ((c.tc : Thread Cert.WeightsIdeal.nD Cert.WeightsIdeal.τ).loc Cert.WeightsIdeal.main_arg1)
      ∧ m' ((c.tc : Thread Cert.WeightsRefIdeal.nD Cert.WeightsRefIdeal.τ).loc Cert.WeightsRefIdeal.main_arg2) = m ((c.tc : Thread Cert.WeightsIdeal.nD Cert.WeightsIdeal.τ).loc Cert.WeightsIdeal.main_arg2)) →
    ∃ (v0 : (c : Dev Cert.WeightsIdeal.nD) → Buf (Elt Ideal) ((c.tc : Thread Cert.WeightsIdeal.nD Cert.WeightsIdeal.τ).loc Cert.WeightsIdeal.main_v6_0)) (v1 : (c : Dev Cert.WeightsIdeal.nD) → Buf (Elt Ideal) ((c.tc : Thread Cert.WeightsIdeal.nD Cert.WeightsIdeal.τ).loc Cert.WeightsIdeal.main_v6_1)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v6_0) = v0 c
          ∧ r.2.mem ((c.tc : Thread Cert.WeightsIdeal.nD Cert.WeightsIdeal.τ).loc Cert.WeightsIdeal.main_v6_1) = v1 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2))
      ∧ θ_run (Cert.WeightsRefIdeal.defs (F := Ideal)) (onTc (τ := Cert.WeightsRefIdeal.τ) (Cert.WeightsRefIdeal.main (F := Ideal))) ⟨m', fun _ => 0, g'⟩ (fun r => ∀ c : Dev Cert.WeightsRefIdeal.nD,
          r.2.mem ((c.tc : Thread Cert.WeightsRefIdeal.nD Cert.WeightsRefIdeal.τ).loc Cert.WeightsRefIdeal.main_v8) = v0 c
          ∧ r.2.mem ((c.tc : Thread Cert.WeightsRefIdeal.nD Cert.WeightsRefIdeal.τ).loc Cert.WeightsRefIdeal.main_v10) = v1 c
          ∧ r.2.mem ((c.tc : Thread Cert.WeightsRefIdeal.nD Cert.WeightsRefIdeal.τ).loc Cert.WeightsRefIdeal.main_arg0) = m' ((c.tc : Thread Cert.WeightsRefIdeal.nD Cert.WeightsRefIdeal.τ).loc Cert.WeightsRefIdeal.main_arg0)
          ∧ r.2.mem ((c.tc : Thread Cert.WeightsRefIdeal.nD Cert.WeightsRefIdeal.τ).loc Cert.WeightsRefIdeal.main_arg1) = m' ((c.tc : Thread Cert.WeightsRefIdeal.nD Cert.WeightsRefIdeal.τ).loc Cert.WeightsRefIdeal.main_arg1)
          ∧ r.2.mem ((c.tc : Thread Cert.WeightsRefIdeal.nD Cert.WeightsRefIdeal.τ).loc Cert.WeightsRefIdeal.main_arg2) = m' ((c.tc : Thread Cert.WeightsRefIdeal.nD Cert.WeightsRefIdeal.τ).loc Cert.WeightsRefIdeal.main_arg2))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)) →
    ∃ (v0 : (c : Dev Cert.InputIdeal.nD) → Buf (Elt Ideal) ((c.tc : Thread Cert.InputIdeal.nD Cert.InputIdeal.τ).loc Cert.InputIdeal.main_v9)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v9) = v0 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v6) = v0 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v4)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v4) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v5) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_InInput_InInputIdeal : Prop :=
  True

def algebraic_InInputIdeal_InInputRefIdeal [hInInputIdeal : Cert.InInputIdeal.Facts] [hInInputRefIdeal : Cert.InInputRefIdeal.Facts] : Prop :=
  ∀ (m : (ℓ : Loc Cert.InInputIdeal.nD Cert.InInputIdeal.τ Cert.InInputIdeal.sig) → Buf (Elt Ideal) ℓ) (g : Dev Cert.InInputIdeal.nD → PrngReg)
    (m' : (ℓ : Loc Cert.InInputRefIdeal.nD Cert.InInputRefIdeal.τ Cert.InInputRefIdeal.sig) → Buf (Elt Ideal) ℓ) (g' : Dev Cert.InInputRefIdeal.nD → PrngReg), Pre_InInputIdeal m →
    (∀ c : Dev Cert.InInputIdeal.nD,
      m' ((c.tc : Thread Cert.InInputRefIdeal.nD Cert.InInputRefIdeal.τ).loc Cert.InInputRefIdeal.main_arg0) = m ((c.tc : Thread Cert.InInputIdeal.nD Cert.InInputIdeal.τ).loc Cert.InInputIdeal.main_arg0)
      ∧ m' ((c.tc : Thread Cert.InInputRefIdeal.nD Cert.InInputRefIdeal.τ).loc Cert.InInputRefIdeal.main_arg1) = m ((c.tc : Thread Cert.InInputIdeal.nD Cert.InInputIdeal.τ).loc Cert.InInputIdeal.main_arg1)) →
    ∃ (v0 : (c : Dev Cert.InInputIdeal.nD) → Buf (Elt Ideal) ((c.tc : Thread Cert.InInputIdeal.nD Cert.InInputIdeal.τ).loc Cert.InInputIdeal.main_v5)),
      θ_run (Cert.InInputIdeal.defs (F := Ideal)) (onTc (τ := Cert.InInputIdeal.τ) (Cert.InInputIdeal.main (F := Ideal))) ⟨m, fun _ => 0, g⟩ (fun r => ∀ c : Dev Cert.InInputIdeal.nD,
          r.2.mem ((c.tc : Thread Cert.InInputIdeal.nD Cert.InInputIdeal.τ).loc Cert.InInputIdeal.main_v5) = v0 c
          ∧ r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
          ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ θ_run (Cert.InInputRefIdeal.defs (F := Ideal)) (onTc (τ := Cert.InInputRefIdeal.τ) (Cert.InInputRefIdeal.main (F := Ideal))) ⟨m', fun _ => 0, g'⟩ (fun r => ∀ c : Dev Cert.InInputRefIdeal.nD,
          r.2.mem ((c.tc : Thread Cert.InInputRefIdeal.nD Cert.InInputRefIdeal.τ).loc Cert.InInputRefIdeal.main_v3) = v0 c
          ∧ r.2.mem ((c.tc : Thread Cert.InInputRefIdeal.nD Cert.InInputRefIdeal.τ).loc Cert.InInputRefIdeal.main_arg0) = m' ((c.tc : Thread Cert.InInputRefIdeal.nD Cert.InInputRefIdeal.τ).loc Cert.InInputRefIdeal.main_arg0)
          ∧ r.2.mem ((c.tc : Thread Cert.InInputRefIdeal.nD Cert.InInputRefIdeal.τ).loc Cert.InInputRefIdeal.main_arg1) = m' ((c.tc : Thread Cert.InInputRefIdeal.nD Cert.InInputRefIdeal.τ).loc Cert.InInputRefIdeal.main_arg1))

def preserves_OutInput_OutInputIdeal : Prop :=
  True

def algebraic_OutInputIdeal_OutInputRefIdeal [hOutInputIdeal : Cert.OutInputIdeal.Facts] [hOutInputRefIdeal : Cert.OutInputRefIdeal.Facts] : Prop :=
  ∀ (m : (ℓ : Loc Cert.OutInputIdeal.nD Cert.OutInputIdeal.τ Cert.OutInputIdeal.sig) → Buf (Elt Ideal) ℓ) (g : Dev Cert.OutInputIdeal.nD → PrngReg)
    (m' : (ℓ : Loc Cert.OutInputRefIdeal.nD Cert.OutInputRefIdeal.τ Cert.OutInputRefIdeal.sig) → Buf (Elt Ideal) ℓ) (g' : Dev Cert.OutInputRefIdeal.nD → PrngReg), Pre_OutInputIdeal m →
    (∀ c : Dev Cert.OutInputIdeal.nD,
      m' ((c.tc : Thread Cert.OutInputRefIdeal.nD Cert.OutInputRefIdeal.τ).loc Cert.OutInputRefIdeal.main_arg0) = m ((c.tc : Thread Cert.OutInputIdeal.nD Cert.OutInputIdeal.τ).loc Cert.OutInputIdeal.main_arg0)
      ∧ m' ((c.tc : Thread Cert.OutInputRefIdeal.nD Cert.OutInputRefIdeal.τ).loc Cert.OutInputRefIdeal.main_arg1) = m ((c.tc : Thread Cert.OutInputIdeal.nD Cert.OutInputIdeal.τ).loc Cert.OutInputIdeal.main_arg1)) →
    ∃ (v0 : (c : Dev Cert.OutInputIdeal.nD) → Buf (Elt Ideal) ((c.tc : Thread Cert.OutInputIdeal.nD Cert.OutInputIdeal.τ).loc Cert.OutInputIdeal.main_v4)),
      θ_run (Cert.OutInputIdeal.defs (F := Ideal)) (onTc (τ := Cert.OutInputIdeal.τ) (Cert.OutInputIdeal.main (F := Ideal))) ⟨m, fun _ => 0, g⟩ (fun r => ∀ c : Dev Cert.OutInputIdeal.nD,
          r.2.mem ((c.tc : Thread Cert.OutInputIdeal.nD Cert.OutInputIdeal.τ).loc Cert.OutInputIdeal.main_v4) = v0 c
          ∧ r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
          ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ θ_run (Cert.OutInputRefIdeal.defs (F := Ideal)) (onTc (τ := Cert.OutInputRefIdeal.τ) (Cert.OutInputRefIdeal.main (F := Ideal))) ⟨m', fun _ => 0, g'⟩ (fun r => ∀ c : Dev Cert.OutInputRefIdeal.nD,
          r.2.mem ((c.tc : Thread Cert.OutInputRefIdeal.nD Cert.OutInputRefIdeal.τ).loc Cert.OutInputRefIdeal.main_v3) = v0 c
          ∧ r.2.mem ((c.tc : Thread Cert.OutInputRefIdeal.nD Cert.OutInputRefIdeal.τ).loc Cert.OutInputRefIdeal.main_arg0) = m' ((c.tc : Thread Cert.OutInputRefIdeal.nD Cert.OutInputRefIdeal.τ).loc Cert.OutInputRefIdeal.main_arg0)
          ∧ r.2.mem ((c.tc : Thread Cert.OutInputRefIdeal.nD Cert.OutInputRefIdeal.τ).loc Cert.OutInputRefIdeal.main_arg1) = m' ((c.tc : Thread Cert.OutInputRefIdeal.nD Cert.OutInputRefIdeal.τ).loc Cert.OutInputRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v4)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v4) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v4) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v6_0)) (v1 : (c : Dev Cert.ActIdeal.nD) → Buf (Elt Ideal) ((c.tc : Thread Cert.ActIdeal.nD Cert.ActIdeal.τ).loc Cert.ActIdeal.main_v6_1)) (v2 : (c : Dev Cert.ActIdeal.nD) → Buf (Elt Ideal) ((c.tc : Thread Cert.ActIdeal.nD Cert.ActIdeal.τ).loc Cert.ActIdeal.main_v6_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v6_0) = v0 c
          ∧ r.2.mem ((c.tc : Thread Cert.ActIdeal.nD Cert.ActIdeal.τ).loc Cert.ActIdeal.main_v6_1) = v1 c
          ∧ r.2.mem ((c.tc : Thread Cert.ActIdeal.nD Cert.ActIdeal.τ).loc Cert.ActIdeal.main_v6_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v9) = v0 c
          ∧ r.2.mem ((c.tc : Thread Cert.ActRefIdeal.nD Cert.ActRefIdeal.τ).loc Cert.ActRefIdeal.main_v11) = v1 c
          ∧ r.2.mem ((c.tc : Thread Cert.ActRefIdeal.nD Cert.ActRefIdeal.τ).loc Cert.ActRefIdeal.main_v13) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)) →
    ∃ (v0 : (c : Dev Cert.MixedIdeal.nD) → Buf (Elt Ideal) ((c.tc : Thread Cert.MixedIdeal.nD Cert.MixedIdeal.τ).loc Cert.MixedIdeal.main_v4)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v4) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v2) = v0 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v4) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v1) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_StepDown_StepDownIdeal : Prop :=
  IdealRules.named_const.Statement Cert.StepDownIdeal.κ "r1" .f32 0x3FC48605#32 ((8388608 / 5463681 : ℝ) : EReal)
  ∧ IdealRules.named_const.Statement Cert.StepDownIdeal.κ "r2" .f32 0x42C8E6D3#32 ((268435456 / 2672307 : ℝ) : EReal)

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v12_0)) (v1 : (c : Dev Cert.StepDownIdeal.nD) → Buf (Elt Ideal) ((c.tc : Thread Cert.StepDownIdeal.nD Cert.StepDownIdeal.τ).loc Cert.StepDownIdeal.main_v12_1)) (v2 : (c : Dev Cert.StepDownIdeal.nD) → Buf (Elt Ideal) ((c.tc : Thread Cert.StepDownIdeal.nD Cert.StepDownIdeal.τ).loc Cert.StepDownIdeal.main_v12_2)) (v3 : (c : Dev Cert.StepDownIdeal.nD) → Buf (Elt Ideal) ((c.tc : Thread Cert.StepDownIdeal.nD Cert.StepDownIdeal.τ).loc Cert.StepDownIdeal.main_v12_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v12_0) = v0 c
          ∧ r.2.mem ((c.tc : Thread Cert.StepDownIdeal.nD Cert.StepDownIdeal.τ).loc Cert.StepDownIdeal.main_v12_1) = v1 c
          ∧ r.2.mem ((c.tc : Thread Cert.StepDownIdeal.nD Cert.StepDownIdeal.τ).loc Cert.StepDownIdeal.main_v12_2) = v2 c
          ∧ r.2.mem ((c.tc : Thread Cert.StepDownIdeal.nD Cert.StepDownIdeal.τ).loc Cert.StepDownIdeal.main_v12_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v0) = v0 c
          ∧ r.2.mem ((c.tc : Thread Cert.StepDownRefIdeal.nD Cert.StepDownRefIdeal.τ).loc Cert.StepDownRefIdeal.main_v24) = v1 c
          ∧ r.2.mem ((c.tc : Thread Cert.StepDownRefIdeal.nD Cert.StepDownRefIdeal.τ).loc Cert.StepDownRefIdeal.main_v5) = v2 c
          ∧ r.2.mem ((c.tc : Thread Cert.StepDownRefIdeal.nD Cert.StepDownRefIdeal.τ).loc Cert.StepDownRefIdeal.main_v11) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3))

def preserves_StepOut_StepOutIdeal : Prop :=
  IdealRules.named_const.Statement Cert.StepOutIdeal.κ "r1" .f32 0x3FC48605#32 ((8388608 / 5463681 : ℝ) : EReal)
  ∧ IdealRules.named_const.Statement Cert.StepOutIdeal.κ "r2" .f32 0x42C8E6D3#32 ((268435456 / 2672307 : ℝ) : EReal)

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v12_0)) (v1 : (c : Dev Cert.StepOutIdeal.nD) → Buf (Elt Ideal) ((c.tc : Thread Cert.StepOutIdeal.nD Cert.StepOutIdeal.τ).loc Cert.StepOutIdeal.main_v12_1)) (v2 : (c : Dev Cert.StepOutIdeal.nD) → Buf (Elt Ideal) ((c.tc : Thread Cert.StepOutIdeal.nD Cert.StepOutIdeal.τ).loc Cert.StepOutIdeal.main_v12_2)) (v3 : (c : Dev Cert.StepOutIdeal.nD) → Buf (Elt Ideal) ((c.tc : Thread Cert.StepOutIdeal.nD Cert.StepOutIdeal.τ).loc Cert.StepOutIdeal.main_v12_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v12_0) = v0 c
          ∧ r.2.mem ((c.tc : Thread Cert.StepOutIdeal.nD Cert.StepOutIdeal.τ).loc Cert.StepOutIdeal.main_v12_1) = v1 c
          ∧ r.2.mem ((c.tc : Thread Cert.StepOutIdeal.nD Cert.StepOutIdeal.τ).loc Cert.StepOutIdeal.main_v12_2) = v2 c
          ∧ r.2.mem ((c.tc : Thread Cert.StepOutIdeal.nD Cert.StepOutIdeal.τ).loc Cert.StepOutIdeal.main_v12_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v0) = v0 c
          ∧ r.2.mem ((c.tc : Thread Cert.StepOutRefIdeal.nD Cert.StepOutRefIdeal.τ).loc Cert.StepOutRefIdeal.main_v24) = v1 c
          ∧ r.2.mem ((c.tc : Thread Cert.StepOutRefIdeal.nD Cert.StepOutRefIdeal.τ).loc Cert.StepOutRefIdeal.main_v5) = v2 c
          ∧ r.2.mem ((c.tc : Thread Cert.StepOutRefIdeal.nD Cert.StepOutRefIdeal.τ).loc Cert.StepOutRefIdeal.main_v11) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepGate_StepGateIdeal : Prop :=
  IdealRules.named_const.Statement Cert.StepGateIdeal.κ "r1" .f32 0x3FC48605#32 ((8388608 / 5463681 : ℝ) : EReal)
  ∧ IdealRules.named_const.Statement Cert.StepGateIdeal.κ "r2" .f32 0x42C8E6D3#32 ((268435456 / 2672307 : ℝ) : EReal)

def algebraic_StepGateIdeal_StepGateRefIdeal [hStepGateIdeal : Cert.StepGateIdeal.Facts] [hStepGateRefIdeal : Cert.StepGateRefIdeal.Facts] : Prop :=
  ∀ (m : (ℓ : Loc Cert.StepGateIdeal.nD Cert.StepGateIdeal.τ Cert.StepGateIdeal.sig) → Buf (Elt Ideal) ℓ) (g : Dev Cert.StepGateIdeal.nD → PrngReg)
    (m' : (ℓ : Loc Cert.StepGateRefIdeal.nD Cert.StepGateRefIdeal.τ Cert.StepGateRefIdeal.sig) → Buf (Elt Ideal) ℓ) (g' : Dev Cert.StepGateRefIdeal.nD → PrngReg), Pre_StepGateIdeal m →
    (∀ c : Dev Cert.StepGateIdeal.nD,
      m' ((c.tc : Thread Cert.StepGateRefIdeal.nD Cert.StepGateRefIdeal.τ).loc Cert.StepGateRefIdeal.main_arg0) = m ((c.tc : Thread Cert.StepGateIdeal.nD Cert.StepGateIdeal.τ).loc Cert.StepGateIdeal.main_arg0)
      ∧ m' ((c.tc : Thread Cert.StepGateRefIdeal.nD Cert.StepGateRefIdeal.τ).loc Cert.StepGateRefIdeal.main_arg1) = m ((c.tc : Thread Cert.StepGateIdeal.nD Cert.StepGateIdeal.τ).loc Cert.StepGateIdeal.main_arg1)
      ∧ m' ((c.tc : Thread Cert.StepGateRefIdeal.nD Cert.StepGateRefIdeal.τ).loc Cert.StepGateRefIdeal.main_arg2) = m ((c.tc : Thread Cert.StepGateIdeal.nD Cert.StepGateIdeal.τ).loc Cert.StepGateIdeal.main_arg2)
      ∧ m' ((c.tc : Thread Cert.StepGateRefIdeal.nD Cert.StepGateRefIdeal.τ).loc Cert.StepGateRefIdeal.main_arg3) = m ((c.tc : Thread Cert.StepGateIdeal.nD Cert.StepGateIdeal.τ).loc Cert.StepGateIdeal.main_arg3)) →
    ∃ (v0 : (c : Dev Cert.StepGateIdeal.nD) → Buf (Elt Ideal) ((c.tc : Thread Cert.StepGateIdeal.nD Cert.StepGateIdeal.τ).loc Cert.StepGateIdeal.main_v15_0)) (v1 : (c : Dev Cert.StepGateIdeal.nD) → Buf (Elt Ideal) ((c.tc : Thread Cert.StepGateIdeal.nD Cert.StepGateIdeal.τ).loc Cert.StepGateIdeal.main_v15_1)) (v2 : (c : Dev Cert.StepGateIdeal.nD) → Buf (Elt Ideal) ((c.tc : Thread Cert.StepGateIdeal.nD Cert.StepGateIdeal.τ).loc Cert.StepGateIdeal.main_v15_2)) (v3 : (c : Dev Cert.StepGateIdeal.nD) → Buf (Elt Ideal) ((c.tc : Thread Cert.StepGateIdeal.nD Cert.StepGateIdeal.τ).loc Cert.StepGateIdeal.main_v15_3)),
      θ_run (Cert.StepGateIdeal.defs (F := Ideal)) (onTc (τ := Cert.StepGateIdeal.τ) (Cert.StepGateIdeal.main (F := Ideal))) ⟨m, fun _ => 0, g⟩ (fun r => ∀ c : Dev Cert.StepGateIdeal.nD,
          r.2.mem ((c.tc : Thread Cert.StepGateIdeal.nD Cert.StepGateIdeal.τ).loc Cert.StepGateIdeal.main_v15_0) = v0 c
          ∧ r.2.mem ((c.tc : Thread Cert.StepGateIdeal.nD Cert.StepGateIdeal.τ).loc Cert.StepGateIdeal.main_v15_1) = v1 c
          ∧ r.2.mem ((c.tc : Thread Cert.StepGateIdeal.nD Cert.StepGateIdeal.τ).loc Cert.StepGateIdeal.main_v15_2) = v2 c
          ∧ r.2.mem ((c.tc : Thread Cert.StepGateIdeal.nD Cert.StepGateIdeal.τ).loc Cert.StepGateIdeal.main_v15_3) = v3 c
          ∧ r.2.mem ((c.tc : Thread Cert.StepGateIdeal.nD Cert.StepGateIdeal.τ).loc Cert.StepGateIdeal.main_arg0) = m ((c.tc : Thread Cert.StepGateIdeal.nD Cert.StepGateIdeal.τ).loc Cert.StepGateIdeal.main_arg0)
          ∧ r.2.mem ((c.tc : Thread Cert.StepGateIdeal.nD Cert.StepGateIdeal.τ).loc Cert.StepGateIdeal.main_arg1) = m ((c.tc : Thread Cert.StepGateIdeal.nD Cert.StepGateIdeal.τ).loc Cert.StepGateIdeal.main_arg1)
          ∧ r.2.mem ((c.tc : Thread Cert.StepGateIdeal.nD Cert.StepGateIdeal.τ).loc Cert.StepGateIdeal.main_arg2) = m ((c.tc : Thread Cert.StepGateIdeal.nD Cert.StepGateIdeal.τ).loc Cert.StepGateIdeal.main_arg2)
          ∧ r.2.mem ((c.tc : Thread Cert.StepGateIdeal.nD Cert.StepGateIdeal.τ).loc Cert.StepGateIdeal.main_arg3) = m ((c.tc : Thread Cert.StepGateIdeal.nD Cert.StepGateIdeal.τ).loc Cert.StepGateIdeal.main_arg3))
      ∧ θ_run (Cert.StepGateRefIdeal.defs (F := Ideal)) (onTc (τ := Cert.StepGateRefIdeal.τ) (Cert.StepGateRefIdeal.main (F := Ideal))) ⟨m', fun _ => 0, g'⟩ (fun r => ∀ c : Dev Cert.StepGateRefIdeal.nD,
          r.2.mem ((c.tc : Thread Cert.StepGateRefIdeal.nD Cert.StepGateRefIdeal.τ).loc Cert.StepGateRefIdeal.main_v26) = v0 c
          ∧ r.2.mem ((c.tc : Thread Cert.StepGateRefIdeal.nD Cert.StepGateRefIdeal.τ).loc Cert.StepGateRefIdeal.main_v27) = v1 c
          ∧ r.2.mem ((c.tc : Thread Cert.StepGateRefIdeal.nD Cert.StepGateRefIdeal.τ).loc Cert.StepGateRefIdeal.main_v28) = v2 c
          ∧ r.2.mem ((c.tc : Thread Cert.StepGateRefIdeal.nD Cert.StepGateRefIdeal.τ).loc Cert.StepGateRefIdeal.main_v29) = v3 c
          ∧ r.2.mem ((c.tc : Thread Cert.StepGateRefIdeal.nD Cert.StepGateRefIdeal.τ).loc Cert.StepGateRefIdeal.main_arg0) = m' ((c.tc : Thread Cert.StepGateRefIdeal.nD Cert.StepGateRefIdeal.τ).loc Cert.StepGateRefIdeal.main_arg0)
          ∧ r.2.mem ((c.tc : Thread Cert.StepGateRefIdeal.nD Cert.StepGateRefIdeal.τ).loc Cert.StepGateRefIdeal.main_arg1) = m' ((c.tc : Thread Cert.StepGateRefIdeal.nD Cert.StepGateRefIdeal.τ).loc Cert.StepGateRefIdeal.main_arg1)
          ∧ r.2.mem ((c.tc : Thread Cert.StepGateRefIdeal.nD Cert.StepGateRefIdeal.τ).loc Cert.StepGateRefIdeal.main_arg2) = m' ((c.tc : Thread Cert.StepGateRefIdeal.nD Cert.StepGateRefIdeal.τ).loc Cert.StepGateRefIdeal.main_arg2)
          ∧ r.2.mem ((c.tc : Thread Cert.StepGateRefIdeal.nD Cert.StepGateRefIdeal.τ).loc Cert.StepGateRefIdeal.main_arg3) = m' ((c.tc : Thread Cert.StepGateRefIdeal.nD Cert.StepGateRefIdeal.τ).loc Cert.StepGateRefIdeal.main_arg3))

def preserves_StepIn_StepInIdeal : Prop :=
  IdealRules.named_const.Statement Cert.StepInIdeal.κ "r1" .f32 0x3FC48605#32 ((8388608 / 5463681 : ℝ) : EReal)
  ∧ IdealRules.named_const.Statement Cert.StepInIdeal.κ "r2" .f32 0x42C8E6D3#32 ((268435456 / 2672307 : ℝ) : EReal)

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v12_0)) (v1 : (c : Dev Cert.StepInIdeal.nD) → Buf (Elt Ideal) ((c.tc : Thread Cert.StepInIdeal.nD Cert.StepInIdeal.τ).loc Cert.StepInIdeal.main_v12_1)) (v2 : (c : Dev Cert.StepInIdeal.nD) → Buf (Elt Ideal) ((c.tc : Thread Cert.StepInIdeal.nD Cert.StepInIdeal.τ).loc Cert.StepInIdeal.main_v12_2)) (v3 : (c : Dev Cert.StepInIdeal.nD) → Buf (Elt Ideal) ((c.tc : Thread Cert.StepInIdeal.nD Cert.StepInIdeal.τ).loc Cert.StepInIdeal.main_v12_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v12_0) = v0 c
          ∧ r.2.mem ((c.tc : Thread Cert.StepInIdeal.nD Cert.StepInIdeal.τ).loc Cert.StepInIdeal.main_v12_1) = v1 c
          ∧ r.2.mem ((c.tc : Thread Cert.StepInIdeal.nD Cert.StepInIdeal.τ).loc Cert.StepInIdeal.main_v12_2) = v2 c
          ∧ r.2.mem ((c.tc : Thread Cert.StepInIdeal.nD Cert.StepInIdeal.τ).loc Cert.StepInIdeal.main_v12_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v1) = v0 c
          ∧ r.2.mem ((c.tc : Thread Cert.StepInRefIdeal.nD Cert.StepInRefIdeal.τ).loc Cert.StepInRefIdeal.main_v25) = v1 c
          ∧ r.2.mem ((c.tc : Thread Cert.StepInRefIdeal.nD Cert.StepInRefIdeal.τ).loc Cert.StepInRefIdeal.main_v6) = v2 c
          ∧ r.2.mem ((c.tc : Thread Cert.StepInRefIdeal.nD Cert.StepInRefIdeal.τ).loc Cert.StepInRefIdeal.main_v12) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepSmall_StepSmallIdeal : Prop :=
  IdealRules.named_const.Statement Cert.StepSmallIdeal.κ "r1" .f32 0x3FC48605#32 ((8388608 / 5463681 : ℝ) : EReal)
  ∧ IdealRules.named_const.Statement Cert.StepSmallIdeal.κ "r2" .f32 0x42C8E6D3#32 ((268435456 / 2672307 : ℝ) : EReal)

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)) (v3 : (c : Dev Cert.StepSmallIdeal.nD) → Buf (Elt Ideal) ((c.tc : Thread Cert.StepSmallIdeal.nD Cert.StepSmallIdeal.τ).loc Cert.StepSmallIdeal.main_v0_3)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_v0_3) = v3 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v1) = v0 c
          ∧ r.2.mem ((c.tc : Thread Cert.StepSmallRefIdeal.nD Cert.StepSmallRefIdeal.τ).loc Cert.StepSmallRefIdeal.main_v25) = v1 c
          ∧ r.2.mem ((c.tc : Thread Cert.StepSmallRefIdeal.nD Cert.StepSmallRefIdeal.τ).loc Cert.StepSmallRefIdeal.main_v6) = v2 c
          ∧ r.2.mem ((c.tc : Thread Cert.StepSmallRefIdeal.nD Cert.StepSmallRefIdeal.τ).loc Cert.StepSmallRefIdeal.main_v12) = v3 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3))

def preserves_NormOut_NormOutIdeal : Prop :=
  True

def algebraic_NormOutIdeal_NormOutRefIdeal [hNormOutIdeal : Cert.NormOutIdeal.Facts] [hNormOutRefIdeal : Cert.NormOutRefIdeal.Facts] : Prop :=
  ∀ (m : (ℓ : Loc Cert.NormOutIdeal.nD Cert.NormOutIdeal.τ Cert.NormOutIdeal.sig) → Buf (Elt Ideal) ℓ) (g : Dev Cert.NormOutIdeal.nD → PrngReg)
    (m' : (ℓ : Loc Cert.NormOutRefIdeal.nD Cert.NormOutRefIdeal.τ Cert.NormOutRefIdeal.sig) → Buf (Elt Ideal) ℓ) (g' : Dev Cert.NormOutRefIdeal.nD → PrngReg), Pre_NormOutIdeal m →
    (∀ c : Dev Cert.NormOutIdeal.nD,
      m' ((c.tc : Thread Cert.NormOutRefIdeal.nD Cert.NormOutRefIdeal.τ).loc Cert.NormOutRefIdeal.main_arg0) = m ((c.tc : Thread Cert.NormOutIdeal.nD Cert.NormOutIdeal.τ).loc Cert.NormOutIdeal.main_arg0)
      ∧ m' ((c.tc : Thread Cert.NormOutRefIdeal.nD Cert.NormOutRefIdeal.τ).loc Cert.NormOutRefIdeal.main_arg1) = m ((c.tc : Thread Cert.NormOutIdeal.nD Cert.NormOutIdeal.τ).loc Cert.NormOutIdeal.main_arg1)) →
    ∃ (v0 : (c : Dev Cert.NormOutIdeal.nD) → Buf (Elt Ideal) ((c.tc : Thread Cert.NormOutIdeal.nD Cert.NormOutIdeal.τ).loc Cert.NormOutIdeal.main_v2)),
      θ_run (Cert.NormOutIdeal.defs (F := Ideal)) (onTc (τ := Cert.NormOutIdeal.τ) (Cert.NormOutIdeal.main (F := Ideal))) ⟨m, fun _ => 0, g⟩ (fun r => ∀ c : Dev Cert.NormOutIdeal.nD,
          r.2.mem ((c.tc : Thread Cert.NormOutIdeal.nD Cert.NormOutIdeal.τ).loc Cert.NormOutIdeal.main_v2) = v0 c
          ∧ r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
          ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1))
      ∧ θ_run (Cert.NormOutRefIdeal.defs (F := Ideal)) (onTc (τ := Cert.NormOutRefIdeal.τ) (Cert.NormOutRefIdeal.main (F := Ideal))) ⟨m', fun _ => 0, g'⟩ (fun r => ∀ c : Dev Cert.NormOutRefIdeal.nD,
          r.2.mem ((c.tc : Thread Cert.NormOutRefIdeal.nD Cert.NormOutRefIdeal.τ).loc Cert.NormOutRefIdeal.main_v14) = v0 c
          ∧ r.2.mem ((c.tc : Thread Cert.NormOutRefIdeal.nD Cert.NormOutRefIdeal.τ).loc Cert.NormOutRefIdeal.main_arg0) = m' ((c.tc : Thread Cert.NormOutRefIdeal.nD Cert.NormOutRefIdeal.τ).loc Cert.NormOutRefIdeal.main_arg0)
          ∧ r.2.mem ((c.tc : Thread Cert.NormOutRefIdeal.nD Cert.NormOutRefIdeal.τ).loc Cert.NormOutRefIdeal.main_arg1) = m' ((c.tc : Thread Cert.NormOutRefIdeal.nD Cert.NormOutRefIdeal.τ).loc Cert.NormOutRefIdeal.main_arg1))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v4_0)) (v1 : (c : Dev Cert.NormBackIdeal.nD) → Buf (Elt Ideal) ((c.tc : Thread Cert.NormBackIdeal.nD Cert.NormBackIdeal.τ).loc Cert.NormBackIdeal.main_v4_1)) (v2 : (c : Dev Cert.NormBackIdeal.nD) → Buf (Elt Ideal) ((c.tc : Thread Cert.NormBackIdeal.nD Cert.NormBackIdeal.τ).loc Cert.NormBackIdeal.main_v4_2)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v4_0) = v0 c
          ∧ r.2.mem ((c.tc : Thread Cert.NormBackIdeal.nD Cert.NormBackIdeal.τ).loc Cert.NormBackIdeal.main_v4_1) = v1 c
          ∧ r.2.mem ((c.tc : Thread Cert.NormBackIdeal.nD Cert.NormBackIdeal.τ).loc Cert.NormBackIdeal.main_v4_2) = v2 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v38) = v0 c
          ∧ r.2.mem ((c.tc : Thread Cert.NormBackRefIdeal.nD Cert.NormBackRefIdeal.τ).loc Cert.NormBackRefIdeal.main_v39) = v1 c
          ∧ r.2.mem ((c.tc : Thread Cert.NormBackRefIdeal.nD Cert.NormBackRefIdeal.τ).loc Cert.NormBackRefIdeal.main_v40) = v2 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v20) = v0 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v7)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v7) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hWeights : Cert.Weights.Facts) (hWeightsIdeal : Cert.WeightsIdeal.Facts) (hWeightsRefIdeal : Cert.WeightsRefIdeal.Facts) (hInput : Cert.Input.Facts) (hInputIdeal : Cert.InputIdeal.Facts) (hInputRefIdeal : Cert.InputRefIdeal.Facts) (hInWeight : Cert.InWeight.Facts) (hInWeightIdeal : Cert.InWeightIdeal.Facts) (hInWeightRefIdeal : Cert.InWeightRefIdeal.Facts) (hInInput : Cert.InInput.Facts) (hInInputIdeal : Cert.InInputIdeal.Facts) (hInInputRefIdeal : Cert.InInputRefIdeal.Facts) (hOutInput : Cert.OutInput.Facts) (hOutInputIdeal : Cert.OutInputIdeal.Facts) (hOutInputRefIdeal : Cert.OutInputRefIdeal.Facts) (hOutWeight : Cert.OutWeight.Facts) (hOutWeightIdeal : Cert.OutWeightIdeal.Facts) (hOutWeightRefIdeal : Cert.OutWeightRefIdeal.Facts) (hAct : Cert.Act.Facts) (hActIdeal : Cert.ActIdeal.Facts) (hActRefIdeal : Cert.ActRefIdeal.Facts) (hMixed : Cert.Mixed.Facts) (hMixedIdeal : Cert.MixedIdeal.Facts) (hMixedRefIdeal : Cert.MixedRefIdeal.Facts) (hProject : Cert.Project.Facts) (hProjectIdeal : Cert.ProjectIdeal.Facts) (hProjectRefIdeal : Cert.ProjectRefIdeal.Facts) (hStepDown : Cert.StepDown.Facts) (hStepDownIdeal : Cert.StepDownIdeal.Facts) (hStepDownRefIdeal : Cert.StepDownRefIdeal.Facts) (hStepOut : Cert.StepOut.Facts) (hStepOutIdeal : Cert.StepOutIdeal.Facts) (hStepOutRefIdeal : Cert.StepOutRefIdeal.Facts) (hStepGate : Cert.StepGate.Facts) (hStepGateIdeal : Cert.StepGateIdeal.Facts) (hStepGateRefIdeal : Cert.StepGateRefIdeal.Facts) (hStepIn : Cert.StepIn.Facts) (hStepInIdeal : Cert.StepInIdeal.Facts) (hStepInRefIdeal : Cert.StepInRefIdeal.Facts) (hStepSmall : Cert.StepSmall.Facts) (hStepSmallIdeal : Cert.StepSmallIdeal.Facts) (hStepSmallRefIdeal : Cert.StepSmallRefIdeal.Facts) (hNormOut : Cert.NormOut.Facts) (hNormOutIdeal : Cert.NormOutIdeal.Facts) (hNormOutRefIdeal : Cert.NormOutRefIdeal.Facts) (hNormBack : Cert.NormBack.Facts) (hNormBackIdeal : Cert.NormBackIdeal.Facts) (hNormBackRefIdeal : Cert.NormBackRefIdeal.Facts) (hLossHead : Cert.LossHead.Facts) (hLossHeadIdeal : Cert.LossHeadIdeal.Facts) (hLossHeadRefIdeal : Cert.LossHeadRefIdeal.Facts) (hMixOut : Cert.MixOut.Facts) (hMixOutIdeal : Cert.MixOutIdeal.Facts) (hMixOutRefIdeal : Cert.MixOutRefIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_ReferenceIdeal (hReferenceIdeal := hReferenceIdeal)
    ∧ quiescent_Gate (hGate := hGate)
    ∧ quiescent_GateIdeal (hGateIdeal := hGateIdeal)
    ∧ quiescent_GateIdeal_pre_finite (hGateIdeal := hGateIdeal) (hPre_finite := hPre_finite)
    ∧ quiescent_GateRefIdeal (hGateRefIdeal := hGateRefIdeal)
    ∧ quiescent_GateRefIdeal_pre_finite (hGateRefIdeal := hGateRefIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Weights (hWeights := hWeights)
    ∧ quiescent_WeightsIdeal (hWeightsIdeal := hWeightsIdeal)
    ∧ quiescent_WeightsRefIdeal (hWeightsRefIdeal := hWeightsRefIdeal)
    ∧ quiescent_Input (hInput := hInput)
    ∧ quiescent_InputIdeal (hInputIdeal := hInputIdeal)
    ∧ quiescent_InputRefIdeal (hInputRefIdeal := hInputRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_InInput (hInInput := hInInput)
    ∧ quiescent_InInputIdeal (hInInputIdeal := hInInputIdeal)
    ∧ quiescent_InInputRefIdeal (hInInputRefIdeal := hInInputRefIdeal)
    ∧ quiescent_OutInput (hOutInput := hOutInput)
    ∧ quiescent_OutInputIdeal (hOutInputIdeal := hOutInputIdeal)
    ∧ quiescent_OutInputRefIdeal (hOutInputRefIdeal := hOutInputRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Mixed (hMixed := hMixed)
    ∧ quiescent_MixedIdeal (hMixedIdeal := hMixedIdeal)
    ∧ quiescent_MixedRefIdeal (hMixedRefIdeal := hMixedRefIdeal)
    ∧ quiescent_Project (hProject := hProject)
    ∧ quiescent_ProjectIdeal (hProjectIdeal := hProjectIdeal)
    ∧ quiescent_ProjectRefIdeal (hProjectRefIdeal := hProjectRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepGate (hStepGate := hStepGate)
    ∧ quiescent_StepGateIdeal (hStepGateIdeal := hStepGateIdeal)
    ∧ quiescent_StepGateRefIdeal (hStepGateRefIdeal := hStepGateRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_NormOut (hNormOut := hNormOut)
    ∧ quiescent_NormOutIdeal (hNormOutIdeal := hNormOutIdeal)
    ∧ quiescent_NormOutRefIdeal (hNormOutRefIdeal := hNormOutRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_Kernel_KernelIdeal
    ∧ preserves_Gate_GateIdeal
    ∧ algebraic_GateIdeal_GateRefIdeal_pre_finite (hGateIdeal := hGateIdeal) (hGateRefIdeal := hGateRefIdeal) (hPre_finite := hPre_finite)
    ∧ preserves_Down_DownIdeal
    ∧ algebraic_DownIdeal_DownRefIdeal (hDownIdeal := hDownIdeal) (hDownRefIdeal := hDownRefIdeal)
    ∧ preserves_Weights_WeightsIdeal
    ∧ algebraic_WeightsIdeal_WeightsRefIdeal (hWeightsIdeal := hWeightsIdeal) (hWeightsRefIdeal := hWeightsRefIdeal)
    ∧ preserves_Input_InputIdeal
    ∧ algebraic_InputIdeal_InputRefIdeal (hInputIdeal := hInputIdeal) (hInputRefIdeal := hInputRefIdeal)
    ∧ preserves_InWeight_InWeightIdeal
    ∧ algebraic_InWeightIdeal_InWeightRefIdeal (hInWeightIdeal := hInWeightIdeal) (hInWeightRefIdeal := hInWeightRefIdeal)
    ∧ preserves_InInput_InInputIdeal
    ∧ algebraic_InInputIdeal_InInputRefIdeal (hInInputIdeal := hInInputIdeal) (hInInputRefIdeal := hInInputRefIdeal)
    ∧ preserves_OutInput_OutInputIdeal
    ∧ algebraic_OutInputIdeal_OutInputRefIdeal (hOutInputIdeal := hOutInputIdeal) (hOutInputRefIdeal := hOutInputRefIdeal)
    ∧ preserves_OutWeight_OutWeightIdeal
    ∧ algebraic_OutWeightIdeal_OutWeightRefIdeal (hOutWeightIdeal := hOutWeightIdeal) (hOutWeightRefIdeal := hOutWeightRefIdeal)
    ∧ preserves_Act_ActIdeal
    ∧ algebraic_ActIdeal_ActRefIdeal_pre_finite_act (hActIdeal := hActIdeal) (hActRefIdeal := hActRefIdeal) (hPre_finite_act := hPre_finite_act)
    ∧ preserves_Mixed_MixedIdeal
    ∧ algebraic_MixedIdeal_MixedRefIdeal (hMixedIdeal := hMixedIdeal) (hMixedRefIdeal := hMixedRefIdeal)
    ∧ preserves_Project_ProjectIdeal
    ∧ algebraic_ProjectIdeal_ProjectRefIdeal (hProjectIdeal := hProjectIdeal) (hProjectRefIdeal := hProjectRefIdeal)
    ∧ preserves_StepDown_StepDownIdeal
    ∧ algebraic_StepDownIdeal_StepDownRefIdeal (hStepDownIdeal := hStepDownIdeal) (hStepDownRefIdeal := hStepDownRefIdeal)
    ∧ preserves_StepOut_StepOutIdeal
    ∧ algebraic_StepOutIdeal_StepOutRefIdeal (hStepOutIdeal := hStepOutIdeal) (hStepOutRefIdeal := hStepOutRefIdeal)
    ∧ preserves_StepGate_StepGateIdeal
    ∧ algebraic_StepGateIdeal_StepGateRefIdeal (hStepGateIdeal := hStepGateIdeal) (hStepGateRefIdeal := hStepGateRefIdeal)
    ∧ preserves_StepIn_StepInIdeal
    ∧ algebraic_StepInIdeal_StepInRefIdeal (hStepInIdeal := hStepInIdeal) (hStepInRefIdeal := hStepInRefIdeal)
    ∧ preserves_StepSmall_StepSmallIdeal
    ∧ algebraic_StepSmallIdeal_StepSmallRefIdeal (hStepSmallIdeal := hStepSmallIdeal) (hStepSmallRefIdeal := hStepSmallRefIdeal)
    ∧ preserves_NormOut_NormOutIdeal
    ∧ algebraic_NormOutIdeal_NormOutRefIdeal (hNormOutIdeal := hNormOutIdeal) (hNormOutRefIdeal := hNormOutRefIdeal)
    ∧ preserves_NormBack_NormBackIdeal
    ∧ algebraic_NormBackIdeal_NormBackRefIdeal (hNormBackIdeal := hNormBackIdeal) (hNormBackRefIdeal := hNormBackRefIdeal)
    ∧ preserves_LossHead_LossHeadIdeal
    ∧ algebraic_LossHeadIdeal_LossHeadRefIdeal (hLossHeadIdeal := hLossHeadIdeal) (hLossHeadRefIdeal := hLossHeadRefIdeal)
    ∧ preserves_MixOut_MixOutIdeal
    ∧ algebraic_MixOutIdeal_MixOutRefIdeal (hMixOutIdeal := hMixOutIdeal) (hMixOutRefIdeal := hMixOutRefIdeal)
-- ==== Pre_finite.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S_ : Shape := ⟨0, ![]⟩

class Facts : Prop where
  bcast_S_S1x4096x5632 : S_.BroadcastsInDim S1x4096x5632 (![] : Fin 0 → Fin S1x4096x5632.rank)
  reducesTo_S1x4096x5632_S_d0_1_2 : S1x4096x5632.ReducesTo [0, 1, 2] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S1x4096x2048 : S_.BroadcastsInDim S1x4096x2048 (![] : Fin 0 → Fin S1x4096x2048.rank)
  reducesTo_S1x4096x2048_S_d0_1_2 : S1x4096x2048.ReducesTo [0, 1, 2] S_

variable [Facts]

def fn_part1 {F : FTy → Type} [FloatOps F] (main_v13 : IVec S_ 1) (main_v16 : IVec S1x4096x2048 1) : IVec S_ 1 :=
  let main_c_5 : IVec S_ 1 := constantI S_ 1 1#1
  let main_v17 : IVec S_ 1 := (fun x v => Host.reduce IntOp.andi x v reducesTo_S1x4096x2048_S_d0_1_2 h_S_) main_v16 main_c_5
  let main_v18 : IVec S_ 1 := andi main_v13 main_v17
  main_v18

def fn {F : FTy → Type} [FloatOps F] (main_arg0 : FVec F S1x4096x5632 .f32) (main_arg1 : FVec F S1x4096x5632 .f32) (main_arg2 : FVec F S5632x2048 .f32) (main_arg3 : FVec F S1x4096x2048 .f32) : IVec S_ 1 :=
  let main_v0 : FVec F S1x4096x5632 .f32 := Host.absf main_arg0
  let main_cst : FVec F S_ .f32 := constant S_ .f32 0x7F800000#32
  let main_v1 : FVec F S1x4096x5632 .f32 := broadcastInDim S1x4096x5632 ![] bcast_S_S1x4096x5632 main_cst
  let main_v2 : IVec S1x4096x5632 1 := cmpf .olt main_v0 main_v1
  let main_c : IVec S_ 1 := constantI S_ 1 1#1
  let main_v3 : IVec S_ 1 := (fun x v => Host.reduce IntOp.andi x v reducesTo_S1x4096x5632_S_d0_1_2 h_S_) main_v2 main_c
  let main_v4 : FVec F S1x4096x5632 .f32 := Host.absf main_arg1
  let main_cst_0 : FVec F S_ .f32 := constant S_ .f32 0x7F800000#32
  let main_v5 : FVec F S1x4096x5632 .f32 := broadcastInDim S1x4096x5632 ![] bcast_S_S1x4096x5632 main_cst_0
  let main_v6 : IVec S1x4096x5632 1 := cmpf .olt main_v4 main_v5
  let main_c_1 : IVec S_ 1 := constantI S_ 1 1#1
  let main_v7 : IVec S_ 1 := (fun x v => Host.reduce IntOp.andi x v reducesTo_S1x4096x5632_S_d0_1_2 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S1x4096x2048 .f32 := Host.absf main_arg3
  let main_cst_4 : FVec F S_ .f32 := constant S_ .f32 0x7F800000#32
  let main_v15 : FVec F S1x4096x2048 .f32 := broadcastInDim S1x4096x2048 ![] bcast_S_S1x4096x2048 main_cst_4
  let main_v16 : IVec S1x4096x2048 1 := cmpf .olt main_v14 main_v15
  fn_part1 (F := F) main_v13 main_v16
-- ==== Pre_finite_act.lean ====
abbrev S1x4096x2048 : Shape := ⟨3, ![1, 4096, 2048]⟩
abbrev S2048x5632 : Shape := ⟨2, ![2048, 5632]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S1x4096x2048 .f32) (main_arg1 : FVec F S2048x5632 .f32) (main_arg2 : FVec F S2048x5632 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Kernel.lean ====
abbrev S1x4096x8x128 : Shape := ⟨4, ![1, 4096, 8, 128]⟩
abbrev S1x4096x8 : Shape := ⟨3, ![1, 4096, 8]⟩
abbrev S1x4096x1024 : Shape := ⟨3, ![1, 4096, 1024]⟩
abbrev S_ : Shape := ⟨0, ![]⟩
abbrev S1x1024x4x8x128 : Shape := ⟨5, ![1, 1024, 4, 8, 128]⟩
abbrev S1x4x1024x8x128 : Shape := ⟨5, ![1, 4, 1024, 8, 128]⟩
abbrev S4096 : Shape := ⟨1, ![4096]⟩
abbrev S1024x4 : Shape := ⟨2, ![1024, 4]⟩
abbrev S4x1024 : Shape := ⟨2, ![4, 1024]⟩
abbrev S1x4x16x64x8x128 : Shape := ⟨6, ![1, 4, 16, 64, 8, 128]⟩
abbrev S1x4x1152x8x128 : Shape := ⟨5, ![1, 4, 1152, 8, 128]⟩
abbrev S1x4x18x64x8x128 : Shape := ⟨6, ![1, 4, 18, 64, 8, 128]⟩
abbrev S1x4x16x192x8x128 : Shape := ⟨6, ![1, 4, 16, 192, 8, 128]⟩
abbrev S4x1152 : Shape := ⟨2, ![4, 1152]⟩
abbrev S4x18x64 : Shape := ⟨3, ![4, 18, 64]⟩
abbrev S4x16x64 : Shape := ⟨3, ![4, 16, 64]⟩
abbrev S4x16x192 : Shape := ⟨3, ![4, 16, 192]⟩
abbrev S1x4x16x8x64x192 : Shape := ⟨6, ![1, 4, 16, 8, 64, 192]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S1x1x1x1x64x192 : Shape := ⟨6, ![1, 1, 1, 1, 64, 192]⟩
abbrev S1x4x16x1x1x192 : Shape := ⟨6, ![1, 4, 16, 1, 1, 192]⟩
abbrev S1x4x16x1x64x192 : Shape := ⟨6, ![1, 4, 16, 1, 64, 192]⟩
abbrev S1x4x16x8x64 : Shape := ⟨5, ![1, 4, 16, 8, 64]⟩
abbrev S1x4x16x8x64x1 : Shape := ⟨6, ![1, 4, 16, 8, 64, 1]⟩
abbrev S1x4x16x8x128x64 : Shape := ⟨6, ![1, 4, 16, 8, 128, 64]⟩
abbrev S1x4x16x64x8 : Shape := ⟨5, ![1, 4, 16, 64, 8]⟩
abbrev S1x4x16x64x8x1 : Shape := ⟨6, ![1, 4, 16, 64, 8, 1]⟩
abbrev S1x4x1024x8 : Shape := ⟨4, ![1, 4, 1024, 8]⟩
abbrev S1x1024x4x8 : Shape := ⟨4, ![1, 1024, 4, 8]⟩
abbrev S1x4096x8x1 : Shape := ⟨4, ![1, 4096, 8, 1]⟩
abbrev S4096x1024 : Shape := ⟨2, ![4096, 1024]⟩
abbrev S4096x3072 : Shape := ⟨2, ![4096, 3072]⟩
abbrev S1024x4x3072 : Shape := ⟨3, ![1024, 4, 3072]⟩
abbrev S4x1024x3072 : Shape := ⟨3, ![4, 1024, 3072]⟩
abbrev S1024x4x1024 : Shape := ⟨3, ![1024, 4, 1024]⟩
abbrev S4x1024x1024 : Shape := ⟨3, ![4, 1024, 1024]⟩
abbrev S4096x8x1 : Shape := ⟨3, ![4096, 8, 1]⟩
abbrev S4096x8x16 : Shape := ⟨3, ![4096, 8, 16]⟩
abbrev S4096x128 : Shape := ⟨2, ![4096, 128]⟩
abbrev S1024x512 : Shape := ⟨2, ![1024, 512]⟩
abbrev S1x128x1024 : Shape := ⟨3, ![1, 128, 1024]⟩
abbrev S1x64x1024 : Shape := ⟨3, ![1, 64, 1024]⟩
abbrev S128x128 : Shape := ⟨2, ![128, 128]⟩
abbrev S128x256 : Shape := ⟨2, ![128, 256]⟩
abbrev S1x64x128 : Shape := ⟨3, ![1, 64, 128]⟩
abbrev S64x128 : Shape := ⟨2, ![64, 128]⟩
abbrev S1x128x128 : Shape := ⟨3, ![1, 128, 128]⟩
abbrev S256x128 : Shape := ⟨2, ![256, 128]⟩
abbrev S128x1 : Shape := ⟨2, ![128, 1]⟩

abbrev nBuf : Space → Nat
  | .hbm => 162
  | .vmem => 22
  | .smem => 0
  | _ => 0

abbrev hbmTy0_0 (i : Nat) : BufTy := match i % 128 with
  | 0 => ⟨S1x4096x8x128, .f32⟩
  | 1 => ⟨S1x4096x8x128, .f32⟩
  | 2 => ⟨S1x4096x8x128, .f32⟩
  | 3 => ⟨S1x4096x8x128, .f32⟩
  | 4 => ⟨S1x4096x8, .f32⟩
  | 5 => ⟨S1x4096x8x128, .f32⟩
  | 6 => ⟨S1x4096x8, .f32⟩
  | 7 => ⟨S1x4096x1024, .f32⟩
  | 8 => ⟨S_, .i32⟩
  | 9 => ⟨S_, .f32⟩
  | 10 => ⟨S1x4096x8x128, .f32⟩
  | 11 => ⟨S1x1024x4x8x128, .f32⟩
  | 12 => ⟨S1x4x1024x8x128, .f32⟩
  | 13 => ⟨S_, .i32⟩
  | 14 => ⟨S_, .f32⟩
  | 15 => ⟨S1x4096x8x128, .f32⟩
  | 16 => ⟨S1x1024x4x8x128, .f32⟩
  | 17 => ⟨S1x4x1024x8x128, .f32⟩
  | 18 => ⟨S_, .i32⟩
  | 19 => ⟨S_, .f32⟩
  | 20 => ⟨S1x4096x8x128, .f32⟩
  | 21 => ⟨S1x1024x4x8x128, .f32⟩
  | 22 => ⟨S1x4x1024x8x128, .f32⟩
  | 23 => ⟨S4096, .i32⟩
  | 24 => ⟨S_, .i32⟩
  | 25 => ⟨S4096, .i32⟩
  | 26 => ⟨S4096, .i1⟩
  | 27 => ⟨S1024x4, .i1⟩
  | 28 => ⟨S4x1024, .i1⟩
  | 29 => ⟨S1x4x16x64x8x128, .f32⟩
  | 30 => ⟨S_, .i32⟩
  | 31 => ⟨S_, .f32⟩
  | 32 => ⟨S1x4x1152x8x128, .f32⟩
  | 33 => ⟨S1x4x18x64x8x128, .f32⟩
  | 34 => ⟨S1x4x16x64x8x128, .f32⟩
  | 35 => ⟨S1x4x16x64x8x128, .f32⟩
  | 36 => ⟨S1x4x16x64x8x128, .f32⟩
  | 37 => ⟨S1x4x16x192x8x128, .f32⟩
  | 38 => ⟨S_, .i32⟩
  | 39 => ⟨S_, .f32⟩
  | 40 => ⟨S1x4x1152x8x128, .f32⟩
  | 41 => ⟨S1x4x18x64x8x128, .f32⟩
  | 42 => ⟨S1x4x16x64x8x128, .f32⟩
  | 43 => ⟨S1x4x16x64x8x128, .f32⟩
  | 44 => ⟨S1x4x16x64x8x128, .f32⟩
  | 45 => ⟨S1x4x16x192x8x128, .f32⟩
  | 46 => ⟨S_, .i32⟩
  | 47 => ⟨S_, .i32⟩
  | 48 => ⟨S_, .i32⟩
  | 49 => ⟨S_, .i1⟩
  | 50 => ⟨S_, .i1⟩
  | 51 => ⟨S4x1152, .i1⟩
  | 52 => ⟨S4x18x64, .i1⟩
  | 53 => ⟨S4x16x64, .i1⟩
  | 54 => ⟨S4x16x64, .i1⟩
  | 55 => ⟨S4x16x64, .i1⟩
  | 56 => ⟨S4x16x192, .i1⟩
  | 57 => ⟨S_, .f32⟩
  | 58 => ⟨S_, .f32⟩
  | 59 => ⟨S_, .f32⟩
  | 60 => ⟨S_, .f32⟩
  | 61 => ⟨S1x4x16x8x64x192, .f32⟩
  | 62 => ⟨S1x4x16x8x64x192, .f32⟩
  | 63 => ⟨S1x4x16x8x64x192, .f32⟩
  | 64 => ⟨S192, .i32⟩
  | 65 => ⟨S1x192, .i32⟩
  | 66 => ⟨S_, .i32⟩
  | 67 => ⟨S1x192, .i32⟩
  | 68 => ⟨S1x192, .i32⟩
  | 69 => ⟨S64, .i32⟩
  | 70 => ⟨S64x1, .i32⟩
  | 71 => ⟨S64x192, .i32⟩
  | 72 => ⟨S64x192, .i32⟩
  | 73 => ⟨S64x192, .i32⟩
  | 74 => ⟨S64x192, .i32⟩
  | 75 => ⟨S_, .i32⟩
  | 76 => ⟨S64x192, .i32⟩
  | 77 => ⟨S64x192, .i1⟩
  | 78 => ⟨S1x1x1x1x64x192, .i1⟩
  | 79 => ⟨S1x4x16x1x1x192, .i1⟩
  | 80 => ⟨S1x4x16x1x64x192, .i1⟩
  | 81 => ⟨S1x4x16x1x64x192, .i1⟩
  | 82 => ⟨S1x4x16x1x64x192, .i1⟩
  | 83 => ⟨S_, .f32⟩
  | 84 => ⟨S_, .f32⟩
  | 85 => ⟨S1x4x16x8x64x192, .i1⟩
  | 86 => ⟨S1x4x16x8x64x192, .f32⟩
  | 87 => ⟨S1x4x16x8x64x192, .f32⟩
  | 88 => ⟨S_, .f32⟩
  | 89 => ⟨S1x4x16x8x64, .f32⟩
  | 90 => ⟨S1x4x16x8x64x1, .f32⟩
  | 91 => ⟨S1x4x16x8x64x192, .f32⟩
  | 92 => ⟨S1x4x16x8x64x192, .f32⟩
  | 93 => ⟨S1x4x16x8x64x192, .f32⟩
  | 94 => ⟨S_, .f32⟩
  | 95 => ⟨S1x4x16x8x64, .f32⟩
  | 96 => ⟨S1x4x16x8x128x64, .f32⟩
  | 97 => ⟨S1x4x16x64x8x128, .f32⟩
  | 98 => ⟨S1x4x16x64x8, .f32⟩
  | 99 => ⟨S1x4x16x64x8x1, .f32⟩
  | 100 => ⟨S1x4x16x64x8x128, .f32⟩
  | 101 => ⟨S1x4x16x64x8x128, .f32⟩
  | 102 => ⟨S1x4x16x8x64, .f32⟩
  | 103 => ⟨S1x4x16x8x64, .f32⟩
  | 104 => ⟨S1x4x16x8x64, .f32⟩
  | 105 => ⟨S1x4x16x64x8, .f32⟩
  | 106 => ⟨S1x4x1024x8x128, .f32⟩
  | 107 => ⟨S1x1024x4x8x128, .f32⟩
  | 108 => ⟨S1x4096x8x128, .f32⟩
  | 109 => ⟨S1x4x1024x8, .f32⟩
  | 110 => ⟨S1x1024x4x8, .f32⟩
  | 111 => ⟨S1x4096x8, .f32⟩
  | 112 => ⟨S1x4096x8, .f32⟩
  | 113 => ⟨S1x4096x8, .f32⟩
  | 114 => ⟨S1x4096x8, .f32⟩
  | 115 => ⟨S1x4096x8, .f32⟩
  | 116 => ⟨S1x4096x8, .f32⟩
  | 117 => ⟨S1x4096x8, .f32⟩
  | 118 => ⟨S1x4096x8, .f32⟩
  | 119 => ⟨S1x4096x8, .f32⟩
  | 120 => ⟨S1x4096x8, .f32⟩
  | 121 => ⟨S1x4096x8, .f32⟩
  | 122 => ⟨S1x4096x8, .f32⟩
  | 123 => ⟨S1x4096x8, .f32⟩
  | 124 => ⟨S1x4096x8, .f32⟩
  | 125 => ⟨S1x4096x8x1, .f32⟩
  | 126 => ⟨S1x4096x8x128, .f32⟩
  | 127 => ⟨S1x4096x8x128, .f32⟩
  | _ => ⟨S1x4096x8x128, .f32⟩

abbrev hbmTy0_1 (i : Nat) : BufTy := match i % 128 with
  | 0 => ⟨S1x4096x8, .f32⟩
  | 1 => ⟨S1x4096x8x1, .f32⟩
  | 2 => ⟨S1x4096x8x128, .f32⟩
  | 3 => ⟨S1x4096x8x128, .f32⟩
  | 4 => ⟨S1x4096x8x128, .f32⟩
  | 5 => ⟨S1x4096x8, .f32⟩
  | 6 => ⟨S1x4096x8x1, .f32⟩
  | 7 => ⟨S1x4096x8x128, .f32⟩
  | 8 => ⟨S1x4096x8x128, .f32⟩
  | 9 => ⟨S1x4096x8x128, .f32⟩
  | 10 => ⟨S1x4096x8x128, .f32⟩
  | 11 => ⟨S1x4096x8x128, .f32⟩
  | 12 => ⟨S_, .f32⟩
  | 13 => ⟨S1x4096x8, .f32⟩
  | 14 => ⟨S4096x1024, .f32⟩
  | 15 => ⟨S4096x1024, .f32⟩
  | 16 => ⟨S4096x1024, .f32⟩
  | 17 => ⟨S4096x3072, .f32⟩
  | 18 => ⟨S4096x3072, .bf16⟩
  | 19 => ⟨S1024x4x3072, .bf16⟩
  | 20 => ⟨S4x1024x3072, .bf16⟩
  | 21 => ⟨S4096x1024, .f32⟩
  | 22 => ⟨S4096x1024, .bf16⟩
  | 23 => ⟨S1024x4x1024, .bf16⟩
  | 24 => ⟨S4x1024x1024, .bf16⟩
  | 25 => ⟨S4096x8x1, .f32⟩
  | 26 => ⟨S4096x8x16, .f32⟩
  | 27 => ⟨S4096x128, .f32⟩
  | 28 => ⟨S4096x8x1, .f32⟩
  | 29 => ⟨S4096x8x16, .f32⟩
  | 30 => ⟨S4096x128, .f32⟩
  | 31 => ⟨S1024x512, .f32⟩
  | 32 => ⟨S1024x512, .f32⟩
  | 33 => ⟨S4x1024x1024, .f32⟩
  | _ => ⟨S1x4096x8x128, .f32⟩

abbrev hbmTy (i : Nat) : BufTy := match i / 128 with
  | 0 => hbmTy0_0 i
  | 1 => hbmTy0_1 i
  | _ => ⟨S1x4096x8x128, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S1x128x1024, .f32⟩
  | .local _ .vmem, ⟨21, _⟩ => ⟨S1x128x1024, .f32⟩
  | _, _ => ⟨S1x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_call3_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_call4_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_call5_c : Ref sig .tc := ⟨.hbm, 47, rfl⟩
abbrev main_call5_v0 : Ref sig .tc := ⟨.hbm, 48, rfl⟩
abbrev main_call5_v1 : Ref sig .tc := ⟨.hbm, 49, rfl⟩
abbrev main_call5_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_12 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c15_i32 : BitVec 32 := 15#32
  let v2 : BitVec 32 := Scalar.minsi v1 c15_i32
  let c1_i32_0 : BitVec 32 := 1#32
  let c0_i32 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, v2.toNat, c2_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c15_i32 : BitVec 32 := 15#32
  let v2 : BitVec 32 := Scalar.minsi v1 c15_i32
  let c2_i32_0 : BitVec 32 := 2#32
  let c0_i32 : BitVec 32 := 0#32
  ![arg0.toNat, v2.toNat, c2_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S1x4096x8x128 : Shape := ⟨4, ![1, 4096, 8, 128]⟩
abbrev S1x4096x8 : Shape := ⟨3, ![1, 4096, 8]⟩
abbrev S1x4096x1024 : Shape := ⟨3, ![1, 4096, 1024]⟩
abbrev S_ : Shape := ⟨0, ![]⟩
abbrev S1x1024x4x8x128 : Shape := ⟨5, ![1, 1024, 4, 8, 128]⟩
abbrev S1x4x1024x8x128 : Shape := ⟨5, ![1, 4, 1024, 8, 128]⟩
abbrev S4096 : Shape := ⟨1, ![4096]⟩
abbrev S1024x4 : Shape := ⟨2, ![1024, 4]⟩
abbrev S4x1024 : Shape := ⟨2, ![4, 1024]⟩
abbrev S1x4x16x64x8x128 : Shape := ⟨6, ![1, 4, 16, 64, 8, 128]⟩
abbrev S1x4x1152x8x128 : Shape := ⟨5, ![1, 4, 1152, 8, 128]⟩
abbrev S1x4x18x64x8x128 : Shape := ⟨6, ![1, 4, 18, 64, 8, 128]⟩
abbrev S1x4x16x192x8x128 : Shape := ⟨6, ![1, 4, 16, 192, 8, 128]⟩
abbrev S4x1152 : Shape := ⟨2, ![4, 1152]⟩
abbrev S4x18x64 : Shape := ⟨3, ![4, 18, 64]⟩
abbrev S4x16x64 : Shape := ⟨3, ![4, 16, 64]⟩
abbrev S4x16x192 : Shape := ⟨3, ![4, 16, 192]⟩
abbrev S1x4x16x8x64x192 : Shape := ⟨6, ![1, 4, 16, 8, 64, 192]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S1x1x1x1x64x192 : Shape := ⟨6, ![1, 1, 1, 1, 64, 192]⟩
abbrev S1x4x16x1x1x192 : Shape := ⟨6, ![1, 4, 16, 1, 1, 192]⟩
abbrev S1x4x16x1x64x192 : Shape := ⟨6, ![1, 4, 16, 1, 64, 192]⟩
abbrev S1x4x16x8x64 : Shape := ⟨5, ![1, 4, 16, 8, 64]⟩
abbrev S1x4x16x8x64x1 : Shape := ⟨6, ![1, 4, 16, 8, 64, 1]⟩
abbrev S1x4x16x8x128x64 : Shape := ⟨6, ![1, 4, 16, 8, 128, 64]⟩
abbrev S1x4x16x64x8 : Shape := ⟨5, ![1, 4, 16, 64, 8]⟩
abbrev S1x4x16x64x8x1 : Shape := ⟨6, ![1, 4, 16, 64, 8, 1]⟩
abbrev S1x4x1024x8 : Shape := ⟨4, ![1, 4, 1024, 8]⟩
abbrev S1x1024x4x8 : Shape := ⟨4, ![1, 1024, 4, 8]⟩
abbrev S1x1x4096x8 : Shape := ⟨4, ![1, 1, 4096, 8]⟩
abbrev S3x1x4096x8 : Shape := ⟨4, ![3, 1, 4096, 8]⟩
abbrev S3x1x4096x8x1 : Shape := ⟨5, ![3, 1, 4096, 8, 1]⟩
abbrev S1x1x4096x8x128 : Shape := ⟨5, ![1, 1, 4096, 8, 128]⟩
abbrev S3x1x4096x8x128 : Shape := ⟨5, ![3, 1, 4096, 8, 128]⟩
abbrev S3x4096x8 : Shape := ⟨3, ![3, 4096, 8]⟩
abbrev S4096x8 : Shape := ⟨2, ![4096, 8]⟩
abbrev S4x16x64x8 : Shape := ⟨4, ![4, 16, 64, 8]⟩
abbrev S4x16x8x64 : Shape := ⟨4, ![4, 16, 8, 64]⟩
abbrev S1x4x16x8x64x128 : Shape := ⟨6, ![1, 4, 16, 8, 64, 128]⟩
abbrev S1024x4x1024 : Shape := ⟨3, ![1024, 4, 1024]⟩
abbrev S4x1024x1024 : Shape := ⟨3, ![4, 1024, 1024]⟩

abbrev nBuf : Space → Nat
  | .hbm => 278
  | .vmem => 0
  | .smem => 0
  | _ => 0

abbrev hbmTy0_0 (i : Nat) : BufTy := match i % 128 with
  | 0 => ⟨S1x4096x8x128, .f32⟩
  | 1 => ⟨S1x4096x8x128, .f32⟩
  | 2 => ⟨S1x4096x8x128, .f32⟩
  | 3 => ⟨S1x4096x8x128, .f32⟩
  | 4 => ⟨S1x4096x8, .f32⟩
  | 5 => ⟨S1x4096x8x128, .f32⟩
  | 6 => ⟨S1x4096x8, .f32⟩
  | 7 => ⟨S1x4096x1024, .f32⟩
  | 8 => ⟨S_, .i32⟩
  | 9 => ⟨S_, .f32⟩
  | 10 => ⟨S1x4096x8x128, .f32⟩
  | 11 => ⟨S_, .f32⟩
  | 12 => ⟨S1x1024x4x8x128, .f32⟩
  | 13 => ⟨S1x4x1024x8x128, .f32⟩
  | 14 => ⟨S_, .i32⟩
  | 15 => ⟨S_, .f32⟩
  | 16 => ⟨S1x4096x8x128, .f32⟩
  | 17 => ⟨S1x1024x4x8x128, .f32⟩
  | 18 => ⟨S1x4x1024x8x128, .f32⟩
  | 19 => ⟨S_, .i32⟩
  | 20 => ⟨S_, .f32⟩
  | 21 => ⟨S1x4096x8x128, .f32⟩
  | 22 => ⟨S1x1024x4x8x128, .f32⟩
  | 23 => ⟨S1x4x1024x8x128, .f32⟩
  | 24 => ⟨S4096, .i32⟩
  | 25 => ⟨S_, .i32⟩
  | 26 => ⟨S4096, .i32⟩
  | 27 => ⟨S4096, .i1⟩
  | 28 => ⟨S1024x4, .i1⟩
  | 29 => ⟨S4x1024, .i1⟩
  | 30 => ⟨S1x4x16x64x8x128, .f32⟩
  | 31 => ⟨S_, .i32⟩
  | 32 => ⟨S_, .f32⟩
  | 33 => ⟨S1x4x1152x8x128, .f32⟩
  | 34 => ⟨S1x4x18x64x8x128, .f32⟩
  | 35 => ⟨S1x4x16x64x8x128, .f32⟩
  | 36 => ⟨S1x4x16x64x8x128, .f32⟩
  | 37 => ⟨S1x4x16x64x8x128, .f32⟩
  | 38 => ⟨S1x4x16x192x8x128, .f32⟩
  | 39 => ⟨S_, .i32⟩
  | 40 => ⟨S_, .f32⟩
  | 41 => ⟨S1x4x1152x8x128, .f32⟩
  | 42 => ⟨S1x4x18x64x8x128, .f32⟩
  | 43 => ⟨S1x4x16x64x8x128, .f32⟩
  | 44 => ⟨S1x4x16x64x8x128, .f32⟩
  | 45 => ⟨S1x4x16x64x8x128, .f32⟩
  | 46 => ⟨S1x4x16x192x8x128, .f32⟩
  | 47 => ⟨S_, .i32⟩
  | 48 => ⟨S_, .i32⟩
  | 49 => ⟨S_, .i32⟩
  | 50 => ⟨S_, .i1⟩
  | 51 => ⟨S_, .i1⟩
  | 52 => ⟨S4x1152, .i1⟩
  | 53 => ⟨S4x18x64, .i1⟩
  | 54 => ⟨S4x16x64, .i1⟩
  | 55 => ⟨S4x16x64, .i1⟩
  | 56 => ⟨S4x16x64, .i1⟩
  | 57 => ⟨S4x16x192, .i1⟩
  | 58 => ⟨S_, .f32⟩
  | 59 => ⟨S_, .f32⟩
  | 60 => ⟨S_, .f32⟩
  | 61 => ⟨S_, .f32⟩
  | 62 => ⟨S1x4x16x8x64x192, .f32⟩
  | 63 => ⟨S1x4x16x8x64x192, .f32⟩
  | 64 => ⟨S1x4x16x8x64x192, .f32⟩
  | 65 => ⟨S192, .i32⟩
  | 66 => ⟨S1x192, .i32⟩
  | 67 => ⟨S_, .i32⟩
  | 68 => ⟨S1x192, .i32⟩
  | 69 => ⟨S1x192, .i32⟩
  | 70 => ⟨S64, .i32⟩
  | 71 => ⟨S64x1, .i32⟩
  | 72 => ⟨S64x192, .i32⟩
  | 73 => ⟨S64x192, .i32⟩
  | 74 => ⟨S64x192, .i32⟩
  | 75 => ⟨S64x192, .i32⟩
  | 76 => ⟨S_, .i32⟩
  | 77 => ⟨S64x192, .i32⟩
  | 78 => ⟨S64x192, .i1⟩
  | 79 => ⟨S1x1x1x1x64x192, .i1⟩
  | 80 => ⟨S1x4x16x1x1x192, .i1⟩
  | 81 => ⟨S1x4x16x1x64x192, .i1⟩
  | 82 => ⟨S1x4x16x1x64x192, .i1⟩
  | 83 => ⟨S1x4x16x1x64x192, .i1⟩
  | 84 => ⟨S_, .f32⟩
  | 85 => ⟨S_, .f32⟩
  | 86 => ⟨S1x4x16x8x64x192, .i1⟩
  | 87 => ⟨S1x4x16x8x64x192, .f32⟩
  | 88 => ⟨S1x4x16x8x64x192, .f32⟩
  | 89 => ⟨S_, .f32⟩
  | 90 => ⟨S1x4x16x8x64x192, .f32⟩
  | 91 => ⟨S_, .f32⟩
  | 92 => ⟨S1x4x16x8x64, .f32⟩
  | 93 => ⟨S1x4x16x8x64x1, .f32⟩
  | 94 => ⟨S1x4x16x8x64x192, .f32⟩
  | 95 => ⟨S1x4x16x8x64x192, .i1⟩
  | 96 => ⟨S1x4x16x8x64x192, .f32⟩
  | 97 => ⟨S_, .f32⟩
  | 98 => ⟨S1x4x16x8x64, .f32⟩
  | 99 => ⟨S1x4x16x8x64x1, .f32⟩
  | 100 => ⟨S1x4x16x8x64x192, .f32⟩
  | 101 => ⟨S1x4x16x8x64x192, .f32⟩
  | 102 => ⟨S1x4x16x8x64x192, .f32⟩
  | 103 => ⟨S_, .f32⟩
  | 104 => ⟨S1x4x16x8x64, .f32⟩
  | 105 => ⟨S1x4x16x8x128x64, .f32⟩
  | 106 => ⟨S1x4x16x64x8x128, .f32⟩
  | 107 => ⟨S1x4x16x64x8, .f32⟩
  | 108 => ⟨S1x4x16x64x8x1, .f32⟩
  | 109 => ⟨S1x4x16x64x8x128, .f32⟩
  | 110 => ⟨S1x4x16x64x8x128, .f32⟩
  | 111 => ⟨S1x4x16x64x8x1, .f32⟩
  | 112 => ⟨S_, .f32⟩
  | 113 => ⟨S1x4x16x64x8x1, .f32⟩
  | 114 => ⟨S1x4x16x64x8x1, .f32⟩
  | 115 => ⟨S1x4x16x8x64, .f32⟩
  | 116 => ⟨S1x4x16x8x64, .f32⟩
  | 117 => ⟨S1x4x16x8x64, .f32⟩
  | 118 => ⟨S1x4x16x64x8, .f32⟩
  | 119 => ⟨S1x4x1024x8x128, .f32⟩
  | 120 => ⟨S1x1024x4x8x128, .f32⟩
  | 121 => ⟨S1x4096x8x128, .f32⟩
  | 122 => ⟨S1x4x1024x8, .f32⟩
  | 123 => ⟨S1x1024x4x8, .f32⟩
  | 124 => ⟨S1x4096x8, .f32⟩
  | 125 => ⟨S1x1x4096x8, .f32⟩
  | 126 => ⟨S1x1x4096x8, .f32⟩
  | 127 => ⟨S1x1x4096x8, .f32⟩
  | _ => ⟨S1x4096x8x128, .f32⟩

abbrev hbmTy0_1 (i : Nat) : BufTy := match i % 128 with
  | 0 => ⟨S3x1x4096x8, .f32⟩
  | 1 => ⟨S_, .f32⟩
  | 2 => ⟨S1x4096x8, .f32⟩
  | 3 => ⟨S_, .f32⟩
  | 4 => ⟨S1x4096x8, .f32⟩
  | 5 => ⟨S_, .f32⟩
  | 6 => ⟨S1x4096x8, .f32⟩
  | 7 => ⟨S1x1x4096x8, .f32⟩
  | 8 => ⟨S3x1x4096x8, .f32⟩
  | 9 => ⟨S3x1x4096x8, .i1⟩
  | 10 => ⟨S3x1x4096x8, .f32⟩
  | 11 => ⟨S_, .f32⟩
  | 12 => ⟨S1x4096x8, .f32⟩
  | 13 => ⟨S_, .f32⟩
  | 14 => ⟨S1x4096x8, .f32⟩
  | 15 => ⟨S1x4096x8, .f32⟩
  | 16 => ⟨S_, .f32⟩
  | 17 => ⟨S1x4096x8, .f32⟩
  | 18 => ⟨S1x4096x8, .i1⟩
  | 19 => ⟨S_, .f32⟩
  | 20 => ⟨S1x4096x8, .f32⟩
  | 21 => ⟨S1x4096x8, .i1⟩
  | 22 => ⟨S_, .f32⟩
  | 23 => ⟨S1x4096x8, .f32⟩
  | 24 => ⟨S_, .f32⟩
  | 25 => ⟨S1x4096x8, .f32⟩
  | 26 => ⟨S_, .f32⟩
  | 27 => ⟨S1x4096x8, .f32⟩
  | 28 => ⟨S1x4096x8, .f32⟩
  | 29 => ⟨S1x4096x8, .f32⟩
  | 30 => ⟨S1x1x4096x8, .f32⟩
  | 31 => ⟨S3x1x4096x8, .f32⟩
  | 32 => ⟨S3x1x4096x8, .f32⟩
  | 33 => ⟨S3x1x4096x8, .f32⟩
  | 34 => ⟨S_, .f32⟩
  | 35 => ⟨S1x4096x8, .f32⟩
  | 36 => ⟨S1x1x4096x8, .f32⟩
  | 37 => ⟨S3x1x4096x8, .f32⟩
  | 38 => ⟨S3x1x4096x8, .f32⟩
  | 39 => ⟨S1x1x4096x8, .f32⟩
  | 40 => ⟨S_, .f32⟩
  | 41 => ⟨S1x1x4096x8, .f32⟩
  | 42 => ⟨S1x1x4096x8, .f32⟩
  | 43 => ⟨S3x1x4096x8x1, .f32⟩
  | 44 => ⟨S1x1x4096x8x128, .f32⟩
  | 45 => ⟨S1x1x4096x8x128, .f32⟩
  | 46 => ⟨S1x1x4096x8x128, .f32⟩
  | 47 => ⟨S3x1x4096x8x128, .f32⟩
  | 48 => ⟨S_, .f32⟩
  | 49 => ⟨S1x4096x8x128, .f32⟩
  | 50 => ⟨S_, .f32⟩
  | 51 => ⟨S1x4096x8x128, .f32⟩
  | 52 => ⟨S3x1x4096x8x128, .f32⟩
  | 53 => ⟨S3x1x4096x8x128, .f32⟩
  | 54 => ⟨S_, .f32⟩
  | 55 => ⟨S1x4096x8x128, .f32⟩
  | 56 => ⟨S1x4096x1024, .f32⟩
  | 57 => ⟨S1x4096x8x128, .f32⟩
  | 58 => ⟨S3x1x4096x8x128, .f32⟩
  | 59 => ⟨S3x1x4096x8x128, .f32⟩
  | 60 => ⟨S3x1x4096x8x128, .f32⟩
  | 61 => ⟨S3x1x4096x8x128, .f32⟩
  | 62 => ⟨S_, .f32⟩
  | 63 => ⟨S3x1x4096x8, .f32⟩
  | 64 => ⟨S3x1x4096x8x1, .f32⟩
  | 65 => ⟨S1x1x4096x8x128, .f32⟩
  | 66 => ⟨S1x4096x8x128, .f32⟩
  | 67 => ⟨S1x1x4096x8x128, .f32⟩
  | 68 => ⟨S1x4096x8x128, .f32⟩
  | 69 => ⟨S1x1x4096x8x128, .f32⟩
  | 70 => ⟨S1x4096x8x128, .f32⟩
  | 71 => ⟨S_, .f32⟩
  | 72 => ⟨S3x4096x8, .f32⟩
  | 73 => ⟨S3x1x4096x8, .f32⟩
  | 74 => ⟨S3x1x4096x8, .f32⟩
  | 75 => ⟨S3x1x4096x8, .f32⟩
  | 76 => ⟨S3x1x4096x8, .f32⟩
  | 77 => ⟨S_, .f32⟩
  | 78 => ⟨S1x4096x8, .f32⟩
  | 79 => ⟨S1x1x4096x8, .f32⟩
  | 80 => ⟨S1x1x4096x8, .f32⟩
  | 81 => ⟨S3x1x4096x8, .f32⟩
  | 82 => ⟨S3x1x4096x8, .f32⟩
  | 83 => ⟨S_, .f32⟩
  | 84 => ⟨S4096x8, .f32⟩
  | 85 => ⟨S1x4096x8, .f32⟩
  | 86 => ⟨S3x1x4096x8, .f32⟩
  | 87 => ⟨S3x1x4096x8, .f32⟩
  | 88 => ⟨S3x1x4096x8, .f32⟩
  | 89 => ⟨S1x1x4096x8, .f32⟩
  | 90 => ⟨S1x4096x8, .f32⟩
  | 91 => ⟨S1x1x4096x8, .f32⟩
  | 92 => ⟨S1x4096x8, .f32⟩
  | 93 => ⟨S1x1x4096x8, .f32⟩
  | 94 => ⟨S1x4096x8, .f32⟩
  | 95 => ⟨S1x1024x4x8, .f32⟩
  | 96 => ⟨S1x4x1024x8, .f32⟩
  | 97 => ⟨S1x4x16x64x8, .f32⟩
  | 98 => ⟨S1x1024x4x8x128, .f32⟩
  | 99 => ⟨S1x4x1024x8x128, .f32⟩
  | 100 => ⟨S1x4x16x64x8x128, .f32⟩
  | 101 => ⟨S1x4x16x8x64, .f32⟩
  | 102 => ⟨S1x4x16x8x64, .f32⟩
  | 103 => ⟨S1x4x16x8x64x1, .f32⟩
  | 104 => ⟨S1x4x16x64x8x128, .f32⟩
  | 105 => ⟨S1x4x16x64x8x128, .f32⟩
  | 106 => ⟨S1x4x16x64x8x128, .f32⟩
  | 107 => ⟨S_, .f32⟩
  | 108 => ⟨S1x4x16x64x8, .f32⟩
  | 109 => ⟨S1x4x16x64x8x1, .f32⟩
  | 110 => ⟨S1x4x16x64x8x1, .f32⟩
  | 111 => ⟨S1x4x16x64x8x128, .f32⟩
  | 112 => ⟨S1x4x16x64x8x128, .f32⟩
  | 113 => ⟨S_, .f32⟩
  | 114 => ⟨S4x16x64x8, .f32⟩
  | 115 => ⟨S1x4x16x64x8, .f32⟩
  | 116 => ⟨S1x4x16x8x64, .f32⟩
  | 117 => ⟨S1x4x16x8x64, .f32⟩
  | 118 => ⟨S1x4x16x8x128x64, .f32⟩
  | 119 => ⟨S1x4x16x8x64x192, .f32⟩
  | 120 => ⟨S1x4x16x8x64x192, .f32⟩
  | 121 => ⟨S1x4x16x8x64x192, .f32⟩
  | 122 => ⟨S1x4x16x8x64x192, .f32⟩
  | 123 => ⟨S1x4x16x8x64x192, .f32⟩
  | 124 => ⟨S_, .f32⟩
  | 125 => ⟨S1x4x16x8x64, .f32⟩
  | 126 => ⟨S1x4x16x8x64x1, .f32⟩
  | 127 => ⟨S1x4x16x8x64x1, .f32⟩
  | _ => ⟨S1x4096x8x128, .f32⟩

abbrev hbmTy0_2 (i : Nat) : BufTy := match i % 128 with
  | 0 => ⟨S_, .f32⟩
  | 1 => ⟨S4x16x8x64, .f32⟩
  | 2 => ⟨S1x4x16x8x64, .f32⟩
  | 3 => ⟨S1x4x16x8x64, .f32⟩
  | 4 => ⟨S1x4x16x8x64x192, .f32⟩
  | 5 => ⟨S1x4x16x8x64x192, .f32⟩
  | 6 => ⟨S1x4x16x8x64x192, .f32⟩
  | 7 => ⟨S_, .f32⟩
  | 8 => ⟨S1x4x16x8x64x192, .f32⟩
  | 9 => ⟨S1x4x16x8x64x192, .f32⟩
  | 10 => ⟨S1x4x16x8x64x192, .f32⟩
  | 11 => ⟨S1x4x16x8x64x192, .f32⟩
  | 12 => ⟨S1x4x16x8x64x128, .f32⟩
  | 13 => ⟨S1x4x16x64x8x128, .f32⟩
  | 14 => ⟨S1x4x1024x8x128, .f32⟩
  | 15 => ⟨S1x1024x4x8x128, .f32⟩
  | 16 => ⟨S1x4096x8x128, .f32⟩
  | 17 => ⟨S_, .f32⟩
  | 18 => ⟨S1x4096x8x128, .f32⟩
  | 19 => ⟨S1x4096x8x128, .f32⟩
  | 20 => ⟨S1024x4x1024, .f32⟩
  | 21 => ⟨S4x1024x1024, .f32⟩
  | _ => ⟨S1x4096x8x128, .f32⟩

abbrev hbmTy (i : Nat) : BufTy := match i / 128 with
  | 0 => hbmTy0_0 i
  | 1 => hbmTy0_1 i
  | 2 => hbmTy0_2 i
  | _ => ⟨S1x4096x8x128, .f32⟩

abbrev bufTy : (tb : Table) → Fin (tcTables nBuf tb) → BufTy
  | .hbm, ⟨i, _⟩ => hbmTy i
  | _, _ => ⟨S1x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_call4_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_call5_c : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_call6_v0 : Ref sig .tc := ⟨.hbm, 85, rfl⟩
abbrev main_v55_1 : Ref sig .tc := ⟨.hbm, 86, rfl⟩
abbrev main_call6_v2 : Ref sig .tc := ⟨.hbm, 87, rfl⟩
abbrev main_v55_0 : Ref sig .tc := ⟨.hbm, 88, rfl⟩
abbrev main_call6_cst : Ref sig .tc := ⟨.hbm, 89, rfl⟩
abbrev main_v55_2 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_14 : Ref sig .tc := ⟨.hbm, 129, rfl⟩
abbrev main_v90 : Ref sig .tc := ⟨.hbm, 130, rfl⟩
abbrev main_cst_15 : Ref sig .tc := ⟨.hbm, 131, rfl⟩
abbrev main_v91 : Ref sig .tc := ⟨.hbm, 132, rfl⟩
abbrev main_cst_16 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_17 : Ref sig .tc := ⟨.hbm, 139, rfl⟩
abbrev main_v97 : Ref sig .tc := ⟨.hbm, 140, rfl⟩
abbrev main_cst_18 : Ref sig .tc := ⟨.hbm, 141, rfl⟩
abbrev main_v98 : Ref sig .tc := ⟨.hbm, 142, rfl⟩
abbrev main_v99 : Ref sig .tc := ⟨.hbm, 143, rfl⟩
abbrev main_cst_19 : Ref sig .tc := ⟨.hbm, 144, rfl⟩
abbrev main_v100 : Ref sig .tc := ⟨.hbm, 145, rfl⟩
abbrev main_v101 : Ref sig .tc := ⟨.hbm, 146, rfl⟩
abbrev main_cst_20 : Ref sig .tc := ⟨.hbm, 147, rfl⟩
abbrev main_v102 : Ref sig .tc := ⟨.hbm, 148, rfl⟩
abbrev main_v103 : Ref sig .tc := ⟨.hbm, 149, rfl⟩
abbrev main_cst_21 : Ref sig .tc := ⟨.hbm, 150, rfl⟩
abbrev main_v104 : Ref sig .tc := ⟨.hbm, 151, rfl⟩
abbrev main_cst_22 : Ref sig .tc := ⟨.hbm, 152, rfl⟩
abbrev main_v105 : Ref sig .tc := ⟨.hbm, 153, rfl⟩
abbrev main_cst_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_24 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_25 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_26 : Ref sig .tc := ⟨.hbm, 176, rfl⟩
abbrev main_v125 : Ref sig .tc := ⟨.hbm, 177, rfl⟩
abbrev main_cst_27 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_28 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_29 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_30 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_31 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_32 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_cst_33 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_34 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_35 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_36 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_call7_cst : Ref sig .tc := ⟨.hbm, 263, rfl⟩
abbrev main_call7_v0 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_call8_cst : Ref sig .tc := ⟨.hbm, 273, rfl⟩
abbrev main_call8_v0 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩

abbrev nD : Nat := 1
abbrev τ : Topo := Topo.v7x

variable {F : FTy → Type} [FloatOps F]

def κ : String → Option EReal := fun
  | "mask" => some ⊥
  | "s" => some (((Real.sqrt 128)⁻¹ : ℝ) : EReal)
  | _ => none
-- ==== Gate.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S4096x5632 : Shape := ⟨2, ![4096, 5632]⟩
abbrev S_ : Shape := ⟨0, ![]⟩
abbrev S4096x2048 : Shape := ⟨2, ![4096, 2048]⟩
abbrev S8x128 : Shape := ⟨2, ![8, 128]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 33
  | .vmem => 13
  | .smem => 0
  | _ => 0

abbrev bufTy : (tb : Table) → Fin (tcTables nBuf tb) → BufTy
  | .hbm, ⟨0, _⟩ => ⟨S1x4096x5632, .f32⟩
  | .hbm, ⟨1, _⟩ => ⟨S1x4096x5632, .f32⟩
  | .hbm, ⟨2, _⟩ => ⟨S5632x2048, .f32⟩
  | .hbm, ⟨3, _⟩ => ⟨S1x4096x2048, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .bf16⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .bf16⟩
  | .hbm, ⟨26, _⟩ => ⟨S4096x2048, .f32⟩
  | .hbm, ⟨27, _⟩ => ⟨S4096x2048, .bf16⟩
  | .hbm, ⟨28, _⟩ => ⟨S5632x2048, .bf16⟩
  | .hbm, ⟨29, _⟩ => ⟨S_, .f32⟩
  | .hbm, ⟨30, _⟩ => ⟨S8x128, .f32⟩
  | .hbm, ⟨31, _⟩ => ⟨S4096x5632, .bf16⟩
  | .hbm, ⟨32, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S8x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateRefIdeal.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S_ : Shape := ⟨0, ![]⟩
abbrev S4096x5632 : Shape := ⟨2, ![4096, 5632]⟩

abbrev nBuf : Space → Nat
  | .hbm => 30
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S1x4096x5632, .f32⟩
  | .hbm, ⟨2, _⟩ => ⟨S5632x2048, .f32⟩
  | .hbm, ⟨3, _⟩ => ⟨S1x4096x2048, .f32⟩
  | .hbm, ⟨4, _⟩ => ⟨S1x4096x5632, .f32⟩
  | .hbm, ⟨5, _⟩ => ⟨S1x4096x5632, .f32⟩
  | .hbm, ⟨6, _⟩ => ⟨S_, .f32⟩
  | .hbm, ⟨7, _⟩ => ⟨S1x4096x5632, .f32⟩
  | .hbm, ⟨8, _⟩ => ⟨S1x4096x5632, .f32⟩
  | .hbm, ⟨9, _⟩ => ⟨S_, .f32⟩
  | .hbm, ⟨10, _⟩ => ⟨S1x4096x5632, .f32⟩
  | .hbm, ⟨11, _⟩ => ⟨S1x4096x5632, .f32⟩
  | .hbm, ⟨12, _⟩ => ⟨S_, .f32⟩
  | .hbm, ⟨13, _⟩ => ⟨S1x4096x5632, .f32⟩
  | .hbm, ⟨14, _⟩ => ⟨S1x4096x5632, .f32⟩
  | .hbm, ⟨15, _⟩ => ⟨S1x4096x5632, .f32⟩
  | .hbm, ⟨16, _⟩ => ⟨S1x4096x5632, .f32⟩
  | .hbm, ⟨17, _⟩ => ⟨S1x4096x5632, .f32⟩
  | .hbm, ⟨18, _⟩ => ⟨S1x4096x2048, .f32⟩
  | .hbm, ⟨19, _⟩ => ⟨S1x4096x5632, .f32⟩
  | .hbm, ⟨20, _⟩ => ⟨S1x4096x5632, .f32⟩
  | .hbm, ⟨21, _⟩ => ⟨S1x4096x5632, .f32⟩
  | .hbm, ⟨22, _⟩ => ⟨S1x4096x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S4096x5632, .f32⟩
  | .hbm, ⟨27, _⟩ => ⟨S4096x5632, .bf16⟩
  | .hbm, ⟨28, _⟩ => ⟨S4096x5632, .f32⟩
  | .hbm, ⟨29, _⟩ => ⟨S4096x5632, .bf16⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Down.lean ====
abbrev S1x4096x5632 : Shape := ⟨3, ![1, 4096, 5632]⟩
abbrev S1x4096x2048 : Shape := ⟨3, ![1, 4096, 2048]⟩
abbrev S4096x5632 : Shape := ⟨2, ![4096, 5632]⟩
abbrev S4096x2048 : Shape := ⟨2, ![4096, 2048]⟩
abbrev S5632x2048 : Shape := ⟨2, ![5632, 2048]⟩
abbrev S4096x256 : Shape := ⟨2, ![4096, 256]⟩
abbrev S256x2048 : Shape := ⟨2, ![256, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1x4096x5632, .f32⟩
  | .hbm, ⟨1, _⟩ => ⟨S1x4096x2048, .f32⟩
  | .hbm, ⟨2, _⟩ => ⟨S4096x5632, .f32⟩
  | .hbm, ⟨3, _⟩ => ⟨S4096x5632, .bf16⟩
  | .hbm, ⟨4, _⟩ => ⟨S4096x2048, .f32⟩
  | .hbm, ⟨5, _⟩ => ⟨S4096x2048, .bf16⟩
  | .hbm, ⟨6, _⟩ => ⟨S5632x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S256x2048, .bf16⟩
  | .local _ .vmem, ⟨4, _⟩ => ⟨S256x2048, .bf16⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownRefIdeal.lean ====
abbrev S1x4096x5632 : Shape := ⟨3, ![1, 4096, 5632]⟩
abbrev S1x4096x2048 : Shape := ⟨3, ![1, 4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S1x4096x2048, .f32⟩
  | .hbm, ⟨2, _⟩ => ⟨S_, .f32⟩
  | .hbm, ⟨3, _⟩ => ⟨S5632x2048, .f32⟩
  | .hbm, ⟨4, _⟩ => ⟨S1x4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Weights.lean ====
abbrev S1x4096x2048 : Shape := ⟨3, ![1, 4096, 2048]⟩
abbrev S1x4096x5632 : Shape := ⟨3, ![1, 4096, 5632]⟩
abbrev S4096x2048 : Shape := ⟨2, ![4096, 2048]⟩
abbrev S4096x5632 : Shape := ⟨2, ![4096, 5632]⟩
abbrev S5632x2048 : Shape := ⟨2, ![5632, 2048]⟩
abbrev S4096x256 : Shape := ⟨2, ![4096, 256]⟩
abbrev S256x2048 : Shape := ⟨2, ![256, 2048]⟩

abbrev nBuf : Space → Nat
  | .hbm => 11
  | .vmem => 9
  | .smem => 0
  | _ => 0

abbrev bufTy : (tb : Table) → Fin (tcTables nBuf tb) → BufTy
  | .hbm, ⟨0, _⟩ => ⟨S1x4096x2048, .f32⟩
  | .hbm, ⟨1, _⟩ => ⟨S1x4096x5632, .f32⟩
  | .hbm, ⟨2, _⟩ => ⟨S1x4096x5632, .f32⟩
  | .hbm, ⟨3, _⟩ => ⟨S4096x2048, .f32⟩
  | .hbm, ⟨4, _⟩ => ⟨S4096x2048, .bf16⟩
  | .hbm, ⟨5, _⟩ => ⟨S4096x5632, .f32⟩
  | .hbm, ⟨6, _⟩ => ⟨S4096x5632, .bf16⟩
  | .hbm, ⟨7, _⟩ => ⟨S4096x5632, .f32⟩
  | .hbm, ⟨8, _⟩ => ⟨S4096x5632, .bf16⟩
  | .hbm, ⟨9, _⟩ => ⟨S5632x2048, .bf16⟩
  | .hbm, ⟨10, _⟩ => ⟨S5632x2048, .bf16⟩
  | .local _ .vmem, ⟨0, _⟩ => ⟨S4096x2048, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WeightsRefIdeal.lean ====
abbrev S1x4096x2048 : Shape := ⟨3, ![1, 4096, 2048]⟩
abbrev S1x4096x5632 : Shape := ⟨3, ![1, 4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x5632, .f32⟩
  | .hbm, ⟨2, _⟩ => ⟨S1x4096x5632, .f32⟩
  | .hbm, ⟨3, _⟩ => ⟨S_, .f32⟩
  | .hbm, ⟨4, _⟩ => ⟨S2048x5632, .f32⟩
  | .hbm, ⟨5, _⟩ => ⟨S1x4096x5632, .f32⟩
  | .hbm, ⟨6, _⟩ => ⟨S1x4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S5632x2048, .bf16⟩
  | .hbm, ⟨13, _⟩ => ⟨S5632x2048, .f32⟩
  | .hbm, ⟨14, _⟩ => ⟨S5632x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Input.lean ====
abbrev S2048x5632 : Shape := ⟨2, ![2048, 5632]⟩
abbrev S1x4096x5632 : Shape := ⟨3, ![1, 4096, 5632]⟩
abbrev S4096x5632 : Shape := ⟨2, ![4096, 5632]⟩
abbrev S5632x2048 : Shape := ⟨2, ![5632, 2048]⟩
abbrev S_ : Shape := ⟨0, ![]⟩
abbrev S8x128 : Shape := ⟨2, ![8, 128]⟩
abbrev S4096x2048 : Shape := ⟨2, ![4096, 2048]⟩
abbrev S512x5632 : Shape := ⟨2, ![512, 5632]⟩
abbrev S5632x256 : Shape := ⟨2, ![5632, 256]⟩
abbrev S512x256 : Shape := ⟨2, ![512, 256]⟩

abbrev nBuf : Space → Nat
  | .hbm => 15
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S1x4096x5632, .f32⟩
  | .hbm, ⟨3, _⟩ => ⟨S1x4096x5632, .f32⟩
  | .hbm, ⟨4, _⟩ => ⟨S4096x5632, .f32⟩
  | .hbm, ⟨5, _⟩ => ⟨S4096x5632, .bf16⟩
  | .hbm, ⟨6, _⟩ => ⟨S4096x5632, .f32⟩
  | .hbm, ⟨7, _⟩ => ⟨S4096x5632, .bf16⟩
  | .hbm, ⟨8, _⟩ => ⟨S5632x2048, .f32⟩
  | .hbm, ⟨9, _⟩ => ⟨S5632x2048, .bf16⟩
  | .hbm, ⟨10, _⟩ => ⟨S5632x2048, .f32⟩
  | .hbm, ⟨11, _⟩ => ⟨S5632x2048, .bf16⟩
  | .hbm, ⟨12, _⟩ => ⟨S_, .f32⟩
  | .hbm, ⟨13, _⟩ => ⟨S8x128, .f32⟩
  | .hbm, ⟨14, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x256, .bf16⟩
  | .local _ .vmem, ⟨3, _⟩ => ⟨S5632x256, .bf16⟩
  | .local _ .vmem, ⟨4, _⟩ => ⟨S512x5632, .bf16⟩
  | .local _ .vmem, ⟨5, _⟩ => ⟨S512x5632, .bf16⟩
  | .local _ .vmem, ⟨6, _⟩ => ⟨S5632x256, .bf16⟩
  | .local _ .vmem, ⟨7, _⟩ => ⟨S5632x256, .bf16⟩
  | .local _ .vmem, ⟨8, _⟩ => ⟨S8x128, .f32⟩
  | .local _ .vmem, ⟨9, _⟩ => ⟨S512x256, .f32⟩
  | .local _ .vmem, ⟨10, _⟩ => ⟨S512x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S5632x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InputRefIdeal.lean ====
abbrev S2048x5632 : Shape := ⟨2, ![2048, 5632]⟩
abbrev S1x4096x5632 : Shape := ⟨3, ![1, 4096, 5632]⟩
abbrev S_ : Shape := ⟨0, ![]⟩
abbrev S1x4096x2048 : Shape := ⟨3, ![1, 4096, 2048]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S1x4096x5632, .f32⟩
  | .hbm, ⟨3, _⟩ => ⟨S1x4096x5632, .f32⟩
  | .hbm, ⟨4, _⟩ => ⟨S_, .f32⟩
  | .hbm, ⟨5, _⟩ => ⟨S1x4096x2048, .f32⟩
  | .hbm, ⟨6, _⟩ => ⟨S1x4096x5632, .f32⟩
  | .hbm, ⟨7, _⟩ => ⟨S1x4096x5632, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S4096x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== InWeight.lean ====
abbrev S1x4096x2048 : Shape := ⟨3, ![1, 4096, 2048]⟩
abbrev S1x4096x5120 : Shape := ⟨3, ![1, 4096, 5120]⟩
abbrev S4096x2048 : Shape := ⟨2, ![4096, 2048]⟩
abbrev S4096x5120 : Shape := ⟨2, ![4096, 5120]⟩
abbrev S5120x2048 : Shape := ⟨2, ![5120, 2048]⟩
abbrev S4096x256 : Shape := ⟨2, ![4096, 256]⟩
abbrev S256x2048 : Shape := ⟨2, ![256, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S1x4096x5120, .f32⟩
  | .hbm, ⟨2, _⟩ => ⟨S4096x2048, .f32⟩
  | .hbm, ⟨3, _⟩ => ⟨S4096x2048, .bf16⟩
  | .hbm, ⟨4, _⟩ => ⟨S4096x5120, .f32⟩
  | .hbm, ⟨5, _⟩ => ⟨S4096x5120, .bf16⟩
  | .hbm, ⟨6, _⟩ => ⟨S5120x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S256x2048, .bf16⟩
  | .local _ .vmem, ⟨4, _⟩ => ⟨S256x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InWeightRefIdeal.lean ====
abbrev S1x4096x2048 : Shape := ⟨3, ![1, 4096, 2048]⟩
abbrev S1x4096x5120 : Shape := ⟨3, ![1, 4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x5120, .f32⟩
  | .hbm, ⟨2, _⟩ => ⟨S_, .f32⟩
  | .hbm, ⟨3, _⟩ => ⟨S2048x5120, .f32⟩
  | .hbm, ⟨4, _⟩ => ⟨S1x4096x5120, .f32⟩
  | .hbm, ⟨5, _⟩ => ⟨S5120x2048, .f32⟩
  | .hbm, ⟨6, _⟩ => ⟨S2048x5120, .f32⟩
  | .hbm, ⟨7, _⟩ => ⟨S5120x2048, .f32⟩
  | .hbm, ⟨8, _⟩ => ⟨S5120x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InInput.lean ====
abbrev S2048x5120 : Shape := ⟨2, ![2048, 5120]⟩
abbrev S1x4096x5120 : Shape := ⟨3, ![1, 4096, 5120]⟩
abbrev S4096x5120 : Shape := ⟨2, ![4096, 5120]⟩
abbrev S5120x2048 : Shape := ⟨2, ![5120, 2048]⟩
abbrev S_ : Shape := ⟨0, ![]⟩
abbrev S8x128 : Shape := ⟨2, ![8, 128]⟩
abbrev S4096x2048 : Shape := ⟨2, ![4096, 2048]⟩
abbrev S1024x5120 : Shape := ⟨2, ![1024, 5120]⟩
abbrev S5120x512 : Shape := ⟨2, ![5120, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S2048x5120, .f32⟩
  | .hbm, ⟨1, _⟩ => ⟨S1x4096x5120, .f32⟩
  | .hbm, ⟨2, _⟩ => ⟨S4096x5120, .f32⟩
  | .hbm, ⟨3, _⟩ => ⟨S4096x5120, .bf16⟩
  | .hbm, ⟨4, _⟩ => ⟨S5120x2048, .f32⟩
  | .hbm, ⟨5, _⟩ => ⟨S5120x2048, .bf16⟩
  | .hbm, ⟨6, _⟩ => ⟨S_, .f32⟩
  | .hbm, ⟨7, _⟩ => ⟨S8x128, .f32⟩
  | .hbm, ⟨8, _⟩ => ⟨S4096x2048, .f32⟩
  | .local _ .vmem, ⟨0, _⟩ => ⟨S1024x5120, .bf16⟩
  | .local _ .vmem, ⟨1, _⟩ => ⟨S1024x5120, .bf16⟩
  | .local _ .vmem, ⟨2, _⟩ => ⟨S5120x512, .bf16⟩
  | .local _ .vmem, ⟨3, _⟩ => ⟨S5120x512, .bf16⟩
  | .local _ .vmem, ⟨4, _⟩ => ⟨S8x128, .f32⟩
  | .local _ .vmem, ⟨5, _⟩ => ⟨S1024x512, .f32⟩
  | .local _ .vmem, ⟨6, _⟩ => ⟨S1024x512, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InInputRefIdeal.lean ====
abbrev S2048x5120 : Shape := ⟨2, ![2048, 5120]⟩
abbrev S1x4096x5120 : Shape := ⟨3, ![1, 4096, 5120]⟩
abbrev S_ : Shape := ⟨0, ![]⟩
abbrev S1x4096x2048 : Shape := ⟨3, ![1, 4096, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S1x4096x5120, .f32⟩
  | .hbm, ⟨2, _⟩ => ⟨S_, .f32⟩
  | .hbm, ⟨3, _⟩ => ⟨S1x4096x2048, .f32⟩
  | .hbm, ⟨4, _⟩ => ⟨S1x4096x5120, .f32⟩
  | .hbm, ⟨5, _⟩ => ⟨S1x4096x2048, .f32⟩
  | .hbm, ⟨6, _⟩ => ⟨S4096x2048, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutInput.lean ====
abbrev S2048x2048 : Shape := ⟨2, ![2048, 2048]⟩
abbrev S1x4096x2048 : Shape := ⟨3, ![1, 4096, 2048]⟩
abbrev S4096x2048 : Shape := ⟨2, ![4096, 2048]⟩
abbrev S_ : Shape := ⟨0, ![]⟩
abbrev S8x128 : Shape := ⟨2, ![8, 128]⟩
abbrev S1024x2048 : Shape := ⟨2, ![1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S_, .f32⟩
  | .hbm, ⟨6, _⟩ => ⟨S8x128, .f32⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutInputRefIdeal.lean ====
abbrev S2048x2048 : Shape := ⟨2, ![2048, 2048]⟩
abbrev S1x4096x2048 : Shape := ⟨3, ![1, 4096, 2048]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x4096x2048, .f32⟩
  | .hbm, ⟨2, _⟩ => ⟨S_, .f32⟩
  | .hbm, ⟨3, _⟩ => ⟨S1x4096x2048, .f32⟩
  | .hbm, ⟨4, _⟩ => ⟨S1x4096x2048, .f32⟩
  | .hbm, ⟨5, _⟩ => ⟨S1x4096x2048, .f32⟩
  | .hbm, ⟨6, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutWeight.lean ====
abbrev S1x4096x1024 : Shape := ⟨3, ![1, 4096, 1024]⟩
abbrev S1x4096x2048 : Shape := ⟨3, ![1, 4096, 2048]⟩
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S4096x1024, .f32⟩
  | .hbm, ⟨3, _⟩ => ⟨S4096x1024, .bf16⟩
  | .hbm, ⟨4, _⟩ => ⟨S4096x2048, .f32⟩
  | .hbm, ⟨5, _⟩ => ⟨S4096x2048, .bf16⟩
  | .hbm, ⟨6, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutWeightRefIdeal.lean ====
abbrev S1x4096x1024 : Shape := ⟨3, ![1, 4096, 1024]⟩
abbrev S1x4096x2048 : Shape := ⟨3, ![1, 4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S_, .f32⟩
  | .hbm, ⟨3, _⟩ => ⟨S1024x2048, .f32⟩
  | .hbm, ⟨4, _⟩ => ⟨S1x4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Act.lean ====
abbrev S1x4096x2048 : Shape := ⟨3, ![1, 4096, 2048]⟩
abbrev S2048x5632 : Shape := ⟨2, ![2048, 5632]⟩
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 12
  | .vmem => 12
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x2048, .bf16⟩
  | .hbm, ⟨5, _⟩ => ⟨S5632x2048, .f32⟩
  | .hbm, ⟨6, _⟩ => ⟨S5632x2048, .bf16⟩
  | .hbm, ⟨7, _⟩ => ⟨S5632x2048, .f32⟩
  | .hbm, ⟨8, _⟩ => ⟨S5632x2048, .bf16⟩
  | .hbm, ⟨9, _⟩ => ⟨S4096x5632, .bf16⟩
  | .hbm, ⟨10, _⟩ => ⟨S4096x5632, .bf16⟩
  | .hbm, ⟨11, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S1x4096x2048 : Shape := ⟨3, ![1, 4096, 2048]⟩
abbrev S2048x5632 : Shape := ⟨2, ![2048, 5632]⟩
abbrev S1x4096x5632 : Shape := ⟨3, ![1, 4096, 5632]⟩
abbrev S_ : Shape := ⟨0, ![]⟩
abbrev S4096x5632 : Shape := ⟨2, ![4096, 5632]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S1x4096x5632, .f32⟩
  | .hbm, ⟨4, _⟩ => ⟨S1x4096x5632, .f32⟩
  | .hbm, ⟨5, _⟩ => ⟨S1x4096x5632, .f32⟩
  | .hbm, ⟨6, _⟩ => ⟨S1x4096x5632, .f32⟩
  | .hbm, ⟨7, _⟩ => ⟨S_, .f32⟩
  | .hbm, ⟨8, _⟩ => ⟨S1x4096x5632, .f32⟩
  | .hbm, ⟨9, _⟩ => ⟨S1x4096x5632, .f32⟩
  | .hbm, ⟨10, _⟩ => ⟨S_, .f32⟩
  | .hbm, ⟨11, _⟩ => ⟨S1x4096x5632, .f32⟩
  | .hbm, ⟨12, _⟩ => ⟨S1x4096x5632, .f32⟩
  | .hbm, ⟨13, _⟩ => ⟨S_, .f32⟩
  | .hbm, ⟨14, _⟩ => ⟨S1x4096x5632, .f32⟩
  | .hbm, ⟨15, _⟩ => ⟨S1x4096x5632, .f32⟩
  | .hbm, ⟨16, _⟩ => ⟨S1x4096x5632, .f32⟩
  | .hbm, ⟨17, _⟩ => ⟨S1x4096x5632, .f32⟩
  | .hbm, ⟨18, _⟩ => ⟨S1x4096x5632, .f32⟩
  | .hbm, ⟨19, _⟩ => ⟨S_, .f32⟩
  | .hbm, ⟨20, _⟩ => ⟨S1x4096x5632, .f32⟩
  | .hbm, ⟨21, _⟩ => ⟨S1x4096x5632, .f32⟩
  | .hbm, ⟨22, _⟩ => ⟨S1x4096x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x4096x5632, .f32⟩
  | .hbm, ⟨27, _⟩ => ⟨S4096x5632, .f32⟩
  | .hbm, ⟨28, _⟩ => ⟨S4096x5632, .bf16⟩
  | .hbm, ⟨29, _⟩ => ⟨S4096x5632, .f32⟩
  | .hbm, ⟨30, _⟩ => ⟨S4096x5632, .bf16⟩
  | .hbm, ⟨31, _⟩ => ⟨S4096x5632, .f32⟩
  | .hbm, ⟨32, _⟩ => ⟨S4096x5632, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Mixed.lean ====
abbrev S1x4096x2048 : Shape := ⟨3, ![1, 4096, 2048]⟩
abbrev S1x4096x5632 : Shape := ⟨3, ![1, 4096, 5632]⟩
abbrev S5632x2048 : Shape := ⟨2, ![5632, 2048]⟩
abbrev S4096x2048 : Shape := ⟨2, ![4096, 2048]⟩
abbrev S4096x5632 : Shape := ⟨2, ![4096, 5632]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x4096x2048, .f32⟩
  | .hbm, ⟨1, _⟩ => ⟨S1x4096x5632, .f32⟩
  | .hbm, ⟨2, _⟩ => ⟨S5632x2048, .f32⟩
  | .hbm, ⟨3, _⟩ => ⟨S4096x2048, .f32⟩
  | .hbm, ⟨4, _⟩ => ⟨S4096x5632, .f32⟩
  | .hbm, ⟨5, _⟩ => ⟨S4096x5632, .bf16⟩
  | .hbm, ⟨6, _⟩ => ⟨S5632x2048, .bf16⟩
  | .hbm, ⟨7, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixedRefIdeal.lean ====
abbrev S1x4096x2048 : Shape := ⟨3, ![1, 4096, 2048]⟩
abbrev S1x4096x5632 : Shape := ⟨3, ![1, 4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x5632, .f32⟩
  | .hbm, ⟨2, _⟩ => ⟨S5632x2048, .f32⟩
  | .hbm, ⟨3, _⟩ => ⟨S1x4096x2048, .f32⟩
  | .hbm, ⟨4, _⟩ => ⟨S1x4096x2048, .f32⟩
  | .hbm, ⟨5, _⟩ => ⟨S4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Project.lean ====
abbrev S1x4096x2048 : Shape := ⟨3, ![1, 4096, 2048]⟩
abbrev S2048x5120 : Shape := ⟨2, ![2048, 5120]⟩
abbrev S4096x2048 : Shape := ⟨2, ![4096, 2048]⟩
abbrev S5120x2048 : Shape := ⟨2, ![5120, 2048]⟩
abbrev S4096x5120 : Shape := ⟨2, ![4096, 5120]⟩
abbrev S1024x2048 : Shape := ⟨2, ![1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048x5120, .f32⟩
  | .hbm, ⟨2, _⟩ => ⟨S4096x2048, .f32⟩
  | .hbm, ⟨3, _⟩ => ⟨S4096x2048, .bf16⟩
  | .hbm, ⟨4, _⟩ => ⟨S5120x2048, .f32⟩
  | .hbm, ⟨5, _⟩ => ⟨S5120x2048, .bf16⟩
  | .hbm, ⟨6, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectRefIdeal.lean ====
abbrev S1x4096x2048 : Shape := ⟨3, ![1, 4096, 2048]⟩
abbrev S2048x5120 : Shape := ⟨2, ![2048, 5120]⟩
abbrev S1x4096x5120 : Shape := ⟨3, ![1, 4096, 5120]⟩
abbrev S4096x5120 : Shape := ⟨2, ![4096, 5120]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5120, .f32⟩
  | .hbm, ⟨2, _⟩ => ⟨S1x4096x5120, .f32⟩
  | .hbm, ⟨3, _⟩ => ⟨S4096x5120, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== StepDown.lean ====
abbrev S4x704x2048 : Shape := ⟨3, ![4, 704, 2048]⟩
abbrev S4x4x704x2048 : Shape := ⟨4, ![4, 4, 704, 2048]⟩
abbrev S1x4x704x2048 : Shape := ⟨4, ![1, 4, 704, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 20
  | .vmem => 22
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x4x704x2048, .f32⟩
  | .hbm, ⟨4, _⟩ => ⟨S1x4x704x2048, .f32⟩
  | .hbm, ⟨5, _⟩ => ⟨S4x704x2048, .f32⟩
  | .hbm, ⟨6, _⟩ => ⟨S4x704x2048, .bf16⟩
  | .hbm, ⟨7, _⟩ => ⟨S1x4x704x2048, .f32⟩
  | .hbm, ⟨8, _⟩ => ⟨S4x704x2048, .f32⟩
  | .hbm, ⟨9, _⟩ => ⟨S4x704x2048, .bf16⟩
  | .hbm, ⟨10, _⟩ => ⟨S1x4x704x2048, .f32⟩
  | .hbm, ⟨11, _⟩ => ⟨S4x704x2048, .f32⟩
  | .hbm, ⟨12, _⟩ => ⟨S4x704x2048, .bf16⟩
  | .hbm, ⟨13, _⟩ => ⟨S1x4x704x2048, .f32⟩
  | .hbm, ⟨14, _⟩ => ⟨S4x704x2048, .f32⟩
  | .hbm, ⟨15, _⟩ => ⟨S4x704x2048, .bf16⟩
  | .hbm, ⟨16, _⟩ => ⟨S4x704x2048, .f32⟩
  | .hbm, ⟨17, _⟩ => ⟨S4x704x2048, .f32⟩
  | .hbm, ⟨18, _⟩ => ⟨S4x704x2048, .f32⟩
  | .hbm, ⟨19, _⟩ => ⟨S4x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S4x64x2048, .bf16⟩
  | .local _ .vmem, ⟨11, _⟩ => ⟨S4x64x2048, .bf16⟩
  | .local _ .vmem, ⟨12, _⟩ => ⟨S4x64x2048, .bf16⟩
  | .local _ .vmem, ⟨13, _⟩ => ⟨S4x64x2048, .bf16⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepDownIdeal.lean ====
abbrev S4x704x2048 : Shape := ⟨3, ![4, 704, 2048]⟩
abbrev S4x4x704x2048 : Shape := ⟨4, ![4, 4, 704, 2048]⟩
abbrev S1x4x704x2048 : Shape := ⟨4, ![1, 4, 704, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 20
  | .vmem => 22
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x4x704x2048, .f32⟩
  | .hbm, ⟨4, _⟩ => ⟨S1x4x704x2048, .f32⟩
  | .hbm, ⟨5, _⟩ => ⟨S4x704x2048, .f32⟩
  | .hbm, ⟨6, _⟩ => ⟨S4x704x2048, .bf16⟩
  | .hbm, ⟨7, _⟩ => ⟨S1x4x704x2048, .f32⟩
  | .hbm, ⟨8, _⟩ => ⟨S4x704x2048, .f32⟩
  | .hbm, ⟨9, _⟩ => ⟨S4x704x2048, .bf16⟩
  | .hbm, ⟨10, _⟩ => ⟨S1x4x704x2048, .f32⟩
  | .hbm, ⟨11, _⟩ => ⟨S4x704x2048, .f32⟩
  | .hbm, ⟨12, _⟩ => ⟨S4x704x2048, .bf16⟩
  | .hbm, ⟨13, _⟩ => ⟨S1x4x704x2048, .f32⟩
  | .hbm, ⟨14, _⟩ => ⟨S4x704x2048, .f32⟩
  | .hbm, ⟨15, _⟩ => ⟨S4x704x2048, .bf16⟩
  | .hbm, ⟨16, _⟩ => ⟨S4x704x2048, .f32⟩
  | .hbm, ⟨17, _⟩ => ⟨S4x704x2048, .f32⟩
  | .hbm, ⟨18, _⟩ => ⟨S4x704x2048, .f32⟩
  | .hbm, ⟨19, _⟩ => ⟨S4x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S4x64x2048, .bf16⟩
  | .local _ .vmem, ⟨11, _⟩ => ⟨S4x64x2048, .bf16⟩
  | .local _ .vmem, ⟨12, _⟩ => ⟨S4x64x2048, .bf16⟩
  | .local _ .vmem, ⟨13, _⟩ => ⟨S4x64x2048, .bf16⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "r1" => some ((8388608 / 5463681 : ℝ) : EReal)
  | "r2" => some ((268435456 / 2672307 : ℝ) : EReal)
  | _ => none

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepDownRefIdeal.lean ====
abbrev S4x704x2048 : Shape := ⟨3, ![4, 704, 2048]⟩
abbrev S4x4x704x2048 : Shape := ⟨4, ![4, 4, 704, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x4x704x2048, .f32⟩
  | .hbm, ⟨4, _⟩ => ⟨S_, .f32⟩
  | .hbm, ⟨5, _⟩ => ⟨S4x704x2048, .f32⟩
  | .hbm, ⟨6, _⟩ => ⟨S_, .f32⟩
  | .hbm, ⟨7, _⟩ => ⟨S4x704x2048, .f32⟩
  | .hbm, ⟨8, _⟩ => ⟨S4x704x2048, .f32⟩
  | .hbm, ⟨9, _⟩ => ⟨S_, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .hbm, ⟨13, _⟩ => ⟨S_, .f32⟩
  | .hbm, ⟨14, _⟩ => ⟨S4x704x2048, .f32⟩
  | .hbm, ⟨15, _⟩ => ⟨S4x704x2048, .f32⟩
  | .hbm, ⟨16, _⟩ => ⟨S4x704x2048, .f32⟩
  | .hbm, ⟨17, _⟩ => ⟨S_, .f32⟩
  | .hbm, ⟨18, _⟩ => ⟨S4x704x2048, .f32⟩
  | .hbm, ⟨19, _⟩ => ⟨S4x704x2048, .f32⟩
  | .hbm, ⟨20, _⟩ => ⟨S4x704x2048, .f32⟩
  | .hbm, ⟨21, _⟩ => ⟨S_, .f32⟩
  | .hbm, ⟨22, _⟩ => ⟨S4x704x2048, .f32⟩
  | .hbm, ⟨23, _⟩ => ⟨S4x704x2048, .f32⟩
  | .hbm, ⟨24, _⟩ => ⟨S_, .f32⟩
  | .hbm, ⟨25, _⟩ => ⟨S4x704x2048, .f32⟩
  | .hbm, ⟨26, _⟩ => ⟨S4x704x2048, .f32⟩
  | .hbm, ⟨27, _⟩ => ⟨S4x704x2048, .f32⟩
  | .hbm, ⟨28, _⟩ => ⟨S_, .f32⟩
  | .hbm, ⟨29, _⟩ => ⟨S4x704x2048, .f32⟩
  | .hbm, ⟨30, _⟩ => ⟨S4x704x2048, .f32⟩
  | .hbm, ⟨31, _⟩ => ⟨S4x704x2048, .f32⟩
  | .hbm, ⟨32, _⟩ => ⟨S_, .f32⟩
  | .hbm, ⟨33, _⟩ => ⟨S4x704x2048, .f32⟩
  | .hbm, ⟨34, _⟩ => ⟨S4x704x2048, .f32⟩
  | .hbm, ⟨35, _⟩ => ⟨S4x704x2048, .f32⟩
  | .hbm, ⟨36, _⟩ => ⟨S_, .f32⟩
  | .hbm, ⟨37, _⟩ => ⟨S4x704x2048, .f32⟩
  | .hbm, ⟨38, _⟩ => ⟨S4x704x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepOut.lean ====
abbrev S4x256x2048 : Shape := ⟨3, ![4, 256, 2048]⟩
abbrev S4x4x256x2048 : Shape := ⟨4, ![4, 4, 256, 2048]⟩
abbrev S1x4x256x2048 : Shape := ⟨4, ![1, 4, 256, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 20
  | .vmem => 22
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x4x256x2048, .f32⟩
  | .hbm, ⟨4, _⟩ => ⟨S1x4x256x2048, .f32⟩
  | .hbm, ⟨5, _⟩ => ⟨S4x256x2048, .f32⟩
  | .hbm, ⟨6, _⟩ => ⟨S4x256x2048, .bf16⟩
  | .hbm, ⟨7, _⟩ => ⟨S1x4x256x2048, .f32⟩
  | .hbm, ⟨8, _⟩ => ⟨S4x256x2048, .f32⟩
  | .hbm, ⟨9, _⟩ => ⟨S4x256x2048, .bf16⟩
  | .hbm, ⟨10, _⟩ => ⟨S1x4x256x2048, .f32⟩
  | .hbm, ⟨11, _⟩ => ⟨S4x256x2048, .f32⟩
  | .hbm, ⟨12, _⟩ => ⟨S4x256x2048, .bf16⟩
  | .hbm, ⟨13, _⟩ => ⟨S1x4x256x2048, .f32⟩
  | .hbm, ⟨14, _⟩ => ⟨S4x256x2048, .f32⟩
  | .hbm, ⟨15, _⟩ => ⟨S4x256x2048, .bf16⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S4x64x2048, .bf16⟩
  | .local _ .vmem, ⟨11, _⟩ => ⟨S4x64x2048, .bf16⟩
  | .local _ .vmem, ⟨12, _⟩ => ⟨S4x64x2048, .bf16⟩
  | .local _ .vmem, ⟨13, _⟩ => ⟨S4x64x2048, .bf16⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c3_i32_1 : BitVec 32 := 3#32
  let v2 : BitVec 32 := Scalar.select v1 c0_i32 c3_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepOutIdeal.lean ====
variable {F : FTy → Type} [FloatOps F] [Named F]
def κ : String → Option EReal := fun
  | "r1" => some ((8388608 / 5463681 : ℝ) : EReal)
  | "r2" => some ((268435456 / 2672307 : ℝ) : EReal)
  | _ => none
-- ==== StepOutRefIdeal.lean ====
abbrev S4x256x2048 : Shape := ⟨3, ![4, 256, 2048]⟩
abbrev S4x4x256x2048 : Shape := ⟨4, ![4, 4, 256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x4x256x2048, .f32⟩
  | .hbm, ⟨4, _⟩ => ⟨S_, .f32⟩
  | .hbm, ⟨5, _⟩ => ⟨S4x256x2048, .f32⟩
  | .hbm, ⟨6, _⟩ => ⟨S_, .f32⟩
  | .hbm, ⟨7, _⟩ => ⟨S4x256x2048, .f32⟩
  | .hbm, ⟨8, _⟩ => ⟨S4x256x2048, .f32⟩
  | .hbm, ⟨9, _⟩ => ⟨S_, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .hbm, ⟨13, _⟩ => ⟨S_, .f32⟩
  | .hbm, ⟨14, _⟩ => ⟨S4x256x2048, .f32⟩
  | .hbm, ⟨15, _⟩ => ⟨S4x256x2048, .f32⟩
  | .hbm, ⟨16, _⟩ => ⟨S4x256x2048, .f32⟩
  | .hbm, ⟨17, _⟩ => ⟨S_, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S_, .f32⟩
  | .hbm, ⟨22, _⟩ => ⟨S4x256x2048, .f32⟩
  | .hbm, ⟨23, _⟩ => ⟨S4x256x2048, .f32⟩
  | .hbm, ⟨24, _⟩ => ⟨S_, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S_, .f32⟩
  | .hbm, ⟨29, _⟩ => ⟨S4x256x2048, .f32⟩
  | .hbm, ⟨30, _⟩ => ⟨S4x256x2048, .f32⟩
  | .hbm, ⟨31, _⟩ => ⟨S4x256x2048, .f32⟩
  | .hbm, ⟨32, _⟩ => ⟨S_, .f32⟩
  | .hbm, ⟨33, _⟩ => ⟨S4x256x2048, .f32⟩
  | .hbm, ⟨34, _⟩ => ⟨S4x256x2048, .f32⟩
  | .hbm, ⟨35, _⟩ => ⟨S4x256x2048, .f32⟩
  | .hbm, ⟨36, _⟩ => ⟨S_, .f32⟩
  | .hbm, ⟨37, _⟩ => ⟨S4x256x2048, .f32⟩
  | .hbm, ⟨38, _⟩ => ⟨S4x256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepGate.lean ====
abbrev S4x2048x704 : Shape := ⟨3, ![4, 2048, 704]⟩
abbrev S4x4x704x2048 : Shape := ⟨4, ![4, 4, 704, 2048]⟩
abbrev S4x704x2048 : Shape := ⟨3, ![4, 704, 2048]⟩
abbrev S1x4x704x2048 : Shape := ⟨4, ![1, 4, 704, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 23
  | .vmem => 22
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S4x4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S1x4x704x2048, .f32⟩
  | .hbm, ⟨8, _⟩ => ⟨S4x704x2048, .f32⟩
  | .hbm, ⟨9, _⟩ => ⟨S4x704x2048, .bf16⟩
  | .hbm, ⟨10, _⟩ => ⟨S1x4x704x2048, .f32⟩
  | .hbm, ⟨11, _⟩ => ⟨S4x704x2048, .f32⟩
  | .hbm, ⟨12, _⟩ => ⟨S4x704x2048, .bf16⟩
  | .hbm, ⟨13, _⟩ => ⟨S1x4x704x2048, .f32⟩
  | .hbm, ⟨14, _⟩ => ⟨S4x704x2048, .f32⟩
  | .hbm, ⟨15, _⟩ => ⟨S4x704x2048, .bf16⟩
  | .hbm, ⟨16, _⟩ => ⟨S1x4x704x2048, .f32⟩
  | .hbm, ⟨17, _⟩ => ⟨S4x704x2048, .f32⟩
  | .hbm, ⟨18, _⟩ => ⟨S4x704x2048, .bf16⟩
  | .hbm, ⟨19, _⟩ => ⟨S4x704x2048, .f32⟩
  | .hbm, ⟨20, _⟩ => ⟨S4x704x2048, .f32⟩
  | .hbm, ⟨21, _⟩ => ⟨S4x704x2048, .f32⟩
  | .hbm, ⟨22, _⟩ => ⟨S4x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S4x64x2048, .bf16⟩
  | .local _ .vmem, ⟨11, _⟩ => ⟨S4x64x2048, .bf16⟩
  | .local _ .vmem, ⟨12, _⟩ => ⟨S4x64x2048, .bf16⟩
  | .local _ .vmem, ⟨13, _⟩ => ⟨S4x64x2048, .bf16⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepGateIdeal.lean ====
variable {F : FTy → Type} [FloatOps F] [Named F]
def κ : String → Option EReal := fun
  | "r1" => some ((8388608 / 5463681 : ℝ) : EReal)
  | "r2" => some ((268435456 / 2672307 : ℝ) : EReal)
  | _ => none
-- ==== StepGateRefIdeal.lean ====
abbrev S4x2048x704 : Shape := ⟨3, ![4, 2048, 704]⟩
abbrev S4x4x704x2048 : Shape := ⟨4, ![4, 4, 704, 2048]⟩
abbrev S_ : Shape := ⟨0, ![]⟩
abbrev S4x704x2048 : Shape := ⟨3, ![4, 704, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S4x4x704x2048, .f32⟩
  | .hbm, ⟨4, _⟩ => ⟨S_, .f32⟩
  | .hbm, ⟨5, _⟩ => ⟨S4x704x2048, .f32⟩
  | .hbm, ⟨6, _⟩ => ⟨S4x2048x704, .f32⟩
  | .hbm, ⟨7, _⟩ => ⟨S_, .f32⟩
  | .hbm, ⟨8, _⟩ => ⟨S4x2048x704, .f32⟩
  | .hbm, ⟨9, _⟩ => ⟨S4x2048x704, .f32⟩
  | .hbm, ⟨10, _⟩ => ⟨S_, .f32⟩
  | .hbm, ⟨11, _⟩ => ⟨S4x2048x704, .f32⟩
  | .hbm, ⟨12, _⟩ => ⟨S4x2048x704, .f32⟩
  | .hbm, ⟨13, _⟩ => ⟨S4x2048x704, .f32⟩
  | .hbm, ⟨14, _⟩ => ⟨S_, .f32⟩
  | .hbm, ⟨15, _⟩ => ⟨S4x2048x704, .f32⟩
  | .hbm, ⟨16, _⟩ => ⟨S4x2048x704, .f32⟩
  | .hbm, ⟨17, _⟩ => ⟨S4x2048x704, .f32⟩
  | .hbm, ⟨18, _⟩ => ⟨S_, .f32⟩
  | .hbm, ⟨19, _⟩ => ⟨S4x2048x704, .f32⟩
  | .hbm, ⟨20, _⟩ => ⟨S4x2048x704, .f32⟩
  | .hbm, ⟨21, _⟩ => ⟨S4x2048x704, .f32⟩
  | .hbm, ⟨22, _⟩ => ⟨S_, .f32⟩
  | .hbm, ⟨23, _⟩ => ⟨S4x2048x704, .f32⟩
  | .hbm, ⟨24, _⟩ => ⟨S4x2048x704, .f32⟩
  | .hbm, ⟨25, _⟩ => ⟨S_, .f32⟩
  | .hbm, ⟨26, _⟩ => ⟨S4x2048x704, .f32⟩
  | .hbm, ⟨27, _⟩ => ⟨S4x2048x704, .f32⟩
  | .hbm, ⟨28, _⟩ => ⟨S4x2048x704, .f32⟩
  | .hbm, ⟨29, _⟩ => ⟨S_, .f32⟩
  | .hbm, ⟨30, _⟩ => ⟨S4x2048x704, .f32⟩
  | .hbm, ⟨31, _⟩ => ⟨S4x2048x704, .f32⟩
  | .hbm, ⟨32, _⟩ => ⟨S4x2048x704, .f32⟩
  | .hbm, ⟨33, _⟩ => ⟨S_, .f32⟩
  | .hbm, ⟨34, _⟩ => ⟨S4x2048x704, .f32⟩
  | .hbm, ⟨35, _⟩ => ⟨S4x2048x704, .f32⟩
  | .hbm, ⟨36, _⟩ => ⟨S4x2048x704, .f32⟩
  | .hbm, ⟨37, _⟩ => ⟨S_, .f32⟩
  | .hbm, ⟨38, _⟩ => ⟨S4x2048x704, .f32⟩
  | .hbm, ⟨39, _⟩ => ⟨S4x2048x704, .f32⟩
  | .hbm, ⟨40, _⟩ => ⟨S4x704x2048, .f32⟩
  | .hbm, ⟨41, _⟩ => ⟨S4x704x2048, .f32⟩
  | .hbm, ⟨42, _⟩ => ⟨S4x704x2048, .f32⟩
  | .hbm, ⟨43, _⟩ => ⟨S4x704x2048, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== StepIn.lean ====
abbrev S4x2048x640 : Shape := ⟨3, ![4, 2048, 640]⟩
abbrev S4x4x640x2048 : Shape := ⟨4, ![4, 4, 640, 2048]⟩
abbrev S1x4x640x2048 : Shape := ⟨4, ![1, 4, 640, 2048]⟩
abbrev S4x640x2048 : Shape := ⟨3, ![4, 640, 2048]⟩
abbrev S1x128x640 : Shape := ⟨3, ![1, 128, 640]⟩
abbrev S4x640x128 : Shape := ⟨3, ![4, 640, 128]⟩
abbrev S1x640x128 : Shape := ⟨3, ![1, 640, 128]⟩
abbrev S640x128 : Shape := ⟨2, ![640, 128]⟩
abbrev S128x640 : Shape := ⟨2, ![128, 640]⟩

abbrev nBuf : Space → Nat
  | .hbm => 20
  | .vmem => 22
  | .smem => 0
  | _ => 0

abbrev bufTy : (tb : Table) → Fin (tcTables nBuf tb) → BufTy
  | .hbm, ⟨0, _⟩ => ⟨S4x2048x640, .f32⟩
  | .hbm, ⟨1, _⟩ => ⟨S4x2048x640, .f32⟩
  | .hbm, ⟨2, _⟩ => ⟨S4x2048x640, .f32⟩
  | .hbm, ⟨3, _⟩ => ⟨S4x4x640x2048, .f32⟩
  | .hbm, ⟨4, _⟩ => ⟨S1x4x640x2048, .f32⟩
  | .hbm, ⟨5, _⟩ => ⟨S4x640x2048, .f32⟩
  | .hbm, ⟨6, _⟩ => ⟨S4x640x2048, .bf16⟩
  | .hbm, ⟨7, _⟩ => ⟨S1x4x640x2048, .f32⟩
  | .hbm, ⟨8, _⟩ => ⟨S4x640x2048, .f32⟩
  | .hbm, ⟨9, _⟩ => ⟨S4x640x2048, .bf16⟩
  | .hbm, ⟨10, _⟩ => ⟨S1x4x640x2048, .f32⟩
  | .hbm, ⟨11, _⟩ => ⟨S4x640x2048, .f32⟩
  | .hbm, ⟨12, _⟩ => ⟨S4x640x2048, .bf16⟩
  | .hbm, ⟨13, _⟩ => ⟨S1x4x640x2048, .f32⟩
  | .hbm, ⟨14, _⟩ => ⟨S4x640x2048, .f32⟩
  | .hbm, ⟨15, _⟩ => ⟨S4x640x2048, .bf16⟩
  | .hbm, ⟨16, _⟩ => ⟨S4x2048x640, .f32⟩
  | .hbm, ⟨17, _⟩ => ⟨S4x2048x640, .f32⟩
  | .hbm, ⟨18, _⟩ => ⟨S4x2048x640, .f32⟩
  | .hbm, ⟨19, _⟩ => ⟨S4x2048x640, .f32⟩
  | .local _ .vmem, ⟨0, _⟩ => ⟨S1x128x640, .f32⟩
  | .local _ .vmem, ⟨1, _⟩ => ⟨S1x128x640, .f32⟩
  | .local _ .vmem, ⟨2, _⟩ => ⟨S1x128x640, .f32⟩
  | .local _ .vmem, ⟨3, _⟩ => ⟨S1x128x640, .f32⟩
  | .local _ .vmem, ⟨4, _⟩ => ⟨S1x128x640, .f32⟩
  | .local _ .vmem, ⟨5, _⟩ => ⟨S1x128x640, .f32⟩
  | .local _ .vmem, ⟨6, _⟩ => ⟨S4x640x128, .bf16⟩
  | .local _ .vmem, ⟨7, _⟩ => ⟨S4x640x128, .bf16⟩
  | .local _ .vmem, ⟨8, _⟩ => ⟨S4x640x128, .bf16⟩
  | .local _ .vmem, ⟨9, _⟩ => ⟨S4x640x128, .bf16⟩
  | .local _ .vmem, ⟨10, _⟩ => ⟨S4x640x128, .bf16⟩
  | .local _ .vmem, ⟨11, _⟩ => ⟨S4x640x128, .bf16⟩
  | .local _ .vmem, ⟨12, _⟩ => ⟨S4x640x128, .bf16⟩
  | .local _ .vmem, ⟨13, _⟩ => ⟨S4x640x128, .bf16⟩
  | .local _ .vmem, ⟨14, _⟩ => ⟨S1x128x640, .f32⟩
  | .local _ .vmem, ⟨15, _⟩ => ⟨S1x128x640, .f32⟩
  | .local _ .vmem, ⟨16, _⟩ => ⟨S1x128x640, .f32⟩
  | .local _ .vmem, ⟨17, _⟩ => ⟨S1x128x640, .f32⟩
  | .local _ .vmem, ⟨18, _⟩ => ⟨S1x128x640, .f32⟩
  | .local _ .vmem, ⟨19, _⟩ => ⟨S1x128x640, .f32⟩
  | .local _ .vmem, ⟨20, _⟩ => ⟨S1x128x640, .f32⟩
  | .local _ .vmem, ⟨21, _⟩ => ⟨S1x128x640, .f32⟩
  | _, _ => ⟨S4x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, c0_i32_3.toNat, v3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, c0_i32_2.toNat, v3.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, c0_i32_2.toNat, v3.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, c0_i32_2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x640x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x640x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepInIdeal.lean ====
variable {F : FTy → Type} [FloatOps F] [Named F]
def κ : String → Option EReal := fun
  | "r1" => some ((8388608 / 5463681 : ℝ) : EReal)
  | "r2" => some ((268435456 / 2672307 : ℝ) : EReal)
  | _ => none
-- ==== StepInRefIdeal.lean ====
abbrev S4x2048x640 : Shape := ⟨3, ![4, 2048, 640]⟩
abbrev S4x4x640x2048 : Shape := ⟨4, ![4, 4, 640, 2048]⟩
abbrev S_ : Shape := ⟨0, ![]⟩
abbrev S4x640x2048 : Shape := ⟨3, ![4, 640, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x640, .f32⟩
  | .hbm, ⟨1, _⟩ => ⟨S4x2048x640, .f32⟩
  | .hbm, ⟨2, _⟩ => ⟨S4x2048x640, .f32⟩
  | .hbm, ⟨3, _⟩ => ⟨S4x4x640x2048, .f32⟩
  | .hbm, ⟨4, _⟩ => ⟨S_, .f32⟩
  | .hbm, ⟨5, _⟩ => ⟨S4x640x2048, .f32⟩
  | .hbm, ⟨6, _⟩ => ⟨S4x2048x640, .f32⟩
  | .hbm, ⟨7, _⟩ => ⟨S_, .f32⟩
  | .hbm, ⟨8, _⟩ => ⟨S4x2048x640, .f32⟩
  | .hbm, ⟨9, _⟩ => ⟨S4x2048x640, .f32⟩
  | .hbm, ⟨10, _⟩ => ⟨S_, .f32⟩
  | .hbm, ⟨11, _⟩ => ⟨S4x2048x640, .f32⟩
  | .hbm, ⟨12, _⟩ => ⟨S4x2048x640, .f32⟩
  | .hbm, ⟨13, _⟩ => ⟨S4x2048x640, .f32⟩
  | .hbm, ⟨14, _⟩ => ⟨S_, .f32⟩
  | .hbm, ⟨15, _⟩ => ⟨S4x2048x640, .f32⟩
  | .hbm, ⟨16, _⟩ => ⟨S4x2048x640, .f32⟩
  | .hbm, ⟨17, _⟩ => ⟨S4x2048x640, .f32⟩
  | .hbm, ⟨18, _⟩ => ⟨S_, .f32⟩
  | .hbm, ⟨19, _⟩ => ⟨S4x2048x640, .f32⟩
  | .hbm, ⟨20, _⟩ => ⟨S4x2048x640, .f32⟩
  | .hbm, ⟨21, _⟩ => ⟨S4x2048x640, .f32⟩
  | .hbm, ⟨22, _⟩ => ⟨S_, .f32⟩
  | .hbm, ⟨23, _⟩ => ⟨S4x2048x640, .f32⟩
  | .hbm, ⟨24, _⟩ => ⟨S4x2048x640, .f32⟩
  | .hbm, ⟨25, _⟩ => ⟨S_, .f32⟩
  | .hbm, ⟨26, _⟩ => ⟨S4x2048x640, .f32⟩
  | .hbm, ⟨27, _⟩ => ⟨S4x2048x640, .f32⟩
  | .hbm, ⟨28, _⟩ => ⟨S4x2048x640, .f32⟩
  | .hbm, ⟨29, _⟩ => ⟨S_, .f32⟩
  | .hbm, ⟨30, _⟩ => ⟨S4x2048x640, .f32⟩
  | .hbm, ⟨31, _⟩ => ⟨S4x2048x640, .f32⟩
  | .hbm, ⟨32, _⟩ => ⟨S4x2048x640, .f32⟩
  | .hbm, ⟨33, _⟩ => ⟨S_, .f32⟩
  | .hbm, ⟨34, _⟩ => ⟨S4x2048x640, .f32⟩
  | .hbm, ⟨35, _⟩ => ⟨S4x2048x640, .f32⟩
  | .hbm, ⟨36, _⟩ => ⟨S4x2048x640, .f32⟩
  | .hbm, ⟨37, _⟩ => ⟨S_, .f32⟩
  | .hbm, ⟨38, _⟩ => ⟨S4x2048x640, .f32⟩
  | .hbm, ⟨39, _⟩ => ⟨S4x2048x640, .f32⟩
  | _, _ => ⟨S4x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepSmall.lean ====
abbrev S1x4368x128 : Shape := ⟨3, ![1, 4368, 128]⟩
abbrev S8x4368x128 : Shape := ⟨3, ![8, 4368, 128]⟩
abbrev S1x624x128 : Shape := ⟨3, ![1, 624, 128]⟩
abbrev S8x624x128 : Shape := ⟨3, ![8, 624, 128]⟩
abbrev S624x128 : Shape := ⟨2, ![624, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x4368x128, .f32⟩
  | .hbm, ⟨1, _⟩ => ⟨S1x4368x128, .f32⟩
  | .hbm, ⟨2, _⟩ => ⟨S1x4368x128, .f32⟩
  | .hbm, ⟨3, _⟩ => ⟨S8x4368x128, .f32⟩
  | .hbm, ⟨4, _⟩ => ⟨S1x4368x128, .f32⟩
  | .hbm, ⟨5, _⟩ => ⟨S1x4368x128, .f32⟩
  | .hbm, ⟨6, _⟩ => ⟨S1x4368x128, .f32⟩
  | .hbm, ⟨7, _⟩ => ⟨S1x4368x128, .f32⟩
  | .local _ .vmem, ⟨0, _⟩ => ⟨S1x624x128, .f32⟩
  | .local _ .vmem, ⟨1, _⟩ => ⟨S1x624x128, .f32⟩
  | .local _ .vmem, ⟨2, _⟩ => ⟨S1x624x128, .f32⟩
  | .local _ .vmem, ⟨3, _⟩ => ⟨S1x624x128, .f32⟩
  | .local _ .vmem, ⟨4, _⟩ => ⟨S1x624x128, .f32⟩
  | .local _ .vmem, ⟨5, _⟩ => ⟨S1x624x128, .f32⟩
  | .local _ .vmem, ⟨6, _⟩ => ⟨S8x624x128, .f32⟩
  | .local _ .vmem, ⟨7, _⟩ => ⟨S8x624x128, .f32⟩
  | .local _ .vmem, ⟨8, _⟩ => ⟨S1x624x128, .f32⟩
  | .local _ .vmem, ⟨9, _⟩ => ⟨S1x624x128, .f32⟩
  | .local _ .vmem, ⟨10, _⟩ => ⟨S1x624x128, .f32⟩
  | .local _ .vmem, ⟨11, _⟩ => ⟨S1x624x128, .f32⟩
  | .local _ .vmem, ⟨12, _⟩ => ⟨S1x624x128, .f32⟩
  | .local _ .vmem, ⟨13, _⟩ => ⟨S1x624x128, .f32⟩
  | .local _ .vmem, ⟨14, _⟩ => ⟨S1x624x128, .f32⟩
  | .local _ .vmem, ⟨15, _⟩ => ⟨S1x624x128, .f32⟩
  | _, _ => ⟨S1x4368x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c6_i32 : BitVec 32 := 6#32
  let v2 : BitVec 32 := Scalar.select v1 c0_i32_1 c6_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x624x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x624x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x624x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x624x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x624x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x624x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x624x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x624x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepSmallIdeal.lean ====
variable {F : FTy → Type} [FloatOps F] [Named F]
def κ : String → Option EReal := fun
  | "r1" => some ((8388608 / 5463681 : ℝ) : EReal)
  | "r2" => some ((268435456 / 2672307 : ℝ) : EReal)
  | _ => none
-- ==== StepSmallRefIdeal.lean ====
abbrev S1x4368x128 : Shape := ⟨3, ![1, 4368, 128]⟩
abbrev S8x4368x128 : Shape := ⟨3, ![8, 4368, 128]⟩
abbrev S_ : Shape := ⟨0, ![]⟩
abbrev S4368x128 : Shape := ⟨2, ![4368, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x4368x128, .f32⟩
  | .hbm, ⟨1, _⟩ => ⟨S1x4368x128, .f32⟩
  | .hbm, ⟨2, _⟩ => ⟨S1x4368x128, .f32⟩
  | .hbm, ⟨3, _⟩ => ⟨S8x4368x128, .f32⟩
  | .hbm, ⟨4, _⟩ => ⟨S_, .f32⟩
  | .hbm, ⟨5, _⟩ => ⟨S4368x128, .f32⟩
  | .hbm, ⟨6, _⟩ => ⟨S1x4368x128, .f32⟩
  | .hbm, ⟨7, _⟩ => ⟨S_, .f32⟩
  | .hbm, ⟨8, _⟩ => ⟨S1x4368x128, .f32⟩
  | .hbm, ⟨9, _⟩ => ⟨S1x4368x128, .f32⟩
  | .hbm, ⟨10, _⟩ => ⟨S_, .f32⟩
  | .hbm, ⟨11, _⟩ => ⟨S1x4368x128, .f32⟩
  | .hbm, ⟨12, _⟩ => ⟨S1x4368x128, .f32⟩
  | .hbm, ⟨13, _⟩ => ⟨S1x4368x128, .f32⟩
  | .hbm, ⟨14, _⟩ => ⟨S_, .f32⟩
  | .hbm, ⟨15, _⟩ => ⟨S1x4368x128, .f32⟩
  | .hbm, ⟨16, _⟩ => ⟨S1x4368x128, .f32⟩
  | .hbm, ⟨17, _⟩ => ⟨S1x4368x128, .f32⟩
  | .hbm, ⟨18, _⟩ => ⟨S_, .f32⟩
  | .hbm, ⟨19, _⟩ => ⟨S1x4368x128, .f32⟩
  | .hbm, ⟨20, _⟩ => ⟨S1x4368x128, .f32⟩
  | .hbm, ⟨21, _⟩ => ⟨S1x4368x128, .f32⟩
  | .hbm, ⟨22, _⟩ => ⟨S_, .f32⟩
  | .hbm, ⟨23, _⟩ => ⟨S1x4368x128, .f32⟩
  | .hbm, ⟨24, _⟩ => ⟨S1x4368x128, .f32⟩
  | .hbm, ⟨25, _⟩ => ⟨S_, .f32⟩
  | .hbm, ⟨26, _⟩ => ⟨S1x4368x128, .f32⟩
  | .hbm, ⟨27, _⟩ => ⟨S1x4368x128, .f32⟩
  | .hbm, ⟨28, _⟩ => ⟨S1x4368x128, .f32⟩
  | .hbm, ⟨29, _⟩ => ⟨S_, .f32⟩
  | .hbm, ⟨30, _⟩ => ⟨S1x4368x128, .f32⟩
  | .hbm, ⟨31, _⟩ => ⟨S1x4368x128, .f32⟩
  | .hbm, ⟨32, _⟩ => ⟨S1x4368x128, .f32⟩
  | .hbm, ⟨33, _⟩ => ⟨S_, .f32⟩
  | .hbm, ⟨34, _⟩ => ⟨S1x4368x128, .f32⟩
  | .hbm, ⟨35, _⟩ => ⟨S1x4368x128, .f32⟩
  | .hbm, ⟨36, _⟩ => ⟨S1x4368x128, .f32⟩
  | .hbm, ⟨37, _⟩ => ⟨S_, .f32⟩
  | .hbm, ⟨38, _⟩ => ⟨S1x4368x128, .f32⟩
  | .hbm, ⟨39, _⟩ => ⟨S1x4368x128, .f32⟩
  | _, _ => ⟨S1x4368x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== NormOut.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormOutRefIdeal.lean ====
abbrev S1x4096x2048 : Shape := ⟨3, ![1, 4096, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S_, .f32⟩
  | .hbm, ⟨4, _⟩ => ⟨S1x4096, .f32⟩
  | .hbm, ⟨5, _⟩ => ⟨S1x4096x1, .f32⟩
  | .hbm, ⟨6, _⟩ => ⟨S_, .f32⟩
  | .hbm, ⟨7, _⟩ => ⟨S1x4096x1, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S1x4096x1, .f32⟩
  | .hbm, ⟨13, _⟩ => ⟨S1x4096x2048, .f32⟩
  | .hbm, ⟨14, _⟩ => ⟨S1x4096x2048, .f32⟩
  | .hbm, ⟨15, _⟩ => ⟨S1x1x2048, .f32⟩
  | .hbm, ⟨16, _⟩ => ⟨S1x4096x2048, .f32⟩
  | .hbm, ⟨17, _⟩ => ⟨S1x4096x2048, .f32⟩
  | .hbm, ⟨18, _⟩ => ⟨S4096x2048, .f32⟩
  | .hbm, ⟨19, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormBack.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_16 : BitVec 32 := 0#32
  let v43 : BitVec 1 := Scalar.cmpi .ne v42 c0_i32_16
  v43

def k0_cond2 (i : grid0.Coords) : BitVec 1 :=
  let arg0 : BitVec 32 := BitVec.ofNat 32 (i 0).val
  let c0_i32_17 : BitVec 32 := 0#32
  let v44 : BitVec 1 := Scalar.cmpi .sgt arg0 c0_i32_17
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBackRefIdeal.lean ====
abbrev S1x4096x2048 : Shape := ⟨3, ![1, 4096, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x2048 : Shape := ⟨2, ![1, 2048]⟩
abbrev S4096 : Shape := ⟨1, ![4096]⟩
abbrev S4096x2048 : Shape := ⟨2, ![4096, 2048]⟩

abbrev nBuf : Space → Nat
  | .hbm => 54
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S1x4096x2048, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x2048, .f32⟩
  | .hbm, ⟨20, _⟩ => ⟨S1x4096x2048, .f32⟩
  | .hbm, ⟨21, _⟩ => ⟨S1x1x2048, .f32⟩
  | .hbm, ⟨22, _⟩ => ⟨S1x4096x2048, .f32⟩
  | .hbm, ⟨23, _⟩ => ⟨S1x4096x2048, .f32⟩
  | .hbm, ⟨24, _⟩ => ⟨S1x4096x2048, .f32⟩
  | .hbm, ⟨25, _⟩ => ⟨S_, .f32⟩
  | .hbm, ⟨26, _⟩ => ⟨S1x2048, .f32⟩
  | .hbm, ⟨27, _⟩ => ⟨S1x1x2048, .f32⟩
  | .hbm, ⟨28, _⟩ => ⟨S1x4096x2048, .f32⟩
  | .hbm, ⟨29, _⟩ => ⟨S1x4096x2048, .f32⟩
  | .hbm, ⟨30, _⟩ => ⟨S_, .f32⟩
  | .hbm, ⟨31, _⟩ => ⟨S2048, .f32⟩
  | .hbm, ⟨32, _⟩ => ⟨S1x4096x2048, .f32⟩
  | .hbm, ⟨33, _⟩ => ⟨S_, .f32⟩
  | .hbm, ⟨34, _⟩ => ⟨S1x4096, .f32⟩
  | .hbm, ⟨35, _⟩ => ⟨S1x4096x1, .f32⟩
  | .hbm, ⟨36, _⟩ => ⟨S1x4096x2048, .f32⟩
  | .hbm, ⟨37, _⟩ => ⟨S1x4096x2048, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S1x4096x2048, .f32⟩
  | .hbm, ⟨46, _⟩ => ⟨S1x4096x2048, .f32⟩
  | .hbm, ⟨47, _⟩ => ⟨S1x4096x2048, .f32⟩
  | .hbm, ⟨48, _⟩ => ⟨S1x4096x2048, .f32⟩
  | .hbm, ⟨49, _⟩ => ⟨S1x4096x2048, .f32⟩
  | .hbm, ⟨50, _⟩ => ⟨S1x4096x2048, .f32⟩
  | .hbm, ⟨51, _⟩ => ⟨S4096x2048, .f32⟩
  | .hbm, ⟨52, _⟩ => ⟨S4096x2048, .bf16⟩
  | .hbm, ⟨53, _⟩ => ⟨S1x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== LossHead.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 11
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S8x128, .f32⟩
  | .hbm, ⟨7, _⟩ => ⟨S4096x2048, .f32⟩
  | .hbm, ⟨8, _⟩ => ⟨S4096x2048, .bf16⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_22 : BitVec 32 := 0#32
  let v64 : BitVec 1 := Scalar.cmpi .ne v63 c0_i32_22
  v64

def k0_cond2 (i : grid0.Coords) : BitVec 1 :=
  let arg0 : BitVec 32 := BitVec.ofNat 32 (i 0).val
  let c0_i32_23 : BitVec 32 := 0#32
  let v65 : BitVec 1 := Scalar.cmpi .sgt arg0 c0_i32_23
  let v66 : BitVec 32 := Scalar.extui v65
  let c0_i32_24 : BitVec 32 := 0#32
  let v67 : BitVec 1 := Scalar.cmpi .ne v66 c0_i32_24
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S1x4096x2048 : Shape := ⟨3, ![1, 4096, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S8x128 : Shape := ⟨2, ![8, 128]⟩

abbrev nBuf : Space → Nat
  | .hbm => 31
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x2048, .f32⟩
  | .hbm, ⟨15, _⟩ => ⟨S1x4096x2048, .f32⟩
  | .hbm, ⟨16, _⟩ => ⟨S1x1x2048, .f32⟩
  | .hbm, ⟨17, _⟩ => ⟨S1x4096x2048, .f32⟩
  | .hbm, ⟨18, _⟩ => ⟨S1x4096x2048, .f32⟩
  | .hbm, ⟨19, _⟩ => ⟨S1x4096x2048, .f32⟩
  | .hbm, ⟨20, _⟩ => ⟨S1x4096x2048, .f32⟩
  | .hbm, ⟨21, _⟩ => ⟨S_, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x128, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== MixOut.lean ====
abbrev S1x4096x2048 : Shape := ⟨3, ![1, 4096, 2048]⟩
abbrev S1x4096x1024 : Shape := ⟨3, ![1, 4096, 1024]⟩
abbrev S2048x2048 : Shape := ⟨2, ![2048, 2048]⟩
abbrev S4096x2048 : Shape := ⟨2, ![4096, 2048]⟩
abbrev S4096x1024 : Shape := ⟨2, ![4096, 1024]⟩
abbrev S2x1024x2048 : Shape := ⟨3, ![2, 1024, 2048]⟩
abbrev S1024x1024 : Shape := ⟨2, ![1024, 1024]⟩
abbrev S1x1024x1024 : Shape := ⟨3, ![1, 1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S1x4096x2048, .f32⟩
  | .hbm, ⟨1, _⟩ => ⟨S1x4096x1024, .f32⟩
  | .hbm, ⟨2, _⟩ => ⟨S1x4096x1024, .f32⟩
  | .hbm, ⟨3, _⟩ => ⟨S2048x2048, .f32⟩
  | .hbm, ⟨4, _⟩ => ⟨S4096x2048, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S2048x2048, .bf16⟩
  | .hbm, ⟨10, _⟩ => ⟨S2x1024x2048, .bf16⟩
  | .hbm, ⟨11, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutRefIdeal.lean ====
abbrev S1x4096x2048 : Shape := ⟨3, ![1, 4096, 2048]⟩
abbrev S1x4096x1024 : Shape := ⟨3, ![1, 4096, 1024]⟩
abbrev S2048x2048 : Shape := ⟨2, ![2048, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x1024, .f32⟩
  | .hbm, ⟨2, _⟩ => ⟨S1x4096x1024, .f32⟩
  | .hbm, ⟨3, _⟩ => ⟨S2048x2048, .f32⟩
  | .hbm, ⟨4, _⟩ => ⟨S1x4096x2048, .f32⟩
  | .hbm, ⟨5, _⟩ => ⟨S1x4096x2048, .f32⟩
  | .hbm, ⟨6, _⟩ => ⟨S1x4096x2048, .f32⟩
  | .hbm, ⟨7, _⟩ => ⟨S4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Reading.lean ====
/- Reading array operations over the extended reals: products with one contracted axis, sums over an
   axis given by the indices that drop to a result index, and the arithmetic of real numbers seen as
   extended reals. -/
module

public import Idealize.ShloMosaic.Lib.ValueIdx
public import Idealize.ShloMosaic.Lib.ValueIdxRank6
public import Idealize.ShloMosaic.Lib.TwoAxisContraction
public import Idealize.ShloMosaic.Lib.IdealHost
public import Idealize.ShloMosaic.Lib.Pipeline.Value
public import Idealize.ShloMosaic.PureOps.Ideal.Laws
public import Idealize.ShloMosaic.PureOps.IdealRules
public import Idealize.ShloMosaic.PureOps.Reduce

@[expose] public section

noncomputable section

namespace Cert.Reading

open Idealize.ShloMosaic Idealize.ShloMosaic.ValueIdx

/-- A product contracting one axis of `n` coordinates, read at a result index: the operands' indices as functions of
    the contracted coordinate. -/
theorem dot_read {sl sr so : Shape} (d : DotDims sl sr so) (n : Nat) (hr : d.contr.rank = 1)
    (hs : d.contr.size ⟨0, by omega⟩ = n) (lhs : sl.Idx → EReal) (rhs : sr.Idx → EReal) (acc : so.Idx → EReal) (j : so.Idx)
    (L : Fin n → sl.Idx) (R : Fin n → sr.Idx)
    (hL : ∀ (q : d.contr.Idx) (a : Fin sl.rank), (d.lhsIdx j q a).val = (L ((q ⟨0, by omega⟩).cast hs) a).val)
    (hR : ∀ (q : d.contr.Idx) (a : Fin sr.rank), (d.rhsIdx j q a).val = (R ((q ⟨0, by omega⟩).cast hs) a).val) :
    Ideal.matmul d lhs rhs acc j = acc j + ∑ k : Fin n, lhs (L k) * rhs (R k) := by
  unfold Ideal.matmul
  refine congrArg (acc j + ·) ?_
  rw [← Equiv.sum_comp (contrEquiv1 d n hr hs)]
  refine Finset.sum_congr rfl fun q _ => ?_
  have e1 : d.lhsIdx j q = L (contrEquiv1 d n hr hs q) := funext fun a => Fin.ext (hL q a)
  have e2 : d.rhsIdx j q = R (contrEquiv1 d n hr hs q) := funext fun a => Fin.ext (hR q a)
  rw [e1, e2]

/-- A product contracting two axes of `n0` and `n1` coordinates, read at a result index. -/
theorem dot_read2 {sl sr so : Shape} (d : DotDims sl sr so) (n0 n1 : Nat) (hr : d.contr.rank = 2)
    (h0 : d.contr.size ⟨0, by omega⟩ = n0) (h1 : d.contr.size ⟨1, by omega⟩ = n1)
    (lhs : sl.Idx → EReal) (rhs : sr.Idx → EReal) (acc : so.Idx → EReal) (j : so.Idx)
    (L : Fin n0 → Fin n1 → sl.Idx) (R : Fin n0 → Fin n1 → sr.Idx)
    (hL : ∀ (q : d.contr.Idx) (a : Fin sl.rank),
      (d.lhsIdx j q a).val = (L ((q ⟨0, by omega⟩).cast h0) ((q ⟨1, by omega⟩).cast h1) a).val)
    (hR : ∀ (q : d.contr.Idx) (a : Fin sr.rank),
      (d.rhsIdx j q a).val = (R ((q ⟨0, by omega⟩).cast h0) ((q ⟨1, by omega⟩).cast h1) a).val) :
    Ideal.matmul d lhs rhs acc j = acc j + ∑ a : Fin n0, ∑ b : Fin n1, lhs (L a b) * rhs (R a b) := by
  unfold Ideal.matmul
  refine congrArg (acc j + ·) ?_
  rw [← Fintype.sum_prod_type (f := fun p : Fin n0 × Fin n1 => lhs (L p.1 p.2) * rhs (R p.1 p.2)),
    ← Equiv.sum_comp (contrEquiv2 d n0 n1 hr h0 h1)]
  refine Finset.sum_congr rfl fun q _ => ?_
  have e1 : d.lhsIdx j q = L (contrEquiv2 d n0 n1 hr h0 h1 q).1 (contrEquiv2 d n0 n1 hr h0 h1 q).2 :=
    funext fun a => Fin.ext (hL q a)
  have e2 : d.rhsIdx j q = R (contrEquiv2 d n0 n1 hr h0 h1 q).1 (contrEquiv2 d n0 n1 hr h0 h1 q).2 :=
    funext fun a => Fin.ext (hR q a)
  rw [e1, e2]

theorem coe_sum {n : Nat} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem div_real (x y : ℝ) (hy : y ≠ 0) : Ideal.div (x : EReal) (y : EReal) = ((x / y : ℝ) : EReal) := by
  rw [Ideal.div_coe hy, ← EReal.coe_mul, mul_one_div]

end Cert.Reading
end
-- ==== Proof.Products.lean ====
/- The products of these programs read at an index: the kernels' products of two blocks, with the operands' contracted
   axes first or last, and the host's products of arrays that have a batch axis of one element. -/
module

public import proofs.«01_k».proof.Proof.Reading

@[expose] public section

noncomputable section

namespace Cert.Reading

open Idealize.ShloMosaic Idealize.ShloMosaic.ValueIdx

/-- An array of `n` rows and `k` columns, and one of these alone in a batch. -/
abbrev Mat (n k : Nat) : Shape := ⟨2, ![n, k]⟩
abbrev Batch (n k : Nat) : Shape := ⟨3, ![1, n, k]⟩

variable {n k l : Nat}

theorem origin : (![0, 0] : Fin 2 → Nat) = fun _ => 0 := funext fun a => by fin_cases a <;> rfl

/-- A product's accumulator is the word of zeros. -/
theorem zero_acc (x : EReal) : Ideal.ofBits .f32 0x00000000#32 + x = x := by rw [Ideal.ofBits_zero_f32, zero_add]

/-- The batch axis dropped. -/
theorem flat_read {α : Type} (x : (Batch n k).Idx → α) (h : (Batch n k).ShapeCasts (Mat n k)) (i : (Mat n k).Idx) :
    shapeCast (Mat n k) x h i = x (ix3 (0 : Fin 1) (i 0) (i 1)) := by
  refine shapeCast_apply _ _ _ _ ?_
  rw [Shape.rowMajor_val_two, Shape.rowMajor_val_three]
  show (0 * n + (i 0).val) * k + (i 1).val = (i 0).val * k + (i 1).val
  rw [Nat.zero_mul, Nat.zero_add]

/-- A matrix transposed. -/
theorem turn_read {α : Type} (x : (Mat n k).Idx → α) (h : (Mat n k).Transposes [1, 0] (Mat k n)) (i : (Mat k n).Idx) :
    transpose (Mat k n) [1, 0] x h i = x (ix2 (i 1) (i 0)) :=
  transpose_apply _ _ _ _ _ (fun b => by match b with | ⟨0, _⟩ => rfl | ⟨1, _⟩ => rfl)

/-- The sum over rows. -/
theorem rows_read (wf) (a : (Mat n k).Idx → EReal) (b : (Mat n l).Idx → EReal) (c : (Mat k l).Idx → EReal) (j : (Mat k l).Idx) :
    Ideal.matmul (⟨[0], [0], [1], [1], [], [], wf⟩ : DotDims (Mat n k) (Mat n l) (Mat k l)) a b c j
      = c j + ∑ q : Fin n, a (ix2 q (j 0)) * b (ix2 q (j 1)) := by
  refine dot_read _ n rfl rfl _ _ _ _ (fun q => ix2 q (j 0)) (fun q => ix2 q (j 1)) (fun q e => ?_) (fun q e => ?_)
  · match e with | ⟨0, _⟩ => rfl | ⟨1, _⟩ => rfl
  · match e with | ⟨0, _⟩ => rfl | ⟨1, _⟩ => rfl

/-- The plain product. -/
theorem plain_read (wf) (a : (Mat n k).Idx → EReal) (b : (Mat k l).Idx → EReal) (c : (Mat n l).Idx → EReal) (j : (Mat n l).Idx) :
    Ideal.matmul (⟨[1], [0], [0], [1], [], [], wf⟩ : DotDims (Mat n k) (Mat k l) (Mat n l)) a b c j
      = c j + ∑ q : Fin k, a (ix2 (j 0) q) * b (ix2 q (j 1)) := by
  refine dot_read _ k rfl rfl _ _ _ _ (fun q => ix2 (j 0) q) (fun q => ix2 q (j 1)) (fun q e => ?_) (fun q e => ?_)
  · match e with | ⟨0, _⟩ => rfl | ⟨1, _⟩ => rfl
  · match e with | ⟨0, _⟩ => rfl | ⟨1, _⟩ => rfl

/-- The sum over columns. -/
theorem cols_read (wf) (a : (Mat n k).Idx → EReal) (b : (Mat l k).Idx → EReal) (c : (Mat n l).Idx → EReal) (j : (Mat n l).Idx) :
    Ideal.matmul (⟨[1], [1], [0], [0], [], [], wf⟩ : DotDims (Mat n k) (Mat l k) (Mat n l)) a b c j
      = c j + ∑ q : Fin k, a (ix2 (j 0) q) * b (ix2 (j 1) q) := by
  refine dot_read _ k rfl rfl _ _ _ _ (fun q => ix2 (j 0) q) (fun q => ix2 (j 1) q) (fun q e => ?_) (fun q e => ?_)
  · match e with | ⟨0, _⟩ => rfl | ⟨1, _⟩ => rfl
  · match e with | ⟨0, _⟩ => rfl | ⟨1, _⟩ => rfl

/-- The host's sum over the positions of the batch. -/
theorem batchRows_read (wf) (a : (Batch n k).Idx → EReal) (b : (Batch n l).Idx → EReal) (j : (Mat k l).Idx) :
    Ideal.matmul (⟨[0, 1], [0, 1], [2], [2], [], [], wf⟩ : DotDims (Batch n k) (Batch n l) (Mat k l)) a b 0 j
      = ∑ q : Fin n, a (ix3 (0 : Fin 1) q (j 0)) * b (ix3 (0 : Fin 1) q (j 1)) := by
  refine (dot_read2 _ 1 n rfl rfl rfl _ _ _ _ (fun p q => ix3 p q (j 0)) (fun p q => ix3 p q (j 1)) (fun q e => ?_)
    (fun q e => ?_)).trans ?_
  · match e with | ⟨0, _⟩ => rfl | ⟨1, _⟩ => rfl | ⟨2, _⟩ => rfl
  · match e with | ⟨0, _⟩ => rfl | ⟨1, _⟩ => rfl | ⟨2, _⟩ => rfl
  · rw [Fin.sum_univ_one]; exact zero_add _

/-- The host's product of each position with a matrix's rows, -/
theorem batchCols_read (wf) (a : (Batch n k).Idx → EReal) (b : (Mat l k).Idx → EReal) (j : (Batch n l).Idx) :
    Ideal.matmul (⟨[2], [1], [0, 1], [0], [], [], wf⟩ : DotDims (Batch n k) (Mat l k) (Batch n l)) a b 0 j
      = ∑ q : Fin k, a (ix3 (j 0) (j 1) q) * b (ix2 (j 2) q) := by
  refine (dot_read _ k rfl rfl _ _ _ _ (fun q => ix3 (j 0) (j 1) q) (fun q => ix2 (j 2) q) (fun q e => ?_)
    (fun q e => ?_)).trans (zero_add _)
  · match e with | ⟨0, _⟩ => rfl | ⟨1, _⟩ => rfl | ⟨2, _⟩ => rfl
  · match e with | ⟨0, _⟩ => rfl | ⟨1, _⟩ => rfl

/-- and with its columns. -/
theorem batchPlain_read (wf) (a : (Batch n k).Idx → EReal) (b : (Mat k l).Idx → EReal) (j : (Batch n l).Idx) :
    Ideal.matmul (⟨[2], [0], [0, 1], [1], [], [], wf⟩ : DotDims (Batch n k) (Mat k l) (Batch n l)) a b 0 j
      = ∑ q : Fin k, a (ix3 (j 0) (j 1) q) * b (ix2 q (j 2)) := by
  refine (dot_read _ k rfl rfl _ _ _ _ (fun q => ix3 (j 0) (j 1) q) (fun q => ix2 q (j 2)) (fun q e => ?_)
    (fun q e => ?_)).trans (zero_add _)
  · match e with | ⟨0, _⟩ => rfl | ⟨1, _⟩ => rfl | ⟨2, _⟩ => rfl
  · match e with | ⟨0, _⟩ => rfl | ⟨1, _⟩ => rfl

/-- The gradient of a weight: at an index, the sum over the positions of one array's column times the other's. -/
def overPositions (a : (Batch n k).Idx → EReal) (b : (Batch n l).Idx → EReal) (j : (Mat k l).Idx) : EReal :=
  ∑ q : Fin n, a (ix3 (0 : Fin 1) q (j 0)) * b (ix3 (0 : Fin 1) q (j 1))

/-- Each position's product with a matrix's rows, -/
def throughRows (x : (Batch n k).Idx → EReal) (w : (Mat l k).Idx → EReal) (i : (Mat n l).Idx) : EReal :=
  ∑ q : Fin k, x (ix3 (0 : Fin 1) (i 0) q) * w (ix2 (i 1) q)

/-- and with its columns. -/
def throughCols (x : (Batch n k).Idx → EReal) (w : (Mat k l).Idx → EReal) (i : (Mat n l).Idx) : EReal :=
  ∑ q : Fin k, x (ix3 (0 : Fin 1) (i 0) q) * w (ix2 q (i 1))

end Cert.Reading

end
-- ==== Proof.Gate.lean ====
/- The gradients of the feed-forward gate and up activations. The kernel multiplies the gradient of the gated activation,
   a product of the incoming gradient with the rows of the down projection's weight, by two slopes the host part computes
   from the gate and up activations; the reference differentiates the gated product. On real numbers the two agree. -/
module

public import proofs.«01_k».proof.Proof.Products
public import proofs.«01_k».proof.Defs
public import proofs.«01_k».proof.Proof.Gen.GateIdeal.Value
public import proofs.«01_k».proof.Proof.Gen.GateRefIdeal.Run
public import proofs.«01_k».proof.Proof.Gen.Pre_finite
public import Idealize.ShloMosaic.Lib.ReduceAll

@[expose] public section

set_option maxRecDepth 16384

noncomputable section

namespace Cert.Reading

open Idealize.ShloMosaic Idealize.ShloMosaic.ValueIdx

/-- An array whose elements are all below infinity in absolute value has only real numbers. -/
theorem real_of_all {s t u v : Shape} {axes : List (Fin s.rank)} [Subsingleton t.Idx] (x : FVec Ideal s .f32)
    (dims : Fin v.rank → Fin s.rank) (hb : v.BroadcastsInDim s dims) (init : IVec u 1) (h : s.ReducesTo axes t) (hu : 0 < u.numel) (j : t.Idx)
    (e : Host.reduce IntOp.andi (cmpf .olt (Host.absf x) (broadcastInDim s dims hb (constant v .f32 0x7F800000#32))) init h hu j = 1#1)
    (i : s.Idx) : ∃ r : ℝ, (x i : EReal) = (r : EReal) := by
  have h1 := Host.reduce_andi_all _ init h hu j e i
  have top : Ideal.ofBits .f32 0x7F800000#32 = (⊤ : EReal) := by simp [Ideal.ofBits, Ideal.ieee]
  have h2 : Ideal.cmp .olt (max (x i : EReal) (-(x i : EReal))) (Ideal.ofBits .f32 0x7F800000#32) = 1#1 := h1
  rw [top] at h2
  have h3 : max (x i : EReal) (-(x i : EReal)) < ⊤ := by
    by_contra hn
    simp [Ideal.cmp, hn] at h2
  have a1 : (x i : EReal) ≠ ⊤ := fun e => by rw [e] at h3; simp at h3
  have a2 : (x i : EReal) ≠ ⊥ := fun e => by rw [e] at h3; simp at h3
  exact ⟨(x i : EReal).toReal, (EReal.coe_toReal a1 a2).symm⟩

/-- A cast of an array without its batch axis reads it with the axis back. -/
theorem trunc_flat {n k : ℕ} (x : FVec Ideal (Batch n k) .f32) (h : (Batch n k).ShapeCasts (Mat n k)) (hb : FTy.bf16.bits < FTy.f32.bits)
    (i : (Mat n k).Idx) : (truncf (F := Ideal) .bf16 (shapeCast (Mat n k) x h) hb i : EReal) = x (ix3 0 (i 0) (i 1)) :=
  flat_read _ _ i

end Cert.Reading

namespace Cert.GateIdeal.Value

open Cert.GateIdeal Cert.GateIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- One, and the logistic function. -/
def one : EReal := Ideal.ofBits .f32 0x3F800000#32
def logistic (g : EReal) : EReal := Ideal.div one (one + Ideal.exp (-g))

/-- The slope of the gated product in the gate. -/
def slope (g u : EReal) : EReal := u * (logistic g * (one + g * (one - logistic g)))

/-- The slope of the gated product in the up activation. -/
def act (g : EReal) : EReal := g * logistic g

/-- The gradient of the gated product, before its slopes. -/
def carried (wd : S5632x2048.Idx → EReal) (dx : S1x4096x2048.Idx → EReal) (i : S4096x5632.Idx) : EReal :=
  ∑ q : Fin 2048, dx (ix3 (0 : Fin 1) (i 0) q) * wd (ix2 (i 1) q)

/-- The two gradients as the kernel forms them. -/
def dgate (g u : S1x4096x5632.Idx → EReal) (wd : S5632x2048.Idx → EReal) (dx : S1x4096x2048.Idx → EReal) (i : S4096x5632.Idx) : EReal :=
  carried wd dx i * slope (g (ix3 (0 : Fin 1) (i 0) (i 1))) (u (ix3 (0 : Fin 1) (i 0) (i 1)))
def dup (g : S1x4096x5632.Idx → EReal) (wd : S5632x2048.Idx → EReal) (dx : S1x4096x2048.Idx → EReal) (i : S4096x5632.Idx) : EReal :=
  carried wd dx i * act (g (ix3 (0 : Fin 1) (i 0) (i 1)))

/-- The body's results at an index. -/
theorem pay_apply (x0 : Vec Ideal S1024x2048 .bf16) (x1 : Vec Ideal S512x2048 .bf16) (x2 : Vec Ideal S1024x512 .bf16) (j : S1024x512.Idx) :
    (k0_pay3 x0 x1 x2 j : EReal) = (∑ q : Fin 2048, (x0 (ix2 (j 0) q) : EReal) * x1 (ix2 (j 1) q)) * (x2 j : EReal) := by
  unfold k0_pay3 k0_pay1
  rw [shapeCast_self, shapeCast_self, shapeCast_self]
  exact congrArg (· * (x2 j : EReal)) ((cols_read dot_S1024x2048_S512x2048_S1024x512_1_1_0_0_n_n_wf x0 x1
    (fun _ => Ideal.ofBits .f32 0x00000000#32) j).trans (zero_acc _))

theorem pay_same (x0 : Vec Ideal S1024x2048 .bf16) (x1 : Vec Ideal S512x2048 .bf16) (x2 : Vec Ideal S1024x512 .bf16) :
    k0_pay2 x0 x1 x2 = k0_pay3 x0 x1 x2 := rfl

/-- The blocks a point reads and writes. -/
theorem index_facts : ∀ t : Fin cfg0.N, (win0_0.index t 0 = t.val / 11 ∧ win0_0.index t 1 = 0) ∧ (win0_1.index t 0 = t.val % 11
    ∧ win0_1.index t 1 = 0) ∧ win0_5.index t 0 = t.val / 11 ∧ win0_5.index t 1 = t.val % 11 := by
  decide +kernel

/-- The incoming gradient as the kernel finds it, -/
theorem dx_apply (c : Dev nD) (i : S4096x2048.Idx) :
    (V m c main_v19 i : EReal) = (m ((c : Thread nD τ).loc main_arg3) (ix3 0 (i 0) (i 1)) : EReal) := by
  have e : V m c main_v19 = (truncf (F := Ideal) .bf16 (shapeCast S4096x2048 (m ((c : Thread nD τ).loc main_arg3))
      shapeCasts_S1x4096x2048_S4096x2048) bitsLt_bf16_f32 : FVec Ideal S4096x2048 .bf16) := by
    show StableHlo.after hostOps0 (fun b => m (c, b)) (Proc.devRef .tc main_v19) = _
    after_results
    rfl
  rw [e]; exact flat_read _ _ i

/-- the down projection's weight, -/
theorem wd_apply (c : Dev nD) (i : S5632x2048.Idx) :
    (V m c main_v20 i : EReal) = (m ((c : Thread nD τ).loc main_arg2) i : EReal) := by
  have e : V m c main_v20 = (truncf (F := Ideal) .bf16 (m ((c : Thread nD τ).loc main_arg2)) bitsLt_bf16_f32 : FVec Ideal S5632x2048 .bf16) := by
    show StableHlo.after hostOps0 (fun b => m (c, b)) (Proc.devRef .tc main_v20) = _
    after_results
    try rfl
  rw [e]; rfl

/-- the slope in the up activation, -/
theorem act_apply (c : Dev nD) (i : S4096x5632.Idx) :
    (V m c main_v9 i : EReal) = act (m ((c : Thread nD τ).loc main_arg0) (ix3 0 (i 0) (i 1))) := by
  have e : (V m c main_v9 i : EReal)
      = act (shapeCast S4096x5632 (m ((c : Thread nD τ).loc main_arg0)) shapeCasts_S1x4096x5632_S4096x5632 i) := by
    show StableHlo.after hostOps0 (fun b => m (c, b)) (Proc.devRef .tc main_v9) i = _
    after_results
    rfl
  rw [e, flat_read]

/-- and in the gate. -/
theorem slope_apply (c : Dev nD) (i : S4096x5632.Idx) :
    (V m c main_v17 i : EReal) = slope (m ((c : Thread nD τ).loc main_arg0) (ix3 0 (i 0) (i 1)))
      (m ((c : Thread nD τ).loc main_arg1) (ix3 0 (i 0) (i 1))) := by
  have e : (V m c main_v17 i : EReal) = slope (shapeCast S4096x5632 (m ((c : Thread nD τ).loc main_arg0)) shapeCasts_S1x4096x5632_S4096x5632 i)
      (shapeCast S4096x5632 (m ((c : Thread nD τ).loc main_arg1)) shapeCasts_S1x4096x5632_S4096x5632 i) := by
    show StableHlo.after hostOps0 (fun b => m (c, b)) (Proc.devRef .tc main_v17) i = _
    after_results
    rfl
  rw [e, flat_read, flat_read]

/-- A point's rows of the incoming gradient -/
theorem dx_term (c : Dev nD) (t : Fin cfg0.N) (y : ((cfg0.win 5).xblock (grid0.coords t)).Idx) (q : Fin 2048) :
    (iblk m c 0 t (ix2 (y 0) q) : EReal) = m ((c : Thread nD τ).loc main_arg3) (ix3 0 ((win0_5.rect t).emb y 0) q) := by
  obtain ⟨⟨a0, a1⟩, -, d0, d1⟩ := index_facts t
  refine Eq.trans ?_ (dx_apply m c (ix2 ((win0_5.rect t).emb y 0) q))
  refine congrArg (V m c main_v19) (funext fun a => Fin.ext ?_)
  match a with
  | ⟨0, _⟩ => exact (win0_0.rect_emb_val t _ 0).trans ((congrArg (· * 1024 + _) (a0.trans d0.symm)).trans (win0_5.rect_emb_val t y 0).symm)
  | ⟨1, _⟩ => exact win0_0.rect_emb_val_of_index_zero t 1 a1 _

/-- and of the weight. -/
theorem wd_term (c : Dev nD) (t : Fin cfg0.N) (y : ((cfg0.win 5).xblock (grid0.coords t)).Idx) (q : Fin 2048) :
    (iblk m c 1 t (ix2 (y 1) q) : EReal) = m ((c : Thread nD τ).loc main_arg2) (ix2 ((win0_5.rect t).emb y 1) q) := by
  obtain ⟨-, ⟨b0, b1⟩, d0, d1⟩ := index_facts t
  refine Eq.trans ?_ (wd_apply m c (ix2 ((win0_5.rect t).emb y 1) q))
  refine congrArg (V m c main_v20) (funext fun a => Fin.ext ?_)
  match a with
  | ⟨0, _⟩ => exact (win0_1.rect_emb_val t _ 0).trans ((congrArg (· * 512 + _) (b0.trans d1.symm)).trans (win0_5.rect_emb_val t y 1).symm)
  | ⟨1, _⟩ => exact win0_1.rect_emb_val_of_index_zero t 1 b1 _

/-- What point `t` writes back is block `t` of the gate's gradient, -/
theorem flushed_gate (c : Dev nD) (t : Fin cfg0.N) :
    (dats m 0 c).flushed 5 t = (win0_5.blk t).view.read (Elt Ideal)
      (dgate (m ((c : Thread nD τ).loc main_arg0)) (m ((c : Thread nD τ).loc main_arg1))
        (m ((c : Thread nD τ).loc main_arg2)) (m ((c : Thread nD τ).loc main_arg3))) := by
  rw [flushed5]
  show (cfg0.win 5).cut (grid0.coords t) (out0_5 (iblk m c 0 t) (iblk m c 1 t) (iblk m c 2 t) (iblk m c 3 t) (iblk m c 4 t)) = _
  unfold out0_5
  rw [View.canon_unit_zero origin, View.ld_unit_zero origin, View.ld_unit_zero origin, View.ld_unit_zero origin]
  funext y
  show _ = dgate _ _ _ _ ((win0_5.rect t).emb y)
  unfold dgate carried
  exact (pay_apply _ _ _ _).trans (congrArg₂ (· * ·) (Finset.sum_congr rfl fun q _ => congrArg₂ (· * ·) (dx_term m c t y q) (wd_term m c t y q))
    (slope_apply m c ((win0_5.rect t).emb y)))

/-- and of the up activation's. -/
theorem flushed_up (c : Dev nD) (t : Fin cfg0.N) :
    (dats m 0 c).flushed 6 t = (win0_6.blk t).view.read (Elt Ideal)
      (dup (m ((c : Thread nD τ).loc main_arg0)) (m ((c : Thread nD τ).loc main_arg2)) (m ((c : Thread nD τ).loc main_arg3))) := by
  rw [flushed6]
  show (cfg0.win 6).cut (grid0.coords t) (out0_6 (iblk m c 0 t) (iblk m c 1 t) (iblk m c 2 t) (iblk m c 3 t) (iblk m c 4 t)) = _
  unfold out0_6
  rw [View.canon_unit_zero origin, View.ld_unit_zero origin, View.ld_unit_zero origin, View.ld_unit_zero origin, pay_same]
  funext y
  show _ = dup _ _ _ ((win0_5.rect t).emb y)
  unfold dup carried
  exact (pay_apply _ _ _ _).trans (congrArg₂ (· * ·) (Finset.sum_congr rfl fun q _ => congrArg₂ (· * ·) (dx_term m c t y q) (wd_term m c t y q))
    (act_apply m c ((win0_5.rect t).emb y)))

/-- The blocks of 1024 rows and 512 columns cover the first result -/
theorem cover_gate (i : S4096x5632.Idx) :
    ∃ t : Fin cfg0.N, (cfg0.win 5).flush t = true ∧ i ∈ ((cfg0.win 5).blk t).view.set := by
  have h0 : (i 0 : Nat) < 4096 := (i 0).isLt
  have h1 : (i 1 : Nat) < 5632 := (i 1).isLt
  have hN : cfg0.N = 44 := N_0
  obtain ⟨t, ht⟩ : ∃ t : Fin cfg0.N, t.val = (i 0 : Nat) / 1024 * 11 + (i 1 : Nat) / 512 := ⟨⟨_, by omega⟩, rfl⟩
  refine ⟨t, flush0_5 t, ?_⟩
  obtain ⟨-, -, d0, d1⟩ := index_facts t
  show i ∈ ((View.whole main_v22_0).slice (win0_5.rect t)).set
  rw [View.set_slice_whole, Rect.mem_set_unit]
  intro a
  match a with
  | ⟨0, _⟩ =>
    show win0_5.index _ 0 * 1024 ≤ (i 0 : Nat) ∧ (i 0 : Nat) < win0_5.index _ 0 * 1024 + 1024
    rw [d0, ht]; omega
  | ⟨1, _⟩ =>
    show win0_5.index _ 1 * 512 ≤ (i 1 : Nat) ∧ (i 1 : Nat) < win0_5.index _ 1 * 512 + 512
    rw [d1, ht]; omega

/-- and the second. -/
theorem cover_up (i : S4096x5632.Idx) :
    ∃ t : Fin cfg0.N, (cfg0.win 6).flush t = true ∧ i ∈ ((cfg0.win 6).blk t).view.set := by
  obtain ⟨t, -, ht⟩ := cover_gate i
  exact ⟨t, flush0_6 t, ht⟩

/-- The logistic function of a real number is one. -/
theorem logistic_real (g : ℝ) : logistic (g : EReal) = ((1 / (1 + Real.exp (-g)) : ℝ) : EReal) := by
  unfold logistic one
  rw [Ideal.ofBits_one_f32, ← EReal.coe_neg, Ideal.exp_coe, ← EReal.coe_one, ← EReal.coe_add]
  exact div_real _ _ (by positivity)

/-- The derivative of the gated product, on real numbers. -/
theorem slope_real (d g u : ℝ) : ((d : EReal) * u) * logistic g + (g * ((d : EReal) * u)) * (logistic g * (one - logistic g))
    = (d : EReal) * slope g u := by
  unfold slope
  rw [logistic_real]
  unfold one
  rw [Ideal.ofBits_one_f32, ← EReal.coe_one]
  simp only [← EReal.coe_sub, ← EReal.coe_mul, ← EReal.coe_add]
  exact congrArg _ (by ring)

/-- The carried gradient of real arrays is real. -/
theorem carried_real (wd : S5632x2048.Idx → EReal) (dx : S1x4096x2048.Idx → EReal) (hw : ∀ i, ∃ r : ℝ, wd i = r)
    (hx : ∀ i, ∃ r : ℝ, dx i = r) (i : S4096x5632.Idx) : ∃ r : ℝ, carried wd dx i = r := by
  choose w hw using hw
  choose x hx using hx
  refine ⟨∑ q : Fin 2048, x (ix3 (0 : Fin 1) (i 0) q) * w (ix2 (i 1) q), ?_⟩
  unfold carried
  rw [← coe_sum]
  exact Finset.sum_congr rfl fun q _ => by rw [hx, hw, EReal.coe_mul]

/-- The reference's product at an index. -/
theorem ref_carried (wd : FVec Ideal S5632x2048 .f32) (dx : FVec Ideal S1x4096x2048 .f32) (i : S4096x5632.Idx) :
    (Host.dotGeneral Cert.GateRefIdeal.dot_S1x4096x2048_S5632x2048_S1x4096x5632_2_1_01_0_n_n none dx wd
      (ix3 (0 : Fin 1) (i 0) (i 1)) : EReal) = carried wd dx i :=
  batchCols_read Cert.GateRefIdeal.Gen.dot_S1x4096x2048_S5632x2048_S1x4096x5632_2_1_01_0_n_n_wf dx wd (ix3 (0 : Fin 1) (i 0) (i 1))

/-- The precondition: every argument array has only real numbers. -/
theorem pre_real (g u : FVec Ideal S1x4096x5632 .f32) (wd : FVec Ideal S5632x2048 .f32) (dx : FVec Ideal S1x4096x2048 .f32)
    (h : Cert.Pre_finite.fn (F := Ideal) g u wd dx = fun _ => 1#1) :
    ((∀ i, ∃ r : ℝ, (g i : EReal) = r) ∧ ∀ i, ∃ r : ℝ, (u i : EReal) = r) ∧ (∀ i, ∃ r : ℝ, (wd i : EReal) = r)
      ∧ ∀ i, ∃ r : ℝ, (dx i : EReal) = r := by
  have h0 := congrFun h (fun a => a.elim0)
  unfold Cert.Pre_finite.fn Cert.Pre_finite.fn_part1 at h0
  obtain ⟨h1, hx⟩ := IntOp.andi_eq_one.1 h0
  obtain ⟨h2, hw⟩ := IntOp.andi_eq_one.1 h1
  obtain ⟨hg, hu⟩ := IntOp.andi_eq_one.1 h2
  haveI : Subsingleton Cert.Pre_finite.S_.Idx := ⟨fun a b => funext fun k => k.elim0⟩
  exact ⟨⟨real_of_all _ _ _ _ _ _ _ hg, real_of_all _ _ _ _ _ _ _ hu⟩, real_of_all _ _ _ _ _ _ _ hw, real_of_all _ _ _ _ _ _ _ hx⟩

/-- The kernel and the reference compute the same gradients of finite arrays. -/
theorem algebraic : Cert.algebraic_GateIdeal_GateRefIdeal_pre_finite := by
  intro m g m' g' hp hm
  refine ⟨fun c => dgate (m ((c : Thread nD τ).loc main_arg0)) (m ((c : Thread nD τ).loc main_arg1))
      (m ((c : Thread nD τ).loc main_arg2)) (m ((c : Thread nD τ).loc main_arg3)),
    fun c => dup (m ((c : Thread nD τ).loc main_arg0)) (m ((c : Thread nD τ).loc main_arg2)) (m ((c : Thread nD τ).loc main_arg3)), ?_, ?_⟩
  · exact (θ_run defs _ _).mono (fun _ h c => ⟨(h c).1.trans ((dats m 0 c).arrAt_eq_of_cover 5 _ (fun t _ => flushed_gate m c t) cover_gate),
      (h c).2.1.trans ((dats m 0 c).arrAt_eq_of_cover 6 _ (fun t _ => flushed_up m c t) cover_up), (h c).2.2⟩) (run_blocks m g)
  · refine (θ_run Cert.GateRefIdeal.defs _ _).mono (fun _ h c => ⟨(h c).1.trans ?_, (h c).2.1.trans ?_, (h c).2.2⟩)
      (Cert.GateRefIdeal.Value.run m' g')
    · rw [(hm c).1, (hm c).2.1, (hm c).2.2.1, (hm c).2.2.2]
      obtain ⟨⟨hg, hu⟩, hw, hx⟩ := pre_real _ _ _ _ (hp c)
      funext i
      refine (trunc_flat _ Cert.GateRefIdeal.Gen.shapeCasts_S1x4096x5632_S4096x5632 Cert.GateRefIdeal.Gen.bitsLt_bf16_f32 i).trans ?_
      obtain ⟨g, hg⟩ := hg (ix3 (0 : Fin 1) (i 0) (i 1))
      obtain ⟨u, hu⟩ := hu (ix3 (0 : Fin 1) (i 0) (i 1))
      obtain ⟨d, hd⟩ := carried_real _ _ hw hx i
      have e := (ref_carried (m ((c : Thread nD τ).loc main_arg2)) (m ((c : Thread nD τ).loc main_arg3)) i).trans hd
      have k := slope_real d g u
      rw [← e, ← hg, ← hu] at k
      refine Eq.trans ?_ (k.trans ?_)
      · rfl
      · exact congrArg (· * slope (m ((c : Thread nD τ).loc main_arg0) (ix3 0 (i 0) (i 1))) (m ((c : Thread nD τ).loc main_arg1) (ix3 0 (i 0) (i 1))))
          (ref_carried _ _ i)
    · rw [(hm c).1, (hm c).2.2.1, (hm c).2.2.2]
      funext i
      refine (trunc_flat _ Cert.GateRefIdeal.Gen.shapeCasts_S1x4096x5632_S4096x5632 Cert.GateRefIdeal.Gen.bitsLt_bf16_f32 i).trans ?_
      exact (mul_comm _ _).trans (congrArg (· * act (m ((c : Thread nD τ).loc main_arg0) (ix3 0 (i 0) (i 1)))) (ref_carried _ _ i))

end Cert.GateIdeal.Value

end
-- ==== Proof.Down.lean ====
/- The gradient of the feed-forward down projection's weight: each block the kernel writes back is a block of the
   product of the saved activations and the incoming gradient over the 4096 positions, and so is the reference's
   transposed product. -/
module

public import proofs.«01_k».proof.Proof.Products
public import proofs.«01_k».proof.Defs
public import proofs.«01_k».proof.Proof.Gen.DownIdeal.Value
public import proofs.«01_k».proof.Proof.Gen.DownRefIdeal.Run

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The body's product at an index. -/
theorem pay_apply (x0 : Vec Ideal S4096x256 .bf16) (x1 : Vec Ideal S4096x2048 .bf16) (j : S256x2048.Idx) :
    (k0_pay1 x0 x1 j : EReal) = ∑ k : Fin 4096, (x0 (ix2 k (j 0)) : EReal) * x1 (ix2 k (j 1)) := by
  unfold k0_pay1
  rw [shapeCast_self, shapeCast_self]
  exact (rows_read dot_S4096x256_S4096x2048_S256x2048_0_0_1_1_n_n_wf x0 x1 (fun _ => Ideal.ofBits .f32 0x00000000#32) j).trans
    (zero_acc _)

/-- The blocks a point reads and writes. -/
theorem index_facts : ∀ t : Fin cfg0.N, win0_0.index t 0 = 0 ∧ win0_0.index t 1 = t.val ∧ win0_1.index t 0 = 0
    ∧ win0_1.index t 1 = 0 ∧ win0_2.index t 0 = t.val ∧ win0_2.index t 1 = 0 := by
  decide +kernel

/-- The activations as the kernel finds them, -/
theorem ff_apply (c : Dev nD) (i : S4096x5632.Idx) :
    (V m c main_v1 i : EReal) = (m ((c : Thread nD τ).loc main_arg0) (ix3 0 (i 0) (i 1)) : EReal) := by
  have e : V m c main_v1 = (truncf (F := Ideal) .bf16 (shapeCast S4096x5632 (m ((c : Thread nD τ).loc main_arg0))
      shapeCasts_S1x4096x5632_S4096x5632) bitsLt_bf16_f32 : FVec Ideal S4096x5632 .bf16) := by
    show StableHlo.after hostOps0 (fun b => m (c, b)) (Proc.devRef .tc main_v1) = _
    after_results
    rfl
  rw [e]; exact flat_read _ _ i

/-- and the incoming gradient. -/
theorem dx_apply (c : Dev nD) (i : S4096x2048.Idx) :
    (V m c main_v3 i : EReal) = (m ((c : Thread nD τ).loc main_arg1) (ix3 0 (i 0) (i 1)) : EReal) := by
  have e : V m c main_v3 = (truncf (F := Ideal) .bf16 (shapeCast S4096x2048 (m ((c : Thread nD τ).loc main_arg1))
      shapeCasts_S1x4096x2048_S4096x2048) bitsLt_bf16_f32 : FVec Ideal S4096x2048 .bf16) := by
    show StableHlo.after hostOps0 (fun b => m (c, b)) (Proc.devRef .tc main_v3) = _
    after_results
    rfl
  rw [e]; exact flat_read _ _ i

/-- What point `t` writes back is block `t` of the gradient. -/
theorem flushed_eq (c : Dev nD) (t : Fin cfg0.N) :
    (dats m 0 c).flushed 2 t = (win0_2.blk t).view.read (Elt Ideal)
      (overPositions (m ((c : Thread nD τ).loc main_arg0)) (m ((c : Thread nD τ).loc main_arg1))) := by
  rw [flushed2]
  show (cfg0.win 2).cut (grid0.coords t) (out0_2 (iblk m c 0 t) (iblk m c 1 t)) = _
  unfold out0_2
  rw [View.canon_unit_zero origin, View.ld_unit_zero origin, View.ld_unit_zero origin]
  obtain ⟨a0, a1, b0, b1, d0, d1⟩ := index_facts t
  funext y
  show _ = overPositions _ _ ((win0_2.rect t).emb y)
  unfold overPositions
  refine (pay_apply _ _ _).trans (Finset.sum_congr rfl fun k _ => ?_)
  refine congrArg₂ (· * ·) ?_ ?_
  · refine Eq.trans ?_ (ff_apply m c (ix2 k _))
    refine congrArg (V m c main_v1) (funext fun a => Fin.ext ?_)
    match a with
    | ⟨0, _⟩ => exact win0_0.rect_emb_val_of_index_zero t 0 a0 _
    | ⟨1, _⟩ => exact (win0_0.rect_emb_val t _ 1).trans ((congrArg (· * 256 + _) (a1.trans d0.symm)).trans (win0_2.rect_emb_val t y 0).symm)
  · refine Eq.trans ?_ (dx_apply m c (ix2 k _))
    refine congrArg (V m c main_v3) (funext fun a => Fin.ext ?_)
    match a with
    | ⟨0, _⟩ => exact win0_1.rect_emb_val_of_index_zero t 0 b0 _
    | ⟨1, _⟩ => exact (win0_1.rect_emb_val t _ 1).trans ((congrArg (· * 2048 + _) (b1.trans d1.symm)).trans (win0_2.rect_emb_val t y 1).symm)

/-- The blocks of 256 rows cover the result. -/
theorem cover (i : S5632x2048.Idx) :
    ∃ t : Fin cfg0.N, (cfg0.win 2).flush t = true ∧ i ∈ ((cfg0.win 2).blk t).view.set := by
  have h0 : (i 0 : Nat) < 5632 := (i 0).isLt
  have h1 : (i 1 : Nat) < 2048 := (i 1).isLt
  have hN : cfg0.N = 22 := N_0
  obtain ⟨t, ht⟩ : ∃ t : Fin cfg0.N, t.val = (i 0 : Nat) / 256 := ⟨⟨_, by omega⟩, rfl⟩
  refine ⟨t, flush0_2 t, ?_⟩
  obtain ⟨-, -, -, -, d0, d1⟩ := index_facts t
  show i ∈ ((View.whole main_v4).slice (win0_2.rect t)).set
  rw [View.set_slice_whole, Rect.mem_set_unit]
  intro a
  match a with
  | ⟨0, _⟩ =>
    show win0_2.index _ 0 * 256 ≤ (i 0 : Nat) ∧ (i 0 : Nat) < win0_2.index _ 0 * 256 + 256
    rw [d0, ht]; omega
  | ⟨1, _⟩ =>
    show win0_2.index _ 1 * 2048 ≤ (i 1 : Nat) ∧ (i 1 : Nat) < win0_2.index _ 1 * 2048 + 2048
    rw [d1]; omega

/-- The result array after the run. -/
theorem final (c : Dev nD) : (dats m 0 c).arrAt 2 cfg0.N
    = overPositions (m ((c : Thread nD τ).loc main_arg0)) (m ((c : Thread nD τ).loc main_arg1)) :=
  (dats m 0 c).arrAt_eq_of_cover 2 _ (fun t _ => flushed_eq m c t) cover

/-- The reference's result: the product over the positions, transposed. -/
theorem ref_eq (ff : FVec Ideal S1x4096x5632 .f32) (dx : FVec Ideal S1x4096x2048 .f32) :
    truncf .bf16 (transpose Cert.DownRefIdeal.S5632x2048 [1, 0]
      (Host.dotGeneral Cert.DownRefIdeal.dot_S1x4096x2048_S1x4096x5632_S2048x5632_01_01_2_2_n_n none dx ff)
      Cert.DownRefIdeal.Facts₀.transposes_S2048x5632_S5632x2048_1_0) Cert.DownRefIdeal.Facts₀.bitsLt_bf16_f32
    = overPositions ff dx := by
  funext i
  refine (turn_read _ _ i).trans ((batchRows_read _ _ _ _).trans (Finset.sum_congr rfl fun k _ => mul_comm _ _))

/-- The kernel and the reference compute the same gradient. -/
theorem algebraic : Cert.algebraic_DownIdeal_DownRefIdeal := by
  intro m g m' g' _ hm
  refine ⟨fun c => overPositions (m ((c : Thread nD τ).loc main_arg0)) (m ((c : Thread nD τ).loc main_arg1)), ?_, ?_⟩
  · exact (θ_run defs _ _).mono (fun _ h c => ⟨(h c).1.trans (final m c), (h c).2⟩) (run_blocks m g)
  · refine (θ_run Cert.DownRefIdeal.defs _ _).mono (fun _ h c => ⟨(h c).1.trans ?_, (h c).2⟩)
      (Cert.DownRefIdeal.Value.run m' g')
    rw [(hm c).1, (hm c).2]
    exact ref_eq _ _

end Cert.DownIdeal.Value

end
-- ==== Proof.Weights.lean ====
/- The gradients of the feed-forward gate and up projections' weights: each block the kernel writes back is a block of
   the product of a gradient and the normalised input over the 4096 positions. -/
module

public import proofs.«01_k».proof.Proof.Products
public import proofs.«01_k».proof.Defs
public import proofs.«01_k».proof.Proof.Gen.WeightsIdeal.Value
public import proofs.«01_k».proof.Proof.Gen.WeightsRefIdeal.Run

@[expose] public section

set_option maxRecDepth 16384

noncomputable section

namespace Cert.WeightsIdeal.Value

open Cert.WeightsIdeal Cert.WeightsIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The body's product at an index, for the gate -/
theorem gate_apply (x0 : Vec Ideal S4096x2048 .bf16) (x1 : Vec Ideal S4096x256 .bf16) (j : S256x2048.Idx) :
    (k0_pay2 x0 x1 j : EReal) = ∑ k : Fin 4096, (x1 (ix2 k (j 0)) : EReal) * x0 (ix2 k (j 1)) := by
  unfold k0_pay2 k0_pay1
  rw [shapeCast_self, shapeCast_self]
  exact (rows_read dot_S4096x256_S4096x2048_S256x2048_0_0_1_1_n_n_wf x1 x0 (fun _ => Ideal.ofBits .f32 0x00000000#32) j).trans
    (zero_acc _)

/-- and for the up projection. -/
theorem up_apply (x0 : Vec Ideal S4096x2048 .bf16) (x2 : Vec Ideal S4096x256 .bf16) (j : S256x2048.Idx) :
    (k0_pay3 x0 x2 j : EReal) = ∑ k : Fin 4096, (x2 (ix2 k (j 0)) : EReal) * x0 (ix2 k (j 1)) :=
  gate_apply x0 x2 j

/-- The blocks a point reads and writes. -/
theorem index_facts : ∀ t : Fin cfg0.N, (win0_0.index t 0 = 0 ∧ win0_0.index t 1 = 0) ∧ (win0_1.index t 0 = 0
    ∧ win0_1.index t 1 = t.val) ∧ (win0_2.index t 0 = 0 ∧ win0_2.index t 1 = t.val) ∧ (win0_3.index t 0 = t.val
    ∧ win0_3.index t 1 = 0) ∧ win0_4.index t 0 = t.val ∧ win0_4.index t 1 = 0 := by
  decide +kernel

/-- The normalised input as the kernel finds it, -/
theorem h_apply (c : Dev nD) (i : S4096x2048.Idx) :
    (V m c main_v1 i : EReal) = (m ((c : Thread nD τ).loc main_arg0) (ix3 0 (i 0) (i 1)) : EReal) := by
  have e : V m c main_v1 = (truncf (F := Ideal) .bf16 (shapeCast S4096x2048 (m ((c : Thread nD τ).loc main_arg0))
      shapeCasts_S1x4096x2048_S4096x2048) bitsLt_bf16_f32 : FVec Ideal S4096x2048 .bf16) := by
    show StableHlo.after hostOps0 (fun b => m (c, b)) (Proc.devRef .tc main_v1) = _
    after_results
    rfl
  rw [e]; exact flat_read _ _ i

/-- the gate's gradient -/
theorem dgate_apply (c : Dev nD) (i : S4096x5632.Idx) :
    (V m c main_v3 i : EReal) = (m ((c : Thread nD τ).loc main_arg1) (ix3 0 (i 0) (i 1)) : EReal) := by
  have e : V m c main_v3 = (truncf (F := Ideal) .bf16 (shapeCast S4096x5632 (m ((c : Thread nD τ).loc main_arg1))
      shapeCasts_S1x4096x5632_S4096x5632) bitsLt_bf16_f32 : FVec Ideal S4096x5632 .bf16) := by
    show StableHlo.after hostOps0 (fun b => m (c, b)) (Proc.devRef .tc main_v3) = _
    after_results
    rfl
  rw [e]; exact flat_read _ _ i

/-- and the up projection's. -/
theorem dup_apply (c : Dev nD) (i : S4096x5632.Idx) :
    (V m c main_v5 i : EReal) = (m ((c : Thread nD τ).loc main_arg2) (ix3 0 (i 0) (i 1)) : EReal) := by
  have e : V m c main_v5 = (truncf (F := Ideal) .bf16 (shapeCast S4096x5632 (m ((c : Thread nD τ).loc main_arg2))
      shapeCasts_S1x4096x5632_S4096x5632) bitsLt_bf16_f32 : FVec Ideal S4096x5632 .bf16) := by
    show StableHlo.after hostOps0 (fun b => m (c, b)) (Proc.devRef .tc main_v5) = _
    after_results
    rfl
  rw [e]; exact flat_read _ _ i

/-- Every point reads the whole input. -/
theorem h_block (c : Dev nD) (t : Fin cfg0.N) (i : S4096x2048.Idx) :
    (iblk m c 0 t i : EReal) = (m ((c : Thread nD τ).loc main_arg0) (ix3 0 (i 0) (i 1)) : EReal) := by
  refine Eq.trans ?_ (h_apply m c i)
  refine congrArg (V m c main_v1) (funext fun a => Fin.ext ?_)
  match a with
  | ⟨0, _⟩ => exact win0_0.rect_emb_val_of_index_zero t 0 (index_facts t).1.1 i
  | ⟨1, _⟩ => exact win0_0.rect_emb_val_of_index_zero t 1 (index_facts t).1.2 i

/-- What point `t` writes back is block `t` of the gate's weight gradient, -/
theorem flushed_gate (c : Dev nD) (t : Fin cfg0.N) :
    (dats m 0 c).flushed 3 t = (win0_3.blk t).view.read (Elt Ideal)
      (overPositions (m ((c : Thread nD τ).loc main_arg1)) (m ((c : Thread nD τ).loc main_arg0))) := by
  rw [flushed3]
  show (cfg0.win 3).cut (grid0.coords t) (out0_3 (iblk m c 0 t) (iblk m c 1 t) (iblk m c 2 t)) = _
  unfold out0_3
  rw [View.canon_unit_zero origin, View.ld_unit_zero origin, View.ld_unit_zero origin]
  obtain ⟨-, ⟨a0, a1⟩, -, ⟨d0, d1⟩, -⟩ := index_facts t
  funext y
  show _ = overPositions _ _ ((win0_3.rect t).emb y)
  unfold overPositions
  refine (gate_apply _ _ _).trans (Finset.sum_congr rfl fun k _ => congrArg₂ (· * ·) ?_ ?_)
  · refine Eq.trans ?_ (dgate_apply m c (ix2 k _))
    refine congrArg (V m c main_v3) (funext fun a => Fin.ext ?_)
    match a with
    | ⟨0, _⟩ => exact win0_1.rect_emb_val_of_index_zero t 0 a0 _
    | ⟨1, _⟩ => exact (win0_1.rect_emb_val t _ 1).trans ((congrArg (· * 256 + _) (a1.trans d0.symm)).trans (win0_3.rect_emb_val t y 0).symm)
  · refine (h_block m c t _).trans (congrArg (m ((c : Thread nD τ).loc main_arg0)) (congrArg (ix3 0 k) (Fin.ext ?_)))
    exact (win0_3.rect_emb_val_of_index_zero t 1 d1 y).symm

/-- and of the up projection's. -/
theorem flushed_up (c : Dev nD) (t : Fin cfg0.N) :
    (dats m 0 c).flushed 4 t = (win0_4.blk t).view.read (Elt Ideal)
      (overPositions (m ((c : Thread nD τ).loc main_arg2)) (m ((c : Thread nD τ).loc main_arg0))) := by
  rw [flushed4]
  show (cfg0.win 4).cut (grid0.coords t) (out0_4 (iblk m c 0 t) (iblk m c 1 t) (iblk m c 2 t)) = _
  unfold out0_4
  rw [View.canon_unit_zero origin, View.ld_unit_zero origin, View.ld_unit_zero origin]
  obtain ⟨-, -, ⟨a0, a1⟩, -, d0, d1⟩ := index_facts t
  funext y
  show _ = overPositions _ _ ((win0_4.rect t).emb y)
  unfold overPositions
  refine (up_apply _ _ _).trans (Finset.sum_congr rfl fun k _ => congrArg₂ (· * ·) ?_ ?_)
  · refine Eq.trans ?_ (dup_apply m c (ix2 k _))
    refine congrArg (V m c main_v5) (funext fun a => Fin.ext ?_)
    match a with
    | ⟨0, _⟩ => exact win0_2.rect_emb_val_of_index_zero t 0 a0 _
    | ⟨1, _⟩ => exact (win0_2.rect_emb_val t _ 1).trans ((congrArg (· * 256 + _) (a1.trans d0.symm)).trans (win0_4.rect_emb_val t y 0).symm)
  · refine (h_block m c t _).trans (congrArg (m ((c : Thread nD τ).loc main_arg0)) (congrArg (ix3 0 k) (Fin.ext ?_)))
    exact (win0_4.rect_emb_val_of_index_zero t 1 d1 y).symm

/-- The blocks of 256 rows cover the first result -/
theorem cover_gate (i : S5632x2048.Idx) :
    ∃ t : Fin cfg0.N, (cfg0.win 3).flush t = true ∧ i ∈ ((cfg0.win 3).blk t).view.set := by
  have h0 : (i 0 : Nat) < 5632 := (i 0).isLt
  have h1 : (i 1 : Nat) < 2048 := (i 1).isLt
  have hN : cfg0.N = 22 := N_0
  obtain ⟨t, ht⟩ : ∃ t : Fin cfg0.N, t.val = (i 0 : Nat) / 256 := ⟨⟨_, by omega⟩, rfl⟩
  refine ⟨t, flush0_3 t, ?_⟩
  obtain ⟨-, -, -, ⟨d0, d1⟩, -⟩ := index_facts t
  show i ∈ ((View.whole main_v6_0).slice (win0_3.rect t)).set
  rw [View.set_slice_whole, Rect.mem_set_unit]
  intro a
  match a with
  | ⟨0, _⟩ =>
    show win0_3.index _ 0 * 256 ≤ (i 0 : Nat) ∧ (i 0 : Nat) < win0_3.index _ 0 * 256 + 256
    rw [d0, ht]; omega
  | ⟨1, _⟩ =>
    show win0_3.index _ 1 * 2048 ≤ (i 1 : Nat) ∧ (i 1 : Nat) < win0_3.index _ 1 * 2048 + 2048
    rw [d1]; omega

/-- and the second. -/
theorem cover_up (i : S5632x2048.Idx) :
    ∃ t : Fin cfg0.N, (cfg0.win 4).flush t = true ∧ i ∈ ((cfg0.win 4).blk t).view.set := by
  obtain ⟨t, -, ht⟩ := cover_gate i
  exact ⟨t, flush0_4 t, ht⟩

/-- The reference's results: the product over the positions, transposed twice. -/
theorem ref_eq (h : FVec Ideal S1x4096x2048 .f32) (d : FVec Ideal S1x4096x5632 .f32) :
    truncf .bf16 (transpose Cert.WeightsRefIdeal.S5632x2048 [1, 0] (transpose Cert.WeightsRefIdeal.S2048x5632 [1, 0]
      (Host.dotGeneral Cert.WeightsRefIdeal.dot_S1x4096x5632_S1x4096x2048_S5632x2048_01_01_2_2_n_n none d h)
      Cert.WeightsRefIdeal.Facts₀.transposes_S5632x2048_S2048x5632_1_0)
      Cert.WeightsRefIdeal.Facts₀.transposes_S2048x5632_S5632x2048_1_0) Cert.WeightsRefIdeal.Facts₀.bitsLt_bf16_f32
    = overPositions d h := by
  funext i
  exact (turn_read _ _ i).trans ((turn_read _ _ _).trans (batchRows_read _ _ _ _))

/-- The kernel and the reference compute the same gradients. -/
theorem algebraic : Cert.algebraic_WeightsIdeal_WeightsRefIdeal := by
  intro m g m' g' _ hm
  refine ⟨fun c => overPositions (m ((c : Thread nD τ).loc main_arg1)) (m ((c : Thread nD τ).loc main_arg0)),
    fun c => overPositions (m ((c : Thread nD τ).loc main_arg2)) (m ((c : Thread nD τ).loc main_arg0)), ?_, ?_⟩
  · exact (θ_run defs _ _).mono (fun _ h c => ⟨(h c).1.trans ((dats m 0 c).arrAt_eq_of_cover 3 _ (fun t _ => flushed_gate m c t) cover_gate),
      (h c).2.1.trans ((dats m 0 c).arrAt_eq_of_cover 4 _ (fun t _ => flushed_up m c t) cover_up), (h c).2.2⟩) (run_blocks m g)
  · refine (θ_run Cert.WeightsRefIdeal.defs _ _).mono (fun _ h c => ⟨(h c).1.trans ?_, (h c).2.1.trans ?_, (h c).2.2⟩)
      (Cert.WeightsRefIdeal.Value.run m' g')
    · rw [(hm c).1, (hm c).2.1]; exact ref_eq _ _
    · rw [(hm c).1, (hm c).2.2]; exact ref_eq _ _

end Cert.WeightsIdeal.Value

end
-- ==== Proof.Input.lean ====
/- The gradient of the feed-forward input: each block the kernel writes back is a block of the sum of the two gradients'
   products with the rows of the gate and up projections' weights. -/
module

public import proofs.«01_k».proof.Proof.Products
public import proofs.«01_k».proof.Defs
public import proofs.«01_k».proof.Proof.Gen.InputIdeal.Value
public import proofs.«01_k».proof.Proof.Gen.InputRefIdeal.Run

@[expose] public section

set_option maxRecDepth 16384

noncomputable section

namespace Cert.InputIdeal.Value

open Cert.InputIdeal Cert.InputIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- A gradient carried back through a weight, at an index. -/
def back (d : S1x4096x5632.Idx → EReal) (w : S2048x5632.Idx → EReal) (i : S4096x2048.Idx) : EReal :=
  ∑ q : Fin 5632, d (ix3 (0 : Fin 1) (i 0) q) * w (ix2 (i 1) q)

/-- The gradient of the input: through the gate and through the up projection. -/
def total (wg wu : S2048x5632.Idx → EReal) (dg du : S1x4096x5632.Idx → EReal) (i : S4096x2048.Idx) : EReal :=
  back dg wg i + back du wu i

/-- The body's result at an index. -/
theorem pay_apply (x0 : Vec Ideal S512x5632 .bf16) (x1 : Vec Ideal S5632x256 .bf16) (x2 : Vec Ideal S512x5632 .bf16)
    (x3 : Vec Ideal S5632x256 .bf16) (j : S512x256.Idx) :
    (k0_pay1 x0 x1 x2 x3 j : EReal) = (∑ q : Fin 5632, (x0 (ix2 (j 0) q) : EReal) * x1 (ix2 q (j 1)))
      + ∑ q : Fin 5632, (x2 (ix2 (j 0) q) : EReal) * x3 (ix2 q (j 1)) := by
  unfold k0_pay1
  rw [shapeCast_self, shapeCast_self, shapeCast_self, shapeCast_self]
  have e (a b) := (plain_read dot_S512x5632_S5632x256_S512x256_1_0_0_1_n_n_wf a b (fun _ => Ideal.ofBits .f32 0x00000000#32) j).trans
    (zero_acc _)
  exact congrArg₂ (· + ·) (e x0 x1) (e x2 x3)

/-- The blocks a point reads and writes. -/
theorem index_facts : ∀ t : Fin cfg0.N, (win0_0.index t 0 = t.val / 8 ∧ win0_0.index t 1 = 0) ∧ (win0_1.index t 0 = 0
    ∧ win0_1.index t 1 = t.val % 8) ∧ (win0_2.index t 0 = t.val / 8 ∧ win0_2.index t 1 = 0) ∧ (win0_3.index t 0 = 0
    ∧ win0_3.index t 1 = t.val % 8) ∧ win0_5.index t 0 = t.val / 8 ∧ win0_5.index t 1 = t.val % 8 := by
  decide +kernel

/-- The gate's gradient as the kernel finds it, -/
theorem dgate_apply (c : Dev nD) (i : S4096x5632.Idx) :
    (V m c main_v1 i : EReal) = (m ((c : Thread nD τ).loc main_arg2) (ix3 0 (i 0) (i 1)) : EReal) := by
  have e : V m c main_v1 = (truncf (F := Ideal) .bf16 (shapeCast S4096x5632 (m ((c : Thread nD τ).loc main_arg2))
      shapeCasts_S1x4096x5632_S4096x5632) bitsLt_bf16_f32 : FVec Ideal S4096x5632 .bf16) := by
    show StableHlo.after hostOps0 (fun b => m (c, b)) (Proc.devRef .tc main_v1) = _
    after_results
    rfl
  rw [e]; exact flat_read _ _ i

/-- the up projection's, -/
theorem dup_apply (c : Dev nD) (i : S4096x5632.Idx) :
    (V m c main_v3 i : EReal) = (m ((c : Thread nD τ).loc main_arg3) (ix3 0 (i 0) (i 1)) : EReal) := by
  have e : V m c main_v3 = (truncf (F := Ideal) .bf16 (shapeCast S4096x5632 (m ((c : Thread nD τ).loc main_arg3))
      shapeCasts_S1x4096x5632_S4096x5632) bitsLt_bf16_f32 : FVec Ideal S4096x5632 .bf16) := by
    show StableHlo.after hostOps0 (fun b => m (c, b)) (Proc.devRef .tc main_v3) = _
    after_results
    rfl
  rw [e]; exact flat_read _ _ i

/-- the gate's weight, turned, -/
theorem wgate_apply (c : Dev nD) (i : S5632x2048.Idx) :
    (V m c main_v5 i : EReal) = (m ((c : Thread nD τ).loc main_arg0) (ix2 (i 1) (i 0)) : EReal) := by
  have e : V m c main_v5 = (truncf (F := Ideal) .bf16 (transpose S5632x2048 [1, 0] (m ((c : Thread nD τ).loc main_arg0))
      transposes_S2048x5632_S5632x2048_1_0) bitsLt_bf16_f32 : FVec Ideal S5632x2048 .bf16) := by
    show StableHlo.after hostOps0 (fun b => m (c, b)) (Proc.devRef .tc main_v5) = _
    after_results
    try rfl
  rw [e]; exact turn_read _ _ i

/-- and the up projection's. -/
theorem wup_apply (c : Dev nD) (i : S5632x2048.Idx) :
    (V m c main_v7 i : EReal) = (m ((c : Thread nD τ).loc main_arg1) (ix2 (i 1) (i 0)) : EReal) := by
  have e : V m c main_v7 = (truncf (F := Ideal) .bf16 (transpose S5632x2048 [1, 0] (m ((c : Thread nD τ).loc main_arg1))
      transposes_S2048x5632_S5632x2048_1_0) bitsLt_bf16_f32 : FVec Ideal S5632x2048 .bf16) := by
    show StableHlo.after hostOps0 (fun b => m (c, b)) (Proc.devRef .tc main_v7) = _
    after_results
    try rfl
  rw [e]; exact turn_read _ _ i

/-- What point `t` writes back is block `t` of the gradient. -/
theorem flushed_eq (c : Dev nD) (t : Fin cfg0.N) :
    (dats m 0 c).flushed 5 t = (win0_5.blk t).view.read (Elt Ideal)
      (total (m ((c : Thread nD τ).loc main_arg0)) (m ((c : Thread nD τ).loc main_arg1))
        (m ((c : Thread nD τ).loc main_arg2)) (m ((c : Thread nD τ).loc main_arg3))) := by
  rw [flushed5]
  show (cfg0.win 5).cut (grid0.coords t) (out0_5 (iblk m c 0 t) (iblk m c 1 t) (iblk m c 2 t) (iblk m c 3 t) (iblk m c 4 t)) = _
  unfold out0_5
  rw [View.canon_unit_zero origin, View.ld_unit_zero origin, View.ld_unit_zero origin, View.ld_unit_zero origin,
    View.ld_unit_zero origin]
  obtain ⟨⟨a0, a1⟩, ⟨b0, b1⟩, ⟨a0', a1'⟩, ⟨b0', b1'⟩, d0, d1⟩ := index_facts t
  funext y
  show _ = total _ _ _ _ ((win0_5.rect t).emb y)
  unfold total back
  refine (pay_apply _ _ _ _ _).trans (congrArg₂ (· + ·) (Finset.sum_congr rfl fun q _ => congrArg₂ (· * ·) ?_ ?_)
    (Finset.sum_congr rfl fun q _ => congrArg₂ (· * ·) ?_ ?_))
  · refine Eq.trans ?_ (dgate_apply m c (ix2 ((win0_5.rect t).emb y 0) q))
    refine congrArg (V m c main_v1) (funext fun a => Fin.ext ?_)
    match a with
    | ⟨0, _⟩ => exact (win0_0.rect_emb_val t _ 0).trans ((congrArg (· * 512 + _) (a0.trans d0.symm)).trans (win0_5.rect_emb_val t y 0).symm)
    | ⟨1, _⟩ => exact win0_0.rect_emb_val_of_index_zero t 1 a1 _
  · refine Eq.trans ?_ (wgate_apply m c (ix2 q ((win0_5.rect t).emb y 1)))
    refine congrArg (V m c main_v5) (funext fun a => Fin.ext ?_)
    match a with
    | ⟨0, _⟩ => exact win0_1.rect_emb_val_of_index_zero t 0 b0 _
    | ⟨1, _⟩ => exact (win0_1.rect_emb_val t _ 1).trans ((congrArg (· * 256 + _) (b1.trans d1.symm)).trans (win0_5.rect_emb_val t y 1).symm)
  · refine Eq.trans ?_ (dup_apply m c (ix2 ((win0_5.rect t).emb y 0) q))
    refine congrArg (V m c main_v3) (funext fun a => Fin.ext ?_)
    match a with
    | ⟨0, _⟩ => exact (win0_2.rect_emb_val t _ 0).trans ((congrArg (· * 512 + _) (a0'.trans d0.symm)).trans (win0_5.rect_emb_val t y 0).symm)
    | ⟨1, _⟩ => exact win0_2.rect_emb_val_of_index_zero t 1 a1' _
  · refine Eq.trans ?_ (wup_apply m c (ix2 q ((win0_5.rect t).emb y 1)))
    refine congrArg (V m c main_v7) (funext fun a => Fin.ext ?_)
    match a with
    | ⟨0, _⟩ => exact win0_3.rect_emb_val_of_index_zero t 0 b0' _
    | ⟨1, _⟩ => exact (win0_3.rect_emb_val t _ 1).trans ((congrArg (· * 256 + _) (b1'.trans d1.symm)).trans (win0_5.rect_emb_val t y 1).symm)

/-- The blocks of 512 rows and 256 columns cover the result. -/
theorem cover (i : S4096x2048.Idx) :
    ∃ t : Fin cfg0.N, (cfg0.win 5).flush t = true ∧ i ∈ ((cfg0.win 5).blk t).view.set := by
  have h0 : (i 0 : Nat) < 4096 := (i 0).isLt
  have h1 : (i 1 : Nat) < 2048 := (i 1).isLt
  have hN : cfg0.N = 64 := N_0
  obtain ⟨t, ht⟩ : ∃ t : Fin cfg0.N, t.val = (i 0 : Nat) / 512 * 8 + (i 1 : Nat) / 256 := ⟨⟨_, by omega⟩, rfl⟩
  refine ⟨t, flush0_5 t, ?_⟩
  obtain ⟨-, -, -, -, d0, d1⟩ := index_facts t
  show i ∈ ((View.whole main_v9).slice (win0_5.rect t)).set
  rw [View.set_slice_whole, Rect.mem_set_unit]
  intro a
  match a with
  | ⟨0, _⟩ =>
    show win0_5.index _ 0 * 512 ≤ (i 0 : Nat) ∧ (i 0 : Nat) < win0_5.index _ 0 * 512 + 512
    rw [d0, ht]; omega
  | ⟨1, _⟩ =>
    show win0_5.index _ 1 * 256 ≤ (i 1 : Nat) ∧ (i 1 : Nat) < win0_5.index _ 1 * 256 + 256
    rw [d1, ht]; omega

/-- The reference's result: the two products of the batch, added in the other order. -/
theorem ref_eq (wg wu : FVec Ideal S2048x5632 .f32) (dg du : FVec Ideal S1x4096x5632 .f32) :
    shapeCast Cert.InputRefIdeal.S4096x2048 (addf
      (Host.dotGeneral Cert.InputRefIdeal.dot_S1x4096x5632_S2048x5632_S1x4096x2048_2_1_01_0_n_n none du wu)
      (Host.dotGeneral Cert.InputRefIdeal.dot_S1x4096x5632_S2048x5632_S1x4096x2048_2_1_01_0_n_n none dg wg))
      Cert.InputRefIdeal.Facts₀.shapeCasts_S1x4096x2048_S4096x2048
    = total wg wu dg du := by
  funext i
  refine (flat_read _ _ i).trans ?_
  have e (d w) := batchCols_read Cert.InputRefIdeal.Gen.dot_S1x4096x5632_S2048x5632_S1x4096x2048_2_1_01_0_n_n_wf d w
    (ix3 (0 : Fin 1) (i 0) (i 1))
  exact (congrArg₂ (· + ·) (e du wu) (e dg wg)).trans (add_comm _ _)

/-- The kernel and the reference compute the same gradient. -/
theorem algebraic : Cert.algebraic_InputIdeal_InputRefIdeal := by
  intro m g m' g' _ hm
  refine ⟨fun c => total (m ((c : Thread nD τ).loc main_arg0)) (m ((c : Thread nD τ).loc main_arg1))
    (m ((c : Thread nD τ).loc main_arg2)) (m ((c : Thread nD τ).loc main_arg3)), ?_, ?_⟩
  · exact (θ_run defs _ _).mono (fun _ h c => ⟨(h c).1.trans ((dats m 0 c).arrAt_eq_of_cover 5 _ (fun t _ => flushed_eq m c t) cover),
      (h c).2⟩) (run_blocks m g)
  · refine (θ_run Cert.InputRefIdeal.defs _ _).mono (fun _ h c => ⟨(h c).1.trans ?_, (h c).2⟩)
      (Cert.InputRefIdeal.Value.run m' g')
    rw [(hm c).1, (hm c).2.1, (hm c).2.2.1, (hm c).2.2.2]; exact ref_eq _ _ _ _

end Cert.InputIdeal.Value

end
-- ==== Proof.InWeight.lean ====
/- The gradient of the input projection's weight: each block the kernel writes back is a block of the product of the
   projections' gradient and the normalised input over the 4096 positions, and so is the reference's product. -/
module

public import proofs.«01_k».proof.Proof.Products
public import proofs.«01_k».proof.Defs
public import proofs.«01_k».proof.Proof.Gen.InWeightIdeal.Value
public import proofs.«01_k».proof.Proof.Gen.InWeightRefIdeal.Run

@[expose] public section

set_option maxRecDepth 16384

noncomputable section

namespace Cert.InWeightIdeal.Value

open Cert.InWeightIdeal Cert.InWeightIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The body's product at an index. -/
theorem pay_apply (x0 : Vec Ideal S4096x256 .bf16) (x1 : Vec Ideal S4096x2048 .bf16) (j : S256x2048.Idx) :
    (k0_pay1 x0 x1 j : EReal) = ∑ k : Fin 4096, (x0 (ix2 k (j 0)) : EReal) * x1 (ix2 k (j 1)) := by
  unfold k0_pay1
  rw [shapeCast_self, shapeCast_self]
  exact (rows_read dot_S4096x256_S4096x2048_S256x2048_0_0_1_1_n_n_wf x0 x1 (fun _ => Ideal.ofBits .f32 0x00000000#32) j).trans
    (zero_acc _)

/-- The blocks a point reads and writes. -/
theorem index_facts : ∀ t : Fin cfg0.N, win0_0.index t 0 = 0 ∧ win0_0.index t 1 = t.val
    ∧ win0_1.index t 0 = 0 ∧ win0_1.index t 1 = 0
    ∧ win0_2.index t 0 = t.val ∧ win0_2.index t 1 = 0 := by
  decide +kernel

/-- The normalised input as the kernel finds it, -/
theorem h_apply (c : Dev nD) (i : S4096x2048.Idx) :
    (V m c main_v1 i : EReal) = (m ((c : Thread nD τ).loc main_arg0) (ix3 0 (i 0) (i 1)) : EReal) := by
  have e : V m c main_v1 = (truncf (F := Ideal) .bf16 (shapeCast S4096x2048 (m ((c : Thread nD τ).loc main_arg0))
      shapeCasts_S1x4096x2048_S4096x2048) bitsLt_bf16_f32 : FVec Ideal S4096x2048 .bf16) := by
    show StableHlo.after hostOps0 (fun b => m (c, b)) (Proc.devRef .tc main_v1) = _
    after_results
    rfl
  rw [e]; exact flat_read _ _ i

/-- and the projections' gradient. -/
theorem dproj_apply (c : Dev nD) (i : S4096x5120.Idx) :
    (V m c main_v3 i : EReal) = (m ((c : Thread nD τ).loc main_arg1) (ix3 0 (i 0) (i 1)) : EReal) := by
  have e : V m c main_v3 = (truncf (F := Ideal) .bf16 (shapeCast S4096x5120 (m ((c : Thread nD τ).loc main_arg1))
      shapeCasts_S1x4096x5120_S4096x5120) bitsLt_bf16_f32 : FVec Ideal S4096x5120 .bf16) := by
    show StableHlo.after hostOps0 (fun b => m (c, b)) (Proc.devRef .tc main_v3) = _
    after_results
    rfl
  rw [e]; exact flat_read _ _ i

/-- What point `t` writes back is block `t` of the gradient. -/
theorem flushed_eq (c : Dev nD) (t : Fin cfg0.N) :
    (dats m 0 c).flushed 2 t = (win0_2.blk t).view.read (Elt Ideal)
      (overPositions (m ((c : Thread nD τ).loc main_arg1)) (m ((c : Thread nD τ).loc main_arg0))) := by
  rw [flushed2]
  show (cfg0.win 2).cut (grid0.coords t) (out0_2 (iblk m c 0 t) (iblk m c 1 t)) = _
  unfold out0_2
  rw [View.canon_unit_zero origin, View.ld_unit_zero origin, View.ld_unit_zero origin]
  obtain ⟨a0, a1, b0, b1, d0, d1⟩ := index_facts t
  funext y
  show _ = overPositions _ _ ((win0_2.rect t).emb y)
  unfold overPositions
  refine (pay_apply _ _ _).trans (Finset.sum_congr rfl fun k _ => congrArg₂ (· * ·) ?_ ?_)
  · refine Eq.trans ?_ (dproj_apply m c (ix2 k _))
    refine congrArg (V m c main_v3) (funext fun a => Fin.ext ?_)
    match a with
    | ⟨0, _⟩ => exact win0_0.rect_emb_val_of_index_zero t 0 a0 _
    | ⟨1, _⟩ => exact (win0_0.rect_emb_val t _ 1).trans ((congrArg (· * 256 + _) (a1.trans d0.symm)).trans (win0_2.rect_emb_val t y 0).symm)
  · refine Eq.trans ?_ (h_apply m c (ix2 k _))
    refine congrArg (V m c main_v1) (funext fun a => Fin.ext ?_)
    match a with
    | ⟨0, _⟩ => exact win0_1.rect_emb_val_of_index_zero t 0 b0 _
    | ⟨1, _⟩ => exact (win0_1.rect_emb_val t _ 1).trans ((congrArg (· * 2048 + _) (b1.trans d1.symm)).trans (win0_2.rect_emb_val t y 1).symm)

/-- The blocks of 256 rows cover the result. -/
theorem cover (i : S5120x2048.Idx) :
    ∃ t : Fin cfg0.N, (cfg0.win 2).flush t = true ∧ i ∈ ((cfg0.win 2).blk t).view.set := by
  have h0 : (i 0 : Nat) < 5120 := (i 0).isLt
  have h1 : (i 1 : Nat) < 2048 := (i 1).isLt
  have hN : cfg0.N = 20 := N_0
  obtain ⟨t, ht⟩ : ∃ t : Fin cfg0.N, t.val = (i 0 : Nat) / 256 := ⟨⟨_, by omega⟩, rfl⟩
  refine ⟨t, flush0_2 t, ?_⟩
  obtain ⟨-, -, -, -, d0, d1⟩ := index_facts t
  show i ∈ ((View.whole main_v4).slice (win0_2.rect t)).set
  rw [View.set_slice_whole, Rect.mem_set_unit]
  intro a
  match a with
  | ⟨0, _⟩ =>
    show win0_2.index _ 0 * 256 ≤ (i 0 : Nat) ∧ (i 0 : Nat) < win0_2.index _ 0 * 256 + 256
    rw [d0, ht]; omega
  | ⟨1, _⟩ =>
    show win0_2.index _ 1 * 2048 ≤ (i 1 : Nat) ∧ (i 1 : Nat) < win0_2.index _ 1 * 2048 + 2048
    rw [d1]; omega

/-- The reference's result: the product over the positions, transposed twice. -/
theorem ref_eq (h : FVec Ideal S1x4096x2048 .f32) (d : FVec Ideal S1x4096x5120 .f32) :
    truncf .bf16 (transpose Cert.InWeightRefIdeal.S5120x2048 [1, 0] (transpose Cert.InWeightRefIdeal.S2048x5120 [1, 0]
      (Host.dotGeneral Cert.InWeightRefIdeal.dot_S1x4096x5120_S1x4096x2048_S5120x2048_01_01_2_2_n_n none d h)
      Cert.InWeightRefIdeal.Facts₀.transposes_S5120x2048_S2048x5120_1_0)
      Cert.InWeightRefIdeal.Facts₀.transposes_S2048x5120_S5120x2048_1_0) Cert.InWeightRefIdeal.Facts₀.bitsLt_bf16_f32
    = overPositions d h := by
  funext i
  exact (turn_read _ _ i).trans ((turn_read _ _ (ix2 (i 1) (i 0))).trans (batchRows_read _ _ _ _))

/-- The kernel and the reference compute the same array. -/
theorem algebraic : Cert.algebraic_InWeightIdeal_InWeightRefIdeal := by
  intro m g m' g' _ hm
  refine ⟨fun c => overPositions (m ((c : Thread nD τ).loc main_arg1)) (m ((c : Thread nD τ).loc main_arg0)), ?_, ?_⟩
  · exact (θ_run defs _ _).mono (fun _ h c => ⟨(h c).1.trans ((dats m 0 c).arrAt_eq_of_cover 2 _ (fun t _ => flushed_eq m c t) cover),
      (h c).2⟩) (run_blocks m g)
  · refine (θ_run Cert.InWeightRefIdeal.defs _ _).mono (fun _ h c => ⟨(h c).1.trans ?_, (h c).2⟩)
      (Cert.InWeightRefIdeal.Value.run m' g')
    rw [(hm c).1, (hm c).2]
    exact ref_eq _ _

end Cert.InWeightIdeal.Value

end
-- ==== Proof.InInput.lean ====
/- The gradient of the normalised input through the input projection: each block the kernel writes back is a block of the
   product of the projections' gradient with the rows of the projection's weight, which the kernel is given turned. -/
module

public import proofs.«01_k».proof.Proof.Products
public import proofs.«01_k».proof.Defs
public import proofs.«01_k».proof.Proof.Gen.InInputIdeal.Value
public import proofs.«01_k».proof.Proof.Gen.InInputRefIdeal.Run

@[expose] public section

set_option maxRecDepth 16384

noncomputable section

namespace Cert.InInputIdeal.Value

open Cert.InInputIdeal Cert.InInputIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The body's product at an index. -/
theorem pay_apply (x0 : Vec Ideal S1024x5120 .bf16) (x1 : Vec Ideal S5120x512 .bf16) (j : S1024x512.Idx) :
    (k0_pay1 x0 x1 j : EReal) = ∑ k : Fin 5120, (x0 (ix2 (j 0) k) : EReal) * x1 (ix2 k (j 1)) := by
  unfold k0_pay1
  rw [shapeCast_self, shapeCast_self]
  exact (plain_read dot_S1024x5120_S5120x512_S1024x512_1_0_0_1_n_n_wf x0 x1 (fun _ => Ideal.ofBits .f32 0x00000000#32) j).trans
    (zero_acc _)

/-- The blocks a point reads and writes. -/
theorem index_facts : ∀ t : Fin cfg0.N, win0_0.index t 0 = t.val / 4 ∧ win0_0.index t 1 = 0
    ∧ win0_1.index t 0 = 0 ∧ win0_1.index t 1 = t.val % 4
    ∧ win0_3.index t 0 = t.val / 4 ∧ win0_3.index t 1 = t.val % 4 := by
  decide +kernel

/-- The projections' gradient as the kernel finds it, -/
theorem dproj_apply (c : Dev nD) (i : S4096x5120.Idx) :
    (V m c main_v1 i : EReal) = (m ((c : Thread nD τ).loc main_arg1) (ix3 0 (i 0) (i 1)) : EReal) := by
  have e : V m c main_v1 = (truncf (F := Ideal) .bf16 (shapeCast S4096x5120 (m ((c : Thread nD τ).loc main_arg1))
      shapeCasts_S1x4096x5120_S4096x5120) bitsLt_bf16_f32 : FVec Ideal S4096x5120 .bf16) := by
    show StableHlo.after hostOps0 (fun b => m (c, b)) (Proc.devRef .tc main_v1) = _
    after_results
    rfl
  rw [e]; exact flat_read _ _ i

/-- and the weight, turned. -/
theorem w_apply (c : Dev nD) (i : S5120x2048.Idx) :
    (V m c main_v3 i : EReal) = (m ((c : Thread nD τ).loc main_arg0) (ix2 (i 1) (i 0)) : EReal) := by
  have e : V m c main_v3 = (truncf (F := Ideal) .bf16 (transpose S5120x2048 [1, 0] (m ((c : Thread nD τ).loc main_arg0))
      transposes_S2048x5120_S5120x2048_1_0) bitsLt_bf16_f32 : FVec Ideal S5120x2048 .bf16) := by
    show StableHlo.after hostOps0 (fun b => m (c, b)) (Proc.devRef .tc main_v3) = _
    after_results
    try rfl
  rw [e]; exact turn_read _ _ i

/-- What point `t` writes back is block `t` of the gradient. -/
theorem flushed_eq (c : Dev nD) (t : Fin cfg0.N) :
    (dats m 0 c).flushed 3 t = (win0_3.blk t).view.read (Elt Ideal)
      (throughRows (m ((c : Thread nD τ).loc main_arg1)) (m ((c : Thread nD τ).loc main_arg0))) := by
  rw [flushed3]
  show (cfg0.win 3).cut (grid0.coords t) (out0_3 (iblk m c 0 t) (iblk m c 1 t) (iblk m c 2 t)) = _
  unfold out0_3
  rw [View.canon_unit_zero origin, View.ld_unit_zero origin, View.ld_unit_zero origin]
  obtain ⟨a0, a1, b0, b1, d0, d1⟩ := index_facts t
  funext y
  show _ = throughRows _ _ ((win0_3.rect t).emb y)
  unfold throughRows
  refine (pay_apply _ _ _).trans (Finset.sum_congr rfl fun k _ => congrArg₂ (· * ·) ?_ ?_)
  · refine Eq.trans ?_ (dproj_apply m c (ix2 ((win0_3.rect t).emb y 0) k))
    refine congrArg (V m c main_v1) (funext fun a => Fin.ext ?_)
    match a with
    | ⟨0, _⟩ => exact (win0_0.rect_emb_val t _ 0).trans ((congrArg (· * 1024 + _) (a0.trans d0.symm)).trans (win0_3.rect_emb_val t y 0).symm)
    | ⟨1, _⟩ => exact win0_0.rect_emb_val_of_index_zero t 1 a1 _
  · refine Eq.trans ?_ (w_apply m c (ix2 k ((win0_3.rect t).emb y 1)))
    refine congrArg (V m c main_v3) (funext fun a => Fin.ext ?_)
    match a with
    | ⟨0, _⟩ => exact win0_1.rect_emb_val_of_index_zero t 0 b0 _
    | ⟨1, _⟩ => exact (win0_1.rect_emb_val t _ 1).trans ((congrArg (· * 512 + _) (b1.trans d1.symm)).trans (win0_3.rect_emb_val t y 1).symm)

/-- The blocks of 1024 rows and 512 columns cover the result. -/
theorem cover (i : S4096x2048.Idx) :
    ∃ t : Fin cfg0.N, (cfg0.win 3).flush t = true ∧ i ∈ ((cfg0.win 3).blk t).view.set := by
  have h0 : (i 0 : Nat) < 4096 := (i 0).isLt
  have h1 : (i 1 : Nat) < 2048 := (i 1).isLt
  have hN : cfg0.N = 16 := N_0
  obtain ⟨t, ht⟩ : ∃ t : Fin cfg0.N, t.val = (i 0 : Nat) / 1024 * 4 + (i 1 : Nat) / 512 := ⟨⟨_, by omega⟩, rfl⟩
  refine ⟨t, flush0_3 t, ?_⟩
  obtain ⟨-, -, -, -, d0, d1⟩ := index_facts t
  show i ∈ ((View.whole main_v5).slice (win0_3.rect t)).set
  rw [View.set_slice_whole, Rect.mem_set_unit]
  intro a
  match a with
  | ⟨0, _⟩ =>
    show win0_3.index _ 0 * 1024 ≤ (i 0 : Nat) ∧ (i 0 : Nat) < win0_3.index _ 0 * 1024 + 1024
    rw [d0, ht]; omega
  | ⟨1, _⟩ =>
    show win0_3.index _ 1 * 512 ≤ (i 1 : Nat) ∧ (i 1 : Nat) < win0_3.index _ 1 * 512 + 512
    rw [d1, ht]; omega

/-- The reference's product with the weight's rows. -/
theorem ref_eq (w : FVec Ideal S2048x5120 .f32) (d : FVec Ideal S1x4096x5120 .f32) :
    shapeCast Cert.InInputRefIdeal.S4096x2048 (Host.dotGeneral Cert.InInputRefIdeal.dot_S1x4096x5120_S2048x5120_S1x4096x2048_2_1_01_0_n_n none d w)
      Cert.InInputRefIdeal.Facts₀.shapeCasts_S1x4096x2048_S4096x2048 = throughRows d w := by
  funext i
  exact (flat_read _ _ i).trans (batchCols_read Cert.InInputRefIdeal.Gen.dot_S1x4096x5120_S2048x5120_S1x4096x2048_2_1_01_0_n_n_wf d w (ix3 (0 : Fin 1) (i 0) (i 1)))

/-- The kernel and the reference compute the same array. -/
theorem algebraic : Cert.algebraic_InInputIdeal_InInputRefIdeal := by
  intro m g m' g' _ hm
  refine ⟨fun c => throughRows (m ((c : Thread nD τ).loc main_arg1)) (m ((c : Thread nD τ).loc main_arg0)), ?_, ?_⟩
  · exact (θ_run defs _ _).mono (fun _ h c => ⟨(h c).1.trans ((dats m 0 c).arrAt_eq_of_cover 3 _ (fun t _ => flushed_eq m c t) cover),
      (h c).2⟩) (run_blocks m g)
  · refine (θ_run Cert.InInputRefIdeal.defs _ _).mono (fun _ h c => ⟨(h c).1.trans ?_, (h c).2⟩)
      (Cert.InInputRefIdeal.Value.run m' g')
    rw [(hm c).1, (hm c).2]
    exact ref_eq _ _

end Cert.InInputIdeal.Value

end
-- ==== Proof.OutInput.lean ====
/- The gradient of the mixed features through the output projection: each block the kernel writes back is a block of the
   product of the incoming gradient with the rows of the projection's weight. -/
module

public import proofs.«01_k».proof.Proof.Products
public import proofs.«01_k».proof.Defs
public import proofs.«01_k».proof.Proof.Gen.OutInputIdeal.Value
public import proofs.«01_k».proof.Proof.Gen.OutInputRefIdeal.Run

@[expose] public section

set_option maxRecDepth 16384

noncomputable section

namespace Cert.OutInputIdeal.Value

open Cert.OutInputIdeal Cert.OutInputIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The body's product at an index. -/
theorem pay_apply (x0 : Vec Ideal S1024x2048 .bf16) (x1 : Vec Ideal S1024x2048 .bf16) (j : S1024x1024.Idx) :
    (k0_pay1 x0 x1 j : EReal) = ∑ k : Fin 2048, (x0 (ix2 (j 0) k) : EReal) * x1 (ix2 (j 1) k) := by
  unfold k0_pay1
  rw [shapeCast_self, shapeCast_self]
  exact (cols_read dot_S1024x2048_S1024x2048_S1024x1024_1_1_0_0_n_n_wf x0 x1 (fun _ => Ideal.ofBits .f32 0x00000000#32) j).trans
    (zero_acc _)

/-- The blocks a point reads and writes. -/
theorem index_facts : ∀ t : Fin cfg0.N, win0_0.index t 0 = t.val / 2 ∧ win0_0.index t 1 = 0
    ∧ win0_1.index t 0 = t.val % 2 ∧ win0_1.index t 1 = 0
    ∧ win0_3.index t 0 = t.val / 2 ∧ win0_3.index t 1 = t.val % 2 := by
  decide +kernel

/-- The incoming gradient as the kernel finds it, -/
theorem dx_apply (c : Dev nD) (i : S4096x2048.Idx) :
    (V m c main_v1 i : EReal) = (m ((c : Thread nD τ).loc main_arg1) (ix3 0 (i 0) (i 1)) : EReal) := by
  have e : V m c main_v1 = (truncf (F := Ideal) .bf16 (shapeCast S4096x2048 (m ((c : Thread nD τ).loc main_arg1))
      shapeCasts_S1x4096x2048_S4096x2048) bitsLt_bf16_f32 : FVec Ideal S4096x2048 .bf16) := by
    show StableHlo.after hostOps0 (fun b => m (c, b)) (Proc.devRef .tc main_v1) = _
    after_results
    rfl
  rw [e]; exact flat_read _ _ i

/-- and the weight. -/
theorem w_apply (c : Dev nD) (i : S2048x2048.Idx) :
    (V m c main_v2 i : EReal) = (m ((c : Thread nD τ).loc main_arg0) i : EReal) := by
  have e : V m c main_v2 = (truncf (F := Ideal) .bf16 (m ((c : Thread nD τ).loc main_arg0)) bitsLt_bf16_f32 : FVec Ideal S2048x2048 .bf16) := by
    show StableHlo.after hostOps0 (fun b => m (c, b)) (Proc.devRef .tc main_v2) = _
    after_results
    try rfl
  rw [e]; rfl

/-- What point `t` writes back is block `t` of the gradient. -/
theorem flushed_eq (c : Dev nD) (t : Fin cfg0.N) :
    (dats m 0 c).flushed 3 t = (win0_3.blk t).view.read (Elt Ideal)
      (throughRows (m ((c : Thread nD τ).loc main_arg1)) (m ((c : Thread nD τ).loc main_arg0))) := by
  rw [flushed3]
  show (cfg0.win 3).cut (grid0.coords t) (out0_3 (iblk m c 0 t) (iblk m c 1 t) (iblk m c 2 t)) = _
  unfold out0_3
  rw [View.canon_unit_zero origin, View.ld_unit_zero origin, View.ld_unit_zero origin]
  obtain ⟨a0, a1, b0, b1, d0, d1⟩ := index_facts t
  funext y
  show _ = throughRows _ _ ((win0_3.rect t).emb y)
  unfold throughRows
  refine (pay_apply _ _ _).trans (Finset.sum_congr rfl fun k _ => congrArg₂ (· * ·) ?_ ?_)
  · refine Eq.trans ?_ (dx_apply m c (ix2 ((win0_3.rect t).emb y 0) k))
    refine congrArg (V m c main_v1) (funext fun a => Fin.ext ?_)
    match a with
    | ⟨0, _⟩ => exact (win0_0.rect_emb_val t _ 0).trans ((congrArg (· * 1024 + _) (a0.trans d0.symm)).trans (win0_3.rect_emb_val t y 0).symm)
    | ⟨1, _⟩ => exact win0_0.rect_emb_val_of_index_zero t 1 a1 _
  · refine Eq.trans ?_ (w_apply m c (ix2 ((win0_3.rect t).emb y 1) k))
    refine congrArg (V m c main_v2) (funext fun a => Fin.ext ?_)
    match a with
    | ⟨0, _⟩ => exact (win0_1.rect_emb_val t _ 0).trans ((congrArg (· * 1024 + _) (b0.trans d1.symm)).trans (win0_3.rect_emb_val t y 1).symm)
    | ⟨1, _⟩ => exact win0_1.rect_emb_val_of_index_zero t 1 b1 _

/-- The blocks of 1024 rows and 1024 columns cover the result. -/
theorem cover (i : S4096x2048.Idx) :
    ∃ t : Fin cfg0.N, (cfg0.win 3).flush t = true ∧ i ∈ ((cfg0.win 3).blk t).view.set := by
  have h0 : (i 0 : Nat) < 4096 := (i 0).isLt
  have h1 : (i 1 : Nat) < 2048 := (i 1).isLt
  have hN : cfg0.N = 8 := N_0
  obtain ⟨t, ht⟩ : ∃ t : Fin cfg0.N, t.val = (i 0 : Nat) / 1024 * 2 + (i 1 : Nat) / 1024 := ⟨⟨_, by omega⟩, rfl⟩
  refine ⟨t, flush0_3 t, ?_⟩
  obtain ⟨-, -, -, -, d0, d1⟩ := index_facts t
  show i ∈ ((View.whole main_v4).slice (win0_3.rect t)).set
  rw [View.set_slice_whole, Rect.mem_set_unit]
  intro a
  match a with
  | ⟨0, _⟩ =>
    show win0_3.index _ 0 * 1024 ≤ (i 0 : Nat) ∧ (i 0 : Nat) < win0_3.index _ 0 * 1024 + 1024
    rw [d0, ht]; omega
  | ⟨1, _⟩ =>
    show win0_3.index _ 1 * 1024 ≤ (i 1 : Nat) ∧ (i 1 : Nat) < win0_3.index _ 1 * 1024 + 1024
    rw [d1, ht]; omega

/-- The reference's product with the weight's rows. -/
theorem ref_eq (w : FVec Ideal S2048x2048 .f32) (d : FVec Ideal S1x4096x2048 .f32) :
    shapeCast Cert.OutInputRefIdeal.S4096x2048 (Host.dotGeneral Cert.OutInputRefIdeal.dot_S1x4096x2048_S2048x2048_S1x4096x2048_2_1_01_0_n_n none d w)
      Cert.OutInputRefIdeal.Facts₀.shapeCasts_S1x4096x2048_S4096x2048 = throughRows d w := by
  funext i
  exact (flat_read _ _ i).trans (batchCols_read Cert.OutInputRefIdeal.Gen.dot_S1x4096x2048_S2048x2048_S1x4096x2048_2_1_01_0_n_n_wf d w (ix3 (0 : Fin 1) (i 0) (i 1)))

/-- The kernel and the reference compute the same array. -/
theorem algebraic : Cert.algebraic_OutInputIdeal_OutInputRefIdeal := by
  intro m g m' g' _ hm
  refine ⟨fun c => throughRows (m ((c : Thread nD τ).loc main_arg1)) (m ((c : Thread nD τ).loc main_arg0)), ?_, ?_⟩
  · exact (θ_run defs _ _).mono (fun _ h c => ⟨(h c).1.trans ((dats m 0 c).arrAt_eq_of_cover 3 _ (fun t _ => flushed_eq m c t) cover),
      (h c).2⟩) (run_blocks m g)
  · refine (θ_run Cert.OutInputRefIdeal.defs _ _).mono (fun _ h c => ⟨(h c).1.trans ?_, (h c).2⟩)
      (Cert.OutInputRefIdeal.Value.run m' g')
    rw [(hm c).1, (hm c).2]
    exact ref_eq _ _

end Cert.OutInputIdeal.Value

end
-- ==== Proof.OutWeight.lean ====
/- The gradient of half the output projection's weight, the rows of 1024 mixed features: each block the kernel writes back
   is a block of the product of these features and the incoming gradient over the 4096 positions. -/
module

public import proofs.«01_k».proof.Proof.Products
public import proofs.«01_k».proof.Defs
public import proofs.«01_k».proof.Proof.Gen.OutWeightIdeal.Value
public import proofs.«01_k».proof.Proof.Gen.OutWeightRefIdeal.Run

@[expose] public section

set_option maxRecDepth 16384

noncomputable section

namespace Cert.OutWeightIdeal.Value

open Cert.OutWeightIdeal Cert.OutWeightIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The body's product at an index. -/
theorem pay_apply (x0 : Vec Ideal S4096x1024 .bf16) (x1 : Vec Ideal S4096x512 .bf16) (j : S1024x512.Idx) :
    (k0_pay1 x0 x1 j : EReal) = ∑ k : Fin 4096, (x0 (ix2 k (j 0)) : EReal) * x1 (ix2 k (j 1)) := by
  unfold k0_pay1
  rw [shapeCast_self, shapeCast_self]
  exact (rows_read dot_S4096x1024_S4096x512_S1024x512_0_0_1_1_n_n_wf x0 x1 (fun _ => Ideal.ofBits .f32 0x00000000#32) j).trans
    (zero_acc _)

/-- The blocks a point reads and writes. -/
theorem index_facts : ∀ t : Fin cfg0.N, win0_0.index t 0 = 0 ∧ win0_0.index t 1 = 0
    ∧ win0_1.index t 0 = 0 ∧ win0_1.index t 1 = t.val
    ∧ win0_2.index t 0 = 0 ∧ win0_2.index t 1 = t.val := by
  decide +kernel

/-- The mixed features as the kernel finds them, -/
theorem mix_apply (c : Dev nD) (i : S4096x1024.Idx) :
    (V m c main_v1 i : EReal) = (m ((c : Thread nD τ).loc main_arg0) (ix3 0 (i 0) (i 1)) : EReal) := by
  have e : V m c main_v1 = (truncf (F := Ideal) .bf16 (shapeCast S4096x1024 (m ((c : Thread nD τ).loc main_arg0))
      shapeCasts_S1x4096x1024_S4096x1024) bitsLt_bf16_f32 : FVec Ideal S4096x1024 .bf16) := by
    show StableHlo.after hostOps0 (fun b => m (c, b)) (Proc.devRef .tc main_v1) = _
    after_results
    rfl
  rw [e]; exact flat_read _ _ i

/-- and the incoming gradient. -/
theorem dx_apply (c : Dev nD) (i : S4096x2048.Idx) :
    (V m c main_v3 i : EReal) = (m ((c : Thread nD τ).loc main_arg1) (ix3 0 (i 0) (i 1)) : EReal) := by
  have e : V m c main_v3 = (truncf (F := Ideal) .bf16 (shapeCast S4096x2048 (m ((c : Thread nD τ).loc main_arg1))
      shapeCasts_S1x4096x2048_S4096x2048) bitsLt_bf16_f32 : FVec Ideal S4096x2048 .bf16) := by
    show StableHlo.after hostOps0 (fun b => m (c, b)) (Proc.devRef .tc main_v3) = _
    after_results
    rfl
  rw [e]; exact flat_read _ _ i

/-- What point `t` writes back is block `t` of the gradient. -/
theorem flushed_eq (c : Dev nD) (t : Fin cfg0.N) :
    (dats m 0 c).flushed 2 t = (win0_2.blk t).view.read (Elt Ideal)
      (overPositions (m ((c : Thread nD τ).loc main_arg0)) (m ((c : Thread nD τ).loc main_arg1))) := by
  rw [flushed2]
  show (cfg0.win 2).cut (grid0.coords t) (out0_2 (iblk m c 0 t) (iblk m c 1 t)) = _
  unfold out0_2
  rw [View.canon_unit_zero origin, View.ld_unit_zero origin, View.ld_unit_zero origin]
  obtain ⟨a0, a1, b0, b1, d0, d1⟩ := index_facts t
  funext y
  show _ = overPositions _ _ ((win0_2.rect t).emb y)
  unfold overPositions
  refine (pay_apply _ _ _).trans (Finset.sum_congr rfl fun k _ => congrArg₂ (· * ·) ?_ ?_)
  · refine Eq.trans ?_ (mix_apply m c (ix2 k _))
    refine congrArg (V m c main_v1) (funext fun a => Fin.ext ?_)
    match a with
    | ⟨0, _⟩ => exact win0_0.rect_emb_val_of_index_zero t 0 a0 _
    | ⟨1, _⟩ => exact (win0_0.rect_emb_val t _ 1).trans ((congrArg (· * 1024 + _) (a1.trans d0.symm)).trans (win0_2.rect_emb_val t y 0).symm)
  · refine Eq.trans ?_ (dx_apply m c (ix2 k _))
    refine congrArg (V m c main_v3) (funext fun a => Fin.ext ?_)
    match a with
    | ⟨0, _⟩ => exact win0_1.rect_emb_val_of_index_zero t 0 b0 _
    | ⟨1, _⟩ => exact (win0_1.rect_emb_val t _ 1).trans ((congrArg (· * 512 + _) (b1.trans d1.symm)).trans (win0_2.rect_emb_val t y 1).symm)

/-- The blocks of 512 columns cover the result. -/
theorem cover (i : S1024x2048.Idx) :
    ∃ t : Fin cfg0.N, (cfg0.win 2).flush t = true ∧ i ∈ ((cfg0.win 2).blk t).view.set := by
  have h0 : (i 0 : Nat) < 1024 := (i 0).isLt
  have h1 : (i 1 : Nat) < 2048 := (i 1).isLt
  have hN : cfg0.N = 4 := N_0
  obtain ⟨t, ht⟩ : ∃ t : Fin cfg0.N, t.val = (i 1 : Nat) / 512 := ⟨⟨_, by omega⟩, rfl⟩
  refine ⟨t, flush0_2 t, ?_⟩
  obtain ⟨-, -, -, -, d0, d1⟩ := index_facts t
  show i ∈ ((View.whole main_v4).slice (win0_2.rect t)).set
  rw [View.set_slice_whole, Rect.mem_set_unit]
  intro a
  match a with
  | ⟨0, _⟩ =>
    show win0_2.index _ 0 * 1024 ≤ (i 0 : Nat) ∧ (i 0 : Nat) < win0_2.index _ 0 * 1024 + 1024
    rw [d0]; omega
  | ⟨1, _⟩ =>
    show win0_2.index _ 1 * 512 ≤ (i 1 : Nat) ∧ (i 1 : Nat) < win0_2.index _ 1 * 512 + 512
    rw [d1, ht]; omega

/-- The reference's result: the product over the positions, transposed. -/
theorem ref_eq (mix : FVec Ideal S1x4096x1024 .f32) (dx : FVec Ideal S1x4096x2048 .f32) :
    truncf .bf16 (transpose Cert.OutWeightRefIdeal.S1024x2048 [1, 0]
      (Host.dotGeneral Cert.OutWeightRefIdeal.dot_S1x4096x2048_S1x4096x1024_S2048x1024_01_01_2_2_n_n none dx mix)
      Cert.OutWeightRefIdeal.Facts₀.transposes_S2048x1024_S1024x2048_1_0) Cert.OutWeightRefIdeal.Facts₀.bitsLt_bf16_f32
    = overPositions mix dx := by
  funext i
  exact (turn_read _ _ i).trans ((batchRows_read _ _ _ _).trans (Finset.sum_congr rfl fun k _ => mul_comm _ _))

/-- The kernel and the reference compute the same array. -/
theorem algebraic : Cert.algebraic_OutWeightIdeal_OutWeightRefIdeal := by
  intro m g m' g' _ hm
  refine ⟨fun c => overPositions (m ((c : Thread nD τ).loc main_arg0)) (m ((c : Thread nD τ).loc main_arg1)), ?_, ?_⟩
  · exact (θ_run defs _ _).mono (fun _ h c => ⟨(h c).1.trans ((dats m 0 c).arrAt_eq_of_cover 2 _ (fun t _ => flushed_eq m c t) cover),
      (h c).2⟩) (run_blocks m g)
  · refine (θ_run Cert.OutWeightRefIdeal.defs _ _).mono (fun _ h c => ⟨(h c).1.trans ?_, (h c).2⟩)
      (Cert.OutWeightRefIdeal.Value.run m' g')
    rw [(hm c).1, (hm c).2]
    exact ref_eq _ _

end Cert.OutWeightIdeal.Value

end
-- ==== Proof.Act.lean ====
/- The forward arrays of the gated activation that the backward pass reads: the activation's slope in the up projection, its
   slope in the gate, and the activation itself. The kernel forms the slopes from the logistic function; the reference
   differentiates the gated product. On real numbers the two agree. -/
module

public import proofs.«01_k».proof.Proof.Products
public import proofs.«01_k».proof.Proof.Gate
public import proofs.«01_k».proof.Proof.Gen.Pre_finite_act
public import proofs.«01_k».proof.Defs
public import proofs.«01_k».proof.Proof.Gen.ActIdeal.Value
public import proofs.«01_k».proof.Proof.Gen.ActRefIdeal.Run

@[expose] public section

set_option maxRecDepth 16384

noncomputable section

namespace Cert.ActIdeal.Value

open Cert.ActIdeal Cert.ActIdeal.Gen Idealize.ShloMosaic Idealize.ShloMosaic.TcCoe Idealize.SL.Sem
open Idealize.ShloMosaic.ValueIdx Cert.Reading
open Cert.GateIdeal.Value (one logistic slope act logistic_real slope_real)
open Idealize.ShloMosaic.Pipeline (Dat)

variable (m : (ℓ : Loc nD τ sig) → Buf (Elt Ideal) ℓ)

/-- The three arrays, of the gate's and the up projection's products. -/
def upSlope (h : S1x4096x2048.Idx → EReal) (wg : S2048x5632.Idx → EReal) (i : S4096x5632.Idx) : EReal := act (throughCols h wg i)
def gateSlope (h : S1x4096x2048.Idx → EReal) (wg wu : S2048x5632.Idx → EReal) (i : S4096x5632.Idx) : EReal :=
  slope (throughCols h wg i) (throughCols h wu i)
def gated (h : S1x4096x2048.Idx → EReal) (wg wu : S2048x5632.Idx → EReal) (i : S4096x5632.Idx) : EReal :=
  act (throughCols h wg i) * throughCols h wu i

/-- A block of rows and a block of columns multiplied, at an index. -/
def part (x : S1024x2048.Idx → EReal) (w : S512x2048.Idx → EReal) (j : S1024x512.Idx) : EReal :=
  ∑ q : Fin 2048, x (ix2 (j 0) q) * w (ix2 (j 1) q)

/-- The body's products and its logistic function at an index, -/
theorem gate_apply (x0 : Vec Ideal S1024x2048 .bf16) (x1 : Vec Ideal S512x2048 .bf16) (j : S1024x512.Idx) :
    (k0_pay2 x0 x1 j : EReal) = part x0 x1 j := by
  unfold k0_pay2 k0_pay1
  rw [shapeCast_self, shapeCast_self]
  exact (cols_read dot_S1024x2048_S512x2048_S1024x512_1_1_0_0_n_n_wf x0 x1 (fun _ => Ideal.ofBits .f32 0x00000000#32) j).trans
    (zero_acc _)

theorem up_apply (x0 : Vec Ideal S1024x2048 .bf16) (x2 : Vec Ideal S512x2048 .bf16) (j : S1024x512.Idx) :
    (k0_pay3 x0 x2 j : EReal) = part x0 x2 j := gate_apply x0 x2 j

theorem logistic_apply (x0 : Vec Ideal S1024x2048 .bf16) (x1 : Vec Ideal S512x2048 .bf16) (j : S1024x512.Idx) :
    (k0_pay4 x0 x1 j : EReal) = logistic (part x0 x1 j) := by
  have e : (k0_pay4 x0 x1 j : EReal) = Ideal.div one (one + Ideal.exp (Ideal.ofBits .f32 0x00000000#32 - (k0_pay2 x0 x1 j : EReal))) := rfl
  rw [e, gate_apply, Ideal.ofBits_zero_f32, zero_sub]; rfl

/-- and what it stores. -/
theorem upSlope_apply (x0 : Vec Ideal S1024x2048 .bf16) (x1 : Vec Ideal S512x2048 .bf16) (j : S1024x512.Idx) :
    (k0_pay6 x0 x1 j : EReal) = act (part x0 x1 j) := by
  have e : (k0_pay6 x0 x1 j : EReal) = (k0_pay2 x0 x1 j : EReal) * (k0_pay4 x0 x1 j : EReal) := rfl
  rw [e, gate_apply, logistic_apply]; rfl

theorem gateSlope_apply (x0 : Vec Ideal S1024x2048 .bf16) (x1 x2 : Vec Ideal S512x2048 .bf16) (j : S1024x512.Idx) :
    (k0_pay7 x0 x1 x2 j : EReal) = slope (part x0 x1 j) (part x0 x2 j) := by
  have e : (k0_pay7 x0 x1 x2 j : EReal) = (k0_pay3 x0 x2 j : EReal) * ((k0_pay4 x0 x1 j : EReal)
      * (one + (k0_pay2 x0 x1 j : EReal) * (one - (k0_pay4 x0 x1 j : EReal)))) := rfl
  rw [e, gate_apply, logistic_apply, up_apply]; rfl

theorem gated_apply (x0 : Vec Ideal S1024x2048 .bf16) (x1 x2 : Vec Ideal S512x2048 .bf16) (j : S1024x512.Idx) :
    (k0_pay8 x0 x1 x2 j : EReal) = act (part x0 x1 j) * part x0 x2 j := by
  have e : (k0_pay8 x0 x1 x2 j : EReal) = (k0_pay6 x0 x1 j : EReal) * (k0_pay3 x0 x2 j : EReal) := rfl
  rw [e, upSlope_apply, up_apply]

/-- The blocks a point reads and writes. -/
theorem index_facts : ∀ t : Fin cfg0.N, win0_0.index t 0 = t.val / 11 ∧ win0_0.index t 1 = 0
    ∧ win0_1.index t 0 = t.val % 11 ∧ win0_1.index t 1 = 0
    ∧ win0_2.index t 0 = t.val % 11 ∧ win0_2.index t 1 = 0
    ∧ win0_3.index t 0 = t.val / 11 ∧ win0_3.index t 1 = t.val % 11 := by
  decide +kernel

/-- The normalised input as the kernel finds it, -/
theorem h_apply (c : Dev nD) (i : S4096x2048.Idx) :
    (V m c main_v1 i : EReal) = (m ((c : Thread nD τ).loc main_arg0) (ix3 0 (i 0) (i 1)) : EReal) := by
  have e : V m c main_v1 = (truncf (F := Ideal) .bf16 (shapeCast S4096x2048 (m ((c : Thread nD τ).loc main_arg0))
      shapeCasts_S1x4096x2048_S4096x2048) bitsLt_bf16_f32 : FVec Ideal S4096x2048 .bf16) := by
    show StableHlo.after hostOps0 (fun b => m (c, b)) (Proc.devRef .tc main_v1) = _
    after_results
    rfl
  rw [e]; exact flat_read _ _ i

/-- the gate's weight, turned, -/
theorem wg_apply (c : Dev nD) (i : S5632x2048.Idx) :
    (V m c main_v3 i : EReal) = (m ((c : Thread nD τ).loc main_arg1) (ix2 (i 1) (i 0)) : EReal) := by
  have e : V m c main_v3 = (truncf (F := Ideal) .bf16 (transpose S5632x2048 [1, 0] (m ((c : Thread nD τ).loc main_arg1))
      transposes_S2048x5632_S5632x2048_1_0) bitsLt_bf16_f32 : FVec Ideal S5632x2048 .bf16) := by
    show StableHlo.after hostOps0 (fun b => m (c, b)) (Proc.devRef .tc main_v3) = _
    after_results
    try rfl
  rw [e]; exact turn_read _ _ i

/-- and the up projection's. -/
theorem wu_apply (c : Dev nD) (i : S5632x2048.Idx) :
    (V m c main_v5 i : EReal) = (m ((c : Thread nD τ).loc main_arg2) (ix2 (i 1) (i 0)) : EReal) := by
  have e : V m c main_v5 = (truncf (F := Ideal) .bf16 (transpose S5632x2048 [1, 0] (m ((c : Thread nD τ).loc main_arg2))
      transposes_S2048x5632_S5632x2048_1_0) bitsLt_bf16_f32 : FVec Ideal S5632x2048 .bf16) := by
    show StableHlo.after hostOps0 (fun b => m (c, b)) (Proc.devRef .tc main_v5) = _
    after_results
    try rfl
  rw [e]; exact turn_read _ _ i

/-- A point's block of the gate's product -/
theorem gate_part (c : Dev nD) (t : Fin cfg0.N) (y : ((cfg0.win 3).xblock (grid0.coords t)).Idx) :
    part (iblk m c 0 t) (iblk m c 1 t) y = throughCols (m ((c : Thread nD τ).loc main_arg0)) (m ((c : Thread nD τ).loc main_arg1)) ((win0_3.rect t).emb y) := by
  obtain ⟨a0, a1, b0, b1, b0', b1', d0, d1⟩ := index_facts t
  refine Finset.sum_congr rfl fun k _ => congrArg₂ (· * ·) ?_ ?_
  · refine Eq.trans ?_ (h_apply m c (ix2 ((win0_3.rect t).emb y 0) k))
    refine congrArg (V m c main_v1) (funext fun a => Fin.ext ?_)
    match a with
    | ⟨0, _⟩ => exact (win0_0.rect_emb_val t _ 0).trans ((congrArg (· * 1024 + _) (a0.trans d0.symm)).trans (win0_3.rect_emb_val t y 0).symm)
    | ⟨1, _⟩ => exact win0_0.rect_emb_val_of_index_zero t 1 a1 _
  · refine Eq.trans ?_ (wg_apply m c (ix2 ((win0_3.rect t).emb y 1) k))
    refine congrArg (V m c main_v3) (funext fun a => Fin.ext ?_)
    match a with
    | ⟨0, _⟩ => exact (win0_1.rect_emb_val t _ 0).trans ((congrArg (· * 512 + _) (b0.trans d1.symm)).trans (win0_3.rect_emb_val t y 1).symm)
    | ⟨1, _⟩ => exact win0_1.rect_emb_val_of_index_zero t 1 b1 _

/-- and of the up projection's. -/
theorem up_part (c : Dev nD) (t : Fin cfg0.N) (y : ((cfg0.win 3).xblock (grid0.coords t)).Idx) :
    part (iblk m c 0 t) (iblk m c 2 t) y = throughCols (m ((c : Thread nD τ).loc main_arg0)) (m ((c : Thread nD τ).loc main_arg2)) ((win0_3.rect t).emb y) := by
  obtain ⟨a0, a1, b0, b1, b0', b1', d0, d1⟩ := index_facts t
  refine Finset.sum_congr rfl fun k _ => congrArg₂ (· * ·) ?_ ?_
  · refine Eq.trans ?_ (h_apply m c (ix2 ((win0_3.rect t).emb y 0) k))
    refine congrArg (V m c main_v1) (funext fun a => Fin.ext ?_)
    match a with
    | ⟨0, _⟩ => exact (win0_0.rect_emb_val t _ 0).trans ((congrArg (· * 1024 + _) (a0.trans d0.symm)).trans (win0_3.rect_emb_val t y 0).symm)
    | ⟨1, _⟩ => exact win0_0.rect_emb_val_of_index_zero t 1 a1 _
  · refine Eq.trans ?_ (wu_apply m c (ix2 ((win0_3.rect t).emb y 1) k))
    refine congrArg (V m c main_v5) (funext fun a => Fin.ext ?_)
    match a with
    | ⟨0, _⟩ => exact (win0_2.rect_emb_val t _ 0).trans ((congrArg (· * 512 + _) (b0'.trans d1.symm)).trans (win0_3.rect_emb_val t y 1).symm)
    | ⟨1, _⟩ => exact win0_2.rect_emb_val_of_index_zero t 1 b1' _

/-- What point `t` writes back is block `t` of the slope in the up projection, -/
theorem flushed_upSlope (c : Dev nD) (t : Fin cfg0.N) :
    (dats m 0 c).flushed 3 t = (win0_3.blk t).view.read (Elt Ideal) (upSlope (m ((c : Thread nD τ).loc main_arg0)) (m ((c : Thread nD τ).loc main_arg1))) := by
  rw [flushed3]
  show (cfg0.win 3).cut (grid0.coords t) (out0_3 (iblk m c 0 t) (iblk m c 1 t) (iblk m c 2 t)) = _
  unfold out0_3
  rw [View.canon_unit_zero origin, View.ld_unit_zero origin, View.ld_unit_zero origin]
  funext y
  show _ = upSlope _ _ ((win0_3.rect t).emb y)
  exact (upSlope_apply _ _ _).trans (congrArg act (gate_part m c t y))

/-- of the slope in the gate, -/
theorem flushed_gateSlope (c : Dev nD) (t : Fin cfg0.N) :
    (dats m 0 c).flushed 4 t = (win0_4.blk t).view.read (Elt Ideal) (gateSlope (m ((c : Thread nD τ).loc main_arg0)) (m ((c : Thread nD τ).loc main_arg1))
      (m ((c : Thread nD τ).loc main_arg2))) := by
  rw [flushed4]
  show (cfg0.win 4).cut (grid0.coords t) (out0_4 (iblk m c 0 t) (iblk m c 1 t) (iblk m c 2 t)) = _
  unfold out0_4
  rw [View.canon_unit_zero origin, View.ld_unit_zero origin, View.ld_unit_zero origin, View.ld_unit_zero origin]
  funext y
  show _ = gateSlope _ _ _ ((win0_3.rect t).emb y)
  exact (gateSlope_apply _ _ _ _).trans (congrArg₂ slope (gate_part m c t y) (up_part m c t y))

/-- and of the gated activation. -/
theorem flushed_gated (c : Dev nD) (t : Fin cfg0.N) :
    (dats m 0 c).flushed 5 t = (win0_5.blk t).view.read (Elt Ideal) (gated (m ((c : Thread nD τ).loc main_arg0)) (m ((c : Thread nD τ).loc main_arg1))
      (m ((c : Thread nD τ).loc main_arg2))) := by
  rw [flushed5]
  show (cfg0.win 5).cut (grid0.coords t) (out0_5 (iblk m c 0 t) (iblk m c 1 t) (iblk m c 2 t)) = _
  unfold out0_5
  rw [View.canon_unit_zero origin, View.ld_unit_zero origin, View.ld_unit_zero origin, View.ld_unit_zero origin]
  funext y
  show _ = gated _ _ _ ((win0_3.rect t).emb y)
  exact (gated_apply _ _ _ _).trans (congrArg₂ (fun a b => act a * b) (gate_part m c t y) (up_part m c t y))

/-- The blocks of 1024 rows and 512 columns cover each result. -/
theorem cover_upSlope (i : S4096x5632.Idx) :
    ∃ t : Fin cfg0.N, (cfg0.win 3).flush t = true ∧ i ∈ ((cfg0.win 3).blk t).view.set := by
  have h0 : (i 0 : Nat) < 4096 := (i 0).isLt
  have h1 : (i 1 : Nat) < 5632 := (i 1).isLt
  have hN : cfg0.N = 44 := N_0
  obtain ⟨t, ht⟩ : ∃ t : Fin cfg0.N, t.val = (i 0 : Nat) / 1024 * 11 + (i 1 : Nat) / 512 := ⟨⟨_, by omega⟩, rfl⟩
  refine ⟨t, flush0_3 t, ?_⟩
  obtain ⟨-, -, -, -, -, -, d0, d1⟩ := index_facts t
  show i ∈ ((View.whole main_v6_0).slice (win0_3.rect t)).set
  rw [View.set_slice_whole, Rect.mem_set_unit]
  intro a
  match a with
  | ⟨0, _⟩ =>
    show win0_3.index _ 0 * 1024 ≤ (i 0 : Nat) ∧ (i 0 : Nat) < win0_3.index _ 0 * 1024 + 1024
    rw [d0, ht]; omega
  | ⟨1, _⟩ =>
    show win0_3.index _ 1 * 512 ≤ (i 1 : Nat) ∧ (i 1 : Nat) < win0_3.index _ 1 * 512 + 512
    rw [d1, ht]; omega

theorem cover_gateSlope (i : S4096x5632.Idx) :
    ∃ t : Fin cfg0.N, (cfg0.win 4).flush t = true ∧ i ∈ ((cfg0.win 4).blk t).view.set := by
  obtain ⟨t, -, ht⟩ := cover_upSlope i
  exact ⟨t, flush0_4 t, ht⟩

theorem cover_gated (i : S4096x5632.Idx) :
    ∃ t : Fin cfg0.N, (cfg0.win 5).flush t = true ∧ i ∈ ((cfg0.win 5).blk t).view.set := by
  obtain ⟨t, -, ht⟩ := cover_upSlope i
  exact ⟨t, flush0_5 t, ht⟩

/-- The product of real arrays is real. -/
theorem through_real (h : S1x4096x2048.Idx → EReal) (w : S2048x5632.Idx → EReal) (hh : ∀ i, ∃ r : ℝ, h i = r)
    (hw : ∀ i, ∃ r : ℝ, w i = r) (i : S4096x5632.Idx) : ∃ r : ℝ, throughCols h w i = r := by
  choose x hx using hh
  choose v hv using hw
  refine ⟨∑ q : Fin 2048, x (ix3 (0 : Fin 1) (i 0) q) * v (ix2 q (i 1)), ?_⟩
  unfold throughCols
  rw [← coe_sum]
  exact Finset.sum_congr rfl fun q _ => by rw [hx, hv, EReal.coe_mul]

/-- The reference's products at an index. -/
theorem ref_through (h : FVec Ideal S1x4096x2048 .f32) (w : FVec Ideal S2048x5632 .f32) (i : S4096x5632.Idx) :
    (Host.dotGeneral Cert.ActRefIdeal.dot_S1x4096x2048_S2048x5632_S1x4096x5632_2_0_01_1_n_n none h w
      (ix3 (0 : Fin 1) (i 0) (i 1)) : EReal) = throughCols h w i :=
  batchPlain_read Cert.ActRefIdeal.Gen.dot_S1x4096x2048_S2048x5632_S1x4096x5632_2_0_01_1_n_n_wf h w (ix3 (0 : Fin 1) (i 0) (i 1))

/-- The precondition: every argument array has only real numbers. -/
theorem pre_real (h : FVec Ideal S1x4096x2048 .f32) (wg wu : FVec Ideal S2048x5632 .f32)
    (hp : Cert.Pre_finite_act.fn (F := Ideal) h wg wu = fun _ => 1#1) :
    (∀ i, ∃ r : ℝ, (h i : EReal) = r) ∧ (∀ i, ∃ r : ℝ, (wg i : EReal) = r) ∧ ∀ i, ∃ r : ℝ, (wu i : EReal) = r := by
  have h0 := congrFun hp (fun a => a.elim0)
  unfold Cert.Pre_finite_act.fn at h0
  obtain ⟨h1, hu⟩ := IntOp.andi_eq_one.1 h0
  obtain ⟨hh, hg⟩ := IntOp.andi_eq_one.1 h1
  haveI : Subsingleton Cert.Pre_finite_act.S_.Idx := ⟨fun a b => funext fun k => k.elim0⟩
  exact ⟨real_of_all _ _ _ _ _ _ _ hh, real_of_all _ _ _ _ _ _ _ hg, real_of_all _ _ _ _ _ _ _ hu⟩

/-- One is a real number. -/
theorem one_real : one = ((1 : ℝ) : EReal) := by unfold one; rw [Ideal.ofBits_one_f32, EReal.coe_one]

/-- The reference's slope in the gate is the kernel's on real numbers. -/
theorem ref_slope {g u : EReal} (hg : ∃ r : ℝ, g = r) (hu : ∃ r : ℝ, u = r) :
    (one * u) * logistic g + (g * (one * u)) * (logistic g * (one - logistic g)) = slope g u := by
  obtain ⟨g, rfl⟩ := hg
  obtain ⟨u, rfl⟩ := hu
  have k := slope_real 1 g u
  rw [← one_real] at k
  rw [k, one_real, EReal.coe_one, one_mul]

/-- The kernel and the reference compute the same arrays of finite arguments. -/
theorem algebraic : Cert.algebraic_ActIdeal_ActRefIdeal_pre_finite_act := by
  intro m g m' g' hp hm
  refine ⟨fun c => upSlope (m ((c : Thread nD τ).loc main_arg0)) (m ((c : Thread nD τ).loc main_arg1)),
    fun c => gateSlope (m ((c : Thread nD τ).loc main_arg0)) (m ((c : Thread nD τ).loc main_arg1)) (m ((c : Thread nD τ).loc main_arg2)),
    fun c => gated (m ((c : Thread nD τ).loc main_arg0)) (m ((c : Thread nD τ).loc main_arg1)) (m ((c : Thread nD τ).loc main_arg2)), ?_, ?_⟩
  · exact (θ_run defs _ _).mono (fun _ h c => ⟨(h c).1.trans ((dats m 0 c).arrAt_eq_of_cover 3 _ (fun t _ => flushed_upSlope m c t) cover_upSlope),
      (h c).2.1.trans ((dats m 0 c).arrAt_eq_of_cover 4 _ (fun t _ => flushed_gateSlope m c t) cover_gateSlope),
      (h c).2.2.1.trans ((dats m 0 c).arrAt_eq_of_cover 5 _ (fun t _ => flushed_gated m c t) cover_gated), (h c).2.2.2⟩) (run_blocks m g)
  · refine (θ_run Cert.ActRefIdeal.defs _ _).mono (fun _ h c => ⟨(h c).1.trans ?_, (h c).2.1.trans ?_, (h c).2.2.1.trans ?_, (h c).2.2.2⟩)
      (Cert.ActRefIdeal.Value.run m' g')
    · rw [(hm c).1, (hm c).2.1]
      funext i
      refine (trunc_flat _ Cert.ActRefIdeal.Gen.shapeCasts_S1x4096x5632_S4096x5632 Cert.ActRefIdeal.Gen.bitsLt_bf16_f32 i).trans ?_
      refine Eq.trans ?_ (congrArg act (ref_through (m ((c : Thread nD τ).loc main_arg0)) (m ((c : Thread nD τ).loc main_arg1)) i))
      refine Eq.trans (congrArg (_ * ·) one_real) ?_
      rw [EReal.coe_one, mul_one]; rfl
    · rw [(hm c).1, (hm c).2.1, (hm c).2.2]
      obtain ⟨hh, hg, hu⟩ := pre_real _ _ _ (hp c)
      funext i
      refine (trunc_flat _ Cert.ActRefIdeal.Gen.shapeCasts_S1x4096x5632_S4096x5632 Cert.ActRefIdeal.Gen.bitsLt_bf16_f32 i).trans ?_
      have k := ref_slope (through_real _ _ hh hg i) (through_real _ _ hh hu i)
      rw [← ref_through (m ((c : Thread nD τ).loc main_arg0)) (m ((c : Thread nD τ).loc main_arg1)) i, ← ref_through (m ((c : Thread nD τ).loc main_arg0)) (m ((c : Thread nD τ).loc main_arg2)) i] at k
      refine Eq.trans ?_ (k.trans ?_)
      · rfl
      · exact congrArg₂ slope (ref_through (m ((c : Thread nD τ).loc main_arg0)) (m ((c : Thread nD τ).loc main_arg1)) i) (ref_through (m ((c : Thread nD τ).loc main_arg0)) (m ((c : Thread nD τ).loc main_arg2)) i)
    · rw [(hm c).1, (hm c).2.1, (hm c).2.2]
      funext i
      refine (trunc_flat _ Cert.ActRefIdeal.Gen.shapeCasts_S1x4096x5632_S4096x5632 Cert.ActRefIdeal.Gen.bitsLt_bf16_f32 i).trans ?_
      exact congrArg₂ (fun a b => act a * b) (ref_through (m ((c : Thread nD τ).loc main_arg0)) (m ((c : Thread nD τ).loc main_arg1)) i) (ref_through (m ((c : Thread nD τ).loc main_arg0)) (m ((c : Thread nD τ).loc main_arg2)) i)

end Cert.ActIdeal.Value

end
-- ==== Proof.Mixed.lean ====
/- The feed-forward down projection added to the residual: each block the kernel writes back is a block of the residual plus
   the product of the activations with the columns of the projection's weight. -/
module

public import proofs.«01_k».proof.Proof.Products
public import proofs.«01_k».proof.Defs
public import proofs.«01_k».proof.Proof.Gen.MixedIdeal.Value
public import proofs.«01_k».proof.Proof.Gen.MixedRefIdeal.Run

@[expose] public section

set_option maxRecDepth 16384

noncomputable section

namespace Cert.MixedIdeal.Value

open Cert.MixedIdeal Cert.MixedIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The residual plus the projected activations. -/
def joined (x : S1x4096x2048.Idx → EReal) (ff : S1x4096x5632.Idx → EReal) (w : S5632x2048.Idx → EReal) (i : S4096x2048.Idx) : EReal :=
  x (ix3 (0 : Fin 1) (i 0) (i 1)) + throughCols ff w i

/-- The body's result at an index. -/
theorem pay_apply (x0 : Vec Ideal S1024x5632 .bf16) (x1 : Vec Ideal S5632x512 .bf16) (x2 : Vec Ideal S1024x512 .f32)
    (j : S1024x512.Idx) :
    (k0_pay1 x0 x1 x2 j : EReal) = (x2 j : EReal) + ∑ k : Fin 5632, (x0 (ix2 (j 0) k) : EReal) * x1 (ix2 k (j 1)) := by
  unfold k0_pay1
  rw [shapeCast_self, shapeCast_self, shapeCast_self]
  exact congrArg ((x2 j : EReal) + ·) ((plain_read dot_S1024x5632_S5632x512_S1024x512_1_0_0_1_n_n_wf x0 x1 (fun _ => Ideal.ofBits .f32 0x00000000#32) j).trans
    (zero_acc _))

/-- The blocks a point reads and writes. -/
theorem index_facts : ∀ t : Fin cfg0.N, win0_0.index t 0 = t.val / 4 ∧ win0_0.index t 1 = 0
    ∧ win0_1.index t 0 = 0 ∧ win0_1.index t 1 = t.val % 4
    ∧ win0_2.index t 0 = t.val / 4 ∧ win0_2.index t 1 = t.val % 4
    ∧ win0_3.index t 0 = t.val / 4 ∧ win0_3.index t 1 = t.val % 4 := by
  decide +kernel

/-- The residual as the kernel finds it, -/
theorem x_apply (c : Dev nD) (i : S4096x2048.Idx) :
    (V m c main_v0 i : EReal) = (m ((c : Thread nD τ).loc main_arg0) (ix3 0 (i 0) (i 1)) : EReal) := by
  have e : V m c main_v0 = shapeCast S4096x2048 (m ((c : Thread nD τ).loc main_arg0)) shapeCasts_S1x4096x2048_S4096x2048 := by
    show StableHlo.after hostOps0 (fun b => m (c, b)) (Proc.devRef .tc main_v0) = _
    after_results
    try rfl
  rw [e]; exact flat_read _ _ i

/-- the activations, -/
theorem ff_apply (c : Dev nD) (i : S4096x5632.Idx) :
    (V m c main_v2 i : EReal) = (m ((c : Thread nD τ).loc main_arg1) (ix3 0 (i 0) (i 1)) : EReal) := by
  have e : V m c main_v2 = (truncf (F := Ideal) .bf16 (shapeCast S4096x5632 (m ((c : Thread nD τ).loc main_arg1))
      shapeCasts_S1x4096x5632_S4096x5632) bitsLt_bf16_f32 : FVec Ideal S4096x5632 .bf16) := by
    show StableHlo.after hostOps0 (fun b => m (c, b)) (Proc.devRef .tc main_v2) = _
    after_results
    rfl
  rw [e]; exact flat_read _ _ i

/-- and the weight. -/
theorem w_apply (c : Dev nD) (i : S5632x2048.Idx) :
    (V m c main_v3 i : EReal) = (m ((c : Thread nD τ).loc main_arg2) i : EReal) := by
  have e : V m c main_v3 = (truncf (F := Ideal) .bf16 (m ((c : Thread nD τ).loc main_arg2)) bitsLt_bf16_f32 : FVec Ideal S5632x2048 .bf16) := by
    show StableHlo.after hostOps0 (fun b => m (c, b)) (Proc.devRef .tc main_v3) = _
    after_results
    try rfl
  rw [e]; rfl

/-- What point `t` writes back is block `t` of the sum. -/
theorem flushed_eq (c : Dev nD) (t : Fin cfg0.N) :
    (dats m 0 c).flushed 3 t = (win0_3.blk t).view.read (Elt Ideal)
      (joined (m ((c : Thread nD τ).loc main_arg0)) (m ((c : Thread nD τ).loc main_arg1)) (m ((c : Thread nD τ).loc main_arg2))) := by
  rw [flushed3]
  show (cfg0.win 3).cut (grid0.coords t) (out0_3 (iblk m c 0 t) (iblk m c 1 t) (iblk m c 2 t)) = _
  unfold out0_3
  rw [View.canon_unit_zero origin, View.ld_unit_zero origin, View.ld_unit_zero origin, View.ld_unit_zero origin]
  obtain ⟨a0, a1, b0, b1, e0, e1, d0, d1⟩ := index_facts t
  funext y
  show _ = joined _ _ _ ((win0_3.rect t).emb y)
  unfold joined throughCols
  refine (pay_apply _ _ _ _).trans (congrArg₂ (· + ·) ?_ (Finset.sum_congr rfl fun k _ => congrArg₂ (· * ·) ?_ ?_))
  · refine Eq.trans ?_ (x_apply m c ((win0_3.rect t).emb y))
    refine congrArg (V m c main_v0) (funext fun a => Fin.ext ?_)
    match a with
    | ⟨0, _⟩ => exact (win0_2.rect_emb_val t _ 0).trans ((congrArg (· * 1024 + _) (e0.trans d0.symm)).trans (win0_3.rect_emb_val t y 0).symm)
    | ⟨1, _⟩ => exact (win0_2.rect_emb_val t _ 1).trans ((congrArg (· * 512 + _) (e1.trans d1.symm)).trans (win0_3.rect_emb_val t y 1).symm)
  · refine Eq.trans ?_ (ff_apply m c (ix2 ((win0_3.rect t).emb y 0) k))
    refine congrArg (V m c main_v2) (funext fun a => Fin.ext ?_)
    match a with
    | ⟨0, _⟩ => exact (win0_0.rect_emb_val t _ 0).trans ((congrArg (· * 1024 + _) (a0.trans d0.symm)).trans (win0_3.rect_emb_val t y 0).symm)
    | ⟨1, _⟩ => exact win0_0.rect_emb_val_of_index_zero t 1 a1 _
  · refine Eq.trans ?_ (w_apply m c (ix2 k ((win0_3.rect t).emb y 1)))
    refine congrArg (V m c main_v3) (funext fun a => Fin.ext ?_)
    match a with
    | ⟨0, _⟩ => exact win0_1.rect_emb_val_of_index_zero t 0 b0 _
    | ⟨1, _⟩ => exact (win0_1.rect_emb_val t _ 1).trans ((congrArg (· * 512 + _) (b1.trans d1.symm)).trans (win0_3.rect_emb_val t y 1).symm)

/-- The blocks of 1024 rows and 512 columns cover the result. -/
theorem cover (i : S4096x2048.Idx) :
    ∃ t : Fin cfg0.N, (cfg0.win 3).flush t = true ∧ i ∈ ((cfg0.win 3).blk t).view.set := by
  have h0 : (i 0 : Nat) < 4096 := (i 0).isLt
  have h1 : (i 1 : Nat) < 2048 := (i 1).isLt
  have hN : cfg0.N = 16 := N_0
  obtain ⟨t, ht⟩ : ∃ t : Fin cfg0.N, t.val = (i 0 : Nat) / 1024 * 4 + (i 1 : Nat) / 512 := ⟨⟨_, by omega⟩, rfl⟩
  refine ⟨t, flush0_3 t, ?_⟩
  obtain ⟨-, -, -, -, -, -, d0, d1⟩ := index_facts t
  show i ∈ ((View.whole main_v4).slice (win0_3.rect t)).set
  rw [View.set_slice_whole, Rect.mem_set_unit]
  intro a
  match a with
  | ⟨0, _⟩ =>
    show win0_3.index _ 0 * 1024 ≤ (i 0 : Nat) ∧ (i 0 : Nat) < win0_3.index _ 0 * 1024 + 1024
    rw [d0, ht]; omega
  | ⟨1, _⟩ =>
    show win0_3.index _ 1 * 512 ≤ (i 1 : Nat) ∧ (i 1 : Nat) < win0_3.index _ 1 * 512 + 512
    rw [d1, ht]; omega

/-- The reference's sum. -/
theorem ref_eq (x : FVec Ideal S1x4096x2048 .f32) (ff : FVec Ideal S1x4096x5632 .f32) (w : FVec Ideal S5632x2048 .f32) :
    shapeCast Cert.MixedRefIdeal.S4096x2048 (addf x
      (Host.dotGeneral Cert.MixedRefIdeal.dot_S1x4096x5632_S5632x2048_S1x4096x2048_2_0_01_1_n_n none ff w))
      Cert.MixedRefIdeal.Facts₀.shapeCasts_S1x4096x2048_S4096x2048 = joined x ff w := by
  funext i
  exact (flat_read _ _ i).trans (congrArg (x (ix3 (0 : Fin 1) (i 0) (i 1)) + ·)
    (batchPlain_read Cert.MixedRefIdeal.Gen.dot_S1x4096x5632_S5632x2048_S1x4096x2048_2_0_01_1_n_n_wf ff w (ix3 (0 : Fin 1) (i 0) (i 1))))

/-- The kernel and the reference compute the same array. -/
theorem algebraic : Cert.algebraic_MixedIdeal_MixedRefIdeal := by
  intro m g m' g' _ hm
  refine ⟨fun c => joined (m ((c : Thread nD τ).loc main_arg0)) (m ((c : Thread nD τ).loc main_arg1)) (m ((c : Thread nD τ).loc main_arg2)), ?_, ?_⟩
  · exact (θ_run defs _ _).mono (fun _ h c => ⟨(h c).1.trans ((dats m 0 c).arrAt_eq_of_cover 3 _ (fun t _ => flushed_eq m c t) cover),
      (h c).2⟩) (run_blocks m g)
  · refine (θ_run Cert.MixedRefIdeal.defs _ _).mono (fun _ h c => ⟨(h c).1.trans ?_, (h c).2⟩)
      (Cert.MixedRefIdeal.Value.run m' g')
    rw [(hm c).1, (hm c).2.1, (hm c).2.2]
    exact ref_eq _ _ _

end Cert.MixedIdeal.Value

end
-- ==== Proof.Project.lean ====
/- The input projection: each block the kernel writes back is a block of the product of the normalised input with the
   columns of the projection's weight, which the kernel is given turned. -/
module

public import proofs.«01_k».proof.Proof.Products
public import proofs.«01_k».proof.Defs
public import proofs.«01_k».proof.Proof.Gen.ProjectIdeal.Value
public import proofs.«01_k».proof.Proof.Gen.ProjectRefIdeal.Run

@[expose] public section

set_option maxRecDepth 16384

noncomputable section

namespace Cert.ProjectIdeal.Value

open Cert.ProjectIdeal Cert.ProjectIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The body's product at an index. -/
theorem pay_apply (x0 : Vec Ideal S1024x2048 .bf16) (x1 : Vec Ideal S1024x2048 .bf16) (j : S1024x1024.Idx) :
    (k0_pay1 x0 x1 j : EReal) = ∑ k : Fin 2048, (x0 (ix2 (j 0) k) : EReal) * x1 (ix2 (j 1) k) := by
  unfold k0_pay1
  rw [shapeCast_self, shapeCast_self]
  exact (cols_read dot_S1024x2048_S1024x2048_S1024x1024_1_1_0_0_n_n_wf x0 x1 (fun _ => Ideal.ofBits .f32 0x00000000#32) j).trans
    (zero_acc _)

/-- The blocks a point reads and writes. -/
theorem index_facts : ∀ t : Fin cfg0.N, win0_0.index t 0 = t.val / 5 ∧ win0_0.index t 1 = 0
    ∧ win0_1.index t 0 = t.val % 5 ∧ win0_1.index t 1 = 0
    ∧ win0_2.index t 0 = t.val / 5 ∧ win0_2.index t 1 = t.val % 5 := by
  decide +kernel

/-- The normalised input as the kernel finds it, -/
theorem h_apply (c : Dev nD) (i : S4096x2048.Idx) :
    (V m c main_v1 i : EReal) = (m ((c : Thread nD τ).loc main_arg0) (ix3 0 (i 0) (i 1)) : EReal) := by
  have e : V m c main_v1 = (truncf (F := Ideal) .bf16 (shapeCast S4096x2048 (m ((c : Thread nD τ).loc main_arg0))
      shapeCasts_S1x4096x2048_S4096x2048) bitsLt_bf16_f32 : FVec Ideal S4096x2048 .bf16) := by
    show StableHlo.after hostOps0 (fun b => m (c, b)) (Proc.devRef .tc main_v1) = _
    after_results
    rfl
  rw [e]; exact flat_read _ _ i

/-- and the weight, turned. -/
theorem w_apply (c : Dev nD) (i : S5120x2048.Idx) :
    (V m c main_v3 i : EReal) = (m ((c : Thread nD τ).loc main_arg1) (ix2 (i 1) (i 0)) : EReal) := by
  have e : V m c main_v3 = (truncf (F := Ideal) .bf16 (transpose S5120x2048 [1, 0] (m ((c : Thread nD τ).loc main_arg1))
      transposes_S2048x5120_S5120x2048_1_0) bitsLt_bf16_f32 : FVec Ideal S5120x2048 .bf16) := by
    show StableHlo.after hostOps0 (fun b => m (c, b)) (Proc.devRef .tc main_v3) = _
    after_results
    try rfl
  rw [e]; exact turn_read _ _ i

/-- What point `t` writes back is block `t` of the projection. -/
theorem flushed_eq (c : Dev nD) (t : Fin cfg0.N) :
    (dats m 0 c).flushed 2 t = (win0_2.blk t).view.read (Elt Ideal)
      (throughCols (m ((c : Thread nD τ).loc main_arg0)) (m ((c : Thread nD τ).loc main_arg1))) := by
  rw [flushed2]
  show (cfg0.win 2).cut (grid0.coords t) (out0_2 (iblk m c 0 t) (iblk m c 1 t)) = _
  unfold out0_2
  rw [View.canon_unit_zero origin, View.ld_unit_zero origin, View.ld_unit_zero origin]
  obtain ⟨a0, a1, b0, b1, d0, d1⟩ := index_facts t
  funext y
  show _ = throughCols _ _ ((win0_2.rect t).emb y)
  unfold throughCols
  refine (pay_apply _ _ _).trans (Finset.sum_congr rfl fun k _ => congrArg₂ (· * ·) ?_ ?_)
  · refine Eq.trans ?_ (h_apply m c (ix2 ((win0_2.rect t).emb y 0) k))
    refine congrArg (V m c main_v1) (funext fun a => Fin.ext ?_)
    match a with
    | ⟨0, _⟩ => exact (win0_0.rect_emb_val t _ 0).trans ((congrArg (· * 1024 + _) (a0.trans d0.symm)).trans (win0_2.rect_emb_val t y 0).symm)
    | ⟨1, _⟩ => exact win0_0.rect_emb_val_of_index_zero t 1 a1 _
  · refine Eq.trans ?_ (w_apply m c (ix2 ((win0_2.rect t).emb y 1) k))
    refine congrArg (V m c main_v3) (funext fun a => Fin.ext ?_)
    match a with
    | ⟨0, _⟩ => exact (win0_1.rect_emb_val t _ 0).trans ((congrArg (· * 1024 + _) (b0.trans d1.symm)).trans (win0_2.rect_emb_val t y 1).symm)
    | ⟨1, _⟩ => exact win0_1.rect_emb_val_of_index_zero t 1 b1 _

/-- The blocks of 1024 rows and 1024 columns cover the result. -/
theorem cover (i : S4096x5120.Idx) :
    ∃ t : Fin cfg0.N, (cfg0.win 2).flush t = true ∧ i ∈ ((cfg0.win 2).blk t).view.set := by
  have h0 : (i 0 : Nat) < 4096 := (i 0).isLt
  have h1 : (i 1 : Nat) < 5120 := (i 1).isLt
  have hN : cfg0.N = 20 := N_0
  obtain ⟨t, ht⟩ : ∃ t : Fin cfg0.N, t.val = (i 0 : Nat) / 1024 * 5 + (i 1 : Nat) / 1024 := ⟨⟨_, by omega⟩, rfl⟩
  refine ⟨t, flush0_2 t, ?_⟩
  obtain ⟨-, -, -, -, d0, d1⟩ := index_facts t
  show i ∈ ((View.whole main_v4).slice (win0_2.rect t)).set
  rw [View.set_slice_whole, Rect.mem_set_unit]
  intro a
  match a with
  | ⟨0, _⟩ =>
    show win0_2.index _ 0 * 1024 ≤ (i 0 : Nat) ∧ (i 0 : Nat) < win0_2.index _ 0 * 1024 + 1024
    rw [d0, ht]; omega
  | ⟨1, _⟩ =>
    show win0_2.index _ 1 * 1024 ≤ (i 1 : Nat) ∧ (i 1 : Nat) < win0_2.index _ 1 * 1024 + 1024
    rw [d1, ht]; omega

/-- The reference's product with the weight's columns. -/
theorem ref_eq (h : FVec Ideal S1x4096x2048 .f32) (w : FVec Ideal S2048x5120 .f32) :
    shapeCast Cert.ProjectRefIdeal.S4096x5120 (Host.dotGeneral Cert.ProjectRefIdeal.dot_S1x4096x2048_S2048x5120_S1x4096x5120_2_0_01_1_n_n none h w)
      Cert.ProjectRefIdeal.Facts₀.shapeCasts_S1x4096x5120_S4096x5120 = throughCols h w := by
  funext i
  exact (flat_read _ _ i).trans (batchPlain_read Cert.ProjectRefIdeal.Gen.dot_S1x4096x2048_S2048x5120_S1x4096x5120_2_0_01_1_n_n_wf h w (ix3 (0 : Fin 1) (i 0) (i 1)))

/-- The kernel and the reference compute the same array. -/
theorem algebraic : Cert.algebraic_ProjectIdeal_ProjectRefIdeal := by
  intro m g m' g' _ hm
  refine ⟨fun c => throughCols (m ((c : Thread nD τ).loc main_arg0)) (m ((c : Thread nD τ).loc main_arg1)), ?_, ?_⟩
  · exact (θ_run defs _ _).mono (fun _ h c => ⟨(h c).1.trans ((dats m 0 c).arrAt_eq_of_cover 2 _ (fun t _ => flushed_eq m c t) cover),
      (h c).2⟩) (run_blocks m g)
  · refine (θ_run Cert.ProjectRefIdeal.defs _ _).mono (fun _ h c => ⟨(h c).1.trans ?_, (h c).2⟩)
      (Cert.ProjectRefIdeal.Value.run m' g')
    rw [(hm c).1, (hm c).2]
    exact ref_eq _ _

end Cert.ProjectIdeal.Value

end
-- ==== Proof.Step.lean ====
/- The optimiser's step on one element, and the readings the four weights' steps share: the gradient as a sum of four
   partial gradients, the layer of a stack that a grid point reads, and the stack's host-side slices and sums. -/
module

public import proofs.«01_k».proof.Proof.Products
public import Idealize.ShloMosaic.Lib.ValueIdx

@[expose] public section

noncomputable section

namespace Cert.Reading

open Idealize.ShloMosaic Idealize.ShloMosaic.ValueIdx

/-- A stack of `n` arrays, and four layers of four partial gradients each. -/
abbrev Box (n r c : Nat) : Shape := ⟨3, ![n, r, c]⟩
abbrev Parts (r c : Nat) : Shape := ⟨4, ![4, 4, r, c]⟩

variable {n r c : Nat}

theorem origin3 : (![0, 0, 0] : Fin 3 → Nat) = fun _ => 0 := funext fun a => by fin_cases a <;> rfl

/-- The two moments after a step. -/
def moment1 (m g : EReal) : EReal := Ideal.ofBits .f32 0x3F666666#32 * m + Ideal.ofBits .f32 0x3DCCCCCD#32 * g
def moment2 (v g : EReal) : EReal := Ideal.ofBits .f32 0x3F7FBE77#32 * v + Ideal.ofBits .f32 0x3A83126F#32 * (g * g)

/-- One over the corrections of the moments' bias. -/
def recip1 : EReal := ((8388608 / 5463681 : ℝ) : EReal)
def recip2 : EReal := ((268435456 / 2672307 : ℝ) : EReal)

/-- What the step adds to a weight, of the weight and the new moments. -/
def change (w a b : EReal) : EReal :=
  Ideal.ofBits .f32 0xBA83126F#32 * (Ideal.div (a * recip1) (Ideal.sqrt (b * recip2) + Ideal.ofBits .f32 0x322BCC77#32)
    + Ideal.ofBits .f32 0x3C23D70A#32 * w)

/-- Dividing by a correction is multiplying by one over it. -/
theorem div_corr1 (a : EReal) : Ideal.div a (Ideal.ofBits .f32 0x3F26BD02#32) = a * recip1 := by
  have e : Ideal.ofBits .f32 0x3F26BD02#32 = ((5463681 / 8388608 : ℝ) : EReal) := by
    simp [Ideal.ofBits, Ideal.ieee, -EReal.coe_mul]; norm_num
  rw [e, Ideal.div_coe (by norm_num : (5463681 / 8388608 : ℝ) ≠ 0)]
  unfold recip1; norm_num

theorem div_corr2 (a : EReal) : Ideal.div a (Ideal.ofBits .f32 0x3C231ACC#32) = a * recip2 := by
  have e : Ideal.ofBits .f32 0x3C231ACC#32 = ((2672307 / 268435456 : ℝ) : EReal) := by
    simp [Ideal.ofBits, Ideal.ieee, -EReal.coe_mul]; norm_num
  rw [e, Ideal.div_coe (by norm_num : (2672307 / 268435456 : ℝ) ≠ 0)]
  unfold recip2; norm_num

/-- The reference's change, which divides by the corrections. -/
theorem change_eq (w a b : EReal) :
    Ideal.ofBits .f32 0xBA83126F#32 * (Ideal.div (Ideal.div a (Ideal.ofBits .f32 0x3F26BD02#32))
      (Ideal.sqrt (Ideal.div b (Ideal.ofBits .f32 0x3C231ACC#32)) + Ideal.ofBits .f32 0x322BCC77#32)
        + Ideal.ofBits .f32 0x3C23D70A#32 * w) = change w a b := by
  rw [div_corr1, div_corr2]; rfl

/-- The gradient: the sum of a layer's four parts. -/
def summed (x : (Parts r c).Idx → EReal) (i : (Box 4 r c).Idx) : EReal :=
  x (ix4 (i 0) (0 : Fin 4) (i 1) (i 2)) + x (ix4 (i 0) (1 : Fin 4) (i 1) (i 2)) + x (ix4 (i 0) (2 : Fin 4) (i 1) (i 2))
    + x (ix4 (i 0) (3 : Fin 4) (i 1) (i 2))

/-- The stack's axes of rows and columns exchanged. -/
def turned {α : Type} (x : (Box n r c).Idx → α) (i : (Box n c r).Idx) : α := x (ix3 (i 0) (i 2) (i 1))

theorem turned_read {α : Type} (x : (Box n r c).Idx → α) (h : (Box n r c).Transposes [0, 2, 1] (Box n c r)) (i : (Box n c r).Idx) :
    transpose (Box n c r) [0, 2, 1] x h i = turned x i :=
  transpose_apply _ _ _ _ _ (fun b => by match b with | ⟨0, _⟩ => rfl | ⟨1, _⟩ => rfl | ⟨2, _⟩ => rfl)

/-- The host's sum of the four parts. -/
theorem host_summed (x : (Parts r c).Idx → EReal) (h : (Parts r c).ReducesTo [1] (Box 4 r c)) (i : (Box 4 r c).Idx) :
    Ideal.hostReduceAdd h x (Ideal.ofBits .f32 0x00000000#32) i = summed x i := by
  have h' : (Parts r c).Reduces [1] (Box 4 r c) := ⟨h.1, Nat.succ_pos 2, h.2⟩
  rw [Ideal.hostReduceAdd_single h h', Ideal.ofBits_zero_f32, zero_add]
  refine (Fin.sum_univ_four (fun k : Fin 4 => x (h'.lift i k))).trans ?_
  have e (k : Fin 4) : h'.lift i k = ix4 (i 0) k (i 1) (i 2) := funext fun a => Fin.ext (by
    match a with | ⟨0, _⟩ => rfl | ⟨1, _⟩ => rfl | ⟨2, _⟩ => rfl | ⟨3, _⟩ => rfl)
  rw [e, e, e, e]; rfl

/-- A layer's four parts, as the host cuts them out of the stack. -/
theorem layer_read {α : Type} (x : (Parts r c).Idx → α) (q : Nat) (hq : q < 4) (off : Fin 4 → Nat) (ho : off = ![q, 0, 0, 0])
    (h : (Parts r c).Slices off ⟨4, ![1, 4, r, c]⟩) (h' : (⟨4, ![1, 4, r, c]⟩ : Shape).ShapeCasts (Box 4 r c)) (i : (Box 4 r c).Idx) :
    shapeCast (Box 4 r c) (extractStridedSlice ⟨4, ![1, 4, r, c]⟩ off x h) h' i = x (ix4 (⟨q, hq⟩ : Fin 4) (i 0) (i 1) (i 2)) := by
  subst ho
  refine (shapeCast_apply _ _ i (ix4 (0 : Fin 1) (i 0) (i 1) (i 2)) ?_).trans (extractStridedSlice_apply _ _ _ _ _ fun a => ?_)
  · rw [Shape.rowMajor_val_four, Shape.rowMajor_val_three]
    show ((0 * 4 + (i 0).val) * r + (i 1).val) * c + (i 2).val = ((i 0).val * r + (i 1).val) * c + (i 2).val
    rw [Nat.zero_mul, Nat.zero_add]
  · match a with
    | ⟨0, _⟩ => rfl
    | ⟨1, _⟩ => exact (Nat.zero_add _).symm
    | ⟨2, _⟩ => exact (Nat.zero_add _).symm
    | ⟨3, _⟩ => exact (Nat.zero_add _).symm

/-- An array put in a batch of one. -/
theorem batch_read {α : Type} (x : (Mat r c).Idx → α) (h : (Mat r c).ShapeCasts (Batch r c)) (i : (Batch r c).Idx) :
    shapeCast (Batch r c) x h i = x (ix2 (i 1) (i 2)) := by
  refine shapeCast_apply _ _ _ _ ?_
  rw [Shape.rowMajor_val_two, Shape.rowMajor_val_three]
  have h0 : (i 0).val < 1 := (i 0).isLt
  show (i 1).val * c + (i 2).val = ((i 0).val * r + (i 1).val) * c + (i 2).val
  rw [Nat.lt_one_iff.1 h0, Nat.zero_mul, Nat.zero_add]

/-- One array of the several in a block, its batch axis dropped. -/
theorem piece_read {α : Type} (x : (Box n r c).Idx → α) (q : Nat) (hq : q < n) (off : Fin 3 → Nat) (ho : off = ![q, 0, 0])
    (inb : ∀ a, off a + (Batch r c).size a ≤ (Box n r c).size a) (h : (Batch r c).ShapeCasts (Mat r c)) (j : (Mat r c).Idx) :
    shapeCast (Mat r c) (fun y => x ((Rect.unit (s := Box n r c) off (Batch r c).size inb).idx y)) h j
      = x (ix3 (⟨q, hq⟩ : Fin n) (j 0) (j 1)) := by
  subst ho
  refine (flat_read _ h j).trans (congrArg x (funext fun a => Fin.ext ?_))
  match a with
  | ⟨0, _⟩ => rfl
  | ⟨1, _⟩ => show 0 + 1 * (j 0).val = (j 0).val; omega
  | ⟨2, _⟩ => show 0 + 1 * (j 1).val = (j 1).val; omega

/-- Of four arrays the one of the grid point's layer, written as the kernel does: a sum of four terms of which three are
    zero. -/
def picked {s : Shape} (l : BitVec 32) (a b c d : s.Idx → EReal) (j : s.Idx) : EReal :=
  Scalar.select (Scalar.cmpi .eq l 0#32) a (fun _ => Ideal.ofBits .f32 0x00000000#32) j
    + Scalar.select (Scalar.cmpi .eq l 1#32) b (fun _ => Ideal.ofBits .f32 0x00000000#32) j
    + Scalar.select (Scalar.cmpi .eq l 2#32) c (fun _ => Ideal.ofBits .f32 0x00000000#32) j
    + Scalar.select (Scalar.cmpi .eq l 3#32) d (fun _ => Ideal.ofBits .f32 0x00000000#32) j

variable {s : Shape} (a b c d : s.Idx → EReal) (j : s.Idx)

theorem picked0 : picked (BitVec.ofNat 32 0) a b c d j = a j := by
  show a j + Ideal.ofBits .f32 0x00000000#32 + Ideal.ofBits .f32 0x00000000#32 + Ideal.ofBits .f32 0x00000000#32 = a j
  rw [Ideal.ofBits_zero_f32, add_zero, add_zero, add_zero]

theorem picked1 : picked (BitVec.ofNat 32 1) a b c d j = b j := by
  show Ideal.ofBits .f32 0x00000000#32 + b j + Ideal.ofBits .f32 0x00000000#32 + Ideal.ofBits .f32 0x00000000#32 = b j
  rw [Ideal.ofBits_zero_f32, add_zero, add_zero, zero_add]

theorem picked2 : picked (BitVec.ofNat 32 2) a b c d j = c j := by
  show Ideal.ofBits .f32 0x00000000#32 + Ideal.ofBits .f32 0x00000000#32 + c j + Ideal.ofBits .f32 0x00000000#32 = c j
  rw [Ideal.ofBits_zero_f32, add_zero, add_zero, zero_add]

theorem picked3 : picked (BitVec.ofNat 32 3) a b c d j = d j := by
  show Ideal.ofBits .f32 0x00000000#32 + Ideal.ofBits .f32 0x00000000#32 + Ideal.ofBits .f32 0x00000000#32 + d j = d j
  rw [Ideal.ofBits_zero_f32, add_zero, add_zero, zero_add]

end Cert.Reading

end
-- ==== Proof.StepDown.lean ====
/- The optimiser's step for the down projection's weight: the gradient of each layer is the sum of four partial gradients, and the two
   moments and the weight's change follow from it element by element. -/
module

public import proofs.«01_k».proof.Proof.Step
public import proofs.«01_k».proof.Defs
public import proofs.«01_k».proof.Proof.Gen.StepDownIdeal.Value
public import proofs.«01_k».proof.Proof.Gen.StepDownRefIdeal.Run

@[expose] public section

set_option maxRecDepth 16384

noncomputable section

namespace Cert.StepDownIdeal.Value

open Cert.StepDownIdeal Cert.StepDownIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The gradient of the stack of four layers, -/
def grad (x : S4x4x704x2048.Idx → EReal) : S4x704x2048.Idx → EReal := summed x

/-- the two moments, and the change of the weight. -/
def newFirst (p : S4x704x2048.Idx → EReal) (x : S4x4x704x2048.Idx → EReal) (i : S4x704x2048.Idx) : EReal := moment1 (p i) (grad x i)
def newSecond (v : S4x704x2048.Idx → EReal) (x : S4x4x704x2048.Idx → EReal) (i : S4x704x2048.Idx) : EReal := moment2 (v i) (grad x i)
def delta (w p v : S4x704x2048.Idx → EReal) (x : S4x4x704x2048.Idx → EReal) (i : S4x704x2048.Idx) : EReal :=
  change (w i) (newFirst p x i) (newSecond v x i)

/-- The kernel's names are one over the corrections of the bias. -/
theorem name1 : (Named.named κ "r1" 0x3FC48605#32 : Ideal .f32) = recip1 :=
  (IdealRules.named_const.ideal_named_scalar _ _ _ _ rfl).trans (by unfold recip1; norm_num)

theorem name2 : (Named.named κ "r2" 0x42C8E6D3#32 : Ideal .f32) = recip2 :=
  (IdealRules.named_const.ideal_named_scalar _ _ _ _ rfl).trans (by unfold recip2; norm_num)

/-- The sum of the four partial gradients of a block, -/
def blockSum (x : Vec Ideal S4x64x2048 .bf16) (j : S64x2048.Idx) : EReal :=
  (shapeCast S64x2048 (View.ld x r0_0) shapeCasts_S1x64x2048_S64x2048 j : EReal) + (shapeCast S64x2048 (View.ld x r0_1) shapeCasts_S1x64x2048_S64x2048 j : EReal)
    + (shapeCast S64x2048 (View.ld x r0_2) shapeCasts_S1x64x2048_S64x2048 j : EReal) + (shapeCast S64x2048 (View.ld x r0_3) shapeCasts_S1x64x2048_S64x2048 j : EReal)

theorem blockSum_apply (x : Vec Ideal S4x64x2048 .bf16) (j : S64x2048.Idx) :
    blockSum x j = (x (ix3 (0 : Fin 4) (j 0) (j 1)) : EReal) + (x (ix3 (1 : Fin 4) (j 0) (j 1)) : EReal)
      + (x (ix3 (2 : Fin 4) (j 0) (j 1)) : EReal) + (x (ix3 (3 : Fin 4) (j 0) (j 1)) : EReal) :=
  congrArg₂ (· + ·) (congrArg₂ (· + ·) (congrArg₂ (· + ·) (piece_read x 0 (by decide) _ rfl _ _ j) (piece_read x 1 (by decide) _ rfl _ _ j))
    (piece_read x 2 (by decide) _ rfl _ _ j)) (piece_read x 3 (by decide) _ rfl _ _ j)

/-- and the one of the grid point's layer. -/
theorem sum_apply (i : grid0.Coords) (x0 x1 x2 : Vec Ideal S1x64x2048 .f32) (x3 x4 x5 x6 : Vec Ideal S4x64x2048 .bf16) (j : S64x2048.Idx) :
    (k0_pay9 (BitVec.ofNat 32 (i 0).val) (k0_pay16 i x0 x1 x2 x3 x4 x5 x6) (k0_pay17 i x0 x1 x2 x3 x4 x5 x6) (View.ld x6 r0_3) j : EReal) = picked (BitVec.ofNat 32 (i 0).val) (blockSum x3) (blockSum x4) (blockSum x5) (blockSum x6) j := rfl

/-- What the body stores, at an index: the gradient, -/
theorem grad_apply (i : grid0.Coords) (x0 x1 x2 : Vec Ideal S1x64x2048 .f32) (x3 x4 x5 x6 : Vec Ideal S4x64x2048 .bf16) (y : S1x64x2048.Idx) :
    (k0_pay14 (BitVec.ofNat 32 (i 0).val) (k0_pay16 i x0 x1 x2 x3 x4 x5 x6) (k0_pay17 i x0 x1 x2 x3 x4 x5 x6) (View.ld x6 r0_3) y : EReal) = picked (BitVec.ofNat 32 (i 0).val) (blockSum x3) (blockSum x4) (blockSum x5) (blockSum x6) (ix2 (y 1) (y 2)) :=
  (batch_read _ shapeCasts_S64x2048_S1x64x2048 y).trans (sum_apply i x0 x1 x2 x3 x4 x5 x6 _)

/-- the moments, -/
theorem first_apply (i : grid0.Coords) (x0 x1 x2 : Vec Ideal S1x64x2048 .f32) (x3 x4 x5 x6 : Vec Ideal S4x64x2048 .bf16) (j : S64x2048.Idx) :
    (k0_pay11 (BitVec.ofNat 32 (i 0).val) (k0_pay16 i x0 x1 x2 x3 x4 x5 x6) (k0_pay17 i x0 x1 x2 x3 x4 x5 x6) (View.ld x6 r0_3) (View.ld x1 r0_4) j : EReal) = moment1 (x1 (ix3 (0 : Fin 1) (j 0) (j 1))) (picked (BitVec.ofNat 32 (i 0).val) (blockSum x3) (blockSum x4) (blockSum x5) (blockSum x6) j) := by
  have e : (k0_pay11 (BitVec.ofNat 32 (i 0).val) (k0_pay16 i x0 x1 x2 x3 x4 x5 x6) (k0_pay17 i x0 x1 x2 x3 x4 x5 x6) (View.ld x6 r0_3) (View.ld x1 r0_4) j : EReal)
      = moment1 (shapeCast S64x2048 (View.ld x1 r0_4) shapeCasts_S1x64x2048_S64x2048 j) (picked (BitVec.ofNat 32 (i 0).val) (blockSum x3) (blockSum x4) (blockSum x5) (blockSum x6) j) := rfl
  rw [e, View.ld_unit_zero origin3]; exact congrArg (moment1 · _) (flat_read x1 _ j)

theorem second_apply (i : grid0.Coords) (x0 x1 x2 : Vec Ideal S1x64x2048 .f32) (x3 x4 x5 x6 : Vec Ideal S4x64x2048 .bf16) (j : S64x2048.Idx) :
    (k0_pay12 (BitVec.ofNat 32 (i 0).val) (k0_pay16 i x0 x1 x2 x3 x4 x5 x6) (k0_pay17 i x0 x1 x2 x3 x4 x5 x6) (View.ld x6 r0_3) (View.ld x2 r0_4) j : EReal) = moment2 (x2 (ix3 (0 : Fin 1) (j 0) (j 1))) (picked (BitVec.ofNat 32 (i 0).val) (blockSum x3) (blockSum x4) (blockSum x5) (blockSum x6) j) := by
  have e : (k0_pay12 (BitVec.ofNat 32 (i 0).val) (k0_pay16 i x0 x1 x2 x3 x4 x5 x6) (k0_pay17 i x0 x1 x2 x3 x4 x5 x6) (View.ld x6 r0_3) (View.ld x2 r0_4) j : EReal)
      = moment2 (shapeCast S64x2048 (View.ld x2 r0_4) shapeCasts_S1x64x2048_S64x2048 j) (picked (BitVec.ofNat 32 (i 0).val) (blockSum x3) (blockSum x4) (blockSum x5) (blockSum x6) j) := rfl
  rw [e, View.ld_unit_zero origin3]; exact congrArg (moment2 · _) (flat_read x2 _ j)

/-- and the change of the weight. -/
theorem delta_apply (i : grid0.Coords) (x0 x1 x2 : Vec Ideal S1x64x2048 .f32) (x3 x4 x5 x6 : Vec Ideal S4x64x2048 .bf16) (y : S1x64x2048.Idx) :
    (k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_3) (View.ld x1 r0_4)) (k0_pay15 (BitVec.ofNat 32 (i 0).val) (k0_pay16 i x0 x1 x2 x3 x4 x5 x6) (k0_pay17 i x0 x1 x2 x3 x4 x5 x6) (View.ld x6 r0_3) (View.ld x2 r0_4)) y : EReal)
      = change (x0 (ix3 (0 : Fin 1) (y 1) (y 2))) (moment1 (x1 (ix3 (0 : Fin 1) (y 1) (y 2))) (picked (BitVec.ofNat 32 (i 0).val) (blockSum x3) (blockSum x4) (blockSum x5) (blockSum x6) (ix2 (y 1) (y 2))))
          (moment2 (x2 (ix3 (0 : Fin 1) (y 1) (y 2))) (picked (BitVec.ofNat 32 (i 0).val) (blockSum x3) (blockSum x4) (blockSum x5) (blockSum x6) (ix2 (y 1) (y 2)))) := by
  have e : k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_3) (View.ld x1 r0_4)) (k0_pay15 (BitVec.ofNat 32 (i 0).val) (k0_pay16 i x0 x1 x2 x3 x4 x5 x6) (k0_pay17 i x0 x1 x2 x3 x4 x5 x6) (View.ld x6 r0_3) (View.ld x2 r0_4))
      = shapeCast S1x64x2048 (fun j : S64x2048.Idx => Ideal.ofBits .f32 0xBA83126F#32 * (Ideal.div
      ((k0_pay11 (BitVec.ofNat 32 (i 0).val) (k0_pay16 i x0 x1 x2 x3 x4 x5 x6) (k0_pay17 i x0 x1 x2 x3 x4 x5 x6) (View.ld x6 r0_3) (View.ld x1 r0_4) j : EReal) * (Named.named κ "r1" 0x3FC48605#32 : Ideal .f32))
      (Ideal.sqrt ((k0_pay12 (BitVec.ofNat 32 (i 0).val) (k0_pay16 i x0 x1 x2 x3 x4 x5 x6) (k0_pay17 i x0 x1 x2 x3 x4 x5 x6) (View.ld x6 r0_3) (View.ld x2 r0_4) j : EReal) * (Named.named κ "r2" 0x42C8E6D3#32 : Ideal .f32))
        + Ideal.ofBits .f32 0x322BCC77#32)
    + Ideal.ofBits .f32 0x3C23D70A#32 * (shapeCast S64x2048 (View.ld x0 r0_4) shapeCasts_S1x64x2048_S64x2048 j : EReal))) shapeCasts_S64x2048_S1x64x2048 := rfl
  rw [e]
  refine (batch_read _ shapeCasts_S64x2048_S1x64x2048 y).trans ?_
  rw [name1, name2, first_apply, second_apply, View.ld_unit_zero origin3]
  exact congrArg (change · _ _) (flat_read x0 _ (ix2 (y 1) (y 2)))

/-- The blocks a point reads and writes: its layer's block of each array; of the partial gradients, only its own layer's
    block counts. -/
theorem index_facts : ∀ t : Fin cfg0.N, (grid0.coords t 0).val = t.val / 11
    ∧ win0_0.index t 0 = t.val / 11
    ∧ win0_0.index t 1 = t.val % 11
    ∧ win0_0.index t 2 = 0
    ∧ win0_1.index t 0 = t.val / 11
    ∧ win0_1.index t 1 = t.val % 11
    ∧ win0_1.index t 2 = 0
    ∧ win0_2.index t 0 = t.val / 11
    ∧ win0_2.index t 1 = t.val % 11
    ∧ win0_2.index t 2 = 0
    ∧ win0_7.index t 0 = t.val / 11
    ∧ win0_7.index t 1 = t.val % 11
    ∧ win0_7.index t 2 = 0
    ∧ win0_3.index t 0 = 0
    ∧ win0_3.index t 2 = 0
    ∧ (t.val / 11 = 0 → win0_3.index t 1 = t.val % 11)
    ∧ win0_4.index t 0 = 0
    ∧ win0_4.index t 2 = 0
    ∧ (t.val / 11 = 1 → win0_4.index t 1 = t.val % 11)
    ∧ win0_5.index t 0 = 0
    ∧ win0_5.index t 2 = 0
    ∧ (t.val / 11 = 2 → win0_5.index t 1 = t.val % 11)
    ∧ win0_6.index t 0 = 0
    ∧ win0_6.index t 2 = 0
    ∧ (t.val / 11 = 3 → win0_6.index t 1 = t.val % 11) := by
  decide +kernel

/-- The partial gradients of layer 0 as the kernel finds them. -/
theorem part0_apply (c : Dev nD) (i : S4x704x2048.Idx) :
    (V m c main_v2 i : EReal) = ((m ((c : Thread nD τ).loc main_arg3)) (ix4 (0 : Fin 4) (i 0) (i 1) (i 2)) : EReal) := by
  have e : V m c main_v2 = (truncf (F := Ideal) .bf16 (shapeCast S4x704x2048 (extractStridedSlice S1x4x704x2048 ![0, 0, 0, 0]
      (m ((c : Thread nD τ).loc main_arg3)) slices_S4x4x704x2048_S1x4x704x2048_0_0_0_0) shapeCasts_S1x4x704x2048_S4x704x2048) bitsLt_bf16_f32 : FVec Ideal S4x704x2048 .bf16) := by
    show StableHlo.after hostOps0 (fun b => m (c, b)) (Proc.devRef .tc main_v2) = _
    after_results
    rfl
  rw [e]; exact layer_read (m ((c : Thread nD τ).loc main_arg3)) 0 (by decide) _ rfl slices_S4x4x704x2048_S1x4x704x2048_0_0_0_0 shapeCasts_S1x4x704x2048_S4x704x2048 i

/-- The partial gradients of layer 1 as the kernel finds them. -/
theorem part1_apply (c : Dev nD) (i : S4x704x2048.Idx) :
    (V m c main_v5 i : EReal) = ((m ((c : Thread nD τ).loc main_arg3)) (ix4 (1 : Fin 4) (i 0) (i 1) (i 2)) : EReal) := by
  have e : V m c main_v5 = (truncf (F := Ideal) .bf16 (shapeCast S4x704x2048 (extractStridedSlice S1x4x704x2048 ![1, 0, 0, 0]
      (m ((c : Thread nD τ).loc main_arg3)) slices_S4x4x704x2048_S1x4x704x2048_1_0_0_0) shapeCasts_S1x4x704x2048_S4x704x2048) bitsLt_bf16_f32 : FVec Ideal S4x704x2048 .bf16) := by
    show StableHlo.after hostOps0 (fun b => m (c, b)) (Proc.devRef .tc main_v5) = _
    after_results
    rfl
  rw [e]; exact layer_read (m ((c : Thread nD τ).loc main_arg3)) 1 (by decide) _ rfl slices_S4x4x704x2048_S1x4x704x2048_1_0_0_0 shapeCasts_S1x4x704x2048_S4x704x2048 i

/-- The partial gradients of layer 2 as the kernel finds them. -/
theorem part2_apply (c : Dev nD) (i : S4x704x2048.Idx) :
    (V m c main_v8 i : EReal) = ((m ((c : Thread nD τ).loc main_arg3)) (ix4 (2 : Fin 4) (i 0) (i 1) (i 2)) : EReal) := by
  have e : V m c main_v8 = (truncf (F := Ideal) .bf16 (shapeCast S4x704x2048 (extractStridedSlice S1x4x704x2048 ![2, 0, 0, 0]
      (m ((c : Thread nD τ).loc main_arg3)) slices_S4x4x704x2048_S1x4x704x2048_2_0_0_0) shapeCasts_S1x4x704x2048_S4x704x2048) bitsLt_bf16_f32 : FVec Ideal S4x704x2048 .bf16) := by
    show StableHlo.after hostOps0 (fun b => m (c, b)) (Proc.devRef .tc main_v8) = _
    after_results
    rfl
  rw [e]; exact layer_read (m ((c : Thread nD τ).loc main_arg3)) 2 (by decide) _ rfl slices_S4x4x704x2048_S1x4x704x2048_2_0_0_0 shapeCasts_S1x4x704x2048_S4x704x2048 i

/-- The partial gradients of layer 3 as the kernel finds them. -/
theorem part3_apply (c : Dev nD) (i : S4x704x2048.Idx) :
    (V m c main_v11 i : EReal) = ((m ((c : Thread nD τ).loc main_arg3)) (ix4 (3 : Fin 4) (i 0) (i 1) (i 2)) : EReal) := by
  have e : V m c main_v11 = (truncf (F := Ideal) .bf16 (shapeCast S4x704x2048 (extractStridedSlice S1x4x704x2048 ![3, 0, 0, 0]
      (m ((c : Thread nD τ).loc main_arg3)) slices_S4x4x704x2048_S1x4x704x2048_3_0_0_0) shapeCasts_S1x4x704x2048_S4x704x2048) bitsLt_bf16_f32 : FVec Ideal S4x704x2048 .bf16) := by
    show StableHlo.after hostOps0 (fun b => m (c, b)) (Proc.devRef .tc main_v11) = _
    after_results
    rfl
  rw [e]; exact layer_read (m ((c : Thread nD τ).loc main_arg3)) 3 (by decide) _ rfl slices_S4x4x704x2048_S1x4x704x2048_3_0_0_0 shapeCasts_S1x4x704x2048_S4x704x2048 i

/-- A point of layer 0 sums the partial gradients of its block. -/
theorem sum0 (c : Dev nD) (t : Fin cfg0.N) (h : t.val / 11 = 0) (y : ((cfg0.win 7).xblock (grid0.coords t)).Idx) :
    blockSum (iblk m c 3 t) (ix2 (y 1) (y 2)) = grad (m ((c : Thread nD τ).loc main_arg3)) ((win0_7.rect t).emb y) := by
  obtain ⟨-, -, -, -, -, -, -, -, -, -, e0, e1, e2, p00, p0c, p0h, -, -, -, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 3 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v2 ((win0_3.rect t).emb (ix3 b (y 1) (y 2))) : EReal)) rfl ?_
    refine (part0_apply m c _).trans (congrArg (m ((c : Thread nD τ).loc main_arg3)) (funext fun a => Fin.ext ?_))
    match a with
    | ⟨0, _⟩ =>
      show 0 = ((win0_7.rect t).emb y 0).val
      rw [f0, e0, h]; show 0 = 0 * 1 + (y 0).val; omega
    | ⟨1, _⟩ =>
      refine (win0_3.rect_emb_val t (ix3 b (y 1) (y 2)) 0).trans ?_
      rw [p00]; show 0 * 4 + b.val = b.val; omega
    | ⟨2, _⟩ =>
      refine (win0_3.rect_emb_val t (ix3 b (y 1) (y 2)) 1).trans (Eq.trans ?_ f1.symm)
      rw [p0h h, e1]; rfl
    | ⟨3, _⟩ =>
      refine (win0_3.rect_emb_val t (ix3 b (y 1) (y 2)) 2).trans (Eq.trans ?_ f2.symm)
      rw [p0c, e2]; rfl
  refine (blockSum_apply _ (ix2 (y 1) (y 2))).trans ?_
  exact congrArg₂ (· + ·) (congrArg₂ (· + ·) (congrArg₂ (· + ·) (k 0) (k 1)) (k 2)) (k 3)

/-- A point of layer 1 sums the partial gradients of its block. -/
theorem sum1 (c : Dev nD) (t : Fin cfg0.N) (h : t.val / 11 = 1) (y : ((cfg0.win 7).xblock (grid0.coords t)).Idx) :
    blockSum (iblk m c 4 t) (ix2 (y 1) (y 2)) = grad (m ((c : Thread nD τ).loc main_arg3)) ((win0_7.rect t).emb y) := by
  obtain ⟨-, -, -, -, -, -, -, -, -, -, e0, e1, e2, -, -, -, p10, p1c, p1h, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 4 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v5 ((win0_4.rect t).emb (ix3 b (y 1) (y 2))) : EReal)) rfl ?_
    refine (part1_apply m c _).trans (congrArg (m ((c : Thread nD τ).loc main_arg3)) (funext fun a => Fin.ext ?_))
    match a with
    | ⟨0, _⟩ =>
      show 1 = ((win0_7.rect t).emb y 0).val
      rw [f0, e0, h]; show 1 = 1 * 1 + (y 0).val; omega
    | ⟨1, _⟩ =>
      refine (win0_4.rect_emb_val t (ix3 b (y 1) (y 2)) 0).trans ?_
      rw [p10]; show 0 * 4 + b.val = b.val; omega
    | ⟨2, _⟩ =>
      refine (win0_4.rect_emb_val t (ix3 b (y 1) (y 2)) 1).trans (Eq.trans ?_ f1.symm)
      rw [p1h h, e1]; rfl
    | ⟨3, _⟩ =>
      refine (win0_4.rect_emb_val t (ix3 b (y 1) (y 2)) 2).trans (Eq.trans ?_ f2.symm)
      rw [p1c, e2]; rfl
  refine (blockSum_apply _ (ix2 (y 1) (y 2))).trans ?_
  exact congrArg₂ (· + ·) (congrArg₂ (· + ·) (congrArg₂ (· + ·) (k 0) (k 1)) (k 2)) (k 3)

/-- A point of layer 2 sums the partial gradients of its block. -/
theorem sum2 (c : Dev nD) (t : Fin cfg0.N) (h : t.val / 11 = 2) (y : ((cfg0.win 7).xblock (grid0.coords t)).Idx) :
    blockSum (iblk m c 5 t) (ix2 (y 1) (y 2)) = grad (m ((c : Thread nD τ).loc main_arg3)) ((win0_7.rect t).emb y) := by
  obtain ⟨-, -, -, -, -, -, -, -, -, -, e0, e1, e2, -, -, -, -, -, -, p20, p2c, p2h, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 5 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v8 ((win0_5.rect t).emb (ix3 b (y 1) (y 2))) : EReal)) rfl ?_
    refine (part2_apply m c _).trans (congrArg (m ((c : Thread nD τ).loc main_arg3)) (funext fun a => Fin.ext ?_))
    match a with
    | ⟨0, _⟩ =>
      show 2 = ((win0_7.rect t).emb y 0).val
      rw [f0, e0, h]; show 2 = 2 * 1 + (y 0).val; omega
    | ⟨1, _⟩ =>
      refine (win0_5.rect_emb_val t (ix3 b (y 1) (y 2)) 0).trans ?_
      rw [p20]; show 0 * 4 + b.val = b.val; omega
    | ⟨2, _⟩ =>
      refine (win0_5.rect_emb_val t (ix3 b (y 1) (y 2)) 1).trans (Eq.trans ?_ f1.symm)
      rw [p2h h, e1]; rfl
    | ⟨3, _⟩ =>
      refine (win0_5.rect_emb_val t (ix3 b (y 1) (y 2)) 2).trans (Eq.trans ?_ f2.symm)
      rw [p2c, e2]; rfl
  refine (blockSum_apply _ (ix2 (y 1) (y 2))).trans ?_
  exact congrArg₂ (· + ·) (congrArg₂ (· + ·) (congrArg₂ (· + ·) (k 0) (k 1)) (k 2)) (k 3)

/-- A point of layer 3 sums the partial gradients of its block. -/
theorem sum3 (c : Dev nD) (t : Fin cfg0.N) (h : t.val / 11 = 3) (y : ((cfg0.win 7).xblock (grid0.coords t)).Idx) :
    blockSum (iblk m c 6 t) (ix2 (y 1) (y 2)) = grad (m ((c : Thread nD τ).loc main_arg3)) ((win0_7.rect t).emb y) := by
  obtain ⟨-, -, -, -, -, -, -, -, -, -, e0, e1, e2, -, -, -, -, -, -, -, -, -, p30, p3c, p3h⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 6 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v11 ((win0_6.rect t).emb (ix3 b (y 1) (y 2))) : EReal)) rfl ?_
    refine (part3_apply m c _).trans (congrArg (m ((c : Thread nD τ).loc main_arg3)) (funext fun a => Fin.ext ?_))
    match a with
    | ⟨0, _⟩ =>
      show 3 = ((win0_7.rect t).emb y 0).val
      rw [f0, e0, h]; show 3 = 3 * 1 + (y 0).val; omega
    | ⟨1, _⟩ =>
      refine (win0_6.rect_emb_val t (ix3 b (y 1) (y 2)) 0).trans ?_
      rw [p30]; show 0 * 4 + b.val = b.val; omega
    | ⟨2, _⟩ =>
      refine (win0_6.rect_emb_val t (ix3 b (y 1) (y 2)) 1).trans (Eq.trans ?_ f1.symm)
      rw [p3h h, e1]; rfl
    | ⟨3, _⟩ =>
      refine (win0_6.rect_emb_val t (ix3 b (y 1) (y 2)) 2).trans (Eq.trans ?_ f2.symm)
      rw [p3c, e2]; rfl
  refine (blockSum_apply _ (ix2 (y 1) (y 2))).trans ?_
  exact congrArg₂ (· + ·) (congrArg₂ (· + ·) (congrArg₂ (· + ·) (k 0) (k 1)) (k 2)) (k 3)

/-- The gradient of a point's block. -/
theorem grad_block (c : Dev nD) (t : Fin cfg0.N) (y : ((cfg0.win 7).xblock (grid0.coords t)).Idx) :
    picked (BitVec.ofNat 32 (grid0.coords t 0).val) (blockSum (iblk m c 3 t)) (blockSum (iblk m c 4 t)) (blockSum (iblk m c 5 t)) (blockSum (iblk m c 6 t)) (ix2 (y 1) (y 2)) = grad (m ((c : Thread nD τ).loc main_arg3)) ((win0_7.rect t).emb y) := by
  obtain ⟨l, -, -, -, -, -, -, -, -, -, -, -, -, -, -, -, -, -, -, -, -, -, -, -, -⟩ := index_facts t
  have hN : cfg0.N = 44 := N_0
  have ht := t.isLt
  obtain h | h | h | h : t.val / 11 = 0 ∨ t.val / 11 = 1 ∨ t.val / 11 = 2 ∨ t.val / 11 = 3 := by omega
  · rw [l, h]; exact (picked0 _ _ _ _ _).trans (sum0 m c t (by omega) y)
  · rw [l, h]; exact (picked1 _ _ _ _ _).trans (sum1 m c t (by omega) y)
  · rw [l, h]; exact (picked2 _ _ _ _ _).trans (sum2 m c t (by omega) y)
  · rw [l, h]; exact (picked3 _ _ _ _ _).trans (sum3 m c t (by omega) y)

/-- The weight's -/
theorem block0 (c : Dev nD) (t : Fin cfg0.N) (y : ((cfg0.win 7).xblock (grid0.coords t)).Idx) :
    (iblk m c 0 t (ix3 (0 : Fin 1) (y 1) (y 2)) : EReal) = (m ((c : Thread nD τ).loc main_arg0)) ((win0_7.rect t).emb y) := by
  obtain ⟨-, a0, a1, a2, -, -, -, -, -, -, e0, e1, e2, -, -, -, -, -, -, -, -, -, -, -, -⟩ := index_facts t
  have y0 : (y 0).val < 1 := (y 0).isLt
  refine Eq.trans (congrArg (V m c main_arg0) (funext fun a => Fin.ext ?_)) (congrFun (V_main_arg0 m c) _)
  match a with
  | ⟨0, _⟩ =>
    refine (win0_0.rect_emb_val t _ 0).trans (Eq.trans ?_ (win0_7.rect_emb_val t y 0).symm)
    rw [a0, e0]; show _ * 1 + 0 = _ * 1 + (y 0).val; omega
  | ⟨1, _⟩ => exact (win0_0.rect_emb_val t _ 1).trans ((congrArg (· * 64 + _) (a1.trans e1.symm)).trans (win0_7.rect_emb_val t y 1).symm)
  | ⟨2, _⟩ => exact (win0_0.rect_emb_val t _ 2).trans ((congrArg (· * 2048 + _) (a2.trans e2.symm)).trans (win0_7.rect_emb_val t y 2).symm)

/-- the first moment's -/
theorem block1 (c : Dev nD) (t : Fin cfg0.N) (y : ((cfg0.win 7).xblock (grid0.coords t)).Idx) :
    (iblk m c 1 t (ix3 (0 : Fin 1) (y 1) (y 2)) : EReal) = (m ((c : Thread nD τ).loc main_arg1)) ((win0_7.rect t).emb y) := by
  obtain ⟨-, -, -, -, b0, b1, b2, -, -, -, e0, e1, e2, -, -, -, -, -, -, -, -, -, -, -, -⟩ := index_facts t
  have y0 : (y 0).val < 1 := (y 0).isLt
  refine Eq.trans (congrArg (V m c main_arg1) (funext fun a => Fin.ext ?_)) (congrFun (V_main_arg1 m c) _)
  match a with
  | ⟨0, _⟩ =>
    refine (win0_1.rect_emb_val t _ 0).trans (Eq.trans ?_ (win0_7.rect_emb_val t y 0).symm)
    rw [b0, e0]; show _ * 1 + 0 = _ * 1 + (y 0).val; omega
  | ⟨1, _⟩ => exact (win0_1.rect_emb_val t _ 1).trans ((congrArg (· * 64 + _) (b1.trans e1.symm)).trans (win0_7.rect_emb_val t y 1).symm)
  | ⟨2, _⟩ => exact (win0_1.rect_emb_val t _ 2).trans ((congrArg (· * 2048 + _) (b2.trans e2.symm)).trans (win0_7.rect_emb_val t y 2).symm)

/-- and the second moment's block. -/
theorem block2 (c : Dev nD) (t : Fin cfg0.N) (y : ((cfg0.win 7).xblock (grid0.coords t)).Idx) :
    (iblk m c 2 t (ix3 (0 : Fin 1) (y 1) (y 2)) : EReal) = (m ((c : Thread nD τ).loc main_arg2)) ((win0_7.rect t).emb y) := by
  obtain ⟨-, -, -, -, -, -, -, d0, d1, d2, e0, e1, e2, -, -, -, -, -, -, -, -, -, -, -, -⟩ := index_facts t
  have y0 : (y 0).val < 1 := (y 0).isLt
  refine Eq.trans (congrArg (V m c main_arg2) (funext fun a => Fin.ext ?_)) (congrFun (V_main_arg2 m c) _)
  match a with
  | ⟨0, _⟩ =>
    refine (win0_2.rect_emb_val t _ 0).trans (Eq.trans ?_ (win0_7.rect_emb_val t y 0).symm)
    rw [d0, e0]; show _ * 1 + 0 = _ * 1 + (y 0).val; omega
  | ⟨1, _⟩ => exact (win0_2.rect_emb_val t _ 1).trans ((congrArg (· * 64 + _) (d1.trans e1.symm)).trans (win0_7.rect_emb_val t y 1).symm)
  | ⟨2, _⟩ => exact (win0_2.rect_emb_val t _ 2).trans ((congrArg (· * 2048 + _) (d2.trans e2.symm)).trans (win0_7.rect_emb_val t y 2).symm)

/-- What point `t` writes back is block `t` of the gradient, -/
theorem flushed_grad (c : Dev nD) (t : Fin cfg0.N) :
    (dats m 0 c).flushed 7 t = (win0_7.blk t).view.read (Elt Ideal) (grad (m ((c : Thread nD τ).loc main_arg3))) := by
  rw [flushed7]
  show (cfg0.win 7).cut (grid0.coords t) (out0_7 (grid0.coords t) (iblk m c 0 t) (iblk m c 1 t) (iblk m c 2 t) (iblk m c 3 t) (iblk m c 4 t) (iblk m c 5 t) (iblk m c 6 t)) = _
  unfold out0_7
  rw [View.canon_unit_zero origin3]
  funext y
  show _ = grad (m ((c : Thread nD τ).loc main_arg3)) ((win0_7.rect t).emb y)
  refine (grad_apply _ _ _ _ _ _ _ _ y).trans ?_
  exact grad_block m c t y

/-- the first moment, -/
theorem flushed_newFirst (c : Dev nD) (t : Fin cfg0.N) :
    (dats m 0 c).flushed 9 t = (win0_9.blk t).view.read (Elt Ideal) (newFirst (m ((c : Thread nD τ).loc main_arg1)) (m ((c : Thread nD τ).loc main_arg3))) := by
  rw [flushed9]
  show (cfg0.win 9).cut (grid0.coords t) (out0_9 (grid0.coords t) (iblk m c 0 t) (iblk m c 1 t) (iblk m c 2 t) (iblk m c 3 t) (iblk m c 4 t) (iblk m c 5 t) (iblk m c 6 t)) = _
  unfold out0_9
  rw [View.canon_unit_zero origin3]
  funext y
  show _ = newFirst (m ((c : Thread nD τ).loc main_arg1)) (m ((c : Thread nD τ).loc main_arg3)) ((win0_7.rect t).emb y)
  refine ((batch_read _ shapeCasts_S64x2048_S1x64x2048 y).trans (first_apply _ _ _ _ _ _ _ _ (ix2 (y 1) (y 2)))).trans ?_
  exact congrArg₂ moment1 (block1 m c t y) (grad_block m c t y)

/-- the second moment, -/
theorem flushed_newSecond (c : Dev nD) (t : Fin cfg0.N) :
    (dats m 0 c).flushed 10 t = (win0_10.blk t).view.read (Elt Ideal) (newSecond (m ((c : Thread nD τ).loc main_arg2)) (m ((c : Thread nD τ).loc main_arg3))) := by
  rw [flushed10]
  show (cfg0.win 10).cut (grid0.coords t) (out0_10 (grid0.coords t) (iblk m c 0 t) (iblk m c 1 t) (iblk m c 2 t) (iblk m c 3 t) (iblk m c 4 t) (iblk m c 5 t) (iblk m c 6 t)) = _
  unfold out0_10
  rw [View.canon_unit_zero origin3]
  funext y
  show _ = newSecond (m ((c : Thread nD τ).loc main_arg2)) (m ((c : Thread nD τ).loc main_arg3)) ((win0_7.rect t).emb y)
  refine ((batch_read _ shapeCasts_S64x2048_S1x64x2048 y).trans (second_apply _ _ _ _ _ _ _ _ (ix2 (y 1) (y 2)))).trans ?_
  exact congrArg₂ moment2 (block2 m c t y) (grad_block m c t y)

/-- and the change of the weight. -/
theorem flushed_delta (c : Dev nD) (t : Fin cfg0.N) :
    (dats m 0 c).flushed 8 t = (win0_8.blk t).view.read (Elt Ideal) (delta (m ((c : Thread nD τ).loc main_arg0)) (m ((c : Thread nD τ).loc main_arg1)) (m ((c : Thread nD τ).loc main_arg2)) (m ((c : Thread nD τ).loc main_arg3))) := by
  rw [flushed8]
  show (cfg0.win 8).cut (grid0.coords t) (out0_8 (grid0.coords t) (iblk m c 0 t) (iblk m c 1 t) (iblk m c 2 t) (iblk m c 3 t) (iblk m c 4 t) (iblk m c 5 t) (iblk m c 6 t)) = _
  unfold out0_8
  rw [View.canon_unit_zero origin3]
  funext y
  show _ = delta (m ((c : Thread nD τ).loc main_arg0)) (m ((c : Thread nD τ).loc main_arg1)) (m ((c : Thread nD τ).loc main_arg2)) (m ((c : Thread nD τ).loc main_arg3)) ((win0_7.rect t).emb y)
  refine (delta_apply _ _ _ _ _ _ _ _ y).trans ?_
  exact by
    have k1 := congrArg₂ moment1 (block1 m c t y) (grad_block m c t y)
    have k2 := congrArg₂ moment2 (block2 m c t y) (grad_block m c t y)
    rw [k1, k2]; exact congrArg (change · _ _) (block0 m c t y)

/-- The blocks cover each result. -/
theorem cover_grad (i : S4x704x2048.Idx) :
    ∃ t : Fin cfg0.N, (cfg0.win 7).flush t = true ∧ i ∈ ((cfg0.win 7).blk t).view.set := by
  have h0 : (i 0 : Nat) < 4 := (i 0).isLt
  have h1 : (i 1 : Nat) < 704 := (i 1).isLt
  have h2 : (i 2 : Nat) < 2048 := (i 2).isLt
  have hN : cfg0.N = 44 := N_0
  obtain ⟨t, ht⟩ : ∃ t : Fin cfg0.N, t.val = (i 0 : Nat) * 11 + (i 1 : Nat) / 64 := ⟨⟨_, by omega⟩, rfl⟩
  refine ⟨t, flush0_7 t, ?_⟩
  obtain ⟨-, -, -, -, -, -, -, -, -, -, e0, e1, e2, -, -, -, -, -, -, -, -, -, -, -, -⟩ := index_facts t
  show i ∈ ((View.whole main_v12_0).slice (win0_7.rect t)).set
  rw [View.set_slice_whole, Rect.mem_set_unit]
  intro a
  match a with
  | ⟨0, _⟩ =>
    show win0_7.index _ 0 * 1 ≤ (i 0 : Nat) ∧ (i 0 : Nat) < win0_7.index _ 0 * 1 + 1
    rw [e0, ht]; omega
  | ⟨1, _⟩ =>
    show win0_7.index _ 1 * 64 ≤ (i 1 : Nat) ∧ (i 1 : Nat) < win0_7.index _ 1 * 64 + 64
    rw [e1, ht]; omega
  | ⟨2, _⟩ =>
    show win0_7.index _ 2 * 2048 ≤ (i 2 : Nat) ∧ (i 2 : Nat) < win0_7.index _ 2 * 2048 + 2048
    rw [e2]; omega

theorem cover_delta (i : S4x704x2048.Idx) :
    ∃ t : Fin cfg0.N, (cfg0.win 8).flush t = true ∧ i ∈ ((cfg0.win 8).blk t).view.set := by
  obtain ⟨t, -, ht⟩ := cover_grad i
  exact ⟨t, flush0_8 t, ht⟩

theorem cover_newFirst (i : S4x704x2048.Idx) :
    ∃ t : Fin cfg0.N, (cfg0.win 9).flush t = true ∧ i ∈ ((cfg0.win 9).blk t).view.set := by
  obtain ⟨t, -, ht⟩ := cover_grad i
  exact ⟨t, flush0_9 t, ht⟩

theorem cover_newSecond (i : S4x704x2048.Idx) :
    ∃ t : Fin cfg0.N, (cfg0.win 10).flush t = true ∧ i ∈ ((cfg0.win 10).blk t).view.set := by
  obtain ⟨t, -, ht⟩ := cover_grad i
  exact ⟨t, flush0_10 t, ht⟩

/-- The reference's gradient. -/
def refGrad (x : FVec Ideal S4x4x704x2048 .f32) (i : S4x704x2048.Idx) : EReal :=
  (Host.reduceAdd x (constant Cert.StepDownRefIdeal.S_ .f32 0x00000000#32) Cert.StepDownRefIdeal.Gen.reducesTo_S4x4x704x2048_S4x704x2048_d1 Cert.StepDownRefIdeal.Gen.h_S_ i : EReal)

theorem ref_grad (x : FVec Ideal S4x4x704x2048 .f32) (i : S4x704x2048.Idx) : refGrad x i = grad x i :=
  host_summed x Cert.StepDownRefIdeal.Gen.reducesTo_S4x4x704x2048_S4x704x2048_d1 i

/-- The kernel and the reference compute the same four arrays. -/
theorem algebraic : Cert.algebraic_StepDownIdeal_StepDownRefIdeal := by
  intro m g m' g' _ hm
  refine ⟨fun c => grad (m ((c : Thread nD τ).loc main_arg3)), fun c => delta (m ((c : Thread nD τ).loc main_arg0)) (m ((c : Thread nD τ).loc main_arg1)) (m ((c : Thread nD τ).loc main_arg2)) (m ((c : Thread nD τ).loc main_arg3)),
    fun c => newFirst (m ((c : Thread nD τ).loc main_arg1)) (m ((c : Thread nD τ).loc main_arg3)), fun c => newSecond (m ((c : Thread nD τ).loc main_arg2)) (m ((c : Thread nD τ).loc main_arg3)), ?_, ?_⟩
  · exact (θ_run defs _ _).mono (fun _ h c => ⟨(h c).1.trans ((dats m 0 c).arrAt_eq_of_cover 7 _ (fun t _ => flushed_grad m c t) cover_grad),
      (h c).2.1.trans ((dats m 0 c).arrAt_eq_of_cover 8 _ (fun t _ => flushed_delta m c t) cover_delta),
      (h c).2.2.1.trans ((dats m 0 c).arrAt_eq_of_cover 9 _ (fun t _ => flushed_newFirst m c t) cover_newFirst),
      (h c).2.2.2.1.trans ((dats m 0 c).arrAt_eq_of_cover 10 _ (fun t _ => flushed_newSecond m c t) cover_newSecond), (h c).2.2.2.2⟩) (run_blocks m g)
  · refine (θ_run Cert.StepDownRefIdeal.defs _ _).mono (fun _ h c => ⟨(h c).1.trans ?_, (h c).2.1.trans ?_, (h c).2.2.1.trans ?_, (h c).2.2.2.1.trans ?_, (h c).2.2.2.2⟩)
      (Cert.StepDownRefIdeal.Value.run m' g')
    · rw [(hm c).2.2.2]
      funext i
      exact (ref_grad _ i)
    · rw [(hm c).1, (hm c).2.1, (hm c).2.2.1, (hm c).2.2.2]
      funext i
      have k1 := change_eq ((m ((c : Thread nD τ).loc main_arg0)) i) (moment1 ((m ((c : Thread nD τ).loc main_arg1)) i) (refGrad (m ((c : Thread nD τ).loc main_arg3)) i)) (moment2 ((m ((c : Thread nD τ).loc main_arg2)) i) (refGrad (m ((c : Thread nD τ).loc main_arg3)) i))
      have k2 := congrArg (fun g => change ((m ((c : Thread nD τ).loc main_arg0)) i) (moment1 ((m ((c : Thread nD τ).loc main_arg1)) i) g) (moment2 ((m ((c : Thread nD τ).loc main_arg2)) i) g)) (ref_grad (m ((c : Thread nD τ).loc main_arg3)) i)
      refine Eq.trans ?_ (k1.trans k2)
      rfl
    · rw [(hm c).2.1, (hm c).2.2.2]
      funext i
      exact (congrArg (moment1 ((m ((c : Thread nD τ).loc main_arg1)) i)) (ref_grad _ i))
    · rw [(hm c).2.2.1, (hm c).2.2.2]
      funext i
      exact (congrArg (moment2 ((m ((c : Thread nD τ).loc main_arg2)) i)) (ref_grad _ i))

end Cert.StepDownIdeal.Value

end
-- ==== Proof.StepOut.lean ====
/- The optimiser's step for the output projection's weight: the gradient of each layer is the sum of four partial gradients, and the two
   moments and the weight's change follow from it element by element. -/
module

public import proofs.«01_k».proof.Proof.Step
public import proofs.«01_k».proof.Defs
public import proofs.«01_k».proof.Proof.Gen.StepOutIdeal.Value
public import proofs.«01_k».proof.Proof.Gen.StepOutRefIdeal.Run

@[expose] public section

set_option maxRecDepth 16384

noncomputable section

namespace Cert.StepOutIdeal.Value

open Cert.StepOutIdeal Cert.StepOutIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The gradient of the stack of four layers, -/
def grad (x : S4x4x256x2048.Idx → EReal) : S4x256x2048.Idx → EReal := summed x

/-- the two moments, and the change of the weight. -/
def newFirst (p : S4x256x2048.Idx → EReal) (x : S4x4x256x2048.Idx → EReal) (i : S4x256x2048.Idx) : EReal := moment1 (p i) (grad x i)
def newSecond (v : S4x256x2048.Idx → EReal) (x : S4x4x256x2048.Idx → EReal) (i : S4x256x2048.Idx) : EReal := moment2 (v i) (grad x i)
def delta (w p v : S4x256x2048.Idx → EReal) (x : S4x4x256x2048.Idx → EReal) (i : S4x256x2048.Idx) : EReal :=
  change (w i) (newFirst p x i) (newSecond v x i)

/-- The kernel's names are one over the corrections of the bias. -/
theorem name1 : (Named.named κ "r1" 0x3FC48605#32 : Ideal .f32) = recip1 :=
  (IdealRules.named_const.ideal_named_scalar _ _ _ _ rfl).trans (by unfold recip1; norm_num)

theorem name2 : (Named.named κ "r2" 0x42C8E6D3#32 : Ideal .f32) = recip2 :=
  (IdealRules.named_const.ideal_named_scalar _ _ _ _ rfl).trans (by unfold recip2; norm_num)

/-- The sum of the four partial gradients of a block, -/
def blockSum (x : Vec Ideal S4x64x2048 .bf16) (j : S64x2048.Idx) : EReal :=
  (shapeCast S64x2048 (View.ld x r0_0) shapeCasts_S1x64x2048_S64x2048 j : EReal) + (shapeCast S64x2048 (View.ld x r0_1) shapeCasts_S1x64x2048_S64x2048 j : EReal)
    + (shapeCast S64x2048 (View.ld x r0_2) shapeCasts_S1x64x2048_S64x2048 j : EReal) + (shapeCast S64x2048 (View.ld x r0_3) shapeCasts_S1x64x2048_S64x2048 j : EReal)

theorem blockSum_apply (x : Vec Ideal S4x64x2048 .bf16) (j : S64x2048.Idx) :
    blockSum x j = (x (ix3 (0 : Fin 4) (j 0) (j 1)) : EReal) + (x (ix3 (1 : Fin 4) (j 0) (j 1)) : EReal)
      + (x (ix3 (2 : Fin 4) (j 0) (j 1)) : EReal) + (x (ix3 (3 : Fin 4) (j 0) (j 1)) : EReal) :=
  congrArg₂ (· + ·) (congrArg₂ (· + ·) (congrArg₂ (· + ·) (piece_read x 0 (by decide) _ rfl _ _ j) (piece_read x 1 (by decide) _ rfl _ _ j))
    (piece_read x 2 (by decide) _ rfl _ _ j)) (piece_read x 3 (by decide) _ rfl _ _ j)

/-- and the one of the grid point's layer. -/
theorem sum_apply (i : grid0.Coords) (x0 x1 x2 : Vec Ideal S1x64x2048 .f32) (x3 x4 x5 x6 : Vec Ideal S4x64x2048 .bf16) (j : S64x2048.Idx) :
    (k0_pay9 (BitVec.ofNat 32 (i 0).val) (k0_pay16 i x0 x1 x2 x3 x4 x5 x6) (k0_pay17 i x0 x1 x2 x3 x4 x5 x6) (View.ld x6 r0_3) j : EReal) = picked (BitVec.ofNat 32 (i 0).val) (blockSum x3) (blockSum x4) (blockSum x5) (blockSum x6) j := rfl

/-- What the body stores, at an index: the gradient, -/
theorem grad_apply (i : grid0.Coords) (x0 x1 x2 : Vec Ideal S1x64x2048 .f32) (x3 x4 x5 x6 : Vec Ideal S4x64x2048 .bf16) (y : S1x64x2048.Idx) :
    (k0_pay14 (BitVec.ofNat 32 (i 0).val) (k0_pay16 i x0 x1 x2 x3 x4 x5 x6) (k0_pay17 i x0 x1 x2 x3 x4 x5 x6) (View.ld x6 r0_3) y : EReal) = picked (BitVec.ofNat 32 (i 0).val) (blockSum x3) (blockSum x4) (blockSum x5) (blockSum x6) (ix2 (y 1) (y 2)) :=
  (batch_read _ shapeCasts_S64x2048_S1x64x2048 y).trans (sum_apply i x0 x1 x2 x3 x4 x5 x6 _)

/-- the moments, -/
theorem first_apply (i : grid0.Coords) (x0 x1 x2 : Vec Ideal S1x64x2048 .f32) (x3 x4 x5 x6 : Vec Ideal S4x64x2048 .bf16) (j : S64x2048.Idx) :
    (k0_pay11 (BitVec.ofNat 32 (i 0).val) (k0_pay16 i x0 x1 x2 x3 x4 x5 x6) (k0_pay17 i x0 x1 x2 x3 x4 x5 x6) (View.ld x6 r0_3) (View.ld x1 r0_4) j : EReal) = moment1 (x1 (ix3 (0 : Fin 1) (j 0) (j 1))) (picked (BitVec.ofNat 32 (i 0).val) (blockSum x3) (blockSum x4) (blockSum x5) (blockSum x6) j) := by
  have e : (k0_pay11 (BitVec.ofNat 32 (i 0).val) (k0_pay16 i x0 x1 x2 x3 x4 x5 x6) (k0_pay17 i x0 x1 x2 x3 x4 x5 x6) (View.ld x6 r0_3) (View.ld x1 r0_4) j : EReal)
      = moment1 (shapeCast S64x2048 (View.ld x1 r0_4) shapeCasts_S1x64x2048_S64x2048 j) (picked (BitVec.ofNat 32 (i 0).val) (blockSum x3) (blockSum x4) (blockSum x5) (blockSum x6) j) := rfl
  rw [e, View.ld_unit_zero origin3]; exact congrArg (moment1 · _) (flat_read x1 _ j)

theorem second_apply (i : grid0.Coords) (x0 x1 x2 : Vec Ideal S1x64x2048 .f32) (x3 x4 x5 x6 : Vec Ideal S4x64x2048 .bf16) (j : S64x2048.Idx) :
    (k0_pay12 (BitVec.ofNat 32 (i 0).val) (k0_pay16 i x0 x1 x2 x3 x4 x5 x6) (k0_pay17 i x0 x1 x2 x3 x4 x5 x6) (View.ld x6 r0_3) (View.ld x2 r0_4) j : EReal) = moment2 (x2 (ix3 (0 : Fin 1) (j 0) (j 1))) (picked (BitVec.ofNat 32 (i 0).val) (blockSum x3) (blockSum x4) (blockSum x5) (blockSum x6) j) := by
  have e : (k0_pay12 (BitVec.ofNat 32 (i 0).val) (k0_pay16 i x0 x1 x2 x3 x4 x5 x6) (k0_pay17 i x0 x1 x2 x3 x4 x5 x6) (View.ld x6 r0_3) (View.ld x2 r0_4) j : EReal)
      = moment2 (shapeCast S64x2048 (View.ld x2 r0_4) shapeCasts_S1x64x2048_S64x2048 j) (picked (BitVec.ofNat 32 (i 0).val) (blockSum x3) (blockSum x4) (blockSum x5) (blockSum x6) j) := rfl
  rw [e, View.ld_unit_zero origin3]; exact congrArg (moment2 · _) (flat_read x2 _ j)

/-- and the change of the weight. -/
theorem delta_apply (i : grid0.Coords) (x0 x1 x2 : Vec Ideal S1x64x2048 .f32) (x3 x4 x5 x6 : Vec Ideal S4x64x2048 .bf16) (y : S1x64x2048.Idx) :
    (k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_3) (View.ld x1 r0_4)) (k0_pay15 (BitVec.ofNat 32 (i 0).val) (k0_pay16 i x0 x1 x2 x3 x4 x5 x6) (k0_pay17 i x0 x1 x2 x3 x4 x5 x6) (View.ld x6 r0_3) (View.ld x2 r0_4)) y : EReal)
      = change (x0 (ix3 (0 : Fin 1) (y 1) (y 2))) (moment1 (x1 (ix3 (0 : Fin 1) (y 1) (y 2))) (picked (BitVec.ofNat 32 (i 0).val) (blockSum x3) (blockSum x4) (blockSum x5) (blockSum x6) (ix2 (y 1) (y 2))))
          (moment2 (x2 (ix3 (0 : Fin 1) (y 1) (y 2))) (picked (BitVec.ofNat 32 (i 0).val) (blockSum x3) (blockSum x4) (blockSum x5) (blockSum x6) (ix2 (y 1) (y 2)))) := by
  have e : k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_3) (View.ld x1 r0_4)) (k0_pay15 (BitVec.ofNat 32 (i 0).val) (k0_pay16 i x0 x1 x2 x3 x4 x5 x6) (k0_pay17 i x0 x1 x2 x3 x4 x5 x6) (View.ld x6 r0_3) (View.ld x2 r0_4))
      = shapeCast S1x64x2048 (fun j : S64x2048.Idx => Ideal.ofBits .f32 0xBA83126F#32 * (Ideal.div
      ((k0_pay11 (BitVec.ofNat 32 (i 0).val) (k0_pay16 i x0 x1 x2 x3 x4 x5 x6) (k0_pay17 i x0 x1 x2 x3 x4 x5 x6) (View.ld x6 r0_3) (View.ld x1 r0_4) j : EReal) * (Named.named κ "r1" 0x3FC48605#32 : Ideal .f32))
      (Ideal.sqrt ((k0_pay12 (BitVec.ofNat 32 (i 0).val) (k0_pay16 i x0 x1 x2 x3 x4 x5 x6) (k0_pay17 i x0 x1 x2 x3 x4 x5 x6) (View.ld x6 r0_3) (View.ld x2 r0_4) j : EReal) * (Named.named κ "r2" 0x42C8E6D3#32 : Ideal .f32))
        + Ideal.ofBits .f32 0x322BCC77#32)
    + Ideal.ofBits .f32 0x3C23D70A#32 * (shapeCast S64x2048 (View.ld x0 r0_4) shapeCasts_S1x64x2048_S64x2048 j : EReal))) shapeCasts_S64x2048_S1x64x2048 := rfl
  rw [e]
  refine (batch_read _ shapeCasts_S64x2048_S1x64x2048 y).trans ?_
  rw [name1, name2, first_apply, second_apply, View.ld_unit_zero origin3]
  exact congrArg (change · _ _) (flat_read x0 _ (ix2 (y 1) (y 2)))

/-- The blocks a point reads and writes: its layer's block of each array; of the partial gradients, only its own layer's
    block counts. -/
theorem index_facts : ∀ t : Fin cfg0.N, (grid0.coords t 0).val = t.val / 4
    ∧ win0_0.index t 0 = t.val / 4
    ∧ win0_0.index t 1 = t.val % 4
    ∧ win0_0.index t 2 = 0
    ∧ win0_1.index t 0 = t.val / 4
    ∧ win0_1.index t 1 = t.val % 4
    ∧ win0_1.index t 2 = 0
    ∧ win0_2.index t 0 = t.val / 4
    ∧ win0_2.index t 1 = t.val % 4
    ∧ win0_2.index t 2 = 0
    ∧ win0_7.index t 0 = t.val / 4
    ∧ win0_7.index t 1 = t.val % 4
    ∧ win0_7.index t 2 = 0
    ∧ win0_3.index t 0 = 0
    ∧ win0_3.index t 2 = 0
    ∧ (t.val / 4 = 0 → win0_3.index t 1 = t.val % 4)
    ∧ win0_4.index t 0 = 0
    ∧ win0_4.index t 2 = 0
    ∧ (t.val / 4 = 1 → win0_4.index t 1 = t.val % 4)
    ∧ win0_5.index t 0 = 0
    ∧ win0_5.index t 2 = 0
    ∧ (t.val / 4 = 2 → win0_5.index t 1 = t.val % 4)
    ∧ win0_6.index t 0 = 0
    ∧ win0_6.index t 2 = 0
    ∧ (t.val / 4 = 3 → win0_6.index t 1 = t.val % 4) := by
  decide +kernel

/-- The partial gradients of layer 0 as the kernel finds them. -/
theorem part0_apply (c : Dev nD) (i : S4x256x2048.Idx) :
    (V m c main_v2 i : EReal) = ((m ((c : Thread nD τ).loc main_arg3)) (ix4 (0 : Fin 4) (i 0) (i 1) (i 2)) : EReal) := by
  have e : V m c main_v2 = (truncf (F := Ideal) .bf16 (shapeCast S4x256x2048 (extractStridedSlice S1x4x256x2048 ![0, 0, 0, 0]
      (m ((c : Thread nD τ).loc main_arg3)) slices_S4x4x256x2048_S1x4x256x2048_0_0_0_0) shapeCasts_S1x4x256x2048_S4x256x2048) bitsLt_bf16_f32 : FVec Ideal S4x256x2048 .bf16) := by
    show StableHlo.after hostOps0 (fun b => m (c, b)) (Proc.devRef .tc main_v2) = _
    after_results
    rfl
  rw [e]; exact layer_read (m ((c : Thread nD τ).loc main_arg3)) 0 (by decide) _ rfl slices_S4x4x256x2048_S1x4x256x2048_0_0_0_0 shapeCasts_S1x4x256x2048_S4x256x2048 i

/-- The partial gradients of layer 1 as the kernel finds them. -/
theorem part1_apply (c : Dev nD) (i : S4x256x2048.Idx) :
    (V m c main_v5 i : EReal) = ((m ((c : Thread nD τ).loc main_arg3)) (ix4 (1 : Fin 4) (i 0) (i 1) (i 2)) : EReal) := by
  have e : V m c main_v5 = (truncf (F := Ideal) .bf16 (shapeCast S4x256x2048 (extractStridedSlice S1x4x256x2048 ![1, 0, 0, 0]
      (m ((c : Thread nD τ).loc main_arg3)) slices_S4x4x256x2048_S1x4x256x2048_1_0_0_0) shapeCasts_S1x4x256x2048_S4x256x2048) bitsLt_bf16_f32 : FVec Ideal S4x256x2048 .bf16) := by
    show StableHlo.after hostOps0 (fun b => m (c, b)) (Proc.devRef .tc main_v5) = _
    after_results
    rfl
  rw [e]; exact layer_read (m ((c : Thread nD τ).loc main_arg3)) 1 (by decide) _ rfl slices_S4x4x256x2048_S1x4x256x2048_1_0_0_0 shapeCasts_S1x4x256x2048_S4x256x2048 i

/-- The partial gradients of layer 2 as the kernel finds them. -/
theorem part2_apply (c : Dev nD) (i : S4x256x2048.Idx) :
    (V m c main_v8 i : EReal) = ((m ((c : Thread nD τ).loc main_arg3)) (ix4 (2 : Fin 4) (i 0) (i 1) (i 2)) : EReal) := by
  have e : V m c main_v8 = (truncf (F := Ideal) .bf16 (shapeCast S4x256x2048 (extractStridedSlice S1x4x256x2048 ![2, 0, 0, 0]
      (m ((c : Thread nD τ).loc main_arg3)) slices_S4x4x256x2048_S1x4x256x2048_2_0_0_0) shapeCasts_S1x4x256x2048_S4x256x2048) bitsLt_bf16_f32 : FVec Ideal S4x256x2048 .bf16) := by
    show StableHlo.after hostOps0 (fun b => m (c, b)) (Proc.devRef .tc main_v8) = _
    after_results
    rfl
  rw [e]; exact layer_read (m ((c : Thread nD τ).loc main_arg3)) 2 (by decide) _ rfl slices_S4x4x256x2048_S1x4x256x2048_2_0_0_0 shapeCasts_S1x4x256x2048_S4x256x2048 i

/-- The partial gradients of layer 3 as the kernel finds them. -/
theorem part3_apply (c : Dev nD) (i : S4x256x2048.Idx) :
    (V m c main_v11 i : EReal) = ((m ((c : Thread nD τ).loc main_arg3)) (ix4 (3 : Fin 4) (i 0) (i 1) (i 2)) : EReal) := by
  have e : V m c main_v11 = (truncf (F := Ideal) .bf16 (shapeCast S4x256x2048 (extractStridedSlice S1x4x256x2048 ![3, 0, 0, 0]
      (m ((c : Thread nD τ).loc main_arg3)) slices_S4x4x256x2048_S1x4x256x2048_3_0_0_0) shapeCasts_S1x4x256x2048_S4x256x2048) bitsLt_bf16_f32 : FVec Ideal S4x256x2048 .bf16) := by
    show StableHlo.after hostOps0 (fun b => m (c, b)) (Proc.devRef .tc main_v11) = _
    after_results
    rfl
  rw [e]; exact layer_read (m ((c : Thread nD τ).loc main_arg3)) 3 (by decide) _ rfl slices_S4x4x256x2048_S1x4x256x2048_3_0_0_0 shapeCasts_S1x4x256x2048_S4x256x2048 i

/-- A point of layer 0 sums the partial gradients of its block. -/
theorem sum0 (c : Dev nD) (t : Fin cfg0.N) (h : t.val / 4 = 0) (y : ((cfg0.win 7).xblock (grid0.coords t)).Idx) :
    blockSum (iblk m c 3 t) (ix2 (y 1) (y 2)) = grad (m ((c : Thread nD τ).loc main_arg3)) ((win0_7.rect t).emb y) := by
  obtain ⟨-, -, -, -, -, -, -, -, -, -, e0, e1, e2, p00, p0c, p0h, -, -, -, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 3 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v2 ((win0_3.rect t).emb (ix3 b (y 1) (y 2))) : EReal)) rfl ?_
    refine (part0_apply m c _).trans (congrArg (m ((c : Thread nD τ).loc main_arg3)) (funext fun a => Fin.ext ?_))
    match a with
    | ⟨0, _⟩ =>
      show 0 = ((win0_7.rect t).emb y 0).val
      rw [f0, e0, h]; show 0 = 0 * 1 + (y 0).val; omega
    | ⟨1, _⟩ =>
      refine (win0_3.rect_emb_val t (ix3 b (y 1) (y 2)) 0).trans ?_
      rw [p00]; show 0 * 4 + b.val = b.val; omega
    | ⟨2, _⟩ =>
      refine (win0_3.rect_emb_val t (ix3 b (y 1) (y 2)) 1).trans (Eq.trans ?_ f1.symm)
      rw [p0h h, e1]; rfl
    | ⟨3, _⟩ =>
      refine (win0_3.rect_emb_val t (ix3 b (y 1) (y 2)) 2).trans (Eq.trans ?_ f2.symm)
      rw [p0c, e2]; rfl
  refine (blockSum_apply _ (ix2 (y 1) (y 2))).trans ?_
  exact congrArg₂ (· + ·) (congrArg₂ (· + ·) (congrArg₂ (· + ·) (k 0) (k 1)) (k 2)) (k 3)

/-- A point of layer 1 sums the partial gradients of its block. -/
theorem sum1 (c : Dev nD) (t : Fin cfg0.N) (h : t.val / 4 = 1) (y : ((cfg0.win 7).xblock (grid0.coords t)).Idx) :
    blockSum (iblk m c 4 t) (ix2 (y 1) (y 2)) = grad (m ((c : Thread nD τ).loc main_arg3)) ((win0_7.rect t).emb y) := by
  obtain ⟨-, -, -, -, -, -, -, -, -, -, e0, e1, e2, -, -, -, p10, p1c, p1h, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 4 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v5 ((win0_4.rect t).emb (ix3 b (y 1) (y 2))) : EReal)) rfl ?_
    refine (part1_apply m c _).trans (congrArg (m ((c : Thread nD τ).loc main_arg3)) (funext fun a => Fin.ext ?_))
    match a with
    | ⟨0, _⟩ =>
      show 1 = ((win0_7.rect t).emb y 0).val
      rw [f0, e0, h]; show 1 = 1 * 1 + (y 0).val; omega
    | ⟨1, _⟩ =>
      refine (win0_4.rect_emb_val t (ix3 b (y 1) (y 2)) 0).trans ?_
      rw [p10]; show 0 * 4 + b.val = b.val; omega
    | ⟨2, _⟩ =>
      refine (win0_4.rect_emb_val t (ix3 b (y 1) (y 2)) 1).trans (Eq.trans ?_ f1.symm)
      rw [p1h h, e1]; rfl
    | ⟨3, _⟩ =>
      refine (win0_4.rect_emb_val t (ix3 b (y 1) (y 2)) 2).trans (Eq.trans ?_ f2.symm)
      rw [p1c, e2]; rfl
  refine (blockSum_apply _ (ix2 (y 1) (y 2))).trans ?_
  exact congrArg₂ (· + ·) (congrArg₂ (· + ·) (congrArg₂ (· + ·) (k 0) (k 1)) (k 2)) (k 3)

/-- A point of layer 2 sums the partial gradients of its block. -/
theorem sum2 (c : Dev nD) (t : Fin cfg0.N) (h : t.val / 4 = 2) (y : ((cfg0.win 7).xblock (grid0.coords t)).Idx) :
    blockSum (iblk m c 5 t) (ix2 (y 1) (y 2)) = grad (m ((c : Thread nD τ).loc main_arg3)) ((win0_7.rect t).emb y) := by
  obtain ⟨-, -, -, -, -, -, -, -, -, -, e0, e1, e2, -, -, -, -, -, -, p20, p2c, p2h, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 5 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v8 ((win0_5.rect t).emb (ix3 b (y 1) (y 2))) : EReal)) rfl ?_
    refine (part2_apply m c _).trans (congrArg (m ((c : Thread nD τ).loc main_arg3)) (funext fun a => Fin.ext ?_))
    match a with
    | ⟨0, _⟩ =>
      show 2 = ((win0_7.rect t).emb y 0).val
      rw [f0, e0, h]; show 2 = 2 * 1 + (y 0).val; omega
    | ⟨1, _⟩ =>
      refine (win0_5.rect_emb_val t (ix3 b (y 1) (y 2)) 0).trans ?_
      rw [p20]; show 0 * 4 + b.val = b.val; omega
    | ⟨2, _⟩ =>
      refine (win0_5.rect_emb_val t (ix3 b (y 1) (y 2)) 1).trans (Eq.trans ?_ f1.symm)
      rw [p2h h, e1]; rfl
    | ⟨3, _⟩ =>
      refine (win0_5.rect_emb_val t (ix3 b (y 1) (y 2)) 2).trans (Eq.trans ?_ f2.symm)
      rw [p2c, e2]; rfl
  refine (blockSum_apply _ (ix2 (y 1) (y 2))).trans ?_
  exact congrArg₂ (· + ·) (congrArg₂ (· + ·) (congrArg₂ (· + ·) (k 0) (k 1)) (k 2)) (k 3)

/-- A point of layer 3 sums the partial gradients of its block. -/
theorem sum3 (c : Dev nD) (t : Fin cfg0.N) (h : t.val / 4 = 3) (y : ((cfg0.win 7).xblock (grid0.coords t)).Idx) :
    blockSum (iblk m c 6 t) (ix2 (y 1) (y 2)) = grad (m ((c : Thread nD τ).loc main_arg3)) ((win0_7.rect t).emb y) := by
  obtain ⟨-, -, -, -, -, -, -, -, -, -, e0, e1, e2, -, -, -, -, -, -, -, -, -, p30, p3c, p3h⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 6 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v11 ((win0_6.rect t).emb (ix3 b (y 1) (y 2))) : EReal)) rfl ?_
    refine (part3_apply m c _).trans (congrArg (m ((c : Thread nD τ).loc main_arg3)) (funext fun a => Fin.ext ?_))
    match a with
    | ⟨0, _⟩ =>
      show 3 = ((win0_7.rect t).emb y 0).val
      rw [f0, e0, h]; show 3 = 3 * 1 + (y 0).val; omega
    | ⟨1, _⟩ =>
      refine (win0_6.rect_emb_val t (ix3 b (y 1) (y 2)) 0).trans ?_
      rw [p30]; show 0 * 4 + b.val = b.val; omega
    | ⟨2, _⟩ =>
      refine (win0_6.rect_emb_val t (ix3 b (y 1) (y 2)) 1).trans (Eq.trans ?_ f1.symm)
      rw [p3h h, e1]; rfl
    | ⟨3, _⟩ =>
      refine (win0_6.rect_emb_val t (ix3 b (y 1) (y 2)) 2).trans (Eq.trans ?_ f2.symm)
      rw [p3c, e2]; rfl
  refine (blockSum_apply _ (ix2 (y 1) (y 2))).trans ?_
  exact congrArg₂ (· + ·) (congrArg₂ (· + ·) (congrArg₂ (· + ·) (k 0) (k 1)) (k 2)) (k 3)

/-- The gradient of a point's block. -/
theorem grad_block (c : Dev nD) (t : Fin cfg0.N) (y : ((cfg0.win 7).xblock (grid0.coords t)).Idx) :
    picked (BitVec.ofNat 32 (grid0.coords t 0).val) (blockSum (iblk m c 3 t)) (blockSum (iblk m c 4 t)) (blockSum (iblk m c 5 t)) (blockSum (iblk m c 6 t)) (ix2 (y 1) (y 2)) = grad (m ((c : Thread nD τ).loc main_arg3)) ((win0_7.rect t).emb y) := by
  obtain ⟨l, -, -, -, -, -, -, -, -, -, -, -, -, -, -, -, -, -, -, -, -, -, -, -, -⟩ := index_facts t
  have hN : cfg0.N = 16 := N_0
  have ht := t.isLt
  obtain h | h | h | h : t.val / 4 = 0 ∨ t.val / 4 = 1 ∨ t.val / 4 = 2 ∨ t.val / 4 = 3 := by omega
  · rw [l, h]; exact (picked0 _ _ _ _ _).trans (sum0 m c t (by omega) y)
  · rw [l, h]; exact (picked1 _ _ _ _ _).trans (sum1 m c t (by omega) y)
  · rw [l, h]; exact (picked2 _ _ _ _ _).trans (sum2 m c t (by omega) y)
  · rw [l, h]; exact (picked3 _ _ _ _ _).trans (sum3 m c t (by omega) y)

/-- The weight's -/
theorem block0 (c : Dev nD) (t : Fin cfg0.N) (y : ((cfg0.win 7).xblock (grid0.coords t)).Idx) :
    (iblk m c 0 t (ix3 (0 : Fin 1) (y 1) (y 2)) : EReal) = (m ((c : Thread nD τ).loc main_arg0)) ((win0_7.rect t).emb y) := by
  obtain ⟨-, a0, a1, a2, -, -, -, -, -, -, e0, e1, e2, -, -, -, -, -, -, -, -, -, -, -, -⟩ := index_facts t
  have y0 : (y 0).val < 1 := (y 0).isLt
  refine Eq.trans (congrArg (V m c main_arg0) (funext fun a => Fin.ext ?_)) (congrFun (V_main_arg0 m c) _)
  match a with
  | ⟨0, _⟩ =>
    refine (win0_0.rect_emb_val t _ 0).trans (Eq.trans ?_ (win0_7.rect_emb_val t y 0).symm)
    rw [a0, e0]; show _ * 1 + 0 = _ * 1 + (y 0).val; omega
  | ⟨1, _⟩ => exact (win0_0.rect_emb_val t _ 1).trans ((congrArg (· * 64 + _) (a1.trans e1.symm)).trans (win0_7.rect_emb_val t y 1).symm)
  | ⟨2, _⟩ => exact (win0_0.rect_emb_val t _ 2).trans ((congrArg (· * 2048 + _) (a2.trans e2.symm)).trans (win0_7.rect_emb_val t y 2).symm)

/-- the first moment's -/
theorem block1 (c : Dev nD) (t : Fin cfg0.N) (y : ((cfg0.win 7).xblock (grid0.coords t)).Idx) :
    (iblk m c 1 t (ix3 (0 : Fin 1) (y 1) (y 2)) : EReal) = (m ((c : Thread nD τ).loc main_arg1)) ((win0_7.rect t).emb y) := by
  obtain ⟨-, -, -, -, b0, b1, b2, -, -, -, e0, e1, e2, -, -, -, -, -, -, -, -, -, -, -, -⟩ := index_facts t
  have y0 : (y 0).val < 1 := (y 0).isLt
  refine Eq.trans (congrArg (V m c main_arg1) (funext fun a => Fin.ext ?_)) (congrFun (V_main_arg1 m c) _)
  match a with
  | ⟨0, _⟩ =>
    refine (win0_1.rect_emb_val t _ 0).trans (Eq.trans ?_ (win0_7.rect_emb_val t y 0).symm)
    rw [b0, e0]; show _ * 1 + 0 = _ * 1 + (y 0).val; omega
  | ⟨1, _⟩ => exact (win0_1.rect_emb_val t _ 1).trans ((congrArg (· * 64 + _) (b1.trans e1.symm)).trans (win0_7.rect_emb_val t y 1).symm)
  | ⟨2, _⟩ => exact (win0_1.rect_emb_val t _ 2).trans ((congrArg (· * 2048 + _) (b2.trans e2.symm)).trans (win0_7.rect_emb_val t y 2).symm)

/-- and the second moment's block. -/
theorem block2 (c : Dev nD) (t : Fin cfg0.N) (y : ((cfg0.win 7).xblock (grid0.coords t)).Idx) :
    (iblk m c 2 t (ix3 (0 : Fin 1) (y 1) (y 2)) : EReal) = (m ((c : Thread nD τ).loc main_arg2)) ((win0_7.rect t).emb y) := by
  obtain ⟨-, -, -, -, -, -, -, d0, d1, d2, e0, e1, e2, -, -, -, -, -, -, -, -, -, -, -, -⟩ := index_facts t
  have y0 : (y 0).val < 1 := (y 0).isLt
  refine Eq.trans (congrArg (V m c main_arg2) (funext fun a => Fin.ext ?_)) (congrFun (V_main_arg2 m c) _)
  match a with
  | ⟨0, _⟩ =>
    refine (win0_2.rect_emb_val t _ 0).trans (Eq.trans ?_ (win0_7.rect_emb_val t y 0).symm)
    rw [d0, e0]; show _ * 1 + 0 = _ * 1 + (y 0).val; omega
  | ⟨1, _⟩ => exact (win0_2.rect_emb_val t _ 1).trans ((congrArg (· * 64 + _) (d1.trans e1.symm)).trans (win0_7.rect_emb_val t y 1).symm)
  | ⟨2, _⟩ => exact (win0_2.rect_emb_val t _ 2).trans ((congrArg (· * 2048 + _) (d2.trans e2.symm)).trans (win0_7.rect_emb_val t y 2).symm)

/-- What point `t` writes back is block `t` of the gradient, -/
theorem flushed_grad (c : Dev nD) (t : Fin cfg0.N) :
    (dats m 0 c).flushed 7 t = (win0_7.blk t).view.read (Elt Ideal) (grad (m ((c : Thread nD τ).loc main_arg3))) := by
  rw [flushed7]
  show (cfg0.win 7).cut (grid0.coords t) (out0_7 (grid0.coords t) (iblk m c 0 t) (iblk m c 1 t) (iblk m c 2 t) (iblk m c 3 t) (iblk m c 4 t) (iblk m c 5 t) (iblk m c 6 t)) = _
  unfold out0_7
  rw [View.canon_unit_zero origin3]
  funext y
  show _ = grad (m ((c : Thread nD τ).loc main_arg3)) ((win0_7.rect t).emb y)
  refine (grad_apply _ _ _ _ _ _ _ _ y).trans ?_
  exact grad_block m c t y

/-- the first moment, -/
theorem flushed_newFirst (c : Dev nD) (t : Fin cfg0.N) :
    (dats m 0 c).flushed 9 t = (win0_9.blk t).view.read (Elt Ideal) (newFirst (m ((c : Thread nD τ).loc main_arg1)) (m ((c : Thread nD τ).loc main_arg3))) := by
  rw [flushed9]
  show (cfg0.win 9).cut (grid0.coords t) (out0_9 (grid0.coords t) (iblk m c 0 t) (iblk m c 1 t) (iblk m c 2 t) (iblk m c 3 t) (iblk m c 4 t) (iblk m c 5 t) (iblk m c 6 t)) = _
  unfold out0_9
  rw [View.canon_unit_zero origin3]
  funext y
  show _ = newFirst (m ((c : Thread nD τ).loc main_arg1)) (m ((c : Thread nD τ).loc main_arg3)) ((win0_7.rect t).emb y)
  refine ((batch_read _ shapeCasts_S64x2048_S1x64x2048 y).trans (first_apply _ _ _ _ _ _ _ _ (ix2 (y 1) (y 2)))).trans ?_
  exact congrArg₂ moment1 (block1 m c t y) (grad_block m c t y)

/-- the second moment, -/
theorem flushed_newSecond (c : Dev nD) (t : Fin cfg0.N) :
    (dats m 0 c).flushed 10 t = (win0_10.blk t).view.read (Elt Ideal) (newSecond (m ((c : Thread nD τ).loc main_arg2)) (m ((c : Thread nD τ).loc main_arg3))) := by
  rw [flushed10]
  show (cfg0.win 10).cut (grid0.coords t) (out0_10 (grid0.coords t) (iblk m c 0 t) (iblk m c 1 t) (iblk m c 2 t) (iblk m c 3 t) (iblk m c 4 t) (iblk m c 5 t) (iblk m c 6 t)) = _
  unfold out0_10
  rw [View.canon_unit_zero origin3]
  funext y
  show _ = newSecond (m ((c : Thread nD τ).loc main_arg2)) (m ((c : Thread nD τ).loc main_arg3)) ((win0_7.rect t).emb y)
  refine ((batch_read _ shapeCasts_S64x2048_S1x64x2048 y).trans (second_apply _ _ _ _ _ _ _ _ (ix2 (y 1) (y 2)))).trans ?_
  exact congrArg₂ moment2 (block2 m c t y) (grad_block m c t y)

/-- and the change of the weight. -/
theorem flushed_delta (c : Dev nD) (t : Fin cfg0.N) :
    (dats m 0 c).flushed 8 t = (win0_8.blk t).view.read (Elt Ideal) (delta (m ((c : Thread nD τ).loc main_arg0)) (m ((c : Thread nD τ).loc main_arg1)) (m ((c : Thread nD τ).loc main_arg2)) (m ((c : Thread nD τ).loc main_arg3))) := by
  rw [flushed8]
  show (cfg0.win 8).cut (grid0.coords t) (out0_8 (grid0.coords t) (iblk m c 0 t) (iblk m c 1 t) (iblk m c 2 t) (iblk m c 3 t) (iblk m c 4 t) (iblk m c 5 t) (iblk m c 6 t)) = _
  unfold out0_8
  rw [View.canon_unit_zero origin3]
  funext y
  show _ = delta (m ((c : Thread nD τ).loc main_arg0)) (m ((c : Thread nD τ).loc main_arg1)) (m ((c : Thread nD τ).loc main_arg2)) (m ((c : Thread nD τ).loc main_arg3)) ((win0_7.rect t).emb y)
  refine (delta_apply _ _ _ _ _ _ _ _ y).trans ?_
  exact by
    have k1 := congrArg₂ moment1 (block1 m c t y) (grad_block m c t y)
    have k2 := congrArg₂ moment2 (block2 m c t y) (grad_block m c t y)
    rw [k1, k2]; exact congrArg (change · _ _) (block0 m c t y)

/-- The blocks cover each result. -/
theorem cover_grad (i : S4x256x2048.Idx) :
    ∃ t : Fin cfg0.N, (cfg0.win 7).flush t = true ∧ i ∈ ((cfg0.win 7).blk t).view.set := by
  have h0 : (i 0 : Nat) < 4 := (i 0).isLt
  have h1 : (i 1 : Nat) < 256 := (i 1).isLt
  have h2 : (i 2 : Nat) < 2048 := (i 2).isLt
  have hN : cfg0.N = 16 := N_0
  obtain ⟨t, ht⟩ : ∃ t : Fin cfg0.N, t.val = (i 0 : Nat) * 4 + (i 1 : Nat) / 64 := ⟨⟨_, by omega⟩, rfl⟩
  refine ⟨t, flush0_7 t, ?_⟩
  obtain ⟨-, -, -, -, -, -, -, -, -, -, e0, e1, e2, -, -, -, -, -, -, -, -, -, -, -, -⟩ := index_facts t
  show i ∈ ((View.whole main_v12_0).slice (win0_7.rect t)).set
  rw [View.set_slice_whole, Rect.mem_set_unit]
  intro a
  match a with
  | ⟨0, _⟩ =>
    show win0_7.index _ 0 * 1 ≤ (i 0 : Nat) ∧ (i 0 : Nat) < win0_7.index _ 0 * 1 + 1
    rw [e0, ht]; omega
  | ⟨1, _⟩ =>
    show win0_7.index _ 1 * 64 ≤ (i 1 : Nat) ∧ (i 1 : Nat) < win0_7.index _ 1 * 64 + 64
    rw [e1, ht]; omega
  | ⟨2, _⟩ =>
    show win0_7.index _ 2 * 2048 ≤ (i 2 : Nat) ∧ (i 2 : Nat) < win0_7.index _ 2 * 2048 + 2048
    rw [e2]; omega

theorem cover_delta (i : S4x256x2048.Idx) :
    ∃ t : Fin cfg0.N, (cfg0.win 8).flush t = true ∧ i ∈ ((cfg0.win 8).blk t).view.set := by
  obtain ⟨t, -, ht⟩ := cover_grad i
  exact ⟨t, flush0_8 t, ht⟩

theorem cover_newFirst (i : S4x256x2048.Idx) :
    ∃ t : Fin cfg0.N, (cfg0.win 9).flush t = true ∧ i ∈ ((cfg0.win 9).blk t).view.set := by
  obtain ⟨t, -, ht⟩ := cover_grad i
  exact ⟨t, flush0_9 t, ht⟩

theorem cover_newSecond (i : S4x256x2048.Idx) :
    ∃ t : Fin cfg0.N, (cfg0.win 10).flush t = true ∧ i ∈ ((cfg0.win 10).blk t).view.set := by
  obtain ⟨t, -, ht⟩ := cover_grad i
  exact ⟨t, flush0_10 t, ht⟩

/-- The reference's gradient. -/
def refGrad (x : FVec Ideal S4x4x256x2048 .f32) (i : S4x256x2048.Idx) : EReal :=
  (Host.reduceAdd x (constant Cert.StepOutRefIdeal.S_ .f32 0x00000000#32) Cert.StepOutRefIdeal.Gen.reducesTo_S4x4x256x2048_S4x256x2048_d1 Cert.StepOutRefIdeal.Gen.h_S_ i : EReal)

theorem ref_grad (x : FVec Ideal S4x4x256x2048 .f32) (i : S4x256x2048.Idx) : refGrad x i = grad x i :=
  host_summed x Cert.StepOutRefIdeal.Gen.reducesTo_S4x4x256x2048_S4x256x2048_d1 i

/-- The kernel and the reference compute the same four arrays. -/
theorem algebraic : Cert.algebraic_StepOutIdeal_StepOutRefIdeal := by
  intro m g m' g' _ hm
  refine ⟨fun c => grad (m ((c : Thread nD τ).loc main_arg3)), fun c => delta (m ((c : Thread nD τ).loc main_arg0)) (m ((c : Thread nD τ).loc main_arg1)) (m ((c : Thread nD τ).loc main_arg2)) (m ((c : Thread nD τ).loc main_arg3)),
    fun c => newFirst (m ((c : Thread nD τ).loc main_arg1)) (m ((c : Thread nD τ).loc main_arg3)), fun c => newSecond (m ((c : Thread nD τ).loc main_arg2)) (m ((c : Thread nD τ).loc main_arg3)), ?_, ?_⟩
  · exact (θ_run defs _ _).mono (fun _ h c => ⟨(h c).1.trans ((dats m 0 c).arrAt_eq_of_cover 7 _ (fun t _ => flushed_grad m c t) cover_grad),
      (h c).2.1.trans ((dats m 0 c).arrAt_eq_of_cover 8 _ (fun t _ => flushed_delta m c t) cover_delta),
      (h c).2.2.1.trans ((dats m 0 c).arrAt_eq_of_cover 9 _ (fun t _ => flushed_newFirst m c t) cover_newFirst),
      (h c).2.2.2.1.trans ((dats m 0 c).arrAt_eq_of_cover 10 _ (fun t _ => flushed_newSecond m c t) cover_newSecond), (h c).2.2.2.2⟩) (run_blocks m g)
  · refine (θ_run Cert.StepOutRefIdeal.defs _ _).mono (fun _ h c => ⟨(h c).1.trans ?_, (h c).2.1.trans ?_, (h c).2.2.1.trans ?_, (h c).2.2.2.1.trans ?_, (h c).2.2.2.2⟩)
      (Cert.StepOutRefIdeal.Value.run m' g')
    · rw [(hm c).2.2.2]
      funext i
      exact (ref_grad _ i)
    · rw [(hm c).1, (hm c).2.1, (hm c).2.2.1, (hm c).2.2.2]
      funext i
      have k1 := change_eq ((m ((c : Thread nD τ).loc main_arg0)) i) (moment1 ((m ((c : Thread nD τ).loc main_arg1)) i) (refGrad (m ((c : Thread nD τ).loc main_arg3)) i)) (moment2 ((m ((c : Thread nD τ).loc main_arg2)) i) (refGrad (m ((c : Thread nD τ).loc main_arg3)) i))
      have k2 := congrArg (fun g => change ((m ((c : Thread nD τ).loc main_arg0)) i) (moment1 ((m ((c : Thread nD τ).loc main_arg1)) i) g) (moment2 ((m ((c : Thread nD τ).loc main_arg2)) i) g)) (ref_grad (m ((c : Thread nD τ).loc main_arg3)) i)
      refine Eq.trans ?_ (k1.trans k2)
      rfl
    · rw [(hm c).2.1, (hm c).2.2.2]
      funext i
      exact (congrArg (moment1 ((m ((c : Thread nD τ).loc main_arg1)) i)) (ref_grad _ i))
    · rw [(hm c).2.2.1, (hm c).2.2.2]
      funext i
      exact (congrArg (moment2 ((m ((c : Thread nD τ).loc main_arg2)) i)) (ref_grad _ i))

end Cert.StepOutIdeal.Value

end
-- ==== Proof.StepGate.lean ====
/- The optimiser's step for the gate projection's weight: the gradient of each layer is the sum of four partial gradients, and the two
   moments and the weight's change follow from it element by element. The weight and its moments are given with rows and columns exchanged; the host turns them. -/
module

public import proofs.«01_k».proof.Proof.Step
public import proofs.«01_k».proof.Defs
public import proofs.«01_k».proof.Proof.Gen.StepGateIdeal.Value
public import proofs.«01_k».proof.Proof.Gen.StepGateRefIdeal.Run

@[expose] public section

set_option maxRecDepth 16384

noncomputable section

namespace Cert.StepGateIdeal.Value

open Cert.StepGateIdeal Cert.StepGateIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The gradient of the stack of four layers, -/
def grad (x : S4x4x704x2048.Idx → EReal) : S4x704x2048.Idx → EReal := summed x

/-- the two moments, and the change of the weight. -/
def newFirst (p : S4x704x2048.Idx → EReal) (x : S4x4x704x2048.Idx → EReal) (i : S4x704x2048.Idx) : EReal := moment1 (p i) (grad x i)
def newSecond (v : S4x704x2048.Idx → EReal) (x : S4x4x704x2048.Idx → EReal) (i : S4x704x2048.Idx) : EReal := moment2 (v i) (grad x i)
def delta (w p v : S4x704x2048.Idx → EReal) (x : S4x4x704x2048.Idx → EReal) (i : S4x704x2048.Idx) : EReal :=
  change (w i) (newFirst p x i) (newSecond v x i)

/-- The kernel's names are one over the corrections of the bias. -/
theorem name1 : (Named.named κ "r1" 0x3FC48605#32 : Ideal .f32) = recip1 :=
  (IdealRules.named_const.ideal_named_scalar _ _ _ _ rfl).trans (by unfold recip1; norm_num)

theorem name2 : (Named.named κ "r2" 0x42C8E6D3#32 : Ideal .f32) = recip2 :=
  (IdealRules.named_const.ideal_named_scalar _ _ _ _ rfl).trans (by unfold recip2; norm_num)

/-- The sum of the four partial gradients of a block, -/
def blockSum (x : Vec Ideal S4x64x2048 .bf16) (j : S64x2048.Idx) : EReal :=
  (shapeCast S64x2048 (View.ld x r0_0) shapeCasts_S1x64x2048_S64x2048 j : EReal) + (shapeCast S64x2048 (View.ld x r0_1) shapeCasts_S1x64x2048_S64x2048 j : EReal)
    + (shapeCast S64x2048 (View.ld x r0_2) shapeCasts_S1x64x2048_S64x2048 j : EReal) + (shapeCast S64x2048 (View.ld x r0_3) shapeCasts_S1x64x2048_S64x2048 j : EReal)

theorem blockSum_apply (x : Vec Ideal S4x64x2048 .bf16) (j : S64x2048.Idx) :
    blockSum x j = (x (ix3 (0 : Fin 4) (j 0) (j 1)) : EReal) + (x (ix3 (1 : Fin 4) (j 0) (j 1)) : EReal)
      + (x (ix3 (2 : Fin 4) (j 0) (j 1)) : EReal) + (x (ix3 (3 : Fin 4) (j 0) (j 1)) : EReal) :=
  congrArg₂ (· + ·) (congrArg₂ (· + ·) (congrArg₂ (· + ·) (piece_read x 0 (by decide) _ rfl _ _ j) (piece_read x 1 (by decide) _ rfl _ _ j))
    (piece_read x 2 (by decide) _ rfl _ _ j)) (piece_read x 3 (by decide) _ rfl _ _ j)

/-- and the one of the grid point's layer. -/
theorem sum_apply (i : grid0.Coords) (x0 x1 x2 : Vec Ideal S1x64x2048 .f32) (x3 x4 x5 x6 : Vec Ideal S4x64x2048 .bf16) (j : S64x2048.Idx) :
    (k0_pay9 (BitVec.ofNat 32 (i 0).val) (k0_pay16 i x0 x1 x2 x3 x4 x5 x6) (k0_pay17 i x0 x1 x2 x3 x4 x5 x6) (View.ld x6 r0_3) j : EReal) = picked (BitVec.ofNat 32 (i 0).val) (blockSum x3) (blockSum x4) (blockSum x5) (blockSum x6) j := rfl

/-- What the body stores, at an index: the gradient, -/
theorem grad_apply (i : grid0.Coords) (x0 x1 x2 : Vec Ideal S1x64x2048 .f32) (x3 x4 x5 x6 : Vec Ideal S4x64x2048 .bf16) (y : S1x64x2048.Idx) :
    (k0_pay14 (BitVec.ofNat 32 (i 0).val) (k0_pay16 i x0 x1 x2 x3 x4 x5 x6) (k0_pay17 i x0 x1 x2 x3 x4 x5 x6) (View.ld x6 r0_3) y : EReal) = picked (BitVec.ofNat 32 (i 0).val) (blockSum x3) (blockSum x4) (blockSum x5) (blockSum x6) (ix2 (y 1) (y 2)) :=
  (batch_read _ shapeCasts_S64x2048_S1x64x2048 y).trans (sum_apply i x0 x1 x2 x3 x4 x5 x6 _)

/-- the moments, -/
theorem first_apply (i : grid0.Coords) (x0 x1 x2 : Vec Ideal S1x64x2048 .f32) (x3 x4 x5 x6 : Vec Ideal S4x64x2048 .bf16) (j : S64x2048.Idx) :
    (k0_pay11 (BitVec.ofNat 32 (i 0).val) (k0_pay16 i x0 x1 x2 x3 x4 x5 x6) (k0_pay17 i x0 x1 x2 x3 x4 x5 x6) (View.ld x6 r0_3) (View.ld x1 r0_4) j : EReal) = moment1 (x1 (ix3 (0 : Fin 1) (j 0) (j 1))) (picked (BitVec.ofNat 32 (i 0).val) (blockSum x3) (blockSum x4) (blockSum x5) (blockSum x6) j) := by
  have e : (k0_pay11 (BitVec.ofNat 32 (i 0).val) (k0_pay16 i x0 x1 x2 x3 x4 x5 x6) (k0_pay17 i x0 x1 x2 x3 x4 x5 x6) (View.ld x6 r0_3) (View.ld x1 r0_4) j : EReal)
      = moment1 (shapeCast S64x2048 (View.ld x1 r0_4) shapeCasts_S1x64x2048_S64x2048 j) (picked (BitVec.ofNat 32 (i 0).val) (blockSum x3) (blockSum x4) (blockSum x5) (blockSum x6) j) := rfl
  rw [e, View.ld_unit_zero origin3]; exact congrArg (moment1 · _) (flat_read x1 _ j)

theorem second_apply (i : grid0.Coords) (x0 x1 x2 : Vec Ideal S1x64x2048 .f32) (x3 x4 x5 x6 : Vec Ideal S4x64x2048 .bf16) (j : S64x2048.Idx) :
    (k0_pay12 (BitVec.ofNat 32 (i 0).val) (k0_pay16 i x0 x1 x2 x3 x4 x5 x6) (k0_pay17 i x0 x1 x2 x3 x4 x5 x6) (View.ld x6 r0_3) (View.ld x2 r0_4) j : EReal) = moment2 (x2 (ix3 (0 : Fin 1) (j 0) (j 1))) (picked (BitVec.ofNat 32 (i 0).val) (blockSum x3) (blockSum x4) (blockSum x5) (blockSum x6) j) := by
  have e : (k0_pay12 (BitVec.ofNat 32 (i 0).val) (k0_pay16 i x0 x1 x2 x3 x4 x5 x6) (k0_pay17 i x0 x1 x2 x3 x4 x5 x6) (View.ld x6 r0_3) (View.ld x2 r0_4) j : EReal)
      = moment2 (shapeCast S64x2048 (View.ld x2 r0_4) shapeCasts_S1x64x2048_S64x2048 j) (picked (BitVec.ofNat 32 (i 0).val) (blockSum x3) (blockSum x4) (blockSum x5) (blockSum x6) j) := rfl
  rw [e, View.ld_unit_zero origin3]; exact congrArg (moment2 · _) (flat_read x2 _ j)

/-- and the change of the weight. -/
theorem delta_apply (i : grid0.Coords) (x0 x1 x2 : Vec Ideal S1x64x2048 .f32) (x3 x4 x5 x6 : Vec Ideal S4x64x2048 .bf16) (y : S1x64x2048.Idx) :
    (k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_3) (View.ld x1 r0_4)) (k0_pay15 (BitVec.ofNat 32 (i 0).val) (k0_pay16 i x0 x1 x2 x3 x4 x5 x6) (k0_pay17 i x0 x1 x2 x3 x4 x5 x6) (View.ld x6 r0_3) (View.ld x2 r0_4)) y : EReal)
      = change (x0 (ix3 (0 : Fin 1) (y 1) (y 2))) (moment1 (x1 (ix3 (0 : Fin 1) (y 1) (y 2))) (picked (BitVec.ofNat 32 (i 0).val) (blockSum x3) (blockSum x4) (blockSum x5) (blockSum x6) (ix2 (y 1) (y 2))))
          (moment2 (x2 (ix3 (0 : Fin 1) (y 1) (y 2))) (picked (BitVec.ofNat 32 (i 0).val) (blockSum x3) (blockSum x4) (blockSum x5) (blockSum x6) (ix2 (y 1) (y 2)))) := by
  have e : k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_3) (View.ld x1 r0_4)) (k0_pay15 (BitVec.ofNat 32 (i 0).val) (k0_pay16 i x0 x1 x2 x3 x4 x5 x6) (k0_pay17 i x0 x1 x2 x3 x4 x5 x6) (View.ld x6 r0_3) (View.ld x2 r0_4))
      = shapeCast S1x64x2048 (fun j : S64x2048.Idx => Ideal.ofBits .f32 0xBA83126F#32 * (Ideal.div
      ((k0_pay11 (BitVec.ofNat 32 (i 0).val) (k0_pay16 i x0 x1 x2 x3 x4 x5 x6) (k0_pay17 i x0 x1 x2 x3 x4 x5 x6) (View.ld x6 r0_3) (View.ld x1 r0_4) j : EReal) * (Named.named κ "r1" 0x3FC48605#32 : Ideal .f32))
      (Ideal.sqrt ((k0_pay12 (BitVec.ofNat 32 (i 0).val) (k0_pay16 i x0 x1 x2 x3 x4 x5 x6) (k0_pay17 i x0 x1 x2 x3 x4 x5 x6) (View.ld x6 r0_3) (View.ld x2 r0_4) j : EReal) * (Named.named κ "r2" 0x42C8E6D3#32 : Ideal .f32))
        + Ideal.ofBits .f32 0x322BCC77#32)
    + Ideal.ofBits .f32 0x3C23D70A#32 * (shapeCast S64x2048 (View.ld x0 r0_4) shapeCasts_S1x64x2048_S64x2048 j : EReal))) shapeCasts_S64x2048_S1x64x2048 := rfl
  rw [e]
  refine (batch_read _ shapeCasts_S64x2048_S1x64x2048 y).trans ?_
  rw [name1, name2, first_apply, second_apply, View.ld_unit_zero origin3]
  exact congrArg (change · _ _) (flat_read x0 _ (ix2 (y 1) (y 2)))

/-- The blocks a point reads and writes: its layer's block of each array; of the partial gradients, only its own layer's
    block counts. -/
theorem index_facts : ∀ t : Fin cfg0.N, (grid0.coords t 0).val = t.val / 11
    ∧ win0_0.index t 0 = t.val / 11
    ∧ win0_0.index t 1 = t.val % 11
    ∧ win0_0.index t 2 = 0
    ∧ win0_1.index t 0 = t.val / 11
    ∧ win0_1.index t 1 = t.val % 11
    ∧ win0_1.index t 2 = 0
    ∧ win0_2.index t 0 = t.val / 11
    ∧ win0_2.index t 1 = t.val % 11
    ∧ win0_2.index t 2 = 0
    ∧ win0_7.index t 0 = t.val / 11
    ∧ win0_7.index t 1 = t.val % 11
    ∧ win0_7.index t 2 = 0
    ∧ win0_3.index t 0 = 0
    ∧ win0_3.index t 2 = 0
    ∧ (t.val / 11 = 0 → win0_3.index t 1 = t.val % 11)
    ∧ win0_4.index t 0 = 0
    ∧ win0_4.index t 2 = 0
    ∧ (t.val / 11 = 1 → win0_4.index t 1 = t.val % 11)
    ∧ win0_5.index t 0 = 0
    ∧ win0_5.index t 2 = 0
    ∧ (t.val / 11 = 2 → win0_5.index t 1 = t.val % 11)
    ∧ win0_6.index t 0 = 0
    ∧ win0_6.index t 2 = 0
    ∧ (t.val / 11 = 3 → win0_6.index t 1 = t.val % 11) := by
  decide +kernel

/-- The partial gradients of layer 0 as the kernel finds them. -/
theorem part0_apply (c : Dev nD) (i : S4x704x2048.Idx) :
    (V m c main_v5 i : EReal) = ((m ((c : Thread nD τ).loc main_arg3)) (ix4 (0 : Fin 4) (i 0) (i 1) (i 2)) : EReal) := by
  have e : V m c main_v5 = (truncf (F := Ideal) .bf16 (shapeCast S4x704x2048 (extractStridedSlice S1x4x704x2048 ![0, 0, 0, 0]
      (m ((c : Thread nD τ).loc main_arg3)) slices_S4x4x704x2048_S1x4x704x2048_0_0_0_0) shapeCasts_S1x4x704x2048_S4x704x2048) bitsLt_bf16_f32 : FVec Ideal S4x704x2048 .bf16) := by
    show StableHlo.after hostOps0 (fun b => m (c, b)) (Proc.devRef .tc main_v5) = _
    after_results
    rfl
  rw [e]; exact layer_read (m ((c : Thread nD τ).loc main_arg3)) 0 (by decide) _ rfl slices_S4x4x704x2048_S1x4x704x2048_0_0_0_0 shapeCasts_S1x4x704x2048_S4x704x2048 i

/-- The partial gradients of layer 1 as the kernel finds them. -/
theorem part1_apply (c : Dev nD) (i : S4x704x2048.Idx) :
    (V m c main_v8 i : EReal) = ((m ((c : Thread nD τ).loc main_arg3)) (ix4 (1 : Fin 4) (i 0) (i 1) (i 2)) : EReal) := by
  have e : V m c main_v8 = (truncf (F := Ideal) .bf16 (shapeCast S4x704x2048 (extractStridedSlice S1x4x704x2048 ![1, 0, 0, 0]
      (m ((c : Thread nD τ).loc main_arg3)) slices_S4x4x704x2048_S1x4x704x2048_1_0_0_0) shapeCasts_S1x4x704x2048_S4x704x2048) bitsLt_bf16_f32 : FVec Ideal S4x704x2048 .bf16) := by
    show StableHlo.after hostOps0 (fun b => m (c, b)) (Proc.devRef .tc main_v8) = _
    after_results
    rfl
  rw [e]; exact layer_read (m ((c : Thread nD τ).loc main_arg3)) 1 (by decide) _ rfl slices_S4x4x704x2048_S1x4x704x2048_1_0_0_0 shapeCasts_S1x4x704x2048_S4x704x2048 i

/-- The partial gradients of layer 2 as the kernel finds them. -/
theorem part2_apply (c : Dev nD) (i : S4x704x2048.Idx) :
    (V m c main_v11 i : EReal) = ((m ((c : Thread nD τ).loc main_arg3)) (ix4 (2 : Fin 4) (i 0) (i 1) (i 2)) : EReal) := by
  have e : V m c main_v11 = (truncf (F := Ideal) .bf16 (shapeCast S4x704x2048 (extractStridedSlice S1x4x704x2048 ![2, 0, 0, 0]
      (m ((c : Thread nD τ).loc main_arg3)) slices_S4x4x704x2048_S1x4x704x2048_2_0_0_0) shapeCasts_S1x4x704x2048_S4x704x2048) bitsLt_bf16_f32 : FVec Ideal S4x704x2048 .bf16) := by
    show StableHlo.after hostOps0 (fun b => m (c, b)) (Proc.devRef .tc main_v11) = _
    after_results
    rfl
  rw [e]; exact layer_read (m ((c : Thread nD τ).loc main_arg3)) 2 (by decide) _ rfl slices_S4x4x704x2048_S1x4x704x2048_2_0_0_0 shapeCasts_S1x4x704x2048_S4x704x2048 i

/-- The partial gradients of layer 3 as the kernel finds them. -/
theorem part3_apply (c : Dev nD) (i : S4x704x2048.Idx) :
    (V m c main_v14 i : EReal) = ((m ((c : Thread nD τ).loc main_arg3)) (ix4 (3 : Fin 4) (i 0) (i 1) (i 2)) : EReal) := by
  have e : V m c main_v14 = (truncf (F := Ideal) .bf16 (shapeCast S4x704x2048 (extractStridedSlice S1x4x704x2048 ![3, 0, 0, 0]
      (m ((c : Thread nD τ).loc main_arg3)) slices_S4x4x704x2048_S1x4x704x2048_3_0_0_0) shapeCasts_S1x4x704x2048_S4x704x2048) bitsLt_bf16_f32 : FVec Ideal S4x704x2048 .bf16) := by
    show StableHlo.after hostOps0 (fun b => m (c, b)) (Proc.devRef .tc main_v14) = _
    after_results
    rfl
  rw [e]; exact layer_read (m ((c : Thread nD τ).loc main_arg3)) 3 (by decide) _ rfl slices_S4x4x704x2048_S1x4x704x2048_3_0_0_0 shapeCasts_S1x4x704x2048_S4x704x2048 i

/-- Array 0 turned by the host. -/
theorem turned0_apply (c : Dev nD) (i : S4x704x2048.Idx) : (V m c main_v0 i : EReal) = (turned (m ((c : Thread nD τ).loc main_arg0))) i := by
  have e : V m c main_v0 = (transpose S4x704x2048 [0, 2, 1] (m ((c : Thread nD τ).loc main_arg0)) transposes_S4x2048x704_S4x704x2048_0_2_1 : FVec Ideal S4x704x2048 .f32) := by
    show StableHlo.after hostOps0 (fun b => m (c, b)) (Proc.devRef .tc main_v0) = _
    after_results
    try rfl
  rw [e]; exact turned_read _ _ i

/-- Array 1 turned by the host. -/
theorem turned1_apply (c : Dev nD) (i : S4x704x2048.Idx) : (V m c main_v1 i : EReal) = (turned (m ((c : Thread nD τ).loc main_arg1))) i := by
  have e : V m c main_v1 = (transpose S4x704x2048 [0, 2, 1] (m ((c : Thread nD τ).loc main_arg1)) transposes_S4x2048x704_S4x704x2048_0_2_1 : FVec Ideal S4x704x2048 .f32) := by
    show StableHlo.after hostOps0 (fun b => m (c, b)) (Proc.devRef .tc main_v1) = _
    after_results
    try rfl
  rw [e]; exact turned_read _ _ i

/-- Array 2 turned by the host. -/
theorem turned2_apply (c : Dev nD) (i : S4x704x2048.Idx) : (V m c main_v2 i : EReal) = (turned (m ((c : Thread nD τ).loc main_arg2))) i := by
  have e : V m c main_v2 = (transpose S4x704x2048 [0, 2, 1] (m ((c : Thread nD τ).loc main_arg2)) transposes_S4x2048x704_S4x704x2048_0_2_1 : FVec Ideal S4x704x2048 .f32) := by
    show StableHlo.after hostOps0 (fun b => m (c, b)) (Proc.devRef .tc main_v2) = _
    after_results
    try rfl
  rw [e]; exact turned_read _ _ i

/-- A point of layer 0 sums the partial gradients of its block. -/
theorem sum0 (c : Dev nD) (t : Fin cfg0.N) (h : t.val / 11 = 0) (y : ((cfg0.win 7).xblock (grid0.coords t)).Idx) :
    blockSum (iblk m c 3 t) (ix2 (y 1) (y 2)) = grad (m ((c : Thread nD τ).loc main_arg3)) ((win0_7.rect t).emb y) := by
  obtain ⟨-, -, -, -, -, -, -, -, -, -, e0, e1, e2, p00, p0c, p0h, -, -, -, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 3 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v5 ((win0_3.rect t).emb (ix3 b (y 1) (y 2))) : EReal)) rfl ?_
    refine (part0_apply m c _).trans (congrArg (m ((c : Thread nD τ).loc main_arg3)) (funext fun a => Fin.ext ?_))
    match a with
    | ⟨0, _⟩ =>
      show 0 = ((win0_7.rect t).emb y 0).val
      rw [f0, e0, h]; show 0 = 0 * 1 + (y 0).val; omega
    | ⟨1, _⟩ =>
      refine (win0_3.rect_emb_val t (ix3 b (y 1) (y 2)) 0).trans ?_
      rw [p00]; show 0 * 4 + b.val = b.val; omega
    | ⟨2, _⟩ =>
      refine (win0_3.rect_emb_val t (ix3 b (y 1) (y 2)) 1).trans (Eq.trans ?_ f1.symm)
      rw [p0h h, e1]; rfl
    | ⟨3, _⟩ =>
      refine (win0_3.rect_emb_val t (ix3 b (y 1) (y 2)) 2).trans (Eq.trans ?_ f2.symm)
      rw [p0c, e2]; rfl
  refine (blockSum_apply _ (ix2 (y 1) (y 2))).trans ?_
  exact congrArg₂ (· + ·) (congrArg₂ (· + ·) (congrArg₂ (· + ·) (k 0) (k 1)) (k 2)) (k 3)

/-- A point of layer 1 sums the partial gradients of its block. -/
theorem sum1 (c : Dev nD) (t : Fin cfg0.N) (h : t.val / 11 = 1) (y : ((cfg0.win 7).xblock (grid0.coords t)).Idx) :
    blockSum (iblk m c 4 t) (ix2 (y 1) (y 2)) = grad (m ((c : Thread nD τ).loc main_arg3)) ((win0_7.rect t).emb y) := by
  obtain ⟨-, -, -, -, -, -, -, -, -, -, e0, e1, e2, -, -, -, p10, p1c, p1h, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 4 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v8 ((win0_4.rect t).emb (ix3 b (y 1) (y 2))) : EReal)) rfl ?_
    refine (part1_apply m c _).trans (congrArg (m ((c : Thread nD τ).loc main_arg3)) (funext fun a => Fin.ext ?_))
    match a with
    | ⟨0, _⟩ =>
      show 1 = ((win0_7.rect t).emb y 0).val
      rw [f0, e0, h]; show 1 = 1 * 1 + (y 0).val; omega
    | ⟨1, _⟩ =>
      refine (win0_4.rect_emb_val t (ix3 b (y 1) (y 2)) 0).trans ?_
      rw [p10]; show 0 * 4 + b.val = b.val; omega
    | ⟨2, _⟩ =>
      refine (win0_4.rect_emb_val t (ix3 b (y 1) (y 2)) 1).trans (Eq.trans ?_ f1.symm)
      rw [p1h h, e1]; rfl
    | ⟨3, _⟩ =>
      refine (win0_4.rect_emb_val t (ix3 b (y 1) (y 2)) 2).trans (Eq.trans ?_ f2.symm)
      rw [p1c, e2]; rfl
  refine (blockSum_apply _ (ix2 (y 1) (y 2))).trans ?_
  exact congrArg₂ (· + ·) (congrArg₂ (· + ·) (congrArg₂ (· + ·) (k 0) (k 1)) (k 2)) (k 3)

/-- A point of layer 2 sums the partial gradients of its block. -/
theorem sum2 (c : Dev nD) (t : Fin cfg0.N) (h : t.val / 11 = 2) (y : ((cfg0.win 7).xblock (grid0.coords t)).Idx) :
    blockSum (iblk m c 5 t) (ix2 (y 1) (y 2)) = grad (m ((c : Thread nD τ).loc main_arg3)) ((win0_7.rect t).emb y) := by
  obtain ⟨-, -, -, -, -, -, -, -, -, -, e0, e1, e2, -, -, -, -, -, -, p20, p2c, p2h, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 5 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v11 ((win0_5.rect t).emb (ix3 b (y 1) (y 2))) : EReal)) rfl ?_
    refine (part2_apply m c _).trans (congrArg (m ((c : Thread nD τ).loc main_arg3)) (funext fun a => Fin.ext ?_))
    match a with
    | ⟨0, _⟩ =>
      show 2 = ((win0_7.rect t).emb y 0).val
      rw [f0, e0, h]; show 2 = 2 * 1 + (y 0).val; omega
    | ⟨1, _⟩ =>
      refine (win0_5.rect_emb_val t (ix3 b (y 1) (y 2)) 0).trans ?_
      rw [p20]; show 0 * 4 + b.val = b.val; omega
    | ⟨2, _⟩ =>
      refine (win0_5.rect_emb_val t (ix3 b (y 1) (y 2)) 1).trans (Eq.trans ?_ f1.symm)
      rw [p2h h, e1]; rfl
    | ⟨3, _⟩ =>
      refine (win0_5.rect_emb_val t (ix3 b (y 1) (y 2)) 2).trans (Eq.trans ?_ f2.symm)
      rw [p2c, e2]; rfl
  refine (blockSum_apply _ (ix2 (y 1) (y 2))).trans ?_
  exact congrArg₂ (· + ·) (congrArg₂ (· + ·) (congrArg₂ (· + ·) (k 0) (k 1)) (k 2)) (k 3)

/-- A point of layer 3 sums the partial gradients of its block. -/
theorem sum3 (c : Dev nD) (t : Fin cfg0.N) (h : t.val / 11 = 3) (y : ((cfg0.win 7).xblock (grid0.coords t)).Idx) :
    blockSum (iblk m c 6 t) (ix2 (y 1) (y 2)) = grad (m ((c : Thread nD τ).loc main_arg3)) ((win0_7.rect t).emb y) := by
  obtain ⟨-, -, -, -, -, -, -, -, -, -, e0, e1, e2, -, -, -, -, -, -, -, -, -, p30, p3c, p3h⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 6 t (ix3 b (y 1) (y 2)) : EReal)
      = ((m ((c : Thread nD τ).loc main_arg3)) (ix4 ((win0_7.rect t).emb y 0) b ((win0_7.rect t).emb y 1) ((win0_7.rect t).emb y 2)) : EReal) := by
    refine Eq.trans (b := (V m c main_v14 ((win0_6.rect t).emb (ix3 b (y 1) (y 2))) : EReal)) rfl ?_
    refine (part3_apply m c _).trans (congrArg (m ((c : Thread nD τ).loc main_arg3)) (funext fun a => Fin.ext ?_))
    match a with
    | ⟨0, _⟩ =>
      show 3 = ((win0_7.rect t).emb y 0).val
      rw [f0, e0, h]; show 3 = 3 * 1 + (y 0).val; omega
    | ⟨1, _⟩ =>
      refine (win0_6.rect_emb_val t (ix3 b (y 1) (y 2)) 0).trans ?_
      rw [p30]; show 0 * 4 + b.val = b.val; omega
    | ⟨2, _⟩ =>
      refine (win0_6.rect_emb_val t (ix3 b (y 1) (y 2)) 1).trans (Eq.trans ?_ f1.symm)
      rw [p3h h, e1]; rfl
    | ⟨3, _⟩ =>
      refine (win0_6.rect_emb_val t (ix3 b (y 1) (y 2)) 2).trans (Eq.trans ?_ f2.symm)
      rw [p3c, e2]; rfl
  refine (blockSum_apply _ (ix2 (y 1) (y 2))).trans ?_
  exact congrArg₂ (· + ·) (congrArg₂ (· + ·) (congrArg₂ (· + ·) (k 0) (k 1)) (k 2)) (k 3)

/-- The gradient of a point's block. -/
theorem grad_block (c : Dev nD) (t : Fin cfg0.N) (y : ((cfg0.win 7).xblock (grid0.coords t)).Idx) :
    picked (BitVec.ofNat 32 (grid0.coords t 0).val) (blockSum (iblk m c 3 t)) (blockSum (iblk m c 4 t)) (blockSum (iblk m c 5 t)) (blockSum (iblk m c 6 t)) (ix2 (y 1) (y 2)) = grad (m ((c : Thread nD τ).loc main_arg3)) ((win0_7.rect t).emb y) := by
  obtain ⟨l, -, -, -, -, -, -, -, -, -, -, -, -, -, -, -, -, -, -, -, -, -, -, -, -⟩ := index_facts t
  have hN : cfg0.N = 44 := N_0
  have ht := t.isLt
  obtain h | h | h | h : t.val / 11 = 0 ∨ t.val / 11 = 1 ∨ t.val / 11 = 2 ∨ t.val / 11 = 3 := by omega
  · rw [l, h]; exact (picked0 _ _ _ _ _).trans (sum0 m c t (by omega) y)
  · rw [l, h]; exact (picked1 _ _ _ _ _).trans (sum1 m c t (by omega) y)
  · rw [l, h]; exact (picked2 _ _ _ _ _).trans (sum2 m c t (by omega) y)
  · rw [l, h]; exact (picked3 _ _ _ _ _).trans (sum3 m c t (by omega) y)

/-- The weight's -/
theorem block0 (c : Dev nD) (t : Fin cfg0.N) (y : ((cfg0.win 7).xblock (grid0.coords t)).Idx) :
    (iblk m c 0 t (ix3 (0 : Fin 1) (y 1) (y 2)) : EReal) = (turned (m ((c : Thread nD τ).loc main_arg0))) ((win0_7.rect t).emb y) := by
  obtain ⟨-, a0, a1, a2, -, -, -, -, -, -, e0, e1, e2, -, -, -, -, -, -, -, -, -, -, -, -⟩ := index_facts t
  have y0 : (y 0).val < 1 := (y 0).isLt
  refine Eq.trans (congrArg (V m c main_v0) (funext fun a => Fin.ext ?_)) (turned0_apply m c _)
  match a with
  | ⟨0, _⟩ =>
    refine (win0_0.rect_emb_val t _ 0).trans (Eq.trans ?_ (win0_7.rect_emb_val t y 0).symm)
    rw [a0, e0]; show _ * 1 + 0 = _ * 1 + (y 0).val; omega
  | ⟨1, _⟩ => exact (win0_0.rect_emb_val t _ 1).trans ((congrArg (· * 64 + _) (a1.trans e1.symm)).trans (win0_7.rect_emb_val t y 1).symm)
  | ⟨2, _⟩ => exact (win0_0.rect_emb_val t _ 2).trans ((congrArg (· * 2048 + _) (a2.trans e2.symm)).trans (win0_7.rect_emb_val t y 2).symm)

/-- the first moment's -/
theorem block1 (c : Dev nD) (t : Fin cfg0.N) (y : ((cfg0.win 7).xblock (grid0.coords t)).Idx) :
    (iblk m c 1 t (ix3 (0 : Fin 1) (y 1) (y 2)) : EReal) = (turned (m ((c : Thread nD τ).loc main_arg1))) ((win0_7.rect t).emb y) := by
  obtain ⟨-, -, -, -, b0, b1, b2, -, -, -, e0, e1, e2, -, -, -, -, -, -, -, -, -, -, -, -⟩ := index_facts t
  have y0 : (y 0).val < 1 := (y 0).isLt
  refine Eq.trans (congrArg (V m c main_v1) (funext fun a => Fin.ext ?_)) (turned1_apply m c _)
  match a with
  | ⟨0, _⟩ =>
    refine (win0_1.rect_emb_val t _ 0).trans (Eq.trans ?_ (win0_7.rect_emb_val t y 0).symm)
    rw [b0, e0]; show _ * 1 + 0 = _ * 1 + (y 0).val; omega
  | ⟨1, _⟩ => exact (win0_1.rect_emb_val t _ 1).trans ((congrArg (· * 64 + _) (b1.trans e1.symm)).trans (win0_7.rect_emb_val t y 1).symm)
  | ⟨2, _⟩ => exact (win0_1.rect_emb_val t _ 2).trans ((congrArg (· * 2048 + _) (b2.trans e2.symm)).trans (win0_7.rect_emb_val t y 2).symm)

/-- and the second moment's block. -/
theorem block2 (c : Dev nD) (t : Fin cfg0.N) (y : ((cfg0.win 7).xblock (grid0.coords t)).Idx) :
    (iblk m c 2 t (ix3 (0 : Fin 1) (y 1) (y 2)) : EReal) = (turned (m ((c : Thread nD τ).loc main_arg2))) ((win0_7.rect t).emb y) := by
  obtain ⟨-, -, -, -, -, -, -, d0, d1, d2, e0, e1, e2, -, -, -, -, -, -, -, -, -, -, -, -⟩ := index_facts t
  have y0 : (y 0).val < 1 := (y 0).isLt
  refine Eq.trans (congrArg (V m c main_v2) (funext fun a => Fin.ext ?_)) (turned2_apply m c _)
  match a with
  | ⟨0, _⟩ =>
    refine (win0_2.rect_emb_val t _ 0).trans (Eq.trans ?_ (win0_7.rect_emb_val t y 0).symm)
    rw [d0, e0]; show _ * 1 + 0 = _ * 1 + (y 0).val; omega
  | ⟨1, _⟩ => exact (win0_2.rect_emb_val t _ 1).trans ((congrArg (· * 64 + _) (d1.trans e1.symm)).trans (win0_7.rect_emb_val t y 1).symm)
  | ⟨2, _⟩ => exact (win0_2.rect_emb_val t _ 2).trans ((congrArg (· * 2048 + _) (d2.trans e2.symm)).trans (win0_7.rect_emb_val t y 2).symm)

/-- What point `t` writes back is block `t` of the gradient, -/
theorem flushed_grad (c : Dev nD) (t : Fin cfg0.N) :
    (dats m 0 c).flushed 7 t = (win0_7.blk t).view.read (Elt Ideal) (grad (m ((c : Thread nD τ).loc main_arg3))) := by
  rw [flushed7]
  show (cfg0.win 7).cut (grid0.coords t) (out0_7 (grid0.coords t) (iblk m c 0 t) (iblk m c 1 t) (iblk m c 2 t) (iblk m c 3 t) (iblk m c 4 t) (iblk m c 5 t) (iblk m c 6 t)) = _
  unfold out0_7
  rw [View.canon_unit_zero origin3]
  funext y
  show _ = grad (m ((c : Thread nD τ).loc main_arg3)) ((win0_7.rect t).emb y)
  refine (grad_apply _ _ _ _ _ _ _ _ y).trans ?_
  exact grad_block m c t y

/-- the first moment, -/
theorem flushed_newFirst (c : Dev nD) (t : Fin cfg0.N) :
    (dats m 0 c).flushed 9 t = (win0_9.blk t).view.read (Elt Ideal) (newFirst (turned (m ((c : Thread nD τ).loc main_arg1))) (m ((c : Thread nD τ).loc main_arg3))) := by
  rw [flushed9]
  show (cfg0.win 9).cut (grid0.coords t) (out0_9 (grid0.coords t) (iblk m c 0 t) (iblk m c 1 t) (iblk m c 2 t) (iblk m c 3 t) (iblk m c 4 t) (iblk m c 5 t) (iblk m c 6 t)) = _
  unfold out0_9
  rw [View.canon_unit_zero origin3]
  funext y
  show _ = newFirst (turned (m ((c : Thread nD τ).loc main_arg1))) (m ((c : Thread nD τ).loc main_arg3)) ((win0_7.rect t).emb y)
  refine ((batch_read _ shapeCasts_S64x2048_S1x64x2048 y).trans (first_apply _ _ _ _ _ _ _ _ (ix2 (y 1) (y 2)))).trans ?_
  exact congrArg₂ moment1 (block1 m c t y) (grad_block m c t y)

/-- the second moment, -/
theorem flushed_newSecond (c : Dev nD) (t : Fin cfg0.N) :
    (dats m 0 c).flushed 10 t = (win0_10.blk t).view.read (Elt Ideal) (newSecond (turned (m ((c : Thread nD τ).loc main_arg2))) (m ((c : Thread nD τ).loc main_arg3))) := by
  rw [flushed10]
  show (cfg0.win 10).cut (grid0.coords t) (out0_10 (grid0.coords t) (iblk m c 0 t) (iblk m c 1 t) (iblk m c 2 t) (iblk m c 3 t) (iblk m c 4 t) (iblk m c 5 t) (iblk m c 6 t)) = _
  unfold out0_10
  rw [View.canon_unit_zero origin3]
  funext y
  show _ = newSecond (turned (m ((c : Thread nD τ).loc main_arg2))) (m ((c : Thread nD τ).loc main_arg3)) ((win0_7.rect t).emb y)
  refine ((batch_read _ shapeCasts_S64x2048_S1x64x2048 y).trans (second_apply _ _ _ _ _ _ _ _ (ix2 (y 1) (y 2)))).trans ?_
  exact congrArg₂ moment2 (block2 m c t y) (grad_block m c t y)

/-- and the change of the weight. -/
theorem flushed_delta (c : Dev nD) (t : Fin cfg0.N) :
    (dats m 0 c).flushed 8 t = (win0_8.blk t).view.read (Elt Ideal) (delta (turned (m ((c : Thread nD τ).loc main_arg0))) (turned (m ((c : Thread nD τ).loc main_arg1))) (turned (m ((c : Thread nD τ).loc main_arg2))) (m ((c : Thread nD τ).loc main_arg3))) := by
  rw [flushed8]
  show (cfg0.win 8).cut (grid0.coords t) (out0_8 (grid0.coords t) (iblk m c 0 t) (iblk m c 1 t) (iblk m c 2 t) (iblk m c 3 t) (iblk m c 4 t) (iblk m c 5 t) (iblk m c 6 t)) = _
  unfold out0_8
  rw [View.canon_unit_zero origin3]
  funext y
  show _ = delta (turned (m ((c : Thread nD τ).loc main_arg0))) (turned (m ((c : Thread nD τ).loc main_arg1))) (turned (m ((c : Thread nD τ).loc main_arg2))) (m ((c : Thread nD τ).loc main_arg3)) ((win0_7.rect t).emb y)
  refine (delta_apply _ _ _ _ _ _ _ _ y).trans ?_
  exact by
    have k1 := congrArg₂ moment1 (block1 m c t y) (grad_block m c t y)
    have k2 := congrArg₂ moment2 (block2 m c t y) (grad_block m c t y)
    rw [k1, k2]; exact congrArg (change · _ _) (block0 m c t y)

/-- The blocks cover each result. -/
theorem cover_grad (i : S4x704x2048.Idx) :
    ∃ t : Fin cfg0.N, (cfg0.win 7).flush t = true ∧ i ∈ ((cfg0.win 7).blk t).view.set := by
  have h0 : (i 0 : Nat) < 4 := (i 0).isLt
  have h1 : (i 1 : Nat) < 704 := (i 1).isLt
  have h2 : (i 2 : Nat) < 2048 := (i 2).isLt
  have hN : cfg0.N = 44 := N_0
  obtain ⟨t, ht⟩ : ∃ t : Fin cfg0.N, t.val = (i 0 : Nat) * 11 + (i 1 : Nat) / 64 := ⟨⟨_, by omega⟩, rfl⟩
  refine ⟨t, flush0_7 t, ?_⟩
  obtain ⟨-, -, -, -, -, -, -, -, -, -, e0, e1, e2, -, -, -, -, -, -, -, -, -, -, -, -⟩ := index_facts t
  show i ∈ ((View.whole main_v15_0).slice (win0_7.rect t)).set
  rw [View.set_slice_whole, Rect.mem_set_unit]
  intro a
  match a with
  | ⟨0, _⟩ =>
    show win0_7.index _ 0 * 1 ≤ (i 0 : Nat) ∧ (i 0 : Nat) < win0_7.index _ 0 * 1 + 1
    rw [e0, ht]; omega
  | ⟨1, _⟩ =>
    show win0_7.index _ 1 * 64 ≤ (i 1 : Nat) ∧ (i 1 : Nat) < win0_7.index _ 1 * 64 + 64
    rw [e1, ht]; omega
  | ⟨2, _⟩ =>
    show win0_7.index _ 2 * 2048 ≤ (i 2 : Nat) ∧ (i 2 : Nat) < win0_7.index _ 2 * 2048 + 2048
    rw [e2]; omega

theorem cover_delta (i : S4x704x2048.Idx) :
    ∃ t : Fin cfg0.N, (cfg0.win 8).flush t = true ∧ i ∈ ((cfg0.win 8).blk t).view.set := by
  obtain ⟨t, -, ht⟩ := cover_grad i
  exact ⟨t, flush0_8 t, ht⟩

theorem cover_newFirst (i : S4x704x2048.Idx) :
    ∃ t : Fin cfg0.N, (cfg0.win 9).flush t = true ∧ i ∈ ((cfg0.win 9).blk t).view.set := by
  obtain ⟨t, -, ht⟩ := cover_grad i
  exact ⟨t, flush0_9 t, ht⟩

theorem cover_newSecond (i : S4x704x2048.Idx) :
    ∃ t : Fin cfg0.N, (cfg0.win 10).flush t = true ∧ i ∈ ((cfg0.win 10).blk t).view.set := by
  obtain ⟨t, -, ht⟩ := cover_grad i
  exact ⟨t, flush0_10 t, ht⟩

/-- The reference's gradient, in its own order of axes, at the index with rows and columns exchanged. -/
def refGrad (x : FVec Ideal S4x4x704x2048 .f32) (i : S4x704x2048.Idx) : EReal :=
  (transpose S4x2048x704 [0, 2, 1] (Host.reduceAdd x (constant Cert.StepGateRefIdeal.S_ .f32 0x00000000#32) Cert.StepGateRefIdeal.Gen.reducesTo_S4x4x704x2048_S4x704x2048_d1 Cert.StepGateRefIdeal.Gen.h_S_) Cert.StepGateRefIdeal.Gen.transposes_S4x704x2048_S4x2048x704_0_2_1 (ix3 (i 0) (i 2) (i 1)) : EReal)

theorem ref_grad (x : FVec Ideal S4x4x704x2048 .f32) (i : S4x704x2048.Idx) : refGrad x i = grad x i := by
  refine (turned_read _ Cert.StepGateRefIdeal.Gen.transposes_S4x704x2048_S4x2048x704_0_2_1 (ix3 (i 0) (i 2) (i 1))).trans
    ((host_summed x Cert.StepGateRefIdeal.Gen.reducesTo_S4x4x704x2048_S4x704x2048_d1 _).trans (congrArg (grad x) (funext fun a => ?_)))
  match a with | ⟨0, _⟩ => rfl | ⟨1, _⟩ => rfl | ⟨2, _⟩ => rfl

/-- The kernel and the reference compute the same four arrays. -/
theorem algebraic : Cert.algebraic_StepGateIdeal_StepGateRefIdeal := by
  intro m g m' g' _ hm
  refine ⟨fun c => grad (m ((c : Thread nD τ).loc main_arg3)), fun c => delta (turned (m ((c : Thread nD τ).loc main_arg0))) (turned (m ((c : Thread nD τ).loc main_arg1))) (turned (m ((c : Thread nD τ).loc main_arg2))) (m ((c : Thread nD τ).loc main_arg3)),
    fun c => newFirst (turned (m ((c : Thread nD τ).loc main_arg1))) (m ((c : Thread nD τ).loc main_arg3)), fun c => newSecond (turned (m ((c : Thread nD τ).loc main_arg2))) (m ((c : Thread nD τ).loc main_arg3)), ?_, ?_⟩
  · exact (θ_run defs _ _).mono (fun _ h c => ⟨(h c).1.trans ((dats m 0 c).arrAt_eq_of_cover 7 _ (fun t _ => flushed_grad m c t) cover_grad),
      (h c).2.1.trans ((dats m 0 c).arrAt_eq_of_cover 8 _ (fun t _ => flushed_delta m c t) cover_delta),
      (h c).2.2.1.trans ((dats m 0 c).arrAt_eq_of_cover 9 _ (fun t _ => flushed_newFirst m c t) cover_newFirst),
      (h c).2.2.2.1.trans ((dats m 0 c).arrAt_eq_of_cover 10 _ (fun t _ => flushed_newSecond m c t) cover_newSecond), (h c).2.2.2.2⟩) (run_blocks m g)
  · refine (θ_run Cert.StepGateRefIdeal.defs _ _).mono (fun _ h c => ⟨(h c).1.trans ?_, (h c).2.1.trans ?_, (h c).2.2.1.trans ?_, (h c).2.2.2.1.trans ?_, (h c).2.2.2.2⟩)
      (Cert.StepGateRefIdeal.Value.run m' g')
    · rw [(hm c).2.2.2]
      funext i
      exact (turned_read _ Cert.StepGateRefIdeal.Gen.transposes_S4x2048x704_S4x704x2048_0_2_1 i).trans (ref_grad _ i)
    · rw [(hm c).1, (hm c).2.1, (hm c).2.2.1, (hm c).2.2.2]
      funext i
      have k1 := change_eq ((turned (m ((c : Thread nD τ).loc main_arg0))) i) (moment1 ((turned (m ((c : Thread nD τ).loc main_arg1))) i) (refGrad (m ((c : Thread nD τ).loc main_arg3)) i)) (moment2 ((turned (m ((c : Thread nD τ).loc main_arg2))) i) (refGrad (m ((c : Thread nD τ).loc main_arg3)) i))
      have k2 := congrArg (fun g => change ((turned (m ((c : Thread nD τ).loc main_arg0))) i) (moment1 ((turned (m ((c : Thread nD τ).loc main_arg1))) i) g) (moment2 ((turned (m ((c : Thread nD τ).loc main_arg2))) i) g)) (ref_grad (m ((c : Thread nD τ).loc main_arg3)) i)
      refine (turned_read _ Cert.StepGateRefIdeal.Gen.transposes_S4x2048x704_S4x704x2048_0_2_1 i).trans (Eq.trans ?_ (k1.trans k2))
      rfl
    · rw [(hm c).2.1, (hm c).2.2.2]
      funext i
      exact (turned_read _ Cert.StepGateRefIdeal.Gen.transposes_S4x2048x704_S4x704x2048_0_2_1 i).trans (congrArg (moment1 ((turned (m ((c : Thread nD τ).loc main_arg1))) i)) (ref_grad _ i))
    · rw [(hm c).2.2.1, (hm c).2.2.2]
      funext i
      exact (turned_read _ Cert.StepGateRefIdeal.Gen.transposes_S4x2048x704_S4x704x2048_0_2_1 i).trans (congrArg (moment2 ((turned (m ((c : Thread nD τ).loc main_arg2))) i)) (ref_grad _ i))

end Cert.StepGateIdeal.Value

end
-- ==== Proof.StepIn.lean ====
/- The optimiser's step for the input projection's weight: the gradient of each layer is the sum of four partial gradients, and the two
   moments and the weight's change follow from it element by element. The partial gradients are stored with rows and columns exchanged, and the kernel turns their sum. -/
module

public import proofs.«01_k».proof.Proof.Step
public import proofs.«01_k».proof.Defs
public import proofs.«01_k».proof.Proof.Gen.StepInIdeal.Value
public import proofs.«01_k».proof.Proof.Gen.StepInRefIdeal.Run

@[expose] public section

set_option maxRecDepth 16384

noncomputable section

namespace Cert.StepInIdeal.Value

open Cert.StepInIdeal Cert.StepInIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The gradient of the stack of four layers, -/
def grad (x : S4x4x640x2048.Idx → EReal) : S4x2048x640.Idx → EReal := turned (summed x)

/-- the two moments, and the change of the weight. -/
def newFirst (p : S4x2048x640.Idx → EReal) (x : S4x4x640x2048.Idx → EReal) (i : S4x2048x640.Idx) : EReal := moment1 (p i) (grad x i)
def newSecond (v : S4x2048x640.Idx → EReal) (x : S4x4x640x2048.Idx → EReal) (i : S4x2048x640.Idx) : EReal := moment2 (v i) (grad x i)
def delta (w p v : S4x2048x640.Idx → EReal) (x : S4x4x640x2048.Idx → EReal) (i : S4x2048x640.Idx) : EReal :=
  change (w i) (newFirst p x i) (newSecond v x i)

/-- The kernel's names are one over the corrections of the bias. -/
theorem name1 : (Named.named κ "r1" 0x3FC48605#32 : Ideal .f32) = recip1 :=
  (IdealRules.named_const.ideal_named_scalar _ _ _ _ rfl).trans (by unfold recip1; norm_num)

theorem name2 : (Named.named κ "r2" 0x42C8E6D3#32 : Ideal .f32) = recip2 :=
  (IdealRules.named_const.ideal_named_scalar _ _ _ _ rfl).trans (by unfold recip2; norm_num)

/-- The sum of the four partial gradients of a block, -/
def blockSum (x : Vec Ideal S4x640x128 .bf16) (j : S640x128.Idx) : EReal :=
  (shapeCast S640x128 (View.ld x r0_0) shapeCasts_S1x640x128_S640x128 j : EReal) + (shapeCast S640x128 (View.ld x r0_1) shapeCasts_S1x640x128_S640x128 j : EReal)
    + (shapeCast S640x128 (View.ld x r0_2) shapeCasts_S1x640x128_S640x128 j : EReal) + (shapeCast S640x128 (View.ld x r0_3) shapeCasts_S1x640x128_S640x128 j : EReal)

theorem blockSum_apply (x : Vec Ideal S4x640x128 .bf16) (j : S640x128.Idx) :
    blockSum x j = (x (ix3 (0 : Fin 4) (j 0) (j 1)) : EReal) + (x (ix3 (1 : Fin 4) (j 0) (j 1)) : EReal)
      + (x (ix3 (2 : Fin 4) (j 0) (j 1)) : EReal) + (x (ix3 (3 : Fin 4) (j 0) (j 1)) : EReal) :=
  congrArg₂ (· + ·) (congrArg₂ (· + ·) (congrArg₂ (· + ·) (piece_read x 0 (by decide) _ rfl _ _ j) (piece_read x 1 (by decide) _ rfl _ _ j))
    (piece_read x 2 (by decide) _ rfl _ _ j)) (piece_read x 3 (by decide) _ rfl _ _ j)

/-- turned as the kernel turns it, -/
def turnedSum (x : Vec Ideal S4x640x128 .bf16) (j : S128x640.Idx) : EReal :=
  (transpose S128x640 [1, 0] (blockSum x) transposes_S640x128_p1_0_S128x640 j : EReal)

/-- and the one of the grid point's layer. -/
theorem sum_apply (i : grid0.Coords) (x0 x1 x2 : Vec Ideal S1x128x640 .f32) (x3 x4 x5 x6 : Vec Ideal S4x640x128 .bf16) (j : S128x640.Idx) :
    (k0_pay9 (BitVec.ofNat 32 (i 0).val) (k0_pay16 i x0 x1 x2 x3 x4 x5 x6) (k0_pay17 i x0 x1 x2 x3 x4 x5 x6) (View.ld x6 r0_2) (View.ld x6 r0_3) j : EReal) = picked (BitVec.ofNat 32 (i 0).val) (turnedSum x3) (turnedSum x4) (turnedSum x5) (turnedSum x6) j := rfl

/-- What the body stores, at an index: the gradient, -/
theorem grad_apply (i : grid0.Coords) (x0 x1 x2 : Vec Ideal S1x128x640 .f32) (x3 x4 x5 x6 : Vec Ideal S4x640x128 .bf16) (y : S1x128x640.Idx) :
    (k0_pay15 (BitVec.ofNat 32 (i 0).val) (k0_pay16 i x0 x1 x2 x3 x4 x5 x6) (k0_pay17 i x0 x1 x2 x3 x4 x5 x6) (View.ld x6 r0_2) (View.ld x6 r0_3) y : EReal) = picked (BitVec.ofNat 32 (i 0).val) (turnedSum x3) (turnedSum x4) (turnedSum x5) (turnedSum x6) (ix2 (y 1) (y 2)) :=
  (batch_read _ shapeCasts_S128x640_S1x128x640 y).trans (sum_apply i x0 x1 x2 x3 x4 x5 x6 _)

/-- the moments, -/
theorem first_apply (i : grid0.Coords) (x0 x1 x2 : Vec Ideal S1x128x640 .f32) (x3 x4 x5 x6 : Vec Ideal S4x640x128 .bf16) (j : S128x640.Idx) :
    (k0_pay11 (BitVec.ofNat 32 (i 0).val) (k0_pay16 i x0 x1 x2 x3 x4 x5 x6) (k0_pay17 i x0 x1 x2 x3 x4 x5 x6) (View.ld x6 r0_2) (View.ld x6 r0_3) (View.ld x1 r0_4) j : EReal) = moment1 (x1 (ix3 (0 : Fin 1) (j 0) (j 1))) (picked (BitVec.ofNat 32 (i 0).val) (turnedSum x3) (turnedSum x4) (turnedSum x5) (turnedSum x6) j) := by
  have e : (k0_pay11 (BitVec.ofNat 32 (i 0).val) (k0_pay16 i x0 x1 x2 x3 x4 x5 x6) (k0_pay17 i x0 x1 x2 x3 x4 x5 x6) (View.ld x6 r0_2) (View.ld x6 r0_3) (View.ld x1 r0_4) j : EReal)
      = moment1 (shapeCast S128x640 (View.ld x1 r0_4) shapeCasts_S1x128x640_S128x640 j) (picked (BitVec.ofNat 32 (i 0).val) (turnedSum x3) (turnedSum x4) (turnedSum x5) (turnedSum x6) j) := rfl
  rw [e, View.ld_unit_zero origin3]; exact congrArg (moment1 · _) (flat_read x1 _ j)

theorem second_apply (i : grid0.Coords) (x0 x1 x2 : Vec Ideal S1x128x640 .f32) (x3 x4 x5 x6 : Vec Ideal S4x640x128 .bf16) (j : S128x640.Idx) :
    (k0_pay12 (BitVec.ofNat 32 (i 0).val) (k0_pay16 i x0 x1 x2 x3 x4 x5 x6) (k0_pay17 i x0 x1 x2 x3 x4 x5 x6) (View.ld x6 r0_2) (View.ld x6 r0_3) (View.ld x2 r0_4) j : EReal) = moment2 (x2 (ix3 (0 : Fin 1) (j 0) (j 1))) (picked (BitVec.ofNat 32 (i 0).val) (turnedSum x3) (turnedSum x4) (turnedSum x5) (turnedSum x6) j) := by
  have e : (k0_pay12 (BitVec.ofNat 32 (i 0).val) (k0_pay16 i x0 x1 x2 x3 x4 x5 x6) (k0_pay17 i x0 x1 x2 x3 x4 x5 x6) (View.ld x6 r0_2) (View.ld x6 r0_3) (View.ld x2 r0_4) j : EReal)
      = moment2 (shapeCast S128x640 (View.ld x2 r0_4) shapeCasts_S1x128x640_S128x640 j) (picked (BitVec.ofNat 32 (i 0).val) (turnedSum x3) (turnedSum x4) (turnedSum x5) (turnedSum x6) j) := rfl
  rw [e, View.ld_unit_zero origin3]; exact congrArg (moment2 · _) (flat_read x2 _ j)

/-- and the change of the weight. -/
theorem delta_apply (i : grid0.Coords) (x0 x1 x2 : Vec Ideal S1x128x640 .f32) (x3 x4 x5 x6 : Vec Ideal S4x640x128 .bf16) (y : S1x128x640.Idx) :
    (k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_2) (View.ld x6 r0_3) (View.ld x1 r0_4)) (k0_pay14 (BitVec.ofNat 32 (i 0).val) (k0_pay16 i x0 x1 x2 x3 x4 x5 x6) (k0_pay17 i x0 x1 x2 x3 x4 x5 x6) (View.ld x6 r0_2) (View.ld x6 r0_3) (View.ld x2 r0_4)) y : EReal)
      = change (x0 (ix3 (0 : Fin 1) (y 1) (y 2))) (moment1 (x1 (ix3 (0 : Fin 1) (y 1) (y 2))) (picked (BitVec.ofNat 32 (i 0).val) (turnedSum x3) (turnedSum x4) (turnedSum x5) (turnedSum x6) (ix2 (y 1) (y 2))))
          (moment2 (x2 (ix3 (0 : Fin 1) (y 1) (y 2))) (picked (BitVec.ofNat 32 (i 0).val) (turnedSum x3) (turnedSum x4) (turnedSum x5) (turnedSum x6) (ix2 (y 1) (y 2)))) := by
  have e : k0_pay1 (k0_pay10 (View.ld x0 r0_4)) (k0_pay13 (BitVec.ofNat 32 (i 0).val) (k0_pay16 i x0 x1 x2 x3 x4 x5 x6) (k0_pay17 i x0 x1 x2 x3 x4 x5 x6) (View.ld x6 r0_2) (View.ld x6 r0_3) (View.ld x1 r0_4)) (k0_pay14 (BitVec.ofNat 32 (i 0).val) (k0_pay16 i x0 x1 x2 x3 x4 x5 x6) (k0_pay17 i x0 x1 x2 x3 x4 x5 x6) (View.ld x6 r0_2) (View.ld x6 r0_3) (View.ld x2 r0_4))
      = shapeCast S1x128x640 (fun j : S128x640.Idx => Ideal.ofBits .f32 0xBA83126F#32 * (Ideal.div
      ((k0_pay11 (BitVec.ofNat 32 (i 0).val) (k0_pay16 i x0 x1 x2 x3 x4 x5 x6) (k0_pay17 i x0 x1 x2 x3 x4 x5 x6) (View.ld x6 r0_2) (View.ld x6 r0_3) (View.ld x1 r0_4) j : EReal) * (Named.named κ "r1" 0x3FC48605#32 : Ideal .f32))
      (Ideal.sqrt ((k0_pay12 (BitVec.ofNat 32 (i 0).val) (k0_pay16 i x0 x1 x2 x3 x4 x5 x6) (k0_pay17 i x0 x1 x2 x3 x4 x5 x6) (View.ld x6 r0_2) (View.ld x6 r0_3) (View.ld x2 r0_4) j : EReal) * (Named.named κ "r2" 0x42C8E6D3#32 : Ideal .f32))
        + Ideal.ofBits .f32 0x322BCC77#32)
    + Ideal.ofBits .f32 0x3C23D70A#32 * (shapeCast S128x640 (View.ld x0 r0_4) shapeCasts_S1x128x640_S128x640 j : EReal))) shapeCasts_S128x640_S1x128x640 := rfl
  rw [e]
  refine (batch_read _ shapeCasts_S128x640_S1x128x640 y).trans ?_
  rw [name1, name2, first_apply, second_apply, View.ld_unit_zero origin3]
  exact congrArg (change · _ _) (flat_read x0 _ (ix2 (y 1) (y 2)))

/-- The blocks a point reads and writes: its layer's block of each array; of the partial gradients, only its own layer's
    block counts. -/
theorem index_facts : ∀ t : Fin cfg0.N, (grid0.coords t 0).val = t.val / 16
    ∧ win0_0.index t 0 = t.val / 16
    ∧ win0_0.index t 1 = t.val % 16
    ∧ win0_0.index t 2 = 0
    ∧ win0_1.index t 0 = t.val / 16
    ∧ win0_1.index t 1 = t.val % 16
    ∧ win0_1.index t 2 = 0
    ∧ win0_2.index t 0 = t.val / 16
    ∧ win0_2.index t 1 = t.val % 16
    ∧ win0_2.index t 2 = 0
    ∧ win0_7.index t 0 = t.val / 16
    ∧ win0_7.index t 1 = t.val % 16
    ∧ win0_7.index t 2 = 0
    ∧ win0_3.index t 0 = 0
    ∧ win0_3.index t 1 = 0
    ∧ (t.val / 16 = 0 → win0_3.index t 2 = t.val % 16)
    ∧ win0_4.index t 0 = 0
    ∧ win0_4.index t 1 = 0
    ∧ (t.val / 16 = 1 → win0_4.index t 2 = t.val % 16)
    ∧ win0_5.index t 0 = 0
    ∧ win0_5.index t 1 = 0
    ∧ (t.val / 16 = 2 → win0_5.index t 2 = t.val % 16)
    ∧ win0_6.index t 0 = 0
    ∧ win0_6.index t 1 = 0
    ∧ (t.val / 16 = 3 → win0_6.index t 2 = t.val % 16) := by
  decide +kernel

/-- The partial gradients of layer 0 as the kernel finds them. -/
theorem part0_apply (c : Dev nD) (i : S4x640x2048.Idx) :
    (V m c main_v2 i : EReal) = ((m ((c : Thread nD τ).loc main_arg3)) (ix4 (0 : Fin 4) (i 0) (i 1) (i 2)) : EReal) := by
  have e : V m c main_v2 = (truncf (F := Ideal) .bf16 (shapeCast S4x640x2048 (extractStridedSlice S1x4x640x2048 ![0, 0, 0, 0]
      (m ((c : Thread nD τ).loc main_arg3)) slices_S4x4x640x2048_S1x4x640x2048_0_0_0_0) shapeCasts_S1x4x640x2048_S4x640x2048) bitsLt_bf16_f32 : FVec Ideal S4x640x2048 .bf16) := by
    show StableHlo.after hostOps0 (fun b => m (c, b)) (Proc.devRef .tc main_v2) = _
    after_results
    rfl
  rw [e]; exact layer_read (m ((c : Thread nD τ).loc main_arg3)) 0 (by decide) _ rfl slices_S4x4x640x2048_S1x4x640x2048_0_0_0_0 shapeCasts_S1x4x640x2048_S4x640x2048 i

/-- The partial gradients of layer 1 as the kernel finds them. -/
theorem part1_apply (c : Dev nD) (i : S4x640x2048.Idx) :
    (V m c main_v5 i : EReal) = ((m ((c : Thread nD τ).loc main_arg3)) (ix4 (1 : Fin 4) (i 0) (i 1) (i 2)) : EReal) := by
  have e : V m c main_v5 = (truncf (F := Ideal) .bf16 (shapeCast S4x640x2048 (extractStridedSlice S1x4x640x2048 ![1, 0, 0, 0]
      (m ((c : Thread nD τ).loc main_arg3)) slices_S4x4x640x2048_S1x4x640x2048_1_0_0_0) shapeCasts_S1x4x640x2048_S4x640x2048) bitsLt_bf16_f32 : FVec Ideal S4x640x2048 .bf16) := by
    show StableHlo.after hostOps0 (fun b => m (c, b)) (Proc.devRef .tc main_v5) = _
    after_results
    rfl
  rw [e]; exact layer_read (m ((c : Thread nD τ).loc main_arg3)) 1 (by decide) _ rfl slices_S4x4x640x2048_S1x4x640x2048_1_0_0_0 shapeCasts_S1x4x640x2048_S4x640x2048 i

/-- The partial gradients of layer 2 as the kernel finds them. -/
theorem part2_apply (c : Dev nD) (i : S4x640x2048.Idx) :
    (V m c main_v8 i : EReal) = ((m ((c : Thread nD τ).loc main_arg3)) (ix4 (2 : Fin 4) (i 0) (i 1) (i 2)) : EReal) := by
  have e : V m c main_v8 = (truncf (F := Ideal) .bf16 (shapeCast S4x640x2048 (extractStridedSlice S1x4x640x2048 ![2, 0, 0, 0]
      (m ((c : Thread nD τ).loc main_arg3)) slices_S4x4x640x2048_S1x4x640x2048_2_0_0_0) shapeCasts_S1x4x640x2048_S4x640x2048) bitsLt_bf16_f32 : FVec Ideal S4x640x2048 .bf16) := by
    show StableHlo.after hostOps0 (fun b => m (c, b)) (Proc.devRef .tc main_v8) = _
    after_results
    rfl
  rw [e]; exact layer_read (m ((c : Thread nD τ).loc main_arg3)) 2 (by decide) _ rfl slices_S4x4x640x2048_S1x4x640x2048_2_0_0_0 shapeCasts_S1x4x640x2048_S4x640x2048 i

/-- The partial gradients of layer 3 as the kernel finds them. -/
theorem part3_apply (c : Dev nD) (i : S4x640x2048.Idx) :
    (V m c main_v11 i : EReal) = ((m ((c : Thread nD τ).loc main_arg3)) (ix4 (3 : Fin 4) (i 0) (i 1) (i 2)) : EReal) := by
  have e : V m c main_v11 = (truncf (F := Ideal) .bf16 (shapeCast S4x640x2048 (extractStridedSlice S1x4x640x2048 ![3, 0, 0, 0]
      (m ((c : Thread nD τ).loc main_arg3)) slices_S4x4x640x2048_S1x4x640x2048_3_0_0_0) shapeCasts_S1x4x640x2048_S4x640x2048) bitsLt_bf16_f32 : FVec Ideal S4x640x2048 .bf16) := by
    show StableHlo.after hostOps0 (fun b => m (c, b)) (Proc.devRef .tc main_v11) = _
    after_results
    rfl
  rw [e]; exact layer_read (m ((c : Thread nD τ).loc main_arg3)) 3 (by decide) _ rfl slices_S4x4x640x2048_S1x4x640x2048_3_0_0_0 shapeCasts_S1x4x640x2048_S4x640x2048 i

/-- A point of layer 0 sums the partial gradients of its block. -/
theorem sum0 (c : Dev nD) (t : Fin cfg0.N) (h : t.val / 16 = 0) (y : ((cfg0.win 7).xblock (grid0.coords t)).Idx) :
    blockSum (iblk m c 3 t) (ix2 (y 2) (y 1)) = grad (m ((c : Thread nD τ).loc main_arg3)) ((win0_7.rect t).emb y) := by
  obtain ⟨-, -, -, -, -, -, -, -, -, -, e0, e1, e2, p00, p0c, p0h, -, -, -, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 3 t (ix3 b (y 2) (y 1)) : EReal)
      = ((m ((c : Thread nD τ).loc main_arg3)) (ix4 ((win0_7.rect t).emb y 0) b ((win0_7.rect t).emb y 2) ((win0_7.rect t).emb y 1)) : EReal) := by
    refine Eq.trans (b := (V m c main_v2 ((win0_3.rect t).emb (ix3 b (y 2) (y 1))) : EReal)) rfl ?_
    refine (part0_apply m c _).trans (congrArg (m ((c : Thread nD τ).loc main_arg3)) (funext fun a => Fin.ext ?_))
    match a with
    | ⟨0, _⟩ =>
      show 0 = ((win0_7.rect t).emb y 0).val
      rw [f0, e0, h]; show 0 = 0 * 1 + (y 0).val; omega
    | ⟨1, _⟩ =>
      refine (win0_3.rect_emb_val t (ix3 b (y 2) (y 1)) 0).trans ?_
      rw [p00]; show 0 * 4 + b.val = b.val; omega
    | ⟨2, _⟩ =>
      refine (win0_3.rect_emb_val t (ix3 b (y 2) (y 1)) 1).trans (Eq.trans ?_ f2.symm)
      rw [p0c, e2]; rfl
    | ⟨3, _⟩ =>
      refine (win0_3.rect_emb_val t (ix3 b (y 2) (y 1)) 2).trans (Eq.trans ?_ f1.symm)
      rw [p0h h, e1]; rfl
  refine (blockSum_apply _ (ix2 (y 2) (y 1))).trans ?_
  exact congrArg₂ (· + ·) (congrArg₂ (· + ·) (congrArg₂ (· + ·) (k 0) (k 1)) (k 2)) (k 3)

/-- A point of layer 1 sums the partial gradients of its block. -/
theorem sum1 (c : Dev nD) (t : Fin cfg0.N) (h : t.val / 16 = 1) (y : ((cfg0.win 7).xblock (grid0.coords t)).Idx) :
    blockSum (iblk m c 4 t) (ix2 (y 2) (y 1)) = grad (m ((c : Thread nD τ).loc main_arg3)) ((win0_7.rect t).emb y) := by
  obtain ⟨-, -, -, -, -, -, -, -, -, -, e0, e1, e2, -, -, -, p10, p1c, p1h, -, -, -, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 4 t (ix3 b (y 2) (y 1)) : EReal)
      = ((m ((c : Thread nD τ).loc main_arg3)) (ix4 ((win0_7.rect t).emb y 0) b ((win0_7.rect t).emb y 2) ((win0_7.rect t).emb y 1)) : EReal) := by
    refine Eq.trans (b := (V m c main_v5 ((win0_4.rect t).emb (ix3 b (y 2) (y 1))) : EReal)) rfl ?_
    refine (part1_apply m c _).trans (congrArg (m ((c : Thread nD τ).loc main_arg3)) (funext fun a => Fin.ext ?_))
    match a with
    | ⟨0, _⟩ =>
      show 1 = ((win0_7.rect t).emb y 0).val
      rw [f0, e0, h]; show 1 = 1 * 1 + (y 0).val; omega
    | ⟨1, _⟩ =>
      refine (win0_4.rect_emb_val t (ix3 b (y 2) (y 1)) 0).trans ?_
      rw [p10]; show 0 * 4 + b.val = b.val; omega
    | ⟨2, _⟩ =>
      refine (win0_4.rect_emb_val t (ix3 b (y 2) (y 1)) 1).trans (Eq.trans ?_ f2.symm)
      rw [p1c, e2]; rfl
    | ⟨3, _⟩ =>
      refine (win0_4.rect_emb_val t (ix3 b (y 2) (y 1)) 2).trans (Eq.trans ?_ f1.symm)
      rw [p1h h, e1]; rfl
  refine (blockSum_apply _ (ix2 (y 2) (y 1))).trans ?_
  exact congrArg₂ (· + ·) (congrArg₂ (· + ·) (congrArg₂ (· + ·) (k 0) (k 1)) (k 2)) (k 3)

/-- A point of layer 2 sums the partial gradients of its block. -/
theorem sum2 (c : Dev nD) (t : Fin cfg0.N) (h : t.val / 16 = 2) (y : ((cfg0.win 7).xblock (grid0.coords t)).Idx) :
    blockSum (iblk m c 5 t) (ix2 (y 2) (y 1)) = grad (m ((c : Thread nD τ).loc main_arg3)) ((win0_7.rect t).emb y) := by
  obtain ⟨-, -, -, -, -, -, -, -, -, -, e0, e1, e2, -, -, -, -, -, -, p20, p2c, p2h, -, -, -⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 5 t (ix3 b (y 2) (y 1)) : EReal)
      = ((m ((c : Thread nD τ).loc main_arg3)) (ix4 ((win0_7.rect t).emb y 0) b ((win0_7.rect t).emb y 2) ((win0_7.rect t).emb y 1)) : EReal) := by
    refine Eq.trans (b := (V m c main_v8 ((win0_5.rect t).emb (ix3 b (y 2) (y 1))) : EReal)) rfl ?_
    refine (part2_apply m c _).trans (congrArg (m ((c : Thread nD τ).loc main_arg3)) (funext fun a => Fin.ext ?_))
    match a with
    | ⟨0, _⟩ =>
      show 2 = ((win0_7.rect t).emb y 0).val
      rw [f0, e0, h]; show 2 = 2 * 1 + (y 0).val; omega
    | ⟨1, _⟩ =>
      refine (win0_5.rect_emb_val t (ix3 b (y 2) (y 1)) 0).trans ?_
      rw [p20]; show 0 * 4 + b.val = b.val; omega
    | ⟨2, _⟩ =>
      refine (win0_5.rect_emb_val t (ix3 b (y 2) (y 1)) 1).trans (Eq.trans ?_ f2.symm)
      rw [p2c, e2]; rfl
    | ⟨3, _⟩ =>
      refine (win0_5.rect_emb_val t (ix3 b (y 2) (y 1)) 2).trans (Eq.trans ?_ f1.symm)
      rw [p2h h, e1]; rfl
  refine (blockSum_apply _ (ix2 (y 2) (y 1))).trans ?_
  exact congrArg₂ (· + ·) (congrArg₂ (· + ·) (congrArg₂ (· + ·) (k 0) (k 1)) (k 2)) (k 3)

/-- A point of layer 3 sums the partial gradients of its block. -/
theorem sum3 (c : Dev nD) (t : Fin cfg0.N) (h : t.val / 16 = 3) (y : ((cfg0.win 7).xblock (grid0.coords t)).Idx) :
    blockSum (iblk m c 6 t) (ix2 (y 2) (y 1)) = grad (m ((c : Thread nD τ).loc main_arg3)) ((win0_7.rect t).emb y) := by
  obtain ⟨-, -, -, -, -, -, -, -, -, -, e0, e1, e2, -, -, -, -, -, -, -, -, -, p30, p3c, p3h⟩ := index_facts t
  have f0 := win0_7.rect_emb_val t y 0
  have f1 := win0_7.rect_emb_val t y 1
  have f2 := win0_7.rect_emb_val t y 2
  have y0 : (y 0).val < 1 := (y 0).isLt
  have k (b : Fin 4) : (iblk m c 6 t (ix3 b (y 2) (y 1)) : EReal)
      = ((m ((c : Thread nD τ).loc main_arg3)) (ix4 ((win0_7.rect t).emb y 0) b ((win0_7.rect t).emb y 2) ((win0_7.rect t).emb y 1)) : EReal) := by
    refine Eq.trans (b := (V m c main_v11 ((win0_6.rect t).emb (ix3 b (y 2) (y 1))) : EReal)) rfl ?_
    refine (part3_apply m c _).trans (congrArg (m ((c : Thread nD τ).loc main_arg3)) (funext fun a => Fin.ext ?_))
    match a with
    | ⟨0, _⟩ =>
      show 3 = ((win0_7.rect t).emb y 0).val
      rw [f0, e0, h]; show 3 = 3 * 1 + (y 0).val; omega
    | ⟨1, _⟩ =>
      refine (win0_6.rect_emb_val t (ix3 b (y 2) (y 1)) 0).trans ?_
      rw [p30]; show 0 * 4 + b.val = b.val; omega
    | ⟨2, _⟩ =>
      refine (win0_6.rect_emb_val t (ix3 b (y 2) (y 1)) 1).trans (Eq.trans ?_ f2.symm)
      rw [p3c, e2]; rfl
    | ⟨3, _⟩ =>
      refine (win0_6.rect_emb_val t (ix3 b (y 2) (y 1)) 2).trans (Eq.trans ?_ f1.symm)
      rw [p3h h, e1]; rfl
  refine (blockSum_apply _ (ix2 (y 2) (y 1))).trans ?_
  exact congrArg₂ (· + ·) (congrArg₂ (· + ·) (congrArg₂ (· + ·) (k 0) (k 1)) (k 2)) (k 3)

/-- The gradient of a point's block. -/
theorem grad_block (c : Dev nD) (t : Fin cfg0.N) (y : ((cfg0.win 7).xblock (grid0.coords t)).Idx) :
    picked (BitVec.ofNat 32 (grid0.coords t 0).val) (turnedSum (iblk m c 3 t)) (turnedSum (iblk m c 4 t)) (turnedSum (iblk m c 5 t)) (turnedSum (iblk m c 6 t)) (ix2 (y 1) (y 2)) = grad (m ((c : Thread nD τ).loc main_arg3)) ((win0_7.rect t).emb y) := by
  obtain ⟨l, -, -, -, -, -, -, -, -, -, -, -, -, -, -, -, -, -, -, -, -, -, -, -, -⟩ := index_facts t
  have hN : cfg0.N = 64 := N_0
  have ht := t.isLt
  obtain h | h | h | h : t.val / 16 = 0 ∨ t.val / 16 = 1 ∨ t.val / 16 = 2 ∨ t.val / 16 = 3 := by omega
  · rw [l, h]; exact (picked0 _ _ _ _ _).trans ((turn_read _ transposes_S640x128_p1_0_S128x640 _).trans (sum0 m c t (by omega) y))
  · rw [l, h]; exact (picked1 _ _ _ _ _).trans ((turn_read _ transposes_S640x128_p1_0_S128x640 _).trans (sum1 m c t (by omega) y))
  · rw [l, h]; exact (picked2 _ _ _ _ _).trans ((turn_read _ transposes_S640x128_p1_0_S128x640 _).trans (sum2 m c t (by omega) y))
  · rw [l, h]; exact (picked3 _ _ _ _ _).trans ((turn_read _ transposes_S640x128_p1_0_S128x640 _).trans (sum3 m c t (by omega) y))

/-- The weight's -/
theorem block0 (c : Dev nD) (t : Fin cfg0.N) (y : ((cfg0.win 7).xblock (grid0.coords t)).Idx) :
    (iblk m c 0 t (ix3 (0 : Fin 1) (y 1) (y 2)) : EReal) = (m ((c : Thread nD τ).loc main_arg0)) ((win0_7.rect t).emb y) := by
  obtain ⟨-, a0, a1, a2, -, -, -, -, -, -, e0, e1, e2, -, -, -, -, -, -, -, -, -, -, -, -⟩ := index_facts t
  have y0 : (y 0).val < 1 := (y 0).isLt
  refine Eq.trans (congrArg (V m c main_arg0) (funext fun a => Fin.ext ?_)) (congrFun (V_main_arg0 m c) _)
  match a with
  | ⟨0, _⟩ =>
    refine (win0_0.rect_emb_val t _ 0).trans (Eq.trans ?_ (win0_7.rect_emb_val t y 0).symm)
    rw [a0, e0]; show _ * 1 + 0 = _ * 1 + (y 0).val; omega
  | ⟨1, _⟩ => exact (win0_0.rect_emb_val t _ 1).trans ((congrArg (· * 128 + _) (a1.trans e1.symm)).trans (win0_7.rect_emb_val t y 1).symm)
  | ⟨2, _⟩ => exact (win0_0.rect_emb_val t _ 2).trans ((congrArg (· * 640 + _) (a2.trans e2.symm)).trans (win0_7.rect_emb_val t y 2).symm)

/-- the first moment's -/
theorem block1 (c : Dev nD) (t : Fin cfg0.N) (y : ((cfg0.win 7).xblock (grid0.coords t)).Idx) :
    (iblk m c 1 t (ix3 (0 : Fin 1) (y 1) (y 2)) : EReal) = (m ((c : Thread nD τ).loc main_arg1)) ((win0_7.rect t).emb y) := by
  obtain ⟨-, -, -, -, b0, b1, b2, -, -, -, e0, e1, e2, -, -, -, -, -, -, -, -, -, -, -, -⟩ := index_facts t
  have y0 : (y 0).val < 1 := (y 0).isLt
  refine Eq.trans (congrArg (V m c main_arg1) (funext fun a => Fin.ext ?_)) (congrFun (V_main_arg1 m c) _)
  match a with
  | ⟨0, _⟩ =>
    refine (win0_1.rect_emb_val t _ 0).trans (Eq.trans ?_ (win0_7.rect_emb_val t y 0).symm)
    rw [b0, e0]; show _ * 1 + 0 = _ * 1 + (y 0).val; omega
  | ⟨1, _⟩ => exact (win0_1.rect_emb_val t _ 1).trans ((congrArg (· * 128 + _) (b1.trans e1.symm)).trans (win0_7.rect_emb_val t y 1).symm)
  | ⟨2, _⟩ => exact (win0_1.rect_emb_val t _ 2).trans ((congrArg (· * 640 + _) (b2.trans e2.symm)).trans (win0_7.rect_emb_val t y 2).symm)

/-- and the second moment's block. -/
theorem block2 (c : Dev nD) (t : Fin cfg0.N) (y : ((cfg0.win 7).xblock (grid0.coords t)).Idx) :
    (iblk m c 2 t (ix3 (0 : Fin 1) (y 1) (y 2)) : EReal) = (m ((c : Thread nD τ).loc main_arg2)) ((win0_7.rect t).emb y) := by
  obtain ⟨-, -, -, -, -, -, -, d0, d1, d2, e0, e1, e2, -, -, -, -, -, -, -, -, -, -, -, -⟩ := index_facts t
  have y0 : (y 0).val < 1 := (y 0).isLt
  refine Eq.trans (congrArg (V m c main_arg2) (funext fun a => Fin.ext ?_)) (congrFun (V_main_arg2 m c) _)
  match a with
  | ⟨0, _⟩ =>
    refine (win0_2.rect_emb_val t _ 0).trans (Eq.trans ?_ (win0_7.rect_emb_val t y 0).symm)
    rw [d0, e0]; show _ * 1 + 0 = _ * 1 + (y 0).val; omega
  | ⟨1, _⟩ => exact (win0_2.rect_emb_val t _ 1).trans ((congrArg (· * 128 + _) (d1.trans e1.symm)).trans (win0_7.rect_emb_val t y 1).symm)
  | ⟨2, _⟩ => exact (win0_2.rect_emb_val t _ 2).trans ((congrArg (· * 640 + _) (d2.trans e2.symm)).trans (win0_7.rect_emb_val t y 2).symm)

/-- What point `t` writes back is block `t` of the gradient, -/
theorem flushed_grad (c : Dev nD) (t : Fin cfg0.N) :
    (dats m 0 c).flushed 7 t = (win0_7.blk t).view.read (Elt Ideal) (grad (m ((c : Thread nD τ).loc main_arg3))) := by
  rw [flushed7]
  show (cfg0.win 7).cut (grid0.coords t) (out0_7 (grid0.coords t) (iblk m c 0 t) (iblk m c 1 t) (iblk m c 2 t) (iblk m c 3 t) (iblk m c 4 t) (iblk m c 5 t) (iblk m c 6 t)) = _
  unfold out0_7
  rw [View.canon_unit_zero origin3]
  funext y
  show _ = grad (m ((c : Thread nD τ).loc main_arg3)) ((win0_7.rect t).emb y)
  refine (grad_apply _ _ _ _ _ _ _ _ y).trans ?_
  exact grad_block m c t y

/-- the first moment, -/
theorem flushed_newFirst (c : Dev nD) (t : Fin cfg0.N) :
    (dats m 0 c).flushed 9 t = (win0_9.blk t).view.read (Elt Ideal) (newFirst (m ((c : Thread nD τ).loc main_arg1)) (m ((c : Thread nD τ).loc main_arg3))) := by
  rw [flushed9]
  show (cfg0.win 9).cut (grid0.coords t) (out0_9 (grid0.coords t) (iblk m c 0 t) (iblk m c 1 t) (iblk m c 2 t) (iblk m c 3 t) (iblk m c 4 t) (iblk m c 5 t) (iblk m c 6 t)) = _
  unfold out0_9
  rw [View.canon_unit_zero origin3]
  funext y
  show _ = newFirst (m ((c : Thread nD τ).loc main_arg1)) (m ((c : Thread nD τ).loc main_arg3)) ((win0_7.rect t).emb y)
  refine ((batch_read _ shapeCasts_S128x640_S1x128x640 y).trans (first_apply _ _ _ _ _ _ _ _ (ix2 (y 1) (y 2)))).trans ?_
  exact congrArg₂ moment1 (block1 m c t y) (grad_block m c t y)

/-- the second moment, -/
theorem flushed_newSecond (c : Dev nD) (t : Fin cfg0.N) :
    (dats m 0 c).flushed 10 t = (win0_10.blk t).view.read (Elt Ideal) (newSecond (m ((c : Thread nD τ).loc main_arg2)) (m ((c : Thread nD τ).loc main_arg3))) := by
  rw [flushed10]
  show (cfg0.win 10).cut (grid0.coords t) (out0_10 (grid0.coords t) (iblk m c 0 t) (iblk m c 1 t) (iblk m c 2 t) (iblk m c 3 t) (iblk m c 4 t) (iblk m c 5 t) (iblk m c 6 t)) = _
  unfold out0_10
  rw [View.canon_unit_zero origin3]
  funext y
  show _ = newSecond (m ((c : Thread nD τ).loc main_arg2)) (m ((c : Thread nD τ).loc main_arg3)) ((win0_7.rect t).emb y)
  refine ((batch_read _ shapeCasts_S128x640_S1x128x640 y).trans (second_apply _ _ _ _ _ _ _ _ (ix2 (y 1) (y 2)))).trans ?_
  exact congrArg₂ moment2 (block2 m c t y) (grad_block m c t y)

/-- and the change of the weight. -/
theorem flushed_delta (c : Dev nD) (t : Fin cfg0.N) :
    (dats m 0 c).flushed 8 t = (win0_8.blk t).view.read (Elt Ideal) (delta (m ((c : Thread nD τ).loc main_arg0)) (m ((c : Thread nD τ).loc main_arg1)) (m ((c : Thread nD τ).loc main_arg2)) (m ((c : Thread nD τ).loc main_arg3))) := by
  rw [flushed8]
  show (cfg0.win 8).cut (grid0.coords t) (out0_8 (grid0.coords t) (iblk m c 0 t) (iblk m c 1 t) (iblk m c 2 t) (iblk m c 3 t) (iblk m c 4 t) (iblk m c 5 t) (iblk m c 6 t)) = _
  unfold out0_8
  rw [View.canon_unit_zero origin3]
  funext y
  show _ = delta (m ((c : Thread nD τ).loc main_arg0)) (m ((c : Thread nD τ).loc main_arg1)) (m ((c : Thread nD τ).loc main_arg2)) (m ((c : Thread nD τ).loc main_arg3)) ((win0_7.rect t).emb y)
  refine (delta_apply _ _ _ _ _ _ _ _ y).trans ?_
  exact by
    have k1 := congrArg₂ moment1 (block1 m c t y) (grad_block m c t y)
    have k2 := congrArg₂ moment2 (block2 m c t y) (grad_block m c t y)
    rw [k1, k2]; exact congrArg (change · _ _) (block0 m c t y)

/-- The blocks cover each result. -/
theorem cover_grad (i : S4x2048x640.Idx) :
    ∃ t : Fin cfg0.N, (cfg0.win 7).flush t = true ∧ i ∈ ((cfg0.win 7).blk t).view.set := by
  have h0 : (i 0 : Nat) < 4 := (i 0).isLt
  have h1 : (i 1 : Nat) < 2048 := (i 1).isLt
  have h2 : (i 2 : Nat) < 640 := (i 2).isLt
  have hN : cfg0.N = 64 := N_0
  obtain ⟨t, ht⟩ : ∃ t : Fin cfg0.N, t.val = (i 0 : Nat) * 16 + (i 1 : Nat) / 128 := ⟨⟨_, by omega⟩, rfl⟩
  refine ⟨t, flush0_7 t, ?_⟩
  obtain ⟨-, -, -, -, -, -, -, -, -, -, e0, e1, e2, -, -, -, -, -, -, -, -, -, -, -, -⟩ := index_facts t
  show i ∈ ((View.whole main_v12_0).slice (win0_7.rect t)).set
  rw [View.set_slice_whole, Rect.mem_set_unit]
  intro a
  match a with
  | ⟨0, _⟩ =>
    show win0_7.index _ 0 * 1 ≤ (i 0 : Nat) ∧ (i 0 : Nat) < win0_7.index _ 0 * 1 + 1
    rw [e0, ht]; omega
  | ⟨1, _⟩ =>
    show win0_7.index _ 1 * 128 ≤ (i 1 : Nat) ∧ (i 1 : Nat) < win0_7.index _ 1 * 128 + 128
    rw [e1, ht]; omega
  | ⟨2, _⟩ =>
    show win0_7.index _ 2 * 640 ≤ (i 2 : Nat) ∧ (i 2 : Nat) < win0_7.index _ 2 * 640 + 640
    rw [e2]; omega

theorem cover_delta (i : S4x2048x640.Idx) :
    ∃ t : Fin cfg0.N, (cfg0.win 8).flush t = true ∧ i ∈ ((cfg0.win 8).blk t).view.set := by
  obtain ⟨t, -, ht⟩ := cover_grad i
  exact ⟨t, flush0_8 t, ht⟩

theorem cover_newFirst (i : S4x2048x640.Idx) :
    ∃ t : Fin cfg0.N, (cfg0.win 9).flush t = true ∧ i ∈ ((cfg0.win 9).blk t).view.set := by
  obtain ⟨t, -, ht⟩ := cover_grad i
  exact ⟨t, flush0_9 t, ht⟩

theorem cover_newSecond (i : S4x2048x640.Idx) :
    ∃ t : Fin cfg0.N, (cfg0.win 10).flush t = true ∧ i ∈ ((cfg0.win 10).blk t).view.set := by
  obtain ⟨t, -, ht⟩ := cover_grad i
  exact ⟨t, flush0_10 t, ht⟩

/-- The reference's gradient. -/
def refGrad (x : FVec Ideal S4x4x640x2048 .f32) (i : S4x2048x640.Idx) : EReal :=
  (transpose S4x2048x640 [0, 2, 1] (Host.reduceAdd x (constant Cert.StepInRefIdeal.S_ .f32 0x00000000#32) Cert.StepInRefIdeal.Gen.reducesTo_S4x4x640x2048_S4x640x2048_d1 Cert.StepInRefIdeal.Gen.h_S_) Cert.StepInRefIdeal.Gen.transposes_S4x640x2048_S4x2048x640_0_2_1 i : EReal)

theorem ref_grad (x : FVec Ideal S4x4x640x2048 .f32) (i : S4x2048x640.Idx) : refGrad x i = grad x i :=
  (turned_read _ Cert.StepInRefIdeal.Gen.transposes_S4x640x2048_S4x2048x640_0_2_1 i).trans (host_summed x Cert.StepInRefIdeal.Gen.reducesTo_S4x4x640x2048_S4x640x2048_d1 _)

/-- The kernel and the reference compute the same four arrays. -/
theorem algebraic : Cert.algebraic_StepInIdeal_StepInRefIdeal := by
  intro m g m' g' _ hm
  refine ⟨fun c => grad (m ((c : Thread nD τ).loc main_arg3)), fun c => delta (m ((c : Thread nD τ).loc main_arg0)) (m ((c : Thread nD τ).loc main_arg1)) (m ((c : Thread nD τ).loc main_arg2)) (m ((c : Thread nD τ).loc main_arg3)),
    fun c => newFirst (m ((c : Thread nD τ).loc main_arg1)) (m ((c : Thread nD τ).loc main_arg3)), fun c => newSecond (m ((c : Thread nD τ).loc main_arg2)) (m ((c : Thread nD τ).loc main_arg3)), ?_, ?_⟩
  · exact (θ_run defs _ _).mono (fun _ h c => ⟨(h c).1.trans ((dats m 0 c).arrAt_eq_of_cover 7 _ (fun t _ => flushed_grad m c t) cover_grad),
      (h c).2.1.trans ((dats m 0 c).arrAt_eq_of_cover 8 _ (fun t _ => flushed_delta m c t) cover_delta),
      (h c).2.2.1.trans ((dats m 0 c).arrAt_eq_of_cover 9 _ (fun t _ => flushed_newFirst m c t) cover_newFirst),
      (h c).2.2.2.1.trans ((dats m 0 c).arrAt_eq_of_cover 10 _ (fun t _ => flushed_newSecond m c t) cover_newSecond), (h c).2.2.2.2⟩) (run_blocks m g)
  · refine (θ_run Cert.StepInRefIdeal.defs _ _).mono (fun _ h c => ⟨(h c).1.trans ?_, (h c).2.1.trans ?_, (h c).2.2.1.trans ?_, (h c).2.2.2.1.trans ?_, (h c).2.2.2.2⟩)
      (Cert.StepInRefIdeal.Value.run m' g')
    · rw [(hm c).2.2.2]
      funext i
      exact (ref_grad _ i)
    · rw [(hm c).1, (hm c).2.1, (hm c).2.2.1, (hm c).2.2.2]
      funext i
      have k1 := change_eq ((m ((c : Thread nD τ).loc main_arg0)) i) (moment1 ((m ((c : Thread nD τ).loc main_arg1)) i) (refGrad (m ((c : Thread nD τ).loc main_arg3)) i)) (moment2 ((m ((c : Thread nD τ).loc main_arg2)) i) (refGrad (m ((c : Thread nD τ).loc main_arg3)) i))
      have k2 := congrArg (fun g => change ((m ((c : Thread nD τ).loc main_arg0)) i) (moment1 ((m ((c : Thread nD τ).loc main_arg1)) i) g) (moment2 ((m ((c : Thread nD τ).loc main_arg2)) i) g)) (ref_grad (m ((c : Thread nD τ).loc main_arg3)) i)
      refine Eq.trans ?_ (k1.trans k2)
      rfl
    · rw [(hm c).2.1, (hm c).2.2.2]
      funext i
      exact (congrArg (moment1 ((m ((c : Thread nD τ).loc main_arg1)) i)) (ref_grad _ i))
    · rw [(hm c).2.2.1, (hm c).2.2.2]
      funext i
      exact (congrArg (moment2 ((m ((c : Thread nD τ).loc main_arg2)) i)) (ref_grad _ i))

end Cert.StepInIdeal.Value

end
-- ==== Proof.StepSmall.lean ====
/- The optimiser's step for the small parameters of all layers, packed into one array: the gradient is the sum of eight
   partial gradients, and the two moments and the parameters' change follow from it element by element. -/
module

public import proofs.«01_k».proof.Proof.Step
public import proofs.«01_k».proof.Defs
public import proofs.«01_k».proof.Proof.Gen.StepSmallIdeal.Value
public import proofs.«01_k».proof.Proof.Gen.StepSmallRefIdeal.Run

@[expose] public section

set_option maxRecDepth 16384

noncomputable section

namespace Cert.StepSmallIdeal.Value

open Cert.StepSmallIdeal Cert.StepSmallIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The gradient: the sum of the eight partial gradients, -/
def grad (x : S8x4368x128.Idx → EReal) (i : S1x4368x128.Idx) : EReal :=
  x (ix3 (0 : Fin 8) (i 1) (i 2)) + x (ix3 (1 : Fin 8) (i 1) (i 2)) + x (ix3 (2 : Fin 8) (i 1) (i 2)) + x (ix3 (3 : Fin 8) (i 1) (i 2))
    + x (ix3 (4 : Fin 8) (i 1) (i 2)) + x (ix3 (5 : Fin 8) (i 1) (i 2)) + x (ix3 (6 : Fin 8) (i 1) (i 2)) + x (ix3 (7 : Fin 8) (i 1) (i 2))

/-- the two moments, and the change of the parameters. -/
def newFirst (p : S1x4368x128.Idx → EReal) (x : S8x4368x128.Idx → EReal) (i : S1x4368x128.Idx) : EReal := moment1 (p i) (grad x i)
def newSecond (v : S1x4368x128.Idx → EReal) (x : S8x4368x128.Idx → EReal) (i : S1x4368x128.Idx) : EReal := moment2 (v i) (grad x i)
def delta (w p v : S1x4368x128.Idx → EReal) (x : S8x4368x128.Idx → EReal) (i : S1x4368x128.Idx) : EReal :=
  change (w i) (newFirst p x i) (newSecond v x i)

/-- The kernel's names are one over the corrections of the bias. -/
theorem name1 : (Named.named κ "r1" 0x3FC48605#32 : Ideal .f32) = recip1 :=
  (IdealRules.named_const.ideal_named_scalar _ _ _ _ rfl).trans (by unfold recip1; norm_num)

theorem name2 : (Named.named κ "r2" 0x42C8E6D3#32 : Ideal .f32) = recip2 :=
  (IdealRules.named_const.ideal_named_scalar _ _ _ _ rfl).trans (by unfold recip2; norm_num)

/-- The sum of the eight partial gradients of a block, -/
def blockSum (x : Vec Ideal S8x624x128 .f32) (j : S624x128.Idx) : EReal :=
  (shapeCast S624x128 (View.ld x r0_0) shapeCasts_S1x624x128_S624x128 j : EReal) + (shapeCast S624x128 (View.ld x r0_1) shapeCasts_S1x624x128_S624x128 j : EReal) + (shapeCast S624x128 (View.ld x r0_2) shapeCasts_S1x624x128_S624x128 j : EReal) + (shapeCast S624x128 (View.ld x r0_3) shapeCasts_S1x624x128_S624x128 j : EReal)
    + (shapeCast S624x128 (View.ld x r0_4) shapeCasts_S1x624x128_S624x128 j : EReal) + (shapeCast S624x128 (View.ld x r0_5) shapeCasts_S1x624x128_S624x128 j : EReal) + (shapeCast S624x128 (View.ld x r0_6) shapeCasts_S1x624x128_S624x128 j : EReal) + (shapeCast S624x128 (View.ld x r0_7) shapeCasts_S1x624x128_S624x128 j : EReal)

theorem blockSum_apply (x : Vec Ideal S8x624x128 .f32) (j : S624x128.Idx) :
    blockSum x j = (x (ix3 (0 : Fin 8) (j 0) (j 1)) : EReal) + (x (ix3 (1 : Fin 8) (j 0) (j 1)) : EReal) + (x (ix3 (2 : Fin 8) (j 0) (j 1)) : EReal) + (x (ix3 (3 : Fin 8) (j 0) (j 1)) : EReal)
    + (x (ix3 (4 : Fin 8) (j 0) (j 1)) : EReal) + (x (ix3 (5 : Fin 8) (j 0) (j 1)) : EReal) + (x (ix3 (6 : Fin 8) (j 0) (j 1)) : EReal) + (x (ix3 (7 : Fin 8) (j 0) (j 1)) : EReal) :=
  congrArg₂ (· + ·) (congrArg₂ (· + ·) (congrArg₂ (· + ·) (congrArg₂ (· + ·) (congrArg₂ (· + ·) (congrArg₂ (· + ·) (congrArg₂ (· + ·) (piece_read x 0 (by decide) _ rfl _ _ j)
    (piece_read x 1 (by decide) _ rfl _ _ j))
    (piece_read x 2 (by decide) _ rfl _ _ j))
    (piece_read x 3 (by decide) _ rfl _ _ j))
    (piece_read x 4 (by decide) _ rfl _ _ j))
    (piece_read x 5 (by decide) _ rfl _ _ j))
    (piece_read x 6 (by decide) _ rfl _ _ j))
    (piece_read x 7 (by decide) _ rfl _ _ j)

/-- which the kernel keeps where its first grid coordinate is zero, as it always is. -/
theorem sum_apply (i : grid0.Coords) (x0 x1 x2 : Vec Ideal S1x624x128 .f32) (x3 : Vec Ideal S8x624x128 .f32) (j : S624x128.Idx) :
    (k0_pay9 i x0 x1 x2 x3 j : EReal) = blockSum x3 j := by
  have h : (i 0).val = 0 := Nat.lt_one_iff.1 (i 0).isLt
  have e : (k0_pay9 i x0 x1 x2 x3 j : EReal) = Scalar.select (Scalar.cmpi .eq (BitVec.ofNat 32 (i 0).val) 0#32) (blockSum x3)
      (fun _ => Ideal.ofBits .f32 0x00000000#32) j := rfl
  rw [e, h]; rfl

/-- What the body stores, at an index: the gradient, -/
theorem grad_apply (i : grid0.Coords) (x0 x1 x2 : Vec Ideal S1x624x128 .f32) (x3 : Vec Ideal S8x624x128 .f32) (y : S1x624x128.Idx) :
    (k0_pay7 (k0_pay9 i x0 x1 x2 x3) y : EReal) = blockSum x3 (ix2 (y 1) (y 2)) :=
  (batch_read _ shapeCasts_S624x128_S1x624x128 y).trans (sum_apply i x0 x1 x2 x3 _)

/-- the moments, -/
theorem first_apply (i : grid0.Coords) (x0 x1 x2 : Vec Ideal S1x624x128 .f32) (x3 : Vec Ideal S8x624x128 .f32) (j : S624x128.Idx) :
    (k0_pay5 (k0_pay9 i x0 x1 x2 x3) (View.ld x1 r0_8) j : EReal) = moment1 (x1 (ix3 (0 : Fin 1) (j 0) (j 1))) (blockSum x3 j) := by
  have e : (k0_pay5 (k0_pay9 i x0 x1 x2 x3) (View.ld x1 r0_8) j : EReal)
      = moment1 (shapeCast S624x128 (View.ld x1 r0_8) shapeCasts_S1x624x128_S624x128 j) ((k0_pay9 i x0 x1 x2 x3) j) := rfl
  rw [e, View.ld_unit_zero origin3, sum_apply]; exact congrArg (moment1 · _) (flat_read x1 _ j)

theorem second_apply (i : grid0.Coords) (x0 x1 x2 : Vec Ideal S1x624x128 .f32) (x3 : Vec Ideal S8x624x128 .f32) (j : S624x128.Idx) :
    (k0_pay6 (k0_pay9 i x0 x1 x2 x3) (View.ld x2 r0_8) j : EReal) = moment2 (x2 (ix3 (0 : Fin 1) (j 0) (j 1))) (blockSum x3 j) := by
  have e : (k0_pay6 (k0_pay9 i x0 x1 x2 x3) (View.ld x2 r0_8) j : EReal)
      = moment2 (shapeCast S624x128 (View.ld x2 r0_8) shapeCasts_S1x624x128_S624x128 j) ((k0_pay9 i x0 x1 x2 x3) j) := rfl
  rw [e, View.ld_unit_zero origin3, sum_apply]; exact congrArg (moment2 · _) (flat_read x2 _ j)

/-- and the change of the parameters. -/
theorem delta_apply (i : grid0.Coords) (x0 x1 x2 : Vec Ideal S1x624x128 .f32) (x3 : Vec Ideal S8x624x128 .f32) (y : S1x624x128.Idx) :
    (k0_pay8 (k0_pay9 i x0 x1 x2 x3) (k0_pay4 (View.ld x0 r0_8)) (View.ld x1 r0_8) (View.ld x2 r0_8) y : EReal)
      = change (x0 (ix3 (0 : Fin 1) (y 1) (y 2))) (moment1 (x1 (ix3 (0 : Fin 1) (y 1) (y 2))) (blockSum x3 (ix2 (y 1) (y 2))))
          (moment2 (x2 (ix3 (0 : Fin 1) (y 1) (y 2))) (blockSum x3 (ix2 (y 1) (y 2)))) := by
  have e : k0_pay8 (k0_pay9 i x0 x1 x2 x3) (k0_pay4 (View.ld x0 r0_8)) (View.ld x1 r0_8) (View.ld x2 r0_8)
      = shapeCast S1x624x128 (fun j : S624x128.Idx => Ideal.ofBits .f32 0xBA83126F#32 * (Ideal.div
      ((k0_pay5 (k0_pay9 i x0 x1 x2 x3) (View.ld x1 r0_8) j : EReal) * (Named.named κ "r1" 0x3FC48605#32 : Ideal .f32))
      (Ideal.sqrt ((k0_pay6 (k0_pay9 i x0 x1 x2 x3) (View.ld x2 r0_8) j : EReal) * (Named.named κ "r2" 0x42C8E6D3#32 : Ideal .f32))
        + Ideal.ofBits .f32 0x322BCC77#32)
    + Ideal.ofBits .f32 0x3C23D70A#32 * (shapeCast S624x128 (View.ld x0 r0_8) shapeCasts_S1x624x128_S624x128 j : EReal))) shapeCasts_S624x128_S1x624x128 := rfl
  rw [e]
  refine (batch_read _ shapeCasts_S624x128_S1x624x128 y).trans ?_
  rw [name1, name2, first_apply, second_apply, View.ld_unit_zero origin3]
  exact congrArg (change · _ _) (flat_read x0 _ (ix2 (y 1) (y 2)))

/-- Each point reads and writes the same block of rows of every array. -/
theorem index_facts : ∀ t : Fin cfg0.N, win0_0.index t 0 = 0 ∧ win0_0.index t 1 = t.val ∧ win0_0.index t 2 = 0
    ∧ win0_1.index t 0 = 0 ∧ win0_1.index t 1 = t.val ∧ win0_1.index t 2 = 0
    ∧ win0_2.index t 0 = 0 ∧ win0_2.index t 1 = t.val ∧ win0_2.index t 2 = 0
    ∧ win0_3.index t 0 = 0 ∧ win0_3.index t 1 = t.val ∧ win0_3.index t 2 = 0
    ∧ win0_4.index t 0 = 0 ∧ win0_4.index t 1 = t.val ∧ win0_4.index t 2 = 0 := by
  decide +kernel

/-- The gradient of a point's block. -/
theorem grad_block (c : Dev nD) (t : Fin cfg0.N) (y : ((cfg0.win 4).xblock (grid0.coords t)).Idx) :
    blockSum (iblk m c 3 t) (ix2 (y 1) (y 2)) = grad (m ((c : Thread nD τ).loc main_arg3)) ((win0_4.rect t).emb y) := by
  obtain ⟨-, -, -, -, -, -, -, -, -, p0, p1, p2, -, e1, e2⟩ := index_facts t
  have f1 := win0_4.rect_emb_val t y 1
  have f2 := win0_4.rect_emb_val t y 2
  have k (b : Fin 8) : (iblk m c 3 t (ix3 b (y 1) (y 2)) : EReal)
      = ((m ((c : Thread nD τ).loc main_arg3)) (ix3 b ((win0_4.rect t).emb y 1) ((win0_4.rect t).emb y 2)) : EReal) := by
    refine Eq.trans (congrArg (V m c main_arg3) (funext fun a => Fin.ext ?_)) (congrFun (V_main_arg3 m c) _)
    match a with
    | ⟨0, _⟩ =>
      refine (win0_3.rect_emb_val t (ix3 b (y 1) (y 2)) 0).trans ?_
      rw [p0]; show 0 * 8 + b.val = b.val; omega
    | ⟨1, _⟩ =>
      refine (win0_3.rect_emb_val t (ix3 b (y 1) (y 2)) 1).trans (Eq.trans ?_ f1.symm)
      rw [p1, e1]; rfl
    | ⟨2, _⟩ =>
      refine (win0_3.rect_emb_val t (ix3 b (y 1) (y 2)) 2).trans (Eq.trans ?_ f2.symm)
      rw [p2, e2]; rfl
  refine (blockSum_apply _ (ix2 (y 1) (y 2))).trans ?_
  exact congrArg₂ (· + ·) (congrArg₂ (· + ·) (congrArg₂ (· + ·) (congrArg₂ (· + ·) (congrArg₂ (· + ·) (congrArg₂ (· + ·) (congrArg₂ (· + ·) (k 0)
    (k 1))
    (k 2))
    (k 3))
    (k 4))
    (k 5))
    (k 6))
    (k 7)

/-- The parameters' -/
theorem block0 (c : Dev nD) (t : Fin cfg0.N) (y : ((cfg0.win 4).xblock (grid0.coords t)).Idx) :
    (iblk m c 0 t (ix3 (0 : Fin 1) (y 1) (y 2)) : EReal) = (m ((c : Thread nD τ).loc main_arg0)) ((win0_4.rect t).emb y) := by
  obtain ⟨a0, a1, a2, -, -, -, -, -, -, -, -, -, e0, e1, e2⟩ := index_facts t
  have y0 : (y 0).val < 1 := (y 0).isLt
  refine Eq.trans (congrArg (V m c main_arg0) (funext fun a => Fin.ext ?_)) (congrFun (V_main_arg0 m c) _)
  match a with
  | ⟨0, _⟩ =>
    refine (win0_0.rect_emb_val t _ 0).trans (Eq.trans ?_ (win0_4.rect_emb_val t y 0).symm)
    rw [a0, e0]; show 0 * 1 + 0 = 0 * 1 + (y 0).val; omega
  | ⟨1, _⟩ => exact (win0_0.rect_emb_val t _ 1).trans ((congrArg (· * 624 + _) (a1.trans e1.symm)).trans (win0_4.rect_emb_val t y 1).symm)
  | ⟨2, _⟩ => exact (win0_0.rect_emb_val t _ 2).trans ((congrArg (· * 128 + _) (a2.trans e2.symm)).trans (win0_4.rect_emb_val t y 2).symm)

/-- the first moment's -/
theorem block1 (c : Dev nD) (t : Fin cfg0.N) (y : ((cfg0.win 4).xblock (grid0.coords t)).Idx) :
    (iblk m c 1 t (ix3 (0 : Fin 1) (y 1) (y 2)) : EReal) = (m ((c : Thread nD τ).loc main_arg1)) ((win0_4.rect t).emb y) := by
  obtain ⟨-, -, -, b0, b1, b2, -, -, -, -, -, -, e0, e1, e2⟩ := index_facts t
  have y0 : (y 0).val < 1 := (y 0).isLt
  refine Eq.trans (congrArg (V m c main_arg1) (funext fun a => Fin.ext ?_)) (congrFun (V_main_arg1 m c) _)
  match a with
  | ⟨0, _⟩ =>
    refine (win0_1.rect_emb_val t _ 0).trans (Eq.trans ?_ (win0_4.rect_emb_val t y 0).symm)
    rw [b0, e0]; show 0 * 1 + 0 = 0 * 1 + (y 0).val; omega
  | ⟨1, _⟩ => exact (win0_1.rect_emb_val t _ 1).trans ((congrArg (· * 624 + _) (b1.trans e1.symm)).trans (win0_4.rect_emb_val t y 1).symm)
  | ⟨2, _⟩ => exact (win0_1.rect_emb_val t _ 2).trans ((congrArg (· * 128 + _) (b2.trans e2.symm)).trans (win0_4.rect_emb_val t y 2).symm)

/-- and the second moment's block. -/
theorem block2 (c : Dev nD) (t : Fin cfg0.N) (y : ((cfg0.win 4).xblock (grid0.coords t)).Idx) :
    (iblk m c 2 t (ix3 (0 : Fin 1) (y 1) (y 2)) : EReal) = (m ((c : Thread nD τ).loc main_arg2)) ((win0_4.rect t).emb y) := by
  obtain ⟨-, -, -, -, -, -, d0, d1, d2, -, -, -, e0, e1, e2⟩ := index_facts t
  have y0 : (y 0).val < 1 := (y 0).isLt
  refine Eq.trans (congrArg (V m c main_arg2) (funext fun a => Fin.ext ?_)) (congrFun (V_main_arg2 m c) _)
  match a with
  | ⟨0, _⟩ =>
    refine (win0_2.rect_emb_val t _ 0).trans (Eq.trans ?_ (win0_4.rect_emb_val t y 0).symm)
    rw [d0, e0]; show 0 * 1 + 0 = 0 * 1 + (y 0).val; omega
  | ⟨1, _⟩ => exact (win0_2.rect_emb_val t _ 1).trans ((congrArg (· * 624 + _) (d1.trans e1.symm)).trans (win0_4.rect_emb_val t y 1).symm)
  | ⟨2, _⟩ => exact (win0_2.rect_emb_val t _ 2).trans ((congrArg (· * 128 + _) (d2.trans e2.symm)).trans (win0_4.rect_emb_val t y 2).symm)

/-- What point `t` writes back is block `t` of the gradient, -/
theorem flushed_grad (c : Dev nD) (t : Fin cfg0.N) :
    (dats m 0 c).flushed 4 t = (win0_4.blk t).view.read (Elt Ideal) (grad (m ((c : Thread nD τ).loc main_arg3))) := by
  rw [flushed4]
  show (cfg0.win 4).cut (grid0.coords t) (out0_4 (grid0.coords t) (iblk m c 0 t) (iblk m c 1 t) (iblk m c 2 t) (iblk m c 3 t)) = _
  unfold out0_4
  rw [View.canon_unit_zero origin3]
  funext y
  show _ = grad (m ((c : Thread nD τ).loc main_arg3)) ((win0_4.rect t).emb y)
  refine (grad_apply _ _ _ _ _ y).trans ?_
  exact grad_block m c t y

/-- the first moment, -/
theorem flushed_newFirst (c : Dev nD) (t : Fin cfg0.N) :
    (dats m 0 c).flushed 6 t = (win0_6.blk t).view.read (Elt Ideal) (newFirst (m ((c : Thread nD τ).loc main_arg1)) (m ((c : Thread nD τ).loc main_arg3))) := by
  rw [flushed6]
  show (cfg0.win 6).cut (grid0.coords t) (out0_6 (grid0.coords t) (iblk m c 0 t) (iblk m c 1 t) (iblk m c 2 t) (iblk m c 3 t)) = _
  unfold out0_6
  rw [View.canon_unit_zero origin3]
  funext y
  show _ = newFirst (m ((c : Thread nD τ).loc main_arg1)) (m ((c : Thread nD τ).loc main_arg3)) ((win0_4.rect t).emb y)
  refine ((batch_read _ shapeCasts_S624x128_S1x624x128 y).trans (first_apply _ _ _ _ _ (ix2 (y 1) (y 2)))).trans ?_
  exact congrArg₂ moment1 (block1 m c t y) (grad_block m c t y)

/-- the second moment, -/
theorem flushed_newSecond (c : Dev nD) (t : Fin cfg0.N) :
    (dats m 0 c).flushed 7 t = (win0_7.blk t).view.read (Elt Ideal) (newSecond (m ((c : Thread nD τ).loc main_arg2)) (m ((c : Thread nD τ).loc main_arg3))) := by
  rw [flushed7]
  show (cfg0.win 7).cut (grid0.coords t) (out0_7 (grid0.coords t) (iblk m c 0 t) (iblk m c 1 t) (iblk m c 2 t) (iblk m c 3 t)) = _
  unfold out0_7
  rw [View.canon_unit_zero origin3]
  funext y
  show _ = newSecond (m ((c : Thread nD τ).loc main_arg2)) (m ((c : Thread nD τ).loc main_arg3)) ((win0_4.rect t).emb y)
  refine ((batch_read _ shapeCasts_S624x128_S1x624x128 y).trans (second_apply _ _ _ _ _ (ix2 (y 1) (y 2)))).trans ?_
  exact congrArg₂ moment2 (block2 m c t y) (grad_block m c t y)

/-- and the change of the parameters. -/
theorem flushed_delta (c : Dev nD) (t : Fin cfg0.N) :
    (dats m 0 c).flushed 5 t = (win0_5.blk t).view.read (Elt Ideal) (delta (m ((c : Thread nD τ).loc main_arg0)) (m ((c : Thread nD τ).loc main_arg1)) (m ((c : Thread nD τ).loc main_arg2)) (m ((c : Thread nD τ).loc main_arg3))) := by
  rw [flushed5]
  show (cfg0.win 5).cut (grid0.coords t) (out0_5 (grid0.coords t) (iblk m c 0 t) (iblk m c 1 t) (iblk m c 2 t) (iblk m c 3 t)) = _
  unfold out0_5
  rw [View.canon_unit_zero origin3]
  funext y
  show _ = delta (m ((c : Thread nD τ).loc main_arg0)) (m ((c : Thread nD τ).loc main_arg1)) (m ((c : Thread nD τ).loc main_arg2)) (m ((c : Thread nD τ).loc main_arg3)) ((win0_4.rect t).emb y)
  refine (delta_apply _ _ _ _ _ y).trans ?_
  exact by
    have k1 := congrArg₂ moment1 (block1 m c t y) (grad_block m c t y)
    have k2 := congrArg₂ moment2 (block2 m c t y) (grad_block m c t y)
    rw [k1, k2]; exact congrArg (change · _ _) (block0 m c t y)

/-- The blocks cover each result. -/
theorem cover_grad (i : S1x4368x128.Idx) :
    ∃ t : Fin cfg0.N, (cfg0.win 4).flush t = true ∧ i ∈ ((cfg0.win 4).blk t).view.set := by
  have h0 : (i 0 : Nat) < 1 := (i 0).isLt
  have h1 : (i 1 : Nat) < 4368 := (i 1).isLt
  have h2 : (i 2 : Nat) < 128 := (i 2).isLt
  have hN : cfg0.N = 7 := N_0
  obtain ⟨t, ht⟩ : ∃ t : Fin cfg0.N, t.val = (i 1 : Nat) / 624 := ⟨⟨_, by omega⟩, rfl⟩
  refine ⟨t, flush0_4 t, ?_⟩
  obtain ⟨-, -, -, -, -, -, -, -, -, -, -, -, e0, e1, e2⟩ := index_facts t
  show i ∈ ((View.whole main_v0_0).slice (win0_4.rect t)).set
  rw [View.set_slice_whole, Rect.mem_set_unit]
  intro a
  match a with
  | ⟨0, _⟩ =>
    show win0_4.index _ 0 * 1 ≤ (i 0 : Nat) ∧ (i 0 : Nat) < win0_4.index _ 0 * 1 + 1
    rw [e0]; omega
  | ⟨1, _⟩ =>
    show win0_4.index _ 1 * 624 ≤ (i 1 : Nat) ∧ (i 1 : Nat) < win0_4.index _ 1 * 624 + 624
    rw [e1, ht]; omega
  | ⟨2, _⟩ =>
    show win0_4.index _ 2 * 128 ≤ (i 2 : Nat) ∧ (i 2 : Nat) < win0_4.index _ 2 * 128 + 128
    rw [e2]; omega

theorem cover_delta (i : S1x4368x128.Idx) :
    ∃ t : Fin cfg0.N, (cfg0.win 5).flush t = true ∧ i ∈ ((cfg0.win 5).blk t).view.set := by
  obtain ⟨t, -, ht⟩ := cover_grad i
  exact ⟨t, flush0_5 t, ht⟩

theorem cover_newFirst (i : S1x4368x128.Idx) :
    ∃ t : Fin cfg0.N, (cfg0.win 6).flush t = true ∧ i ∈ ((cfg0.win 6).blk t).view.set := by
  obtain ⟨t, -, ht⟩ := cover_grad i
  exact ⟨t, flush0_6 t, ht⟩

theorem cover_newSecond (i : S1x4368x128.Idx) :
    ∃ t : Fin cfg0.N, (cfg0.win 7).flush t = true ∧ i ∈ ((cfg0.win 7).blk t).view.set := by
  obtain ⟨t, -, ht⟩ := cover_grad i
  exact ⟨t, flush0_7 t, ht⟩

/-- The reference's gradient. -/
def refGrad (x : FVec Ideal S8x4368x128 .f32) (i : S1x4368x128.Idx) : EReal :=
  (broadcastInDim S1x4368x128 ![1, 2] Cert.StepSmallRefIdeal.Gen.bcast_S4368x128_S1x4368x128_1_2 (Host.reduceAdd x (constant Cert.StepSmallRefIdeal.S_ .f32 0x00000000#32) Cert.StepSmallRefIdeal.Gen.reducesTo_S8x4368x128_S4368x128_d0 Cert.StepSmallRefIdeal.Gen.h_S_) i : EReal)

theorem ref_grad (x : FVec Ideal S8x4368x128 .f32) (i : S1x4368x128.Idx) : refGrad x i = grad x i := by
  have h' : S8x4368x128.Reduces [0] Cert.StepSmallRefIdeal.S4368x128 := ⟨Cert.StepSmallRefIdeal.Gen.reducesTo_S8x4368x128_S4368x128_d0.1, Nat.succ_pos 1, Cert.StepSmallRefIdeal.Gen.reducesTo_S8x4368x128_S4368x128_d0.2⟩
  refine (broadcastInDim_apply _ _ _ i (ix2 (i 1) (i 2)) (fun a => by match a with | ⟨0, _⟩ => rfl | ⟨1, _⟩ => rfl)).trans ?_
  show Ideal.hostReduceAdd Cert.StepSmallRefIdeal.Gen.reducesTo_S8x4368x128_S4368x128_d0 x (Ideal.ofBits .f32 0x00000000#32) (ix2 (i 1) (i 2)) = _
  rw [Ideal.hostReduceAdd_single Cert.StepSmallRefIdeal.Gen.reducesTo_S8x4368x128_S4368x128_d0 h', Ideal.ofBits_zero_f32, zero_add]
  refine (Fin.sum_univ_eight (fun k : Fin 8 => x (h'.lift (ix2 (i 1) (i 2)) k))).trans ?_
  have e (k : Fin 8) : h'.lift (ix2 (i 1) (i 2)) k = ix3 k (i 1) (i 2) := funext fun a => Fin.ext (by
    match a with | ⟨0, _⟩ => rfl | ⟨1, _⟩ => rfl | ⟨2, _⟩ => rfl)
  rw [e, e, e, e, e, e, e, e]; rfl

/-- The kernel and the reference compute the same four arrays. -/
theorem algebraic : Cert.algebraic_StepSmallIdeal_StepSmallRefIdeal := by
  intro m g m' g' _ hm
  refine ⟨fun c => grad (m ((c : Thread nD τ).loc main_arg3)), fun c => delta (m ((c : Thread nD τ).loc main_arg0)) (m ((c : Thread nD τ).loc main_arg1)) (m ((c : Thread nD τ).loc main_arg2)) (m ((c : Thread nD τ).loc main_arg3)),
    fun c => newFirst (m ((c : Thread nD τ).loc main_arg1)) (m ((c : Thread nD τ).loc main_arg3)), fun c => newSecond (m ((c : Thread nD τ).loc main_arg2)) (m ((c : Thread nD τ).loc main_arg3)), ?_, ?_⟩
  · exact (θ_run defs _ _).mono (fun _ h c => ⟨(h c).1.trans ((dats m 0 c).arrAt_eq_of_cover 4 _ (fun t _ => flushed_grad m c t) cover_grad),
      (h c).2.1.trans ((dats m 0 c).arrAt_eq_of_cover 5 _ (fun t _ => flushed_delta m c t) cover_delta),
      (h c).2.2.1.trans ((dats m 0 c).arrAt_eq_of_cover 6 _ (fun t _ => flushed_newFirst m c t) cover_newFirst),
      (h c).2.2.2.1.trans ((dats m 0 c).arrAt_eq_of_cover 7 _ (fun t _ => flushed_newSecond m c t) cover_newSecond), (h c).2.2.2.2⟩) (run_blocks m g)
  · refine (θ_run Cert.StepSmallRefIdeal.defs _ _).mono (fun _ h c => ⟨(h c).1.trans ?_, (h c).2.1.trans ?_, (h c).2.2.1.trans ?_, (h c).2.2.2.1.trans ?_, (h c).2.2.2.2⟩)
      (Cert.StepSmallRefIdeal.Value.run m' g')
    · rw [(hm c).2.2.2]
      funext i
      exact ref_grad _ i
    · rw [(hm c).1, (hm c).2.1, (hm c).2.2.1, (hm c).2.2.2]
      funext i
      have k1 := change_eq ((m ((c : Thread nD τ).loc main_arg0)) i) (moment1 ((m ((c : Thread nD τ).loc main_arg1)) i) (refGrad (m ((c : Thread nD τ).loc main_arg3)) i)) (moment2 ((m ((c : Thread nD τ).loc main_arg2)) i) (refGrad (m ((c : Thread nD τ).loc main_arg3)) i))
      have k2 := congrArg (fun g => change ((m ((c : Thread nD τ).loc main_arg0)) i) (moment1 ((m ((c : Thread nD τ).loc main_arg1)) i) g) (moment2 ((m ((c : Thread nD τ).loc main_arg2)) i) g)) (ref_grad (m ((c : Thread nD τ).loc main_arg3)) i)
      refine Eq.trans ?_ (k1.trans k2)
      rfl
    · rw [(hm c).2.1, (hm c).2.2.2]
      funext i
      exact congrArg (moment1 ((m ((c : Thread nD τ).loc main_arg1)) i)) (ref_grad _ i)
    · rw [(hm c).2.2.1, (hm c).2.2.2]
      funext i
      exact congrArg (moment2 ((m ((c : Thread nD τ).loc main_arg2)) i)) (ref_grad _ i)

end Cert.StepSmallIdeal.Value

end
-- ==== Proof.Norm.lean ====
/- What the norm's calls have in common: the sums they take over rows and columns, on the kernel's blocks and on the host, and the
   factor of a row, one over the root of its mean square. -/
module

public import proofs.«01_k».proof.Proof.Products

@[expose] public section

set_option maxRecDepth 16384

noncomputable section

namespace Cert.Reading

open Idealize.ShloMosaic Idealize.ShloMosaic.TcCoe Idealize.SL.Sem Idealize.ShloMosaic.ValueIdx

abbrev Line (n : Nat) : Shape := ⟨1, ![n]⟩
abbrev Column (n : Nat) : Shape := ⟨3, ![1, n, 1]⟩
abbrev Point : Shape := ⟨0, ![]⟩

/-- A row's mean square plus the small number. -/
def power (f : Fin 2048 → EReal) : EReal :=
  Ideal.div (∑ q, f q * f q) (Ideal.ofBits .f32 0x45000000#32) + Ideal.ofBits .f32 0x358637BD#32

/-- The factor of a row. -/
def inv (f : Fin 2048 → EReal) : EReal := Ideal.rsqrt (power f)

/-- A cast leaves the numbers as they are. -/
theorem trunc_read {s : Shape} (x : FVec Ideal s .f32) (h : FTy.bits .bf16 < FTy.bits .f32) (i : s.Idx) :
    (truncf (F := Ideal) .bf16 x h i : EReal) = x i := rfl

/-- The sum of each row of a block, as a column, -/
theorem rowSum_read (x : FVec Ideal (Mat 512 2048) .f32) (h : (Mat 512 2048).Reduces [1] (Line 512)) (hφ : FKind.Formats .f32)
    (hacc : (0x00000000#32 : BitVec 32) = FKind.add.neutral .f32 hφ) (hs : (Line 512).ShapeCasts (Mat 512 1)) (j : (Mat 512 1).Idx) :
    (shapeCast (Mat 512 1) (multiReduction .add [1] (Line 512) x 0x00000000#32 h hφ hacc) hs j : EReal)
      = ∑ q : Fin 2048, (x (ix2 (j 0) q) : EReal) := by
  refine (shapeCast_apply _ _ j (ix1 (j 0)) ?_).trans ((Ideal.multiReduction_add_single x _ h hφ hacc (ix1 (j 0))).trans
    (Finset.sum_congr rfl fun q _ => congrArg x (funext fun a => Fin.ext ?_)))
  · rw [Shape.rowMajor_val_one, Shape.rowMajor_val_two]
    have h1 : (j 1).val < 1 := (j 1).isLt
    show (j 0).val = (j 0).val * 1 + (j 1).val
    omega
  · match a with | ⟨0, _⟩ => rfl | ⟨1, _⟩ => rfl

/-- of each column, as a row, -/
theorem colSum_read (x : FVec Ideal (Mat 512 2048) .f32) (h : (Mat 512 2048).Reduces [0] (Line 2048)) (hφ : FKind.Formats .f32)
    (hacc : (0x00000000#32 : BitVec 32) = FKind.add.neutral .f32 hφ) (hs : (Line 2048).ShapeCasts (Mat 1 2048)) (j : (Mat 1 2048).Idx) :
    (shapeCast (Mat 1 2048) (multiReduction .add [0] (Line 2048) x 0x00000000#32 h hφ hacc) hs j : EReal)
      = ∑ p : Fin 512, (x (ix2 p (j 1)) : EReal) := by
  refine (shapeCast_apply _ _ j (ix1 (j 1)) ?_).trans ((Ideal.multiReduction_add_single x _ h hφ hacc (ix1 (j 1))).trans
    (Finset.sum_congr rfl fun q _ => congrArg x (funext fun a => Fin.ext ?_)))
  · rw [Shape.rowMajor_val_one, Shape.rowMajor_val_two]
    have h0 : (j 0).val < 1 := (j 0).isLt
    show (j 1).val = (j 0).val * 2048 + (j 1).val
    omega
  · match a with | ⟨0, _⟩ => rfl | ⟨1, _⟩ => rfl

/-- a column spread over a block, -/
theorem column_read {α : Type} (x : (Mat 512 1).Idx → α) (h : (Mat 512 1).Broadcasts (Mat 512 2048)) (j : (Mat 512 2048).Idx) :
    broadcastTo (Mat 512 2048) x h j = x (ix2 (j 0) (0 : Fin 1)) :=
  broadcastTo_apply _ _ _ _ (fun a => by match a with | ⟨0, _⟩ => rfl | ⟨1, _⟩ => rfl)

/-- and a row. -/
theorem line_read {α : Type} (x : (Mat 1 2048).Idx → α) (h : (Mat 1 2048).Broadcasts (Mat 512 2048)) (j : (Mat 512 2048).Idx) :
    broadcastTo (Mat 512 2048) x h j = x (ix2 (0 : Fin 1) (j 1)) :=
  broadcastTo_apply _ _ _ _ (fun a => by match a with | ⟨0, _⟩ => rfl | ⟨1, _⟩ => rfl)

/-- On the host: the sum over a row, -/
theorem hostRow_read (x : FVec Ideal (Batch 4096 2048) .f32) (h : (Batch 4096 2048).ReducesTo [2] (Mat 1 4096)) (hs : 0 < Point.numel)
    (j : (Mat 1 4096).Idx) :
    (Host.reduceAdd x (constant Point .f32 0x00000000#32) h hs j : EReal) = ∑ q : Fin 2048, (x (ix3 (0 : Fin 1) (j 1) q) : EReal) := by
  have hr : (Batch 4096 2048).Reduces [2] (Mat 1 4096) := by decide
  refine (Ideal.hostReduceAdd_single h hr x (Ideal.ofBits .f32 0x00000000#32) j).trans ((zero_acc _).trans
    (Finset.sum_congr rfl fun q _ => congrArg x (funext fun a => Fin.ext ?_)))
  have h0 : (j 0).val < 1 := (j 0).isLt
  match a with
  | ⟨0, _⟩ => show (j 0).val = 0; omega
  | ⟨1, _⟩ => rfl
  | ⟨2, _⟩ => rfl

/-- a column of factors spread over the rows, -/
theorem hostColumn_read {α : Type} (x : (Column 4096).Idx → α)
    (h : (Column 4096).BroadcastsInDim (Batch 4096 2048) (![0, 1, 2] : Fin 3 → Fin 3)) (j : (Batch 4096 2048).Idx) :
    broadcastInDim (Batch 4096 2048) ![0, 1, 2] h x j = x (ix3 (0 : Fin 1) (j 1) (0 : Fin 1)) :=
  broadcastInDim_apply _ _ _ _ _ (fun a => by match a with | ⟨0, _⟩ => rfl | ⟨1, _⟩ => rfl | ⟨2, _⟩ => rfl)

/-- the weight spread over the positions, -/
theorem hostLine_read {α : Type} (x : (Line 2048).Idx → α)
    (h : (Line 2048).BroadcastsInDim (Batch 1 2048) (![2] : Fin 1 → Fin 3))
    (h' : (Batch 1 2048).BroadcastsInDim (Batch 4096 2048) (![0, 1, 2] : Fin 3 → Fin 3)) (j : (Batch 4096 2048).Idx) :
    broadcastInDim (Batch 4096 2048) ![0, 1, 2] h' (broadcastInDim (Batch 1 2048) ![2] h x) j = x (ix1 (j 2)) :=
  (broadcastInDim_apply _ _ _ _ (ix3 (0 : Fin 1) (0 : Fin 1) (j 2))
    (fun a => by match a with | ⟨0, _⟩ => rfl | ⟨1, _⟩ => rfl | ⟨2, _⟩ => rfl)).trans
    (broadcastInDim_apply _ _ _ _ (ix1 (j 2)) (fun a => by match a with | ⟨0, _⟩ => rfl))

/-- and the weight as a row. -/
theorem hostGain_read {α : Type} (x : (Line 2048).Idx → α) (h : (Line 2048).BroadcastsInDim (Mat 1 2048) (![1] : Fin 1 → Fin 2))
    (j : (Mat 1 2048).Idx) : broadcastInDim (Mat 1 2048) ![1] h x j = x (ix1 (j 1)) :=
  broadcastInDim_apply _ _ _ _ _ (fun a => by match a with | ⟨0, _⟩ => rfl)

/-- A row's mean square plus the small number, in a block, -/
theorem power_read (x : FVec Ideal (Mat 512 2048) .f32) (h : (Mat 512 2048).Reduces [1] (Line 512)) (hφ : FKind.Formats .f32)
    (hacc : (0x00000000#32 : BitVec 32) = FKind.add.neutral .f32 hφ) (hs : (Line 512).ShapeCasts (Mat 512 1)) (j : (Mat 512 1).Idx) :
    (addf (divf (shapeCast (Mat 512 1) (multiReduction .add [1] (Line 512) (mulf x x) 0x00000000#32 h hφ hacc) hs)
      (broadcast (Mat 512 1) (Scalar.ofBits .f32 0x45000000#32 : Ideal .f32)))
      (broadcast (Mat 512 1) (Scalar.ofBits .f32 0x358637BD#32 : Ideal .f32)) j : EReal) = power fun q => x (ix2 (j 0) q) := by
  unfold power
  exact congrArg (fun s => Ideal.div s (Ideal.ofBits .f32 0x45000000#32) + Ideal.ofBits .f32 0x358637BD#32)
    (rowSum_read (mulf x x) h hφ hacc hs j)

/-- and on the host. -/
theorem hostPower_read (x : FVec Ideal (Batch 4096 2048) .f32) (h : (Batch 4096 2048).ReducesTo [2] (Mat 1 4096)) (hs : 0 < Point.numel)
    (hb : (Mat 1 4096).BroadcastsInDim (Column 4096) (![0, 1] : Fin 2 → Fin 3))
    (hc : Point.BroadcastsInDim (Column 4096) (![] : Fin 0 → Fin 3)) (j : (Column 4096).Idx) :
    (addf (Host.divf (broadcastInDim (Column 4096) ![0, 1] hb (Host.reduceAdd (mulf x x) (constant Point .f32 0x00000000#32) h hs))
      (broadcastInDim (Column 4096) ![] hc (constant (F := Ideal) Point .f32 0x45000000#32)))
      (broadcastInDim (Column 4096) ![] hc (constant (F := Ideal) Point .f32 0x358637BD#32)) j : EReal)
      = power fun q => x (ix3 (0 : Fin 1) (j 1) q) := by
  unfold power
  refine congrArg (fun s => Ideal.div s (Ideal.ofBits .f32 0x45000000#32) + Ideal.ofBits .f32 0x358637BD#32)
    ((broadcastInDim_apply _ _ _ _ (ix2 (0 : Fin 1) (j 1)) (fun a => ?_)).trans (hostRow_read (mulf x x) h hs _))
  match a with | ⟨0, _⟩ => rfl | ⟨1, _⟩ => rfl

end Cert.Reading
end
-- ==== Proof.NormOut.lean ====
/- The norm of the residual: each block the kernel writes back is a block of rows, each divided by the root of its mean square and
   multiplied by the weight. -/
module

public import proofs.«01_k».proof.Proof.Norm
public import proofs.«01_k».proof.Defs
public import proofs.«01_k».proof.Proof.Gen.NormOutIdeal.Value
public import proofs.«01_k».proof.Proof.Gen.NormOutRefIdeal.Run

@[expose] public section

set_option maxRecDepth 16384

noncomputable section

namespace Cert.NormOutIdeal.Value

open Cert.NormOutIdeal Cert.NormOutIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The normed rows. -/
def normed (x : S1x4096x2048.Idx → EReal) (g : S2048.Idx → EReal) (i : S4096x2048.Idx) : EReal :=
  x (ix3 (0 : Fin 1) (i 0) (i 1)) * inv (fun q => x (ix3 (0 : Fin 1) (i 0) q)) * g (ix1 (i 1))

/-- The body's result at an index. -/
theorem pay_apply (x0 : Vec Ideal S512x2048 .f32) (x1 : Vec Ideal S1x2048 .f32) (j : S512x2048.Idx) :
    (k0_pay1 x0 x1 j : EReal) = (x0 j : EReal) * inv (fun q => x0 (ix2 (j 0) q)) * x1 (ix2 (0 : Fin 1) (j 1)) := by
  unfold k0_pay1
  rw [shapeCast_self, shapeCast_self]
  exact congrArg₂ (· * ·) (congrArg ((x0 j : EReal) * ·) ((column_read _ _ j).trans (congrArg Ideal.rsqrt (power_read x0 _ _ _ _ _))))
    (line_read x1 _ j)

/-- The blocks a point reads and writes. -/
theorem index_facts : ∀ t : Fin cfg0.N, (win0_0.index t 0 = t.val ∧ win0_0.index t 1 = 0)
    ∧ (win0_1.index t 0 = 0 ∧ win0_1.index t 1 = 0) ∧ win0_2.index t 0 = t.val ∧ win0_2.index t 1 = 0 := by
  decide +kernel

/-- The residual as the kernel finds it, -/
theorem x_apply (c : Dev nD) (i : S4096x2048.Idx) :
    (V m c main_v0 i : EReal) = (m ((c : Thread nD τ).loc main_arg0) (ix3 0 (i 0) (i 1)) : EReal) := by
  have e : V m c main_v0 = shapeCast S4096x2048 (m ((c : Thread nD τ).loc main_arg0)) shapeCasts_S1x4096x2048_S4096x2048 := by
    show StableHlo.after hostOps0 (fun b => m (c, b)) (Proc.devRef .tc main_v0) = _
    after_results
    try rfl
  rw [e]; exact flat_read _ _ i

/-- and the weight. -/
theorem g_apply (c : Dev nD) (i : S1x2048.Idx) :
    (V m c main_v1 i : EReal) = (m ((c : Thread nD τ).loc main_arg1) (ix1 (i 1)) : EReal) := by
  have e : V m c main_v1 = broadcastInDim S1x2048 ![1] bcast_S2048_S1x2048_1 (m ((c : Thread nD τ).loc main_arg1)) := by
    show StableHlo.after hostOps0 (fun b => m (c, b)) (Proc.devRef .tc main_v1) = _
    after_results
    try rfl
  rw [e]; exact hostGain_read _ _ i

/-- What point `t` writes back is block `t` of the normed rows. -/
theorem flushed_eq (c : Dev nD) (t : Fin cfg0.N) :
    (dats m 0 c).flushed 2 t = (win0_2.blk t).view.read (Elt Ideal)
      (normed (m ((c : Thread nD τ).loc main_arg0)) (m ((c : Thread nD τ).loc main_arg1))) := by
  rw [flushed2]
  show (cfg0.win 2).cut (grid0.coords t) (out0_2 (iblk m c 0 t) (iblk m c 1 t)) = _
  unfold out0_2
  rw [View.canon_unit_zero origin, View.ld_unit_zero origin, View.ld_unit_zero origin]
  obtain ⟨⟨a0, a1⟩, ⟨b0, b1⟩, d0, d1⟩ := index_facts t
  funext y
  show _ = normed _ _ ((win0_2.rect t).emb y)
  unfold normed
  have hx (q : Fin 2048) : (iblk m c 0 t (ix2 (y 0) q) : EReal)
      = m ((c : Thread nD τ).loc main_arg0) (ix3 (0 : Fin 1) ((win0_2.rect t).emb y 0) q) := by
    refine Eq.trans ?_ (x_apply m c (ix2 ((win0_2.rect t).emb y 0) q))
    refine congrArg (V m c main_v0) (funext fun a => Fin.ext ?_)
    match a with
    | ⟨0, _⟩ => exact (win0_0.rect_emb_val t _ 0).trans ((congrArg (· * 512 + _) (a0.trans d0.symm)).trans (win0_2.rect_emb_val t y 0).symm)
    | ⟨1, _⟩ => exact win0_0.rect_emb_val_of_index_zero t 1 a1 _
  have hy : (win0_2.rect t).emb y 1 = y 1 := Fin.ext (win0_2.rect_emb_val_of_index_zero t 1 d1 y)
  refine (pay_apply _ _ _).trans (congrArg₂ (· * ·) (congrArg₂ (· * ·) ?_ (congrArg inv (funext hx))) ?_)
  · rw [hy]
    exact (congrArg (iblk m c 0 t) (eq_ix2 (n0 := 512) (n1 := 2048) y)).trans (hx (y 1))
  · refine Eq.trans ?_ (g_apply m c (ix2 (0 : Fin 1) ((win0_2.rect t).emb y 1)))
    refine congrArg (V m c main_v1) (funext fun a => Fin.ext ?_)
    match a with
    | ⟨0, _⟩ => exact win0_1.rect_emb_val_of_index_zero t 0 b0 _
    | ⟨1, _⟩ => exact (win0_1.rect_emb_val_of_index_zero t 1 b1 _).trans (congrArg Fin.val hy).symm

/-- The blocks of 512 rows cover the result. -/
theorem cover (i : S4096x2048.Idx) :
    ∃ t : Fin cfg0.N, (cfg0.win 2).flush t = true ∧ i ∈ ((cfg0.win 2).blk t).view.set := by
  have h0 : (i 0 : Nat) < 4096 := (i 0).isLt
  have h1 : (i 1 : Nat) < 2048 := (i 1).isLt
  have hN : cfg0.N = 8 := N_0
  obtain ⟨t, ht⟩ : ∃ t : Fin cfg0.N, t.val = (i 0 : Nat) / 512 := ⟨⟨_, by omega⟩, rfl⟩
  refine ⟨t, flush0_2 t, ?_⟩
  obtain ⟨-, -, d0, d1⟩ := index_facts t
  show i ∈ ((View.whole main_v2).slice (win0_2.rect t)).set
  rw [View.set_slice_whole, Rect.mem_set_unit]
  intro a
  match a with
  | ⟨0, _⟩ =>
    show win0_2.index _ 0 * 512 ≤ (i 0 : Nat) ∧ (i 0 : Nat) < win0_2.index _ 0 * 512 + 512
    rw [d0, ht]; omega
  | ⟨1, _⟩ =>
    show win0_2.index _ 1 * 2048 ≤ (i 1 : Nat) ∧ (i 1 : Nat) < win0_2.index _ 1 * 2048 + 2048
    rw [d1]; omega

/-- The reference's array is the normed rows. -/
theorem ref_eq (x : FVec Ideal S1x4096x2048 .f32) (g : FVec Ideal S2048 .f32) :
    (truncf (F := Ideal) .bf16 (shapeCast Cert.NormOutRefIdeal.S4096x2048 (mulf (mulf x
      (broadcastInDim Cert.NormOutRefIdeal.S1x4096x2048 ![0, 1, 2] Cert.NormOutRefIdeal.Gen.bcast_S1x4096x1_S1x4096x2048_0_1_2
        (Host.rsqrt (addf (Host.divf (broadcastInDim Cert.NormOutRefIdeal.S1x4096x1 ![0, 1]
            Cert.NormOutRefIdeal.Gen.bcast_S1x4096_S1x4096x1_0_1 (Host.reduceAdd (mulf x x)
            (constant Cert.NormOutRefIdeal.S_ .f32 0x00000000#32) Cert.NormOutRefIdeal.Gen.reducesTo_S1x4096x2048_S1x4096_d2
            Cert.NormOutRefIdeal.Gen.h_S_))
          (broadcastInDim Cert.NormOutRefIdeal.S1x4096x1 ![] Cert.NormOutRefIdeal.Gen.bcast_S_S1x4096x1
            (constant Cert.NormOutRefIdeal.S_ .f32 0x45000000#32)))
          (broadcastInDim Cert.NormOutRefIdeal.S1x4096x1 ![] Cert.NormOutRefIdeal.Gen.bcast_S_S1x4096x1
            (constant Cert.NormOutRefIdeal.S_ .f32 0x358637BD#32))))))
      (broadcastInDim Cert.NormOutRefIdeal.S1x4096x2048 ![0, 1, 2] Cert.NormOutRefIdeal.Gen.bcast_S1x1x2048_S1x4096x2048_0_1_2
        (broadcastInDim Cert.NormOutRefIdeal.S1x1x2048 ![2] Cert.NormOutRefIdeal.Gen.bcast_S2048_S1x1x2048_2 g)))
      Cert.NormOutRefIdeal.Gen.shapeCasts_S1x4096x2048_S4096x2048) Cert.NormOutRefIdeal.Gen.bitsLt_bf16_f32
      : FVec Ideal S4096x2048 .bf16) = normed x g := by
  funext i
  refine (trunc_read _ _ i).trans ((flat_read _ _ i).trans ?_)
  unfold normed
  refine congrArg₂ (fun a b : EReal => a * b) (congrArg (fun b : EReal => _ * b) ?_) (hostLine_read _ _ _ _)
  exact (hostColumn_read _ _ _).trans (congrArg Ideal.rsqrt (hostPower_read _ _ _ _ _ _))

/-- The kernel and the reference compute the same array. -/
theorem algebraic : Cert.algebraic_NormOutIdeal_NormOutRefIdeal := by
  intro m g m' g' _ hm
  refine ⟨fun c => normed (m ((c : Thread nD τ).loc main_arg0)) (m ((c : Thread nD τ).loc main_arg1)), ?_, ?_⟩
  · exact (θ_run defs _ _).mono (fun _ h c => ⟨(h c).1.trans ((dats m 0 c).arrAt_eq_of_cover 2 _ (fun t _ => flushed_eq m c t) cover),
      (h c).2⟩) (run_blocks m g)
  · refine (θ_run Cert.NormOutRefIdeal.defs _ _).mono (fun _ h c => ⟨(h c).1.trans ?_, (h c).2⟩)
      (Cert.NormOutRefIdeal.Value.run m' g')
    rw [(hm c).1, (hm c).2]
    exact ref_eq _ _

end Cert.NormOutIdeal.Value

end
-- ==== Proof.Slope.lean ====
/- The gradient through the norm: the kernel's and the reference's forms of it are equal, and the reference's terms on the host. -/
module

public import proofs.«01_k».proof.Proof.Norm

@[expose] public section

set_option maxRecDepth 16384

noncomputable section

namespace Cert.Reading

open Idealize.ShloMosaic Idealize.ShloMosaic.TcCoe Idealize.SL.Sem Idealize.ShloMosaic.ValueIdx

/-- The three numbers of the norm. -/
theorem width_bits : Ideal.ofBits .f32 0x45000000#32 = ((2048 : ℝ) : EReal) := by
  simp [Ideal.ofBits, Ideal.ieee, -EReal.coe_mul]; norm_num
theorem half_bits : Ideal.ofBits .f32 0xBF000000#32 = ((-(1 / 2) : ℝ) : EReal) := by
  simp [Ideal.ofBits, Ideal.ieee, -EReal.coe_mul]; norm_num
theorem small_bits : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- Twice a real multiple. -/
theorem twice (S : EReal) (u : ℝ) : S * (u : EReal) + S * (u : EReal) = S * ((2 * u : ℝ) : EReal) := by
  induction S with
  | coe s => rw [← EReal.coe_mul, ← EReal.coe_add, ← EReal.coe_mul]; congr 1; ring
  | top =>
    rcases lt_trichotomy u 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy u 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A row is finite, and then its factor is real, or its factor is zero. -/
theorem row_cases (f : Fin 2048 → EReal) : (power f = ⊤ ∧ inv f = 0)
    ∨ ∃ v : ℝ, 0 < v ∧ power f = (v : EReal) ∧ inv f = (((Real.sqrt v)⁻¹ : ℝ) : EReal) ∧ ∀ q, ∃ a : ℝ, f q = (a : EReal) := by
  obtain ⟨e, he, hb⟩ := small_bits
  have hsq : ∀ q, 0 ≤ f q * f q := fun q => by
    induction f q with
    | coe s => rw [← EReal.coe_mul]; exact_mod_cast mul_self_nonneg s
    | top => simp
    | bot => simp
  by_cases h : ∀ q, ∃ a : ℝ, f q = (a : EReal)
  · right
    choose a ha using h
    have hs : (∑ q, f q * f q) = ((∑ q, a q * a q : ℝ) : EReal) := by
      rw [← coe_sum]; exact Finset.sum_congr rfl fun q _ => by rw [ha q, EReal.coe_mul]
    have h0 : 0 ≤ ∑ q, a q * a q := Finset.sum_nonneg fun q _ => mul_self_nonneg _
    have hp : power f = (((∑ q, a q * a q) / 2048 + e : ℝ) : EReal) := by
      unfold power; rw [hs, hb, width_bits, div_real _ _ (by norm_num), EReal.coe_add]
    have hv : 0 < (∑ q, a q * a q) / 2048 + e := by positivity
    refine ⟨_, hv, hp, ?_, fun q => ⟨a q, ha q⟩⟩
    unfold inv; rw [hp, Ideal.rsqrt_coe, if_neg (not_lt.2 hv.le), if_neg hv.ne']
  · left
    push Not at h
    obtain ⟨q, hq⟩ := h
    have ht : f q * f q = ⊤ := by
      revert hq
      induction f q with
      | coe s => intro hq; exact absurd rfl (hq s)
      | top => intro _; rfl
      | bot => intro _; rfl
    have hs : (∑ q, f q * f q) = ⊤ := top_le_iff.1 (ht ▸ Finset.single_le_sum (f := fun q => f q * f q) (fun q _ => hsq q) (Finset.mem_univ q))
    have hp : power f = ⊤ := by
      unfold power; rw [hs, hb, width_bits, Ideal.div_coe (by norm_num), EReal.top_mul_coe_of_pos (by norm_num)]; rfl
    exact ⟨hp, by unfold inv; rw [hp]; rfl⟩

/-- The part of the gradient that comes through the factor of the row, half of it. -/
def pull (f d : Fin 2048 → EReal) : EReal :=
  Ideal.div ((∑ q, f q * d q) * (Ideal.ofBits .f32 0xBF000000#32 * Ideal.div (inv f) (power f))) (Ideal.ofBits .f32 0x45000000#32)

/-- The gradient of a row through its norm, as the reference adds it, is the kernel's. -/
theorem slope (f d : Fin 2048 → EReal) (q : Fin 2048) :
    inv f * d q - f q * (inv f * inv f * inv f) * Ideal.div (∑ q, d q * f q) (Ideal.ofBits .f32 0x45000000#32)
      = d q * inv f + f q * pull f d + pull f d * f q := by
  have hS : (∑ q, d q * f q) = ∑ q, f q * d q := Finset.sum_congr rfl fun q _ => mul_comm _ _
  unfold pull
  rw [hS, half_bits, width_bits, Ideal.div_coe (by norm_num), Ideal.div_coe (by norm_num)]
  generalize (∑ q, f q * d q) = S
  rcases row_cases f with ⟨hp, hi⟩ | ⟨v, hv, hp, hi, hr⟩
  · rw [hp, hi]; simp [Ideal.div]
  · obtain ⟨a, ha⟩ := hr q
    rw [hp, hi, ha, Ideal.div_coe hv.ne']
    have hrr : (Real.sqrt v)⁻¹ * (Real.sqrt v)⁻¹ = 1 / v := by
      rw [← mul_inv, Real.mul_self_sqrt hv.le, one_div]
    generalize (Real.sqrt v)⁻¹ = r at *
    have e1 : (a : EReal) * (((r : EReal) * r) * r) * (S * ((1 / 2048 : ℝ) : EReal)) = S * ((a * (1 / v * r) * (1 / 2048) : ℝ) : EReal) := by
      rw [← EReal.coe_mul, ← EReal.coe_mul, ← EReal.coe_mul, mul_left_comm, ← EReal.coe_mul, hrr]
    have e2 : S * (((-(1 / 2) : ℝ) : EReal) * ((r : EReal) * ((1 / v : ℝ) : EReal))) * ((1 / 2048 : ℝ) : EReal)
        = S * ((-(1 / 2) * (r * (1 / v)) * (1 / 2048) : ℝ) : EReal) := by
      rw [mul_assoc, ← EReal.coe_mul, ← EReal.coe_mul, ← EReal.coe_mul]
    have e3 (u : ℝ) : (a : EReal) * (S * (u : EReal)) = S * ((a * u : ℝ) : EReal) := by rw [mul_left_comm, ← EReal.coe_mul]
    have hn (u : ℝ) : -(S * (u : EReal)) = S * ((-u : ℝ) : EReal) := by
      rw [mul_comm S, ← EReal.neg_mul, ← EReal.coe_neg, mul_comm]
    rw [e1, e2, mul_comm (S * _) (a : EReal), e3, add_assoc, twice, sub_eq_add_neg, hn, mul_comm (d q)]
    congr 3
    ring

/-- On the host: a number for each position spread over the rows, -/
theorem hostSpread_read {α : Type} (x : (Line 4096).Idx → α) (h : (Line 4096).BroadcastsInDim (Mat 1 4096) (![1] : Fin 1 → Fin 2))
    (h' : (Mat 1 4096).BroadcastsInDim (Batch 4096 2048) (![0, 1] : Fin 2 → Fin 3)) (j : (Batch 4096 2048).Idx) :
    broadcastInDim (Batch 4096 2048) ![0, 1] h' (broadcastInDim (Mat 1 4096) ![1] h x) j = x (ix1 (j 1)) :=
  (broadcastInDim_apply _ _ _ _ (ix2 (0 : Fin 1) (j 1)) (fun a => by match a with | ⟨0, _⟩ => rfl | ⟨1, _⟩ => rfl)).trans
    (broadcastInDim_apply _ _ _ _ (ix1 (j 1)) (fun a => by match a with | ⟨0, _⟩ => rfl))

/-- a sum to which one entry is reduced, -/
theorem hostOne_read {s t : Shape} {axes : List (Fin s.rank)} (h : s.ReducesTo axes t) (x : s.Idx → EReal) (init : EReal) (j : t.Idx)
    (k : s.Idx) (hk : ∀ i, h.drop i = j ↔ i = k) : Ideal.hostReduceAdd h x init j = init + x k := by
  unfold Ideal.hostReduceAdd
  refine congrArg (fun a => init + a) (Finset.sum_eq_single_of_mem k ?_ fun i hi hn => ?_)
  · simp [hk]
  · simp [hk] at hi; exact absurd hi hn

/-- a sum over two axes of one entry, -/
theorem hostUnit_read (x : FVec Ideal (Column 4096) .f32) (h : (Column 4096).ReducesTo [0, 2] (Line 4096)) (hs : 0 < Point.numel)
    (j : (Line 4096).Idx) : (Host.reduceAdd x (constant Point .f32 0x00000000#32) h hs j : EReal) = x (ix3 (0 : Fin 1) (j 0) (0 : Fin 1)) := by
  refine (hostOne_read h x (Ideal.ofBits .f32 0x00000000#32) j (ix3 (0 : Fin 1) (j 0) (0 : Fin 1)) fun i => ⟨fun hj => ?_, fun hi => ?_⟩).trans
    (zero_acc _)
  · subst hj
    have h0 : (i 0).val < 1 := (i 0).isLt
    have h2 : (i 2).val < 1 := (i 2).isLt
    refine funext fun a => Fin.ext ?_
    match a with
    | ⟨0, _⟩ => show (i 0).val = 0; omega
    | ⟨1, _⟩ => exact (h.drop_apply_val_of_eq i 0 1).symm
    | ⟨2, _⟩ => show (i 2).val = 0; omega
  · subst hi
    refine funext fun a => Fin.ext ?_
    match a with | ⟨0, _⟩ => exact h.drop_apply_val_of_eq _ 0 1

/-- the same for a row, -/
theorem hostUnitRow_read (x : FVec Ideal (Batch 1 2048) .f32) (h : (Batch 1 2048).ReducesTo [0, 1] (Line 2048)) (hs : 0 < Point.numel)
    (j : (Line 2048).Idx) : (Host.reduceAdd x (constant Point .f32 0x00000000#32) h hs j : EReal) = x (ix3 (0 : Fin 1) (0 : Fin 1) (j 0)) := by
  refine (hostOne_read h x (Ideal.ofBits .f32 0x00000000#32) j (ix3 (0 : Fin 1) (0 : Fin 1) (j 0)) fun i => ⟨fun hj => ?_, fun hi => ?_⟩).trans
    (zero_acc _)
  · subst hj
    have h0 : (i 0).val < 1 := (i 0).isLt
    have h1 : (i 1).val < 1 := (i 1).isLt
    refine funext fun a => Fin.ext ?_
    match a with
    | ⟨0, _⟩ => show (i 0).val = 0; omega
    | ⟨1, _⟩ => show (i 1).val = 0; omega
    | ⟨2, _⟩ => exact (h.drop_apply_val_of_eq i 0 2).symm
  · subst hi
    refine funext fun a => Fin.ext ?_
    match a with | ⟨0, _⟩ => exact h.drop_apply_val_of_eq _ 0 2

/-- and the sum over the positions. -/
theorem hostCols_read (x : FVec Ideal (Batch 4096 2048) .f32) (h : (Batch 4096 2048).ReducesTo [1] (Mat 1 2048)) (hs : 0 < Point.numel)
    (j : (Mat 1 2048).Idx) :
    (Host.reduceAdd x (constant Point .f32 0x00000000#32) h hs j : EReal) = ∑ p : Fin 4096, (x (ix3 (0 : Fin 1) p (j 1)) : EReal) := by
  have hr : (Batch 4096 2048).Reduces [1] (Mat 1 2048) := by decide
  refine (Ideal.hostReduceAdd_single h hr x (Ideal.ofBits .f32 0x00000000#32) j).trans ((zero_acc _).trans
    (Finset.sum_congr rfl fun q _ => congrArg x (funext fun a => Fin.ext ?_)))
  have h0 : (j 0).val < 1 := (j 0).isLt
  match a with
  | ⟨0, _⟩ => show (j 0).val = 0; omega
  | ⟨1, _⟩ => rfl
  | ⟨2, _⟩ => rfl

/-- The part of the gradient through the factor of the row, as the reference computes it. -/
theorem pull_read (x d : FVec Ideal (Batch 4096 2048) .f32) (P : FVec Ideal (Column 4096) .f32) (D : (Batch 4096 2048).Idx → EReal)
    (hP : ∀ j : (Column 4096).Idx, (P j : EReal) = power fun q => x (ix3 (0 : Fin 1) (j 1) q)) (hD : ∀ j, (d j : EReal) = D j)
    (hr : (Batch 4096 2048).ReducesTo [2] (Mat 1 4096)) (hu : (Column 4096).ReducesTo [0, 2] (Line 4096)) (hs : 0 < Point.numel)
    (hc : Point.BroadcastsInDim (Column 4096) (![] : Fin 0 → Fin 3)) (hl : (Line 4096).BroadcastsInDim (Mat 1 4096) (![1] : Fin 1 → Fin 2))
    (hb : (Mat 1 4096).BroadcastsInDim (Batch 4096 2048) (![0, 1] : Fin 2 → Fin 3)) (hk : (Mat 1 4096).ShapeCasts (Column 4096))
    (j : (Batch 4096 2048).Idx) :
    (broadcastInDim (Batch 4096 2048) ![0, 1] hb (broadcastInDim (Mat 1 4096) ![1] hl (Host.reduceAdd (Host.divf (mulf
        (shapeCast (Column 4096) (Host.reduceAdd (mulf x d) (constant Point .f32 0x00000000#32) hr hs) hk)
        (mulf (broadcastInDim (Column 4096) ![] hc (constant (F := Ideal) Point .f32 0xBF000000#32)) (Host.divf (Host.rsqrt P) P)))
        (broadcastInDim (Column 4096) ![] hc (constant (F := Ideal) Point .f32 0x45000000#32)))
        (constant Point .f32 0x00000000#32) hu hs)) j : EReal)
      = pull (fun q => x (ix3 (0 : Fin 1) (j 1) q)) (fun q => D (ix3 (0 : Fin 1) (j 1) q)) := by
  refine (hostSpread_read _ _ _ j).trans ((hostUnit_read _ _ _ _).trans ?_)
  unfold pull inv
  refine congrArg (fun s => Ideal.div s (Ideal.ofBits .f32 0x45000000#32)) (congrArg₂ (fun a b : EReal => a * b) ?_
    (congrArg (fun p => Ideal.ofBits .f32 0xBF000000#32 * Ideal.div (Ideal.rsqrt p) p) (hP _)))
  refine (shapeCast_apply _ _ _ (ix2 (0 : Fin 1) (j 1)) ?_).trans ((hostRow_read (mulf x d) hr hs _).trans
    (Finset.sum_congr rfl fun q _ => congrArg (fun a : EReal => _ * a) (hD _)))
  rw [Shape.rowMajor_val_two, Shape.rowMajor_val_three]
  show 0 * 4096 + (j 1).val = (0 * 4096 + (j 1).val) * 1 + 0
  omega

end Cert.Reading
end
-- ==== Proof.NormBack.lean ====
/- The gradient through the norm, joined to the residual's: each block the kernel writes back is a block of rows of it, and the gradient
   in the weight is summed over the blocks. -/
module

public import proofs.«01_k».proof.Proof.Slope
public import proofs.«01_k».proof.Defs
public import proofs.«01_k».proof.Proof.Gen.NormBackIdeal.Value
public import proofs.«01_k».proof.Proof.Gen.NormBackRefIdeal.Run

@[expose] public section

set_option maxRecDepth 16384

noncomputable section

namespace Cert.NormBackIdeal.Value

open Cert.NormBackIdeal Cert.NormBackIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The gradient at a position and a feature, -/
def backAt (x : S1x4096x2048.Idx → EReal) (g : S2048.Idx → EReal) (dy dres : S1x4096x2048.Idx → EReal) (p : Fin 4096) (q : Fin 2048) : EReal :=
  dres (ix3 (0 : Fin 1) p q) + (dy (ix3 (0 : Fin 1) p q) * g (ix1 q) * inv (fun q => x (ix3 (0 : Fin 1) p q))
    + x (ix3 (0 : Fin 1) p q) * pull (fun q => x (ix3 (0 : Fin 1) p q)) (fun q => dy (ix3 (0 : Fin 1) p q) * g (ix1 q))
    + pull (fun q => x (ix3 (0 : Fin 1) p q)) (fun q => dy (ix3 (0 : Fin 1) p q) * g (ix1 q)) * x (ix3 (0 : Fin 1) p q))

/-- as an array, -/
def back (x : S1x4096x2048.Idx → EReal) (g : S2048.Idx → EReal) (dy dres : S1x4096x2048.Idx → EReal) (i : S4096x2048.Idx) : EReal :=
  backAt x g dy dres (i 0) (i 1)

/-- a position's part of the gradient in the weight, -/
def share (x dy : S1x4096x2048.Idx → EReal) (p : Fin 4096) (q : Fin 2048) : EReal :=
  x (ix3 (0 : Fin 1) p q) * inv (fun q => x (ix3 (0 : Fin 1) p q)) * dy (ix3 (0 : Fin 1) p q)

/-- and their sum. -/
def total (x dy : S1x4096x2048.Idx → EReal) (j : S1x2048.Idx) : EReal := ∑ p : Fin 4096, share x dy p (j 1)

/-- The factors of a block's rows. -/
theorem factor_apply (x0 : Vec Ideal S512x2048 .f32) (p : Fin 512) :
    (k0_pay4 x0 (ix2 p (0 : Fin 1)) : EReal) = inv (fun q => x0 (ix2 p q)) := by
  unfold k0_pay4 k0_pay2
  rw [shapeCast_self]
  exact congrArg Ideal.rsqrt (power_read x0 _ _ _ _ _)

/-- The body's gradient at an index, -/
theorem pay_apply (x0 : Vec Ideal S512x2048 .f32) (x1 : Vec Ideal S1x2048 .f32) (x2 x3 : Vec Ideal S512x2048 .f32) (p : Fin 512)
    (q : Fin 2048) : (k0_pay6 x0 x1 x2 x3 (ix2 p q) : EReal) = (x3 (ix2 p q) : EReal)
      + (inv (fun q => x0 (ix2 p q)) * (x2 (ix2 p q) * x1 (ix2 (0 : Fin 1) q))
        - x0 (ix2 p q) * (inv (fun q => x0 (ix2 p q)) * inv (fun q => x0 (ix2 p q)) * inv (fun q => x0 (ix2 p q)))
          * Ideal.div (∑ q : Fin 2048, x2 (ix2 p q) * x1 (ix2 (0 : Fin 1) q) * x0 (ix2 p q)) (Ideal.ofBits .f32 0x45000000#32)) := by
  have hi := factor_apply x0 p
  unfold k0_pay6 k0_pay3 k0_pay2
  simp only [shapeCast_self]
  refine congrArg (fun a : EReal => (x3 (ix2 p q) : EReal) + a) (congrArg₂ (fun a b : EReal => a - b)
    (congrArg₂ (fun a b : EReal => a * b) ((column_read _ _ _).trans hi)
      (congrArg (fun a : EReal => (x2 (ix2 p q) : EReal) * a) (line_read x1 _ _)))
    (congrArg₂ (fun a b : EReal => a * b) (congrArg (fun a : EReal => (x0 (ix2 p q) : EReal) * a) ((column_read _ _ _).trans
      (congrArg₂ (fun a b : EReal => a * b) (congrArg₂ (fun a b : EReal => a * b) hi hi) hi))) ((column_read _ _ _).trans
      (congrArg (fun s => Ideal.div s (Ideal.ofBits .f32 0x45000000#32)) ((rowSum_read _ _ _ _ _ _).trans
        (Finset.sum_congr rfl fun r _ => ?_))))))
  exact congrArg (fun a : EReal => (x2 (ix2 p r) : EReal) * a * x0 (ix2 p r)) (line_read x1 _ _)

/-- and its part of the gradient in the weight. -/
theorem share_apply (x0 x2 : Vec Ideal S512x2048 .f32) (j : S1x2048.Idx) :
    (k0_pay5 x0 x2 j : EReal) = ∑ p : Fin 512, x0 (ix2 p (j 1)) * inv (fun q => x0 (ix2 p q)) * x2 (ix2 p (j 1)) := by
  unfold k0_pay5 k0_pay3 k0_pay2
  simp only [shapeCast_self]
  refine (colSum_read _ _ _ _ _ j).trans (Finset.sum_congr rfl fun p _ => ?_)
  refine Eq.trans (congrArg (fun a : EReal => (x2 (ix2 p (j 1)) : EReal) * x0 (ix2 p (j 1)) * a)
    ((column_read _ _ _).trans (factor_apply x0 p))) ?_
  rw [mul_assoc, mul_comm]

/- What a point leaves in the results' blocks. -/
theorem out_A4 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S512x2048 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : cond0_0 i) (hc1 : ¬cond0_1 i)
    (x0 : Vec Ideal S512x2048 .f32) (x1 : Vec Ideal S1x2048 .f32) (x2 x3 : Vec Ideal S512x2048 .f32) :
    out0_A_4 c i a1 h1 a2 h2 a3 h3 a4 h4 a5 h5 a6 h6 a7 h7 hc0 hc1 x0 x1 x2 x3 = k0_pay6 x0 x1 x2 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  rw [View.canon_unit_zero (S := S512x2048) origin]
  simp only [View.readAt_eq_ld, h1.read_unread, h2.read_unread, h3.read_unread, h4.read_unread,
    View.ld_unit_zero (S := S512x2048) origin, View.ld_unit_zero (S := S1x2048) origin, shapeCast_self]

theorem out_A5 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S512x2048 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : cond0_0 i) (hc1 : ¬cond0_1 i)
    (x0 : Vec Ideal S512x2048 .f32) (x1 : Vec Ideal S1x2048 .f32) (x2 x3 : Vec Ideal S512x2048 .f32) :
    out0_A_5 c i a1 h1 a2 h2 a3 h3 a4 h4 a5 h5 a6 h6 a7 h7 hc0 hc1 x0 x1 x2 x3 = k0_pay7 x0 x1 x2 x3 := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  sl_unfold_words
  rw [View.canon_unit_zero (S := S512x2048) origin]
  simp only [View.readAt_eq_ld, h1.read_unread, h2.read_unread, h3.read_unread, h4.read_unread,
    View.ld_unit_zero (S := S512x2048) origin, View.ld_unit_zero (S := S1x2048) origin, shapeCast_self]

theorem out_A6 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S512x2048 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : cond0_0 i) (hc1 : ¬cond0_1 i)
    (x0 : Vec Ideal S512x2048 .f32) (x1 : Vec Ideal S1x2048 .f32) (x2 x3 : Vec Ideal S512x2048 .f32) :
    out0_A_6 c i a1 h1 a2 h2 a3 h3 a4 h4 a5 h5 a6 h6 a7 h7 hc0 hc1 x0 x1 x2 x3 = k0_pay5 x0 x2 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  sl_unfold_words
  rw [View.canon_unit_zero (S := S1x2048) origin]
  simp only [View.readAt_eq_ld, h1.read_unread, h2.read_unread, h3.read_unread, h4.read_unread,
    View.ld_unit_zero (S := S512x2048) origin, View.ld_unit_zero (S := S1x2048) origin, shapeCast_self]

theorem out_B4 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S512x2048 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : ¬cond0_0 i) (hc1 : cond0_1 i)
    (x0 : Vec Ideal S512x2048 .f32) (x1 : Vec Ideal S1x2048 .f32) (x2 x3 : Vec Ideal S512x2048 .f32) (x6 : Vec Ideal S1x2048 .f32) :
    out0_B_4 c i a1 h1 a2 h2 a3 h3 a4 h4 a5 h5 a6 h6 a7 h7 hc0 hc1 x0 x1 x2 x3 x6 = k0_pay6 x0 x1 x2 x3 := by
  unfold out0_B_4
  rw [View.read_writes_eq_canon _ _ _ (cover0_B_4 c i a1 h1 a2 h2 a3 h3 a4 h4 a5 h5 a6 h6 a7 h7 hc0 hc1 x0 x1 x2 x3 x6)]
  unfold kernelRun0_B
  dsimp only
  sl_unfold_words
  rw [View.canon_unit_zero (S := S512x2048) origin]
  simp only [View.readAt_eq_ld, h1.read_unread, h2.read_unread, h3.read_unread, h4.read_unread, h7.read_unread,
    View.ld_unit_zero (S := S512x2048) origin, View.ld_unit_zero (S := S1x2048) origin, shapeCast_self]

theorem out_B5 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S512x2048 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : ¬cond0_0 i) (hc1 : cond0_1 i)
    (x0 : Vec Ideal S512x2048 .f32) (x1 : Vec Ideal S1x2048 .f32) (x2 x3 : Vec Ideal S512x2048 .f32) (x6 : Vec Ideal S1x2048 .f32) :
    out0_B_5 c i a1 h1 a2 h2 a3 h3 a4 h4 a5 h5 a6 h6 a7 h7 hc0 hc1 x0 x1 x2 x3 x6 = k0_pay7 x0 x1 x2 x3 := by
  unfold out0_B_5
  rw [View.read_writes_eq_canon _ _ _ (cover0_B_5 c i a1 h1 a2 h2 a3 h3 a4 h4 a5 h5 a6 h6 a7 h7 hc0 hc1 x0 x1 x2 x3 x6)]
  unfold kernelRun0_B
  dsimp only
  sl_unfold_words
  rw [View.canon_unit_zero (S := S512x2048) origin]
  simp only [View.readAt_eq_ld, h1.read_unread, h2.read_unread, h3.read_unread, h4.read_unread, h7.read_unread,
    View.ld_unit_zero (S := S512x2048) origin, View.ld_unit_zero (S := S1x2048) origin, shapeCast_self]

theorem out_B6 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S512x2048 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : ¬cond0_0 i) (hc1 : cond0_1 i)
    (x0 : Vec Ideal S512x2048 .f32) (x1 : Vec Ideal S1x2048 .f32) (x2 x3 : Vec Ideal S512x2048 .f32) (x6 : Vec Ideal S1x2048 .f32) :
    out0_B_6 c i a1 h1 a2 h2 a3 h3 a4 h4 a5 h5 a6 h6 a7 h7 hc0 hc1 x0 x1 x2 x3 x6 = k0_pay1 (k0_pay5 x0 x2) x6 := by
  unfold out0_B_6
  rw [View.read_writes_eq_canon _ _ _ (cover0_B_6 c i a1 h1 a2 h2 a3 h3 a4 h4 a5 h5 a6 h6 a7 h7 hc0 hc1 x0 x1 x2 x3 x6)]
  unfold kernelRun0_B
  dsimp only
  sl_unfold_words
  rw [View.canon_unit_zero (S := S1x2048) origin]
  simp only [View.readAt_eq_ld, h1.read_unread, h2.read_unread, h3.read_unread, h4.read_unread, h7.read_unread,
    View.ld_unit_zero (S := S512x2048) origin, View.ld_unit_zero (S := S1x2048) origin, shapeCast_self]

/-- The blocks a point reads and writes. -/
theorem index_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ win0_6.index t 0 = 0 ∧ win0_6.index t 1 = 0 := by
  decide +kernel

/-- The position of a block's row. -/
def place (t : Fin cfg0.N) (p : Fin 512) : Fin 4096 :=
  ⟨t.val * 512 + p.val, by have hN : cfg0.N = 8 := N_0; have := t.isLt; have := p.isLt; omega⟩

/-- The arguments as the kernel finds them, and its blocks of them. -/
theorem x_apply (c : Dev nD) (i : S4096x2048.Idx) :
    (V m c main_v0 i : EReal) = (m ((c : Thread nD τ).loc main_arg0) (ix3 0 (i 0) (i 1)) : EReal) := by
  have e : V m c main_v0 = shapeCast S4096x2048 (m ((c : Thread nD τ).loc main_arg0)) shapeCasts_S1x4096x2048_S4096x2048 := by
    show StableHlo.after hostOps0 (fun b => m (c, b)) (Proc.devRef .tc main_v0) = _
    after_results
    try rfl
  rw [e]; exact flat_read _ _ i

theorem dy_apply (c : Dev nD) (i : S4096x2048.Idx) :
    (V m c main_v2 i : EReal) = (m ((c : Thread nD τ).loc main_arg2) (ix3 0 (i 0) (i 1)) : EReal) := by
  have e : V m c main_v2 = shapeCast S4096x2048 (m ((c : Thread nD τ).loc main_arg2)) shapeCasts_S1x4096x2048_S4096x2048 := by
    show StableHlo.after hostOps0 (fun b => m (c, b)) (Proc.devRef .tc main_v2) = _
    after_results
    try rfl
  rw [e]; exact flat_read _ _ i

theorem dres_apply (c : Dev nD) (i : S4096x2048.Idx) :
    (V m c main_v3 i : EReal) = (m ((c : Thread nD τ).loc main_arg3) (ix3 0 (i 0) (i 1)) : EReal) := by
  have e : V m c main_v3 = shapeCast S4096x2048 (m ((c : Thread nD τ).loc main_arg3)) shapeCasts_S1x4096x2048_S4096x2048 := by
    show StableHlo.after hostOps0 (fun b => m (c, b)) (Proc.devRef .tc main_v3) = _
    after_results
    try rfl
  rw [e]; exact flat_read _ _ i

theorem g_apply (c : Dev nD) (i : S1x2048.Idx) :
    (V m c main_v1 i : EReal) = (m ((c : Thread nD τ).loc main_arg1) (ix1 (i 1)) : EReal) := by
  have e : V m c main_v1 = broadcastInDim S1x2048 ![1] bcast_S2048_S1x2048_1 (m ((c : Thread nD τ).loc main_arg1)) := by
    show StableHlo.after hostOps0 (fun b => m (c, b)) (Proc.devRef .tc main_v1) = _
    after_results
    try rfl
  rw [e]; exact hostGain_read _ _ i

theorem x_block (c : Dev nD) (t : Fin cfg0.N) (p : Fin 512) (q : Fin 2048) :
    (iblk m c 0 t (ix2 p q) : EReal) = m ((c : Thread nD τ).loc main_arg0) (ix3 (0 : Fin 1) (place t p) q) := by
  obtain ⟨a0, a1⟩ := (index_facts t).1
  refine Eq.trans ?_ (x_apply m c (ix2 (place t p) q))
  refine congrArg (V m c main_v0) (funext fun a => Fin.ext ?_)
  match a with
  | ⟨0, _⟩ => exact (win0_0.rect_emb_val t _ 0).trans (congrArg (· * 512 + _) a0)
  | ⟨1, _⟩ => exact win0_0.rect_emb_val_of_index_zero t 1 a1 _

theorem dy_block (c : Dev nD) (t : Fin cfg0.N) (p : Fin 512) (q : Fin 2048) :
    (iblk m c 2 t (ix2 p q) : EReal) = m ((c : Thread nD τ).loc main_arg2) (ix3 (0 : Fin 1) (place t p) q) := by
  obtain ⟨a0, a1⟩ := (index_facts t).2.2.1
  refine Eq.trans ?_ (dy_apply m c (ix2 (place t p) q))
  refine congrArg (V m c main_v2) (funext fun a => Fin.ext ?_)
  match a with
  | ⟨0, _⟩ => exact (win0_2.rect_emb_val t _ 0).trans (congrArg (· * 512 + _) a0)
  | ⟨1, _⟩ => exact win0_2.rect_emb_val_of_index_zero t 1 a1 _

theorem dres_block (c : Dev nD) (t : Fin cfg0.N) (p : Fin 512) (q : Fin 2048) :
    (iblk m c 3 t (ix2 p q) : EReal) = m ((c : Thread nD τ).loc main_arg3) (ix3 (0 : Fin 1) (place t p) q) := by
  obtain ⟨a0, a1⟩ := (index_facts t).2.2.2.1
  refine Eq.trans ?_ (dres_apply m c (ix2 (place t p) q))
  refine congrArg (V m c main_v3) (funext fun a => Fin.ext ?_)
  match a with
  | ⟨0, _⟩ => exact (win0_3.rect_emb_val t _ 0).trans (congrArg (· * 512 + _) a0)
  | ⟨1, _⟩ => exact win0_3.rect_emb_val_of_index_zero t 1 a1 _

theorem g_block (c : Dev nD) (t : Fin cfg0.N) (q : Fin 2048) :
    (iblk m c 1 t (ix2 (0 : Fin 1) q) : EReal) = m ((c : Thread nD τ).loc main_arg1) (ix1 q) := by
  obtain ⟨b0, b1⟩ := (index_facts t).2.1
  refine Eq.trans ?_ (g_apply m c (ix2 (0 : Fin 1) q))
  refine congrArg (V m c main_v1) (funext fun a => Fin.ext ?_)
  match a with
  | ⟨0, _⟩ => exact win0_1.rect_emb_val_of_index_zero t 0 b0 _
  | ⟨1, _⟩ => exact win0_1.rect_emb_val_of_index_zero t 1 b1 _

/-- The kernel's form of the gradient is the reference's. -/
theorem backAt_eq (x : S1x4096x2048.Idx → EReal) (g : S2048.Idx → EReal) (dy dres : S1x4096x2048.Idx → EReal) (p : Fin 4096) (q : Fin 2048) :
    dres (ix3 (0 : Fin 1) p q) + (inv (fun q => x (ix3 (0 : Fin 1) p q)) * (dy (ix3 (0 : Fin 1) p q) * g (ix1 q))
      - x (ix3 (0 : Fin 1) p q) * (inv (fun q => x (ix3 (0 : Fin 1) p q)) * inv (fun q => x (ix3 (0 : Fin 1) p q))
        * inv (fun q => x (ix3 (0 : Fin 1) p q)))
        * Ideal.div (∑ q : Fin 2048, dy (ix3 (0 : Fin 1) p q) * g (ix1 q) * x (ix3 (0 : Fin 1) p q)) (Ideal.ofBits .f32 0x45000000#32))
      = backAt x g dy dres p q :=
  congrArg (fun a : EReal => dres (ix3 (0 : Fin 1) p q) + a)
    (slope (fun q => x (ix3 (0 : Fin 1) p q)) (fun q => dy (ix3 (0 : Fin 1) p q) * g (ix1 q)) q)

/-- The body's gradient on point `t`'s blocks. -/
theorem block_eq (c : Dev nD) (t : Fin cfg0.N) (p : Fin 512) (q : Fin 2048) :
    (k0_pay6 (iblk m c 0 t) (iblk m c 1 t) (iblk m c 2 t) (iblk m c 3 t) (ix2 p q) : EReal)
      = backAt (m ((c : Thread nD τ).loc main_arg0)) (m ((c : Thread nD τ).loc main_arg1)) (m ((c : Thread nD τ).loc main_arg2))
        (m ((c : Thread nD τ).loc main_arg3)) (place t p) q := by
  refine (pay_apply _ _ _ _ p q).trans ?_
  simp only [x_block, dy_block, dres_block, g_block]
  exact backAt_eq _ _ _ _ _ _

theorem outs4_eq (c : Dev nD) (t : Fin cfg0.N) : (outsAt0 m c t.val t.isLt).1
    = k0_pay6 (iblk m c 0 t) (iblk m c 1 t) (iblk m c 2 t) (iblk m c 3 t) := by
  have hN : cfg0.N = 8 := N_0
  have hl := t.isLt
  by_cases h : t.val % 8 = 0
  · rw [outsAt0_A m c t h (by omega)]
    dsimp only
    rw [out_A4]
  · rw [outsAt0_B m c t h (by omega)]
    dsimp only
    rw [out_B4]

theorem outs5_eq (c : Dev nD) (t : Fin cfg0.N) : (outsAt0 m c t.val t.isLt).2.1
    = k0_pay7 (iblk m c 0 t) (iblk m c 1 t) (iblk m c 2 t) (iblk m c 3 t) := by
  have hN : cfg0.N = 8 := N_0
  have hl := t.isLt
  by_cases h : t.val % 8 = 0
  · rw [outsAt0_A m c t h (by omega)]
    dsimp only
    rw [out_A5]
  · rw [outsAt0_B m c t h (by omega)]
    dsimp only
    rw [out_B5]

/-- What point `t` writes back is block `t` of the gradient, -/
theorem flushed4_eq (c : Dev nD) (t : Fin cfg0.N) :
    (dats m 0 c).flushed 4 t = (win0_4.blk t).view.read (Elt Ideal)
      (back (m ((c : Thread nD τ).loc main_arg0)) (m ((c : Thread nD τ).loc main_arg1)) (m ((c : Thread nD τ).loc main_arg2))
        (m ((c : Thread nD τ).loc main_arg3))) := by
  rw [flushed4]
  funext y
  show ((outsAt0 m c t.val t.isLt).1 y : EReal) = back _ _ _ _ ((win0_4.rect t).emb y)
  obtain ⟨d0, d1⟩ := (index_facts t).2.2.2.2.1
  have hr : (win0_4.rect t).emb y 0 = place t (y 0) := Fin.ext ((win0_4.rect_emb_val t y 0).trans (congrArg (· * 512 + _) d0))
  have hq : (win0_4.rect t).emb y 1 = y 1 := Fin.ext (win0_4.rect_emb_val_of_index_zero t 1 d1 y)
  refine Eq.trans ?_ ((block_eq m c t (y 0) (y 1)).trans (congrArg₂ (backAt _ _ _ _) hr hq).symm)
  rw [outs4_eq]
  exact congrArg (k0_pay6 (iblk m c 0 t) (iblk m c 1 t) (iblk m c 2 t) (iblk m c 3 t)) (eq_ix2 (n0 := 512) (n1 := 2048) y)

/-- in both formats. -/
theorem flushed5_eq (c : Dev nD) (t : Fin cfg0.N) :
    (dats m 0 c).flushed 5 t = (win0_5.blk t).view.read (Elt Ideal)
      (back (m ((c : Thread nD τ).loc main_arg0)) (m ((c : Thread nD τ).loc main_arg1)) (m ((c : Thread nD τ).loc main_arg2))
        (m ((c : Thread nD τ).loc main_arg3))) := by
  rw [flushed5]
  funext y
  show ((outsAt0 m c t.val t.isLt).2.1 y : EReal) = back _ _ _ _ ((win0_5.rect t).emb y)
  obtain ⟨d0, d1⟩ := (index_facts t).2.2.2.2.2.1
  have hr : (win0_5.rect t).emb y 0 = place t (y 0) := Fin.ext ((win0_5.rect_emb_val t y 0).trans (congrArg (· * 512 + _) d0))
  have hq : (win0_5.rect t).emb y 1 = y 1 := Fin.ext (win0_5.rect_emb_val_of_index_zero t 1 d1 y)
  refine Eq.trans ?_ ((block_eq m c t (y 0) (y 1)).trans (congrArg₂ (backAt _ _ _ _) hr hq).symm)
  rw [outs5_eq]
  exact congrArg (k0_pay6 (iblk m c 0 t) (iblk m c 1 t) (iblk m c 2 t) (iblk m c 3 t)) (eq_ix2 (n0 := 512) (n1 := 2048) y)

/-- The blocks of 512 rows cover the result. -/
theorem cover4 (i : S4096x2048.Idx) :
    ∃ t : Fin cfg0.N, (cfg0.win 4).flush t = true ∧ i ∈ ((cfg0.win 4).blk t).view.set := by
  have h0 : (i 0 : Nat) < 4096 := (i 0).isLt
  have h1 : (i 1 : Nat) < 2048 := (i 1).isLt
  have hN : cfg0.N = 8 := N_0
  obtain ⟨t, ht⟩ : ∃ t : Fin cfg0.N, t.val = (i 0 : Nat) / 512 := ⟨⟨_, by omega⟩, rfl⟩
  refine ⟨t, flush0_4 t, ?_⟩
  obtain ⟨d0, d1⟩ := (index_facts t).2.2.2.2.1
  show i ∈ ((View.whole main_v4_0).slice (win0_4.rect t)).set
  rw [View.set_slice_whole, Rect.mem_set_unit]
  intro a
  match a with
  | ⟨0, _⟩ =>
    show win0_4.index _ 0 * 512 ≤ (i 0 : Nat) ∧ (i 0 : Nat) < win0_4.index _ 0 * 512 + 512
    rw [d0, ht]; omega
  | ⟨1, _⟩ =>
    show win0_4.index _ 1 * 2048 ≤ (i 1 : Nat) ∧ (i 1 : Nat) < win0_4.index _ 1 * 2048 + 2048
    rw [d1]; omega

theorem cover5 (i : S4096x2048.Idx) :
    ∃ t : Fin cfg0.N, (cfg0.win 5).flush t = true ∧ i ∈ ((cfg0.win 5).blk t).view.set := by
  have h0 : (i 0 : Nat) < 4096 := (i 0).isLt
  have h1 : (i 1 : Nat) < 2048 := (i 1).isLt
  have hN : cfg0.N = 8 := N_0
  obtain ⟨t, ht⟩ : ∃ t : Fin cfg0.N, t.val = (i 0 : Nat) / 512 := ⟨⟨_, by omega⟩, rfl⟩
  refine ⟨t, flush0_5 t, ?_⟩
  obtain ⟨d0, d1⟩ := (index_facts t).2.2.2.2.2.1
  show i ∈ ((View.whole main_v4_1).slice (win0_5.rect t)).set
  rw [View.set_slice_whole, Rect.mem_set_unit]
  intro a
  match a with
  | ⟨0, _⟩ =>
    show win0_5.index _ 0 * 512 ≤ (i 0 : Nat) ∧ (i 0 : Nat) < win0_5.index _ 0 * 512 + 512
    rw [d0, ht]; omega
  | ⟨1, _⟩ =>
    show win0_5.index _ 1 * 2048 ≤ (i 1 : Nat) ∧ (i 1 : Nat) < win0_5.index _ 1 * 2048 + 2048
    rw [d1]; omega

/-- The sum of a block's parts. -/
def part (c : Dev nD) (q : Fin 2048) (t : ℕ) : EReal :=
  if h : t < cfg0.N then ∑ p : Fin 512, share (m ((c : Thread nD τ).loc main_arg0)) (m ((c : Thread nD τ).loc main_arg2)) (place ⟨t, h⟩ p) q else 0

theorem part_eq (c : Dev nD) (t : Fin cfg0.N) (j : S1x2048.Idx) :
    (k0_pay5 (iblk m c 0 t) (iblk m c 2 t) j : EReal) = part m c (j 1) t.val := by
  refine (share_apply _ _ j).trans ?_
  unfold part
  rw [dif_pos t.isLt]
  exact Finset.sum_congr rfl fun p _ => congrArg₂ (fun a b : EReal => a * b) (congrArg₂ (fun a b : EReal => a * b)
    (x_block m c t p (j 1)) (congrArg inv (funext fun q => x_block m c t p q))) (dy_block m c t p (j 1))

/-- After a point the weight's block holds the sum of the parts so far. -/
theorem chain (c : Dev nD) (j : S1x2048.Idx) : ∀ (n : ℕ) (h : n < cfg0.N),
    ((outsAt0 m c n h).2.2 j : EReal) = ∑ t ∈ Finset.range (n + 1), part m c (j 1) t
  | 0, h => by
    rw [outsAt0_A m c ⟨0, h⟩ rfl (by simp), out_A6, Finset.sum_range_one]
    exact part_eq m c ⟨0, h⟩ j
  | n + 1, h => by
    have hN : cfg0.N = 8 := N_0
    have hm : ¬(⟨n + 1, h⟩ : Fin cfg0.N).val % 8 = 0 := by dsimp only; omega
    rw [outsAt0_B m c ⟨n + 1, h⟩ hm (by dsimp only; omega), out_B6, Finset.sum_range_succ, ← chain c j n (Nat.lt_of_succ_lt h)]
    unfold k0_pay1
    rw [shapeCast_self]
    exact congrArg (fun a : EReal => _ + a) (part_eq m c ⟨n + 1, h⟩ j)

/-- The eight parts are the sum over the positions. -/
theorem parts (c : Dev nD) (q : Fin 2048) :
    ∑ t ∈ Finset.range 8, part m c q t = ∑ p : Fin 4096, share (m ((c : Thread nD τ).loc main_arg0)) (m ((c : Thread nD τ).loc main_arg2)) p q := by
  have hN : cfg0.N = 8 := N_0
  rw [Finset.sum_range]
  refine Eq.trans ?_ (Fintype.sum_equiv (finProdFinEquiv (m := 8) (n := 512)) (fun z => share (m ((c : Thread nD τ).loc main_arg0))
    (m ((c : Thread nD τ).loc main_arg2)) (finProdFinEquiv z) q) _ (fun _ => rfl))
  rw [Fintype.sum_prod_type]
  refine Finset.sum_congr rfl fun t _ => ?_
  unfold part
  rw [dif_pos (by rw [hN]; exact t.isLt)]
  refine Finset.sum_congr rfl fun p _ => congrArg (fun r => share _ _ r q) (Fin.ext ?_)
  show t.val * 512 + p.val = p.val + 512 * t.val
  omega

/-- The last point writes it back, -/
theorem flushed6_eq (c : Dev nD) (t : Fin cfg0.N) (hf : (cfg0.win 6).flush t = true) :
    (dats m 0 c).flushed 6 t = (win0_6.blk t).view.read (Elt Ideal)
      (total (m ((c : Thread nD τ).loc main_arg0)) (m ((c : Thread nD τ).loc main_arg2))) := by
  have hN : cfg0.N = 8 := N_0
  have ht : t.val = 7 := by have := (flush0_6 t).mp hf; have := t.isLt; omega
  obtain ⟨d0, d1⟩ := (index_facts t).2.2.2.2.2.2
  rw [flushed6]
  funext y
  show ((outsAt0 m c t.val t.isLt).2.2 y : EReal) = total _ _ ((win0_6.rect t).emb y)
  have hq : (win0_6.rect t).emb y 1 = y 1 := Fin.ext (win0_6.rect_emb_val_of_index_zero t 1 d1 y)
  refine (chain m c y t.val t.isLt).trans ?_
  rw [ht]
  unfold total
  rw [hq]
  exact parts m c (y 1)

/-- and its block is the whole result. -/
theorem cover6 (i : S1x2048.Idx) : ∃ t : Fin cfg0.N, (cfg0.win 6).flush t = true ∧ i ∈ ((cfg0.win 6).blk t).view.set := by
  have h0 : (i 0 : Nat) < 1 := (i 0).isLt
  have h1 : (i 1 : Nat) < 2048 := (i 1).isLt
  have hN : cfg0.N = 8 := N_0
  obtain ⟨t, ht⟩ : ∃ t : Fin cfg0.N, t.val = 7 := ⟨⟨7, by omega⟩, rfl⟩
  refine ⟨t, (flush0_6 t).mpr (by rw [ht]), ?_⟩
  obtain ⟨d0, d1⟩ := (index_facts t).2.2.2.2.2.2
  show i ∈ ((View.whole main_v4_2).slice (win0_6.rect t)).set
  rw [View.set_slice_whole, Rect.mem_set_unit]
  intro a
  match a with
  | ⟨0, _⟩ =>
    show win0_6.index _ 0 * 1 ≤ (i 0 : Nat) ∧ (i 0 : Nat) < win0_6.index _ 0 * 1 + 1
    rw [d0]; omega
  | ⟨1, _⟩ =>
    show win0_6.index _ 1 * 2048 ≤ (i 1 : Nat) ∧ (i 1 : Nat) < win0_6.index _ 1 * 2048 + 2048
    rw [d1]; omega

/-- The reference's mean square plus the small number, -/
def refPower (x : FVec Ideal S1x4096x2048 .f32) : FVec Ideal Cert.NormBackRefIdeal.S1x4096x1 .f32 :=
  (addf (Host.divf (broadcastInDim Cert.NormBackRefIdeal.S1x4096x1 ![0, 1]
      Cert.NormBackRefIdeal.Gen.bcast_S1x4096_S1x4096x1_0_1 (Host.reduceAdd (mulf x x)
      (constant Cert.NormBackRefIdeal.S_ .f32 0x00000000#32) Cert.NormBackRefIdeal.Gen.reducesTo_S1x4096x2048_S1x4096_d2
      Cert.NormBackRefIdeal.Gen.h_S_)) (broadcastInDim Cert.NormBackRefIdeal.S1x4096x1 ![] Cert.NormBackRefIdeal.Gen.bcast_S_S1x4096x1
      (constant Cert.NormBackRefIdeal.S_ .f32 0x45000000#32))) (broadcastInDim Cert.NormBackRefIdeal.S1x4096x1 ![]
      Cert.NormBackRefIdeal.Gen.bcast_S_S1x4096x1 (constant Cert.NormBackRefIdeal.S_ .f32 0x358637BD#32)) : FVec Ideal Cert.NormBackRefIdeal.S1x4096x1 .f32)

/-- the incoming gradient times the weight, -/
def refGain (dy : FVec Ideal S1x4096x2048 .f32) (g : FVec Ideal S2048 .f32) : FVec Ideal S1x4096x2048 .f32 :=
  (mulf dy (broadcastInDim Cert.NormBackRefIdeal.S1x4096x2048 ![0, 1, 2] Cert.NormBackRefIdeal.Gen.bcast_S1x1x2048_S1x4096x2048_0_1_2
      (broadcastInDim Cert.NormBackRefIdeal.S1x1x2048 ![2] Cert.NormBackRefIdeal.Gen.bcast_S2048_S1x1x2048_2 g)) : FVec Ideal Cert.NormBackRefIdeal.S1x4096x2048 .f32)

/-- and the part through the factor. -/
def refPull (x dy : FVec Ideal S1x4096x2048 .f32) (g : FVec Ideal S2048 .f32) : FVec Ideal S1x4096x2048 .f32 :=
  broadcastInDim Cert.NormBackRefIdeal.S1x4096x2048 ![0, 1] Cert.NormBackRefIdeal.Gen.bcast_S1x4096_S1x4096x2048_0_1
    (broadcastInDim Cert.NormBackRefIdeal.S1x4096 ![1] Cert.NormBackRefIdeal.Gen.bcast_S4096_S1x4096_1 (Host.reduceAdd (Host.divf (mulf
      (shapeCast Cert.NormBackRefIdeal.S1x4096x1 (Host.reduceAdd (mulf x (refGain dy g)) (constant Cert.NormBackRefIdeal.S_ .f32 0x00000000#32)
        Cert.NormBackRefIdeal.Gen.reducesTo_S1x4096x2048_S1x4096_d2 Cert.NormBackRefIdeal.Gen.h_S_) Cert.NormBackRefIdeal.Gen.shapeCasts_S1x4096_S1x4096x1)
      (mulf (broadcastInDim Cert.NormBackRefIdeal.S1x4096x1 ![] Cert.NormBackRefIdeal.Gen.bcast_S_S1x4096x1 (constant Cert.NormBackRefIdeal.S_ .f32 0xBF000000#32))
        (Host.divf (Host.rsqrt (refPower x)) (refPower x))))
      (broadcastInDim Cert.NormBackRefIdeal.S1x4096x1 ![] Cert.NormBackRefIdeal.Gen.bcast_S_S1x4096x1 (constant Cert.NormBackRefIdeal.S_ .f32 0x45000000#32)))
      (constant Cert.NormBackRefIdeal.S_ .f32 0x00000000#32) Cert.NormBackRefIdeal.Gen.reducesTo_S1x4096x1_S4096_d0_2 Cert.NormBackRefIdeal.Gen.h_S_))

theorem refPower_apply (x : FVec Ideal S1x4096x2048 .f32) (j : Cert.NormBackRefIdeal.S1x4096x1.Idx) :
    (refPower x j : EReal) = power fun q => x (ix3 (0 : Fin 1) (j 1) q) := hostPower_read _ _ _ _ _ _

theorem refGain_apply (dy : FVec Ideal S1x4096x2048 .f32) (g : FVec Ideal S2048 .f32) (j : S1x4096x2048.Idx) :
    (refGain dy g j : EReal) = (dy j : EReal) * g (ix1 (j 2)) := congrArg (fun a : EReal => (dy j : EReal) * a) (hostLine_read g _ _ j)

theorem refPull_apply (x dy : FVec Ideal S1x4096x2048 .f32) (g : FVec Ideal S2048 .f32) (j : S1x4096x2048.Idx) :
    (refPull x dy g j : EReal) = pull (fun q => x (ix3 (0 : Fin 1) (j 1) q)) (fun q => dy (ix3 (0 : Fin 1) (j 1) q) * g (ix1 q)) :=
  pull_read x (refGain dy g) (refPower x) (fun j => (dy j : EReal) * g (ix1 (j 2))) (refPower_apply x) (refGain_apply dy g) _ _ _ _ _ _ _ j

/-- The reference's gradient, -/
def refBack (x : FVec Ideal S1x4096x2048 .f32) (g : FVec Ideal S2048 .f32) (dy dres : FVec Ideal S1x4096x2048 .f32) :
    FVec Ideal S4096x2048 .f32 :=
  shapeCast Cert.NormBackRefIdeal.S4096x2048 (addf dres (addf (addf (mulf (refGain dy g)
    (broadcastInDim Cert.NormBackRefIdeal.S1x4096x2048 ![0, 1, 2] Cert.NormBackRefIdeal.Gen.bcast_S1x4096x1_S1x4096x2048_0_1_2 (Host.rsqrt (refPower x))))
    (mulf x (refPull x dy g))) (mulf (refPull x dy g) x))) Cert.NormBackRefIdeal.Gen.shapeCasts_S1x4096x2048_S4096x2048

theorem refBack_eq (x : FVec Ideal S1x4096x2048 .f32) (g : FVec Ideal S2048 .f32) (dy dres : FVec Ideal S1x4096x2048 .f32) :
    refBack x g dy dres = back x g dy dres := by
  funext i
  refine (flat_read _ _ i).trans ?_
  refine congrArg (fun a : EReal => (dres (ix3 (0 : Fin 1) (i 0) (i 1)) : EReal) + a) (congrArg₂ (fun a b : EReal => a + b)
    (congrArg₂ (fun a b : EReal => a + b) (congrArg₂ (fun a b : EReal => a * b) (refGain_apply dy g _) ?_) ?_) ?_)
  · exact (hostColumn_read _ _ _).trans (congrArg Ideal.rsqrt (refPower_apply x _))
  · exact congrArg (fun a : EReal => (x (ix3 (0 : Fin 1) (i 0) (i 1)) : EReal) * a) (refPull_apply x dy g _)
  · exact congrArg (fun a : EReal => a * (x (ix3 (0 : Fin 1) (i 0) (i 1)) : EReal)) (refPull_apply x dy g _)

/-- and its gradient in the weight. -/
def refWeight (x dy : FVec Ideal S1x4096x2048 .f32) : FVec Ideal S1x2048 .f32 :=
  broadcastInDim Cert.NormBackRefIdeal.S1x2048 ![1] Cert.NormBackRefIdeal.Gen.bcast_S2048_S1x2048_1 (Host.reduceAdd (shapeCast Cert.NormBackRefIdeal.S1x1x2048
    (Host.reduceAdd (mulf (mulf x (broadcastInDim Cert.NormBackRefIdeal.S1x4096x2048 ![0, 1, 2] Cert.NormBackRefIdeal.Gen.bcast_S1x4096x1_S1x4096x2048_0_1_2
      (Host.rsqrt (refPower x)))) dy) (constant Cert.NormBackRefIdeal.S_ .f32 0x00000000#32) Cert.NormBackRefIdeal.Gen.reducesTo_S1x4096x2048_S1x2048_d1 Cert.NormBackRefIdeal.Gen.h_S_)
    Cert.NormBackRefIdeal.Gen.shapeCasts_S1x2048_S1x1x2048) (constant Cert.NormBackRefIdeal.S_ .f32 0x00000000#32) Cert.NormBackRefIdeal.Gen.reducesTo_S1x1x2048_S2048_d0_1 Cert.NormBackRefIdeal.Gen.h_S_)

theorem refWeight_eq (x dy : FVec Ideal S1x4096x2048 .f32) : refWeight x dy = total x dy := by
  funext j
  refine (hostGain_read _ _ j).trans ((hostUnitRow_read _ _ _ _).trans ((shapeCast_apply _ _ _ (ix2 (0 : Fin 1) (j 1)) ?_).trans
    ((hostCols_read _ _ _ _).trans (Finset.sum_congr rfl fun p _ => ?_))))
  · rw [Shape.rowMajor_val_two, Shape.rowMajor_val_three]
    show 0 * 2048 + (j 1).val = (0 * 1 + 0) * 2048 + (j 1).val
    omega
  · refine congrArg (fun a : EReal => (x (ix3 (0 : Fin 1) p (j 1)) : EReal) * a * (dy (ix3 (0 : Fin 1) p (j 1)) : EReal)) ?_
    exact (hostColumn_read _ _ _).trans (congrArg Ideal.rsqrt (refPower_apply x _))

/-- The kernel and the reference compute the same arrays. -/
theorem algebraic : Cert.algebraic_NormBackIdeal_NormBackRefIdeal := by
  intro m g m' g' _ hm
  refine ⟨fun c => back (m ((c : Thread nD τ).loc main_arg0)) (m ((c : Thread nD τ).loc main_arg1)) (m ((c : Thread nD τ).loc main_arg2)) (m ((c : Thread nD τ).loc main_arg3)),
    fun c => back (m ((c : Thread nD τ).loc main_arg0)) (m ((c : Thread nD τ).loc main_arg1)) (m ((c : Thread nD τ).loc main_arg2)) (m ((c : Thread nD τ).loc main_arg3)),
    fun c => total (m ((c : Thread nD τ).loc main_arg0)) (m ((c : Thread nD τ).loc main_arg2)), ?_, ?_⟩
  · exact (θ_run defs _ _).mono (fun _ h c => ⟨(h c).1.trans ((dats m 0 c).arrAt_eq_of_cover 4 _ (fun t _ => flushed4_eq m c t) cover4),
      (h c).2.1.trans ((dats m 0 c).arrAt_eq_of_cover 5 _ (fun t _ => flushed5_eq m c t) cover5),
      (h c).2.2.1.trans ((dats m 0 c).arrAt_eq_of_cover 6 _ (fun t hf => flushed6_eq m c t hf) cover6), (h c).2.2.2⟩) (run_blocks m g)
  · refine (θ_run Cert.NormBackRefIdeal.defs _ _).mono (fun _ h c => ⟨(h c).1.trans ?_, (h c).2.1.trans ?_, (h c).2.2.1.trans ?_, (h c).2.2.2⟩)
      (Cert.NormBackRefIdeal.Value.run m' g')
    · unfold Cert.NormBackRefIdeal.Value.res_main_v38
      rw [(hm c).1, (hm c).2.1, (hm c).2.2.1, (hm c).2.2.2]
      exact refBack_eq _ _ _ _
    · unfold Cert.NormBackRefIdeal.Value.res_main_v39
      rw [(hm c).1, (hm c).2.1, (hm c).2.2.1, (hm c).2.2.2]
      exact refBack_eq _ _ _ _
    · rw [(hm c).1, (hm c).2.2.1]
      exact refWeight_eq _ _

end Cert.NormBackIdeal.Value

end
-- ==== Proof.LossHead.lean ====
/- The loss: each block of rows adds its part to the one block of the result, and the reference sums the rows in one. -/
module

public import proofs.«01_k».proof.Proof.Slope
public import proofs.«01_k».proof.Defs
public import proofs.«01_k».proof.Proof.Gen.LossHeadIdeal.Value
public import proofs.«01_k».proof.Proof.Gen.LossHeadRefIdeal.Run

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Idealize.ShloMosaic.ValueIdx Cert.Reading
open Idealize.ShloMosaic.Pipeline (Dat)

variable (m : (ℓ : Loc nD τ sig) → Buf (Elt Ideal) ℓ)

/-- The bits of one half, -/
theorem half_pos : Ideal.ofBits .f32 0x3F000000#32 = ((1 / 2 : ℝ) : EReal) := by
  simp [Ideal.ofBits, Ideal.ieee, -EReal.coe_mul]; norm_num

/-- which goes through sums. -/
theorem half_add (a b : EReal) : Ideal.ofBits .f32 0x3F000000#32 * (a + b)
    = Ideal.ofBits .f32 0x3F000000#32 * a + Ideal.ofBits .f32 0x3F000000#32 * b := by
  rw [half_pos]
  exact EReal.left_distrib_of_nonneg_of_ne_top (by exact_mod_cast (by norm_num : (0 : ℝ) ≤ 1 / 2)) (EReal.coe_ne_top _) a b

/-- The mean square of a row's error. -/
def rowLoss (f g t : Fin 2048 → EReal) : EReal :=
  Ideal.div (∑ q, (f q * inv f * g q - t q) * (f q * inv f * g q - t q)) (Ideal.ofBits .f32 0x45000000#32)

/-- A position's part of the loss, -/
def share (x : S1x4096x2048.Idx → EReal) (g : S2048.Idx → EReal) (y : S1x4096x2048.Idx → EReal) (p : Fin 4096) : EReal :=
  rowLoss (fun q => x (ix3 (0 : Fin 1) p q)) (fun q => g (ix1 q)) (fun q => y (ix3 (0 : Fin 1) p q))

/-- and the loss, at each index of the result. -/
def total (x : S1x4096x2048.Idx → EReal) (g : S2048.Idx → EReal) (y : S1x4096x2048.Idx → EReal) (_ : S8x128.Idx) : EReal :=
  Ideal.ofBits .f32 0x3F000000#32 * ∑ p : Fin 4096, share x g y p

/-- The sum of a column of a block, -/
theorem columnSum_read (x : FVec Ideal (Mat 512 1) .f32) (h : (Mat 512 1).Reduces [0] (Line 1)) (hφ : FKind.Formats .f32)
    (hacc : (0x00000000#32 : BitVec 32) = FKind.add.neutral .f32 hφ) (hs : (Line 1).ShapeCasts (Mat 1 1)) (j : (Mat 1 1).Idx) :
    (shapeCast (Mat 1 1) (multiReduction .add [0] (Line 1) x 0x00000000#32 h hφ hacc) hs j : EReal)
      = ∑ p : Fin 512, (x (ix2 p (0 : Fin 1)) : EReal) := by
  refine (shapeCast_apply _ _ j (ix1 (0 : Fin 1)) ?_).trans ((Ideal.multiReduction_add_single x _ h hφ hacc (ix1 (0 : Fin 1))).trans
    (Finset.sum_congr rfl fun q _ => congrArg x (funext fun a => Fin.ext ?_)))
  · rw [Shape.rowMajor_val_one, Shape.rowMajor_val_two]
    have h0 : (j 0).val < 1 := (j 0).isLt
    have h1 : (j 1).val < 1 := (j 1).isLt
    show 0 = (j 0).val * 1 + (j 1).val
    omega
  · match a with | ⟨0, _⟩ => rfl | ⟨1, _⟩ => rfl

/-- a number spread over the result's block, -/
theorem spread_read {α : Type} (x : (Mat 1 1).Idx → α) (h : (Mat 1 1).Broadcasts (Mat 8 128)) (j : (Mat 8 128).Idx) :
    broadcastTo (Mat 8 128) x h j = x (ix2 (0 : Fin 1) (0 : Fin 1)) :=
  broadcastTo_apply _ _ _ _ (fun a => by match a with | ⟨0, _⟩ => rfl | ⟨1, _⟩ => rfl)

/-- and the host's sum of all positions. -/
theorem hostAll_read (x : FVec Ideal (Mat 1 4096) .f32) (h : (Mat 1 4096).ReducesTo [0, 1] Point) (hs : 0 < Point.numel) (j : Point.Idx) :
    (Host.reduceAdd x (constant Point .f32 0x00000000#32) h hs j : EReal) = ∑ p : Fin 4096, (x (ix2 (0 : Fin 1) p) : EReal) := by
  refine (Ideal.hostReduceAdd_total h (fun b => b.elim0) x (Ideal.ofBits .f32 0x00000000#32) j).trans ((zero_acc _).trans ?_)
  refine (Fintype.sum_equiv (idxEquiv2 (n0 := 1) (n1 := 4096)) (fun i => (x i : EReal)) (fun z => (x (ix2 z.1 z.2) : EReal))
    (fun i => congrArg x (eq_ix2 i))).trans ?_
  rw [Fintype.sum_prod_type]
  exact Fin.sum_univ_one _

/-- The body's error at an index, -/
theorem diff_apply (x0 : Vec Ideal S512x2048 .f32) (x1 : Vec Ideal S1x2048 .f32) (x2 : Vec Ideal S512x2048 .f32) (p : Fin 512)
    (q : Fin 2048) : (k0_pay9 x0 x1 x2 (ix2 p q) : EReal)
      = (x0 (ix2 p q) : EReal) * inv (fun q => x0 (ix2 p q)) * x1 (ix2 (0 : Fin 1) q) - x2 (ix2 p q) := by
  unfold k0_pay9 k0_pay7 k0_pay8
  simp only [shapeCast_self]
  refine congrArg (fun a : EReal => a - (x2 (ix2 p q) : EReal)) (congrArg₂ (fun a b : EReal => a * b)
    (congrArg (fun a : EReal => (x0 (ix2 p q) : EReal) * a) ((column_read _ _ _).trans (congrArg Ideal.rsqrt (power_read x0 _ _ _ _ _))))
    (line_read x1 _ _))

/-- and its part of the loss. -/
theorem loss_apply (x0 : Vec Ideal S512x2048 .f32) (x1 : Vec Ideal S1x2048 .f32) (x2 : Vec Ideal S512x2048 .f32) (j : S1x1.Idx) :
    (k0_pay10 x0 x1 x2 j : EReal) = Ideal.ofBits .f32 0x3F000000#32
      * ∑ p : Fin 512, rowLoss (fun q => x0 (ix2 p q)) (fun q => x1 (ix2 (0 : Fin 1) q)) (fun q => x2 (ix2 p q)) := by
  unfold k0_pay10
  refine congrArg (fun a : EReal => Ideal.ofBits .f32 0x3F000000#32 * a) ((columnSum_read _ _ _ _ _ j).trans
    (Finset.sum_congr rfl fun p _ => congrArg (fun s => Ideal.div s (Ideal.ofBits .f32 0x45000000#32)) ((rowSum_read _ _ _ _ _ _).trans
      (Finset.sum_congr rfl fun q _ => ?_))))
  exact congrArg₂ (fun a b : EReal => a * b) (diff_apply x0 x1 x2 p q) (diff_apply x0 x1 x2 p q)

/- What a point leaves in the result's block. -/
theorem out_A3 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S8x128 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : cond0_0 i) (hc1 : ¬cond0_1 i)
    (x0 : Vec Ideal S512x2048 .f32) (x1 : Vec Ideal S1x2048 .f32) (x2 : Vec Ideal S512x2048 .f32) :
    out0_A_3 c i a1 h1 a2 h2 a3 h3 a4 h4 a5 h5 a6 h6 a7 h7 hc0 hc1 x0 x1 x2 = k0_pay4 (k0_pay10 x0 x1 x2) := by
  unfold out0_A_3
  rw [View.read_writes_eq_canon _ _ _ (cover0_A_3 c i a1 h1 a2 h2 a3 h3 a4 h4 a5 h5 a6 h6 a7 h7 hc0 hc1 x0 x1 x2)]
  unfold kernelRun0_A
  dsimp only
  sl_unfold_words
  rw [View.canon_unit_zero (S := S8x128) origin]
  simp only [View.readAt_eq_ld, h1.read_unread, h2.read_unread, h3.read_unread,
    View.ld_unit_zero (S := S512x2048) origin, View.ld_unit_zero (S := S1x2048) origin, shapeCast_self]

theorem out_B3 (c : Dev nD) (i : grid0.Coords)
    (a1 : Memref sig .tc .vmem S512x2048 .f32) (h1 : a1.IsWhole)
    (a2 : Memref sig .tc .vmem S1x2048 .f32) (h2 : a2.IsWhole)
    (a3 : Memref sig .tc .vmem S512x2048 .f32) (h3 : a3.IsWhole)
    (a4 : Memref sig .tc .vmem S8x128 .f32) (h4 : a4.IsWhole)
    (a5 : Memref sig .tc .vmem S512x2048 .f32) (h5 : a5.IsWhole)
    (a6 : Memref sig .tc .vmem S512x2048 .bf16) (h6 : a6.IsWhole)
    (a7 : Memref sig .tc .vmem S1x2048 .f32) (h7 : a7.IsWhole) (hc0 : ¬cond0_0 i) (hc1 : cond0_1 i)
    (x0 : Vec Ideal S512x2048 .f32) (x1 : Vec Ideal S1x2048 .f32) (x2 : Vec Ideal S512x2048 .f32) (x3 : Vec Ideal S8x128 .f32)
    (x6 : Vec Ideal S1x2048 .f32) :
    out0_B_3 c i a1 h1 a2 h2 a3 h3 a4 h4 a5 h5 a6 h6 a7 h7 hc0 hc1 x0 x1 x2 x3 x6 = k0_pay6 (k0_pay10 x0 x1 x2) x3 := by
  unfold out0_B_3
  rw [View.read_writes_eq_canon _ _ _ (cover0_B_3 c i a1 h1 a2 h2 a3 h3 a4 h4 a5 h5 a6 h6 a7 h7 hc0 hc1 x0 x1 x2 x3 x6)]
  unfold kernelRun0_B
  dsimp only
  sl_unfold_words
  rw [View.canon_unit_zero (S := S8x128) origin]
  simp only [View.readAt_eq_ld, h1.read_unread, h2.read_unread, h3.read_unread, h4.read_unread, h7.read_unread,
    View.ld_unit_zero (S := S512x2048) origin, View.ld_unit_zero (S := S1x2048) origin, View.ld_unit_zero (S := S8x128) origin, shapeCast_self]

/-- The blocks a point reads and writes. -/
theorem index_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ win0_3.index t 0 = 0 ∧ win0_3.index t 1 = 0 := by
  decide +kernel

/-- The position of a block's row. -/
def place (t : Fin cfg0.N) (p : Fin 512) : Fin 4096 :=
  ⟨t.val * 512 + p.val, by have hN : cfg0.N = 8 := N_0; have := t.isLt; have := p.isLt; omega⟩

/-- The arguments as the kernel finds them, and its blocks of them. -/
theorem x_apply (c : Dev nD) (i : S4096x2048.Idx) :
    (V m c main_v0 i : EReal) = (m ((c : Thread nD τ).loc main_arg0) (ix3 0 (i 0) (i 1)) : EReal) := by
  have e : V m c main_v0 = shapeCast S4096x2048 (m ((c : Thread nD τ).loc main_arg0)) shapeCasts_S1x4096x2048_S4096x2048 := by
    show StableHlo.after hostOps0 (fun b => m (c, b)) (Proc.devRef .tc main_v0) = _
    after_results
    try rfl
  rw [e]; exact flat_read _ _ i

theorem y_apply (c : Dev nD) (i : S4096x2048.Idx) :
    (V m c main_v2 i : EReal) = (m ((c : Thread nD τ).loc main_arg2) (ix3 0 (i 0) (i 1)) : EReal) := by
  have e : V m c main_v2 = shapeCast S4096x2048 (m ((c : Thread nD τ).loc main_arg2)) shapeCasts_S1x4096x2048_S4096x2048 := by
    show StableHlo.after hostOps0 (fun b => m (c, b)) (Proc.devRef .tc main_v2) = _
    after_results
    try rfl
  rw [e]; exact flat_read _ _ i

theorem g_apply (c : Dev nD) (i : S1x2048.Idx) :
    (V m c main_v1 i : EReal) = (m ((c : Thread nD τ).loc main_arg1) (ix1 (i 1)) : EReal) := by
  have e : V m c main_v1 = broadcastInDim S1x2048 ![1] bcast_S2048_S1x2048_1 (m ((c : Thread nD τ).loc main_arg1)) := by
    show StableHlo.after hostOps0 (fun b => m (c, b)) (Proc.devRef .tc main_v1) = _
    after_results
    try rfl
  rw [e]; exact hostGain_read _ _ i

theorem x_block (c : Dev nD) (t : Fin cfg0.N) (p : Fin 512) (q : Fin 2048) :
    (iblk m c 0 t (ix2 p q) : EReal) = m ((c : Thread nD τ).loc main_arg0) (ix3 (0 : Fin 1) (place t p) q) := by
  obtain ⟨a0, a1⟩ := (index_facts t).1
  refine Eq.trans ?_ (x_apply m c (ix2 (place t p) q))
  refine congrArg (V m c main_v0) (funext fun a => Fin.ext ?_)
  match a with
  | ⟨0, _⟩ => exact (win0_0.rect_emb_val t _ 0).trans (congrArg (· * 512 + _) a0)
  | ⟨1, _⟩ => exact win0_0.rect_emb_val_of_index_zero t 1 a1 _

theorem y_block (c : Dev nD) (t : Fin cfg0.N) (p : Fin 512) (q : Fin 2048) :
    (iblk m c 2 t (ix2 p q) : EReal) = m ((c : Thread nD τ).loc main_arg2) (ix3 (0 : Fin 1) (place t p) q) := by
  obtain ⟨a0, a1⟩ := (index_facts t).2.2.1
  refine Eq.trans ?_ (y_apply m c (ix2 (place t p) q))
  refine congrArg (V m c main_v2) (funext fun a => Fin.ext ?_)
  match a with
  | ⟨0, _⟩ => exact (win0_2.rect_emb_val t _ 0).trans (congrArg (· * 512 + _) a0)
  | ⟨1, _⟩ => exact win0_2.rect_emb_val_of_index_zero t 1 a1 _

theorem g_block (c : Dev nD) (t : Fin cfg0.N) (q : Fin 2048) :
    (iblk m c 1 t (ix2 (0 : Fin 1) q) : EReal) = m ((c : Thread nD τ).loc main_arg1) (ix1 q) := by
  obtain ⟨b0, b1⟩ := (index_facts t).2.1
  refine Eq.trans ?_ (g_apply m c (ix2 (0 : Fin 1) q))
  refine congrArg (V m c main_v1) (funext fun a => Fin.ext ?_)
  match a with
  | ⟨0, _⟩ => exact win0_1.rect_emb_val_of_index_zero t 0 b0 _
  | ⟨1, _⟩ => exact win0_1.rect_emb_val_of_index_zero t 1 b1 _

/-- The sum of a block's rows. -/
def part (c : Dev nD) (t : ℕ) : EReal :=
  if h : t < cfg0.N then ∑ p : Fin 512, share (m ((c : Thread nD τ).loc main_arg0)) (m ((c : Thread nD τ).loc main_arg1)) (m ((c : Thread nD τ).loc main_arg2)) (place ⟨t, h⟩ p) else 0

theorem part_eq (c : Dev nD) (t : Fin cfg0.N) (j : S1x1.Idx) :
    (k0_pay10 (iblk m c 0 t) (iblk m c 1 t) (iblk m c 2 t) j : EReal) = Ideal.ofBits .f32 0x3F000000#32 * part m c t.val := by
  refine (loss_apply _ _ _ j).trans (congrArg (fun a : EReal => Ideal.ofBits .f32 0x3F000000#32 * a) ?_)
  unfold part share
  rw [dif_pos t.isLt]
  refine Finset.sum_congr rfl fun p _ => ?_
  simp only [x_block, y_block, g_block]

/-- After a point the block holds half the sum of the rows so far. -/
theorem chain (c : Dev nD) (j : S8x128.Idx) : ∀ (n : ℕ) (h : n < cfg0.N),
    ((outsAt0 m c n h).1 j : EReal) = Ideal.ofBits .f32 0x3F000000#32 * ∑ t ∈ Finset.range (n + 1), part m c t
  | 0, h => by
    rw [outsAt0_A m c ⟨0, h⟩ rfl (by simp)]
    dsimp only
    rw [out_A3, Finset.sum_range_one]
    unfold k0_pay4
    rw [shapeCast_self]
    exact (spread_read _ _ j).trans (part_eq m c ⟨0, h⟩ _)
  | n + 1, h => by
    have hN : cfg0.N = 8 := N_0
    have hm : ¬(⟨n + 1, h⟩ : Fin cfg0.N).val % 8 = 0 := by dsimp only; omega
    rw [outsAt0_B m c ⟨n + 1, h⟩ hm (by dsimp only; omega)]
    dsimp only
    rw [out_B3, Finset.sum_range_succ, half_add, ← chain c j n (Nat.lt_of_succ_lt h)]
    unfold k0_pay6
    rw [shapeCast_self, shapeCast_self]
    exact congrArg (fun a : EReal => _ + a) ((spread_read _ _ j).trans (part_eq m c ⟨n + 1, h⟩ _))

/-- The eight blocks are all positions. -/
theorem parts (c : Dev nD) : ∑ t ∈ Finset.range 8, part m c t = ∑ p : Fin 4096, share (m ((c : Thread nD τ).loc main_arg0)) (m ((c : Thread nD τ).loc main_arg1)) (m ((c : Thread nD τ).loc main_arg2)) p := by
  have hN : cfg0.N = 8 := N_0
  rw [Finset.sum_range]
  refine Eq.trans ?_ (Fintype.sum_equiv (finProdFinEquiv (m := 8) (n := 512)) (fun z => share (m ((c : Thread nD τ).loc main_arg0)) (m ((c : Thread nD τ).loc main_arg1)) (m ((c : Thread nD τ).loc main_arg2))
    (finProdFinEquiv z)) _ (fun _ => rfl))
  rw [Fintype.sum_prod_type]
  refine Finset.sum_congr rfl fun t _ => ?_
  unfold part
  rw [dif_pos (by rw [hN]; exact t.isLt)]
  refine Finset.sum_congr rfl fun p _ => congrArg (fun r => share _ _ _ r) (Fin.ext ?_)
  show t.val * 512 + p.val = p.val + 512 * t.val
  omega

/-- The last point writes the loss back, -/
theorem flushed3_eq (c : Dev nD) (t : Fin cfg0.N) (hf : (cfg0.win 3).flush t = true) :
    (dats m 0 c).flushed 3 t = (win0_3.blk t).view.read (Elt Ideal) (total (m ((c : Thread nD τ).loc main_arg0)) (m ((c : Thread nD τ).loc main_arg1)) (m ((c : Thread nD τ).loc main_arg2))) := by
  have hN : cfg0.N = 8 := N_0
  have ht : t.val = 7 := by have := (flush0_3 t).mp hf; have := t.isLt; omega
  rw [flushed3]
  funext y
  show ((outsAt0 m c t.val t.isLt).1 y : EReal) = total _ _ _ ((win0_3.rect t).emb y)
  refine (chain m c y t.val t.isLt).trans ?_
  rw [ht]
  unfold total
  exact congrArg (fun a : EReal => Ideal.ofBits .f32 0x3F000000#32 * a) (parts m c)

/-- and its block is the whole result. -/
theorem cover3 (i : S8x128.Idx) : ∃ t : Fin cfg0.N, (cfg0.win 3).flush t = true ∧ i ∈ ((cfg0.win 3).blk t).view.set := by
  have h0 : (i 0 : Nat) < 8 := (i 0).isLt
  have h1 : (i 1 : Nat) < 128 := (i 1).isLt
  have hN : cfg0.N = 8 := N_0
  obtain ⟨t, ht⟩ : ∃ t : Fin cfg0.N, t.val = 7 := ⟨⟨7, by omega⟩, rfl⟩
  refine ⟨t, (flush0_3 t).mpr (by rw [ht]), ?_⟩
  obtain ⟨d0, d1⟩ := (index_facts t).2.2.2
  show i ∈ ((View.whole main_v3_0).slice (win0_3.rect t)).set
  rw [View.set_slice_whole, Rect.mem_set_unit]
  intro a
  match a with
  | ⟨0, _⟩ =>
    show win0_3.index _ 0 * 8 ≤ (i 0 : Nat) ∧ (i 0 : Nat) < win0_3.index _ 0 * 8 + 8
    rw [d0]; omega
  | ⟨1, _⟩ =>
    show win0_3.index _ 1 * 128 ≤ (i 1 : Nat) ∧ (i 1 : Nat) < win0_3.index _ 1 * 128 + 128
    rw [d1]; omega

/-- The reference's error, -/
def refDiff (x : FVec Ideal S1x4096x2048 .f32) (g : FVec Ideal S2048 .f32) (y : FVec Ideal S1x4096x2048 .f32) : FVec Ideal S1x4096x2048 .f32 :=
  (subf (mulf (mulf x
      (broadcastInDim Cert.LossHeadRefIdeal.S1x4096x2048 ![0, 1, 2] Cert.LossHeadRefIdeal.Gen.bcast_S1x4096x1_S1x4096x2048_0_1_2
        (Host.rsqrt (addf (Host.divf (broadcastInDim Cert.LossHeadRefIdeal.S1x4096x1 ![0, 1]
            Cert.LossHeadRefIdeal.Gen.bcast_S1x4096_S1x4096x1_0_1 (Host.reduceAdd (mulf x x)
            (constant Cert.LossHeadRefIdeal.S_ .f32 0x00000000#32) Cert.LossHeadRefIdeal.Gen.reducesTo_S1x4096x2048_S1x4096_d2
            Cert.LossHeadRefIdeal.Gen.h_S_))
          (broadcastInDim Cert.LossHeadRefIdeal.S1x4096x1 ![] Cert.LossHeadRefIdeal.Gen.bcast_S_S1x4096x1
            (constant Cert.LossHeadRefIdeal.S_ .f32 0x45000000#32)))
          (broadcastInDim Cert.LossHeadRefIdeal.S1x4096x1 ![] Cert.LossHeadRefIdeal.Gen.bcast_S_S1x4096x1
            (constant Cert.LossHeadRefIdeal.S_ .f32 0x358637BD#32))))))
      (broadcastInDim Cert.LossHeadRefIdeal.S1x4096x2048 ![0, 1, 2] Cert.LossHeadRefIdeal.Gen.bcast_S1x1x2048_S1x4096x2048_0_1_2
        (broadcastInDim Cert.LossHeadRefIdeal.S1x1x2048 ![2] Cert.LossHeadRefIdeal.Gen.bcast_S2048_S1x1x2048_2 g))) y : FVec Ideal Cert.LossHeadRefIdeal.S1x4096x2048 .f32)

theorem refDiff_apply (x : FVec Ideal S1x4096x2048 .f32) (g : FVec Ideal S2048 .f32) (y : FVec Ideal S1x4096x2048 .f32)
    (j : S1x4096x2048.Idx) : (refDiff x g y j : EReal)
      = (x j : EReal) * inv (fun q => x (ix3 (0 : Fin 1) (j 1) q)) * g (ix1 (j 2)) - y j := by
  unfold refDiff
  refine congrArg (fun a : EReal => a - (y j : EReal)) (congrArg₂ (fun a b : EReal => a * b)
    (congrArg (fun b : EReal => (x j : EReal) * b) ?_) (hostLine_read _ _ _ _))
  exact (hostColumn_read _ _ _).trans (congrArg Ideal.rsqrt (hostPower_read _ _ _ _ _ _))

/-- and its loss. -/
def refLoss (x : FVec Ideal S1x4096x2048 .f32) (g : FVec Ideal S2048 .f32) (y : FVec Ideal S1x4096x2048 .f32) : FVec Ideal S8x128 .f32 :=
  broadcastInDim Cert.LossHeadRefIdeal.S8x128 ![] Cert.LossHeadRefIdeal.Gen.bcast_S_S8x128 (mulf (constant Cert.LossHeadRefIdeal.S_ .f32 0x3F000000#32) (Host.reduceAdd (Host.divf
    (Host.reduceAdd (mulf (refDiff x g y) (refDiff x g y)) (constant Cert.LossHeadRefIdeal.S_ .f32 0x00000000#32) Cert.LossHeadRefIdeal.Gen.reducesTo_S1x4096x2048_S1x4096_d2 Cert.LossHeadRefIdeal.Gen.h_S_)
    (broadcastInDim Cert.LossHeadRefIdeal.S1x4096 ![] Cert.LossHeadRefIdeal.Gen.bcast_S_S1x4096 (constant Cert.LossHeadRefIdeal.S_ .f32 0x45000000#32)))
    (constant Cert.LossHeadRefIdeal.S_ .f32 0x00000000#32) Cert.LossHeadRefIdeal.Gen.reducesTo_S1x4096_S_d0_1 Cert.LossHeadRefIdeal.Gen.h_S_))

theorem refLoss_eq (x : FVec Ideal S1x4096x2048 .f32) (g : FVec Ideal S2048 .f32) (y : FVec Ideal S1x4096x2048 .f32) :
    refLoss x g y = total x g y := by
  funext i
  refine (broadcastInDim_apply _ _ _ _ (fun a => a.elim0) (fun a => a.elim0)).trans ?_
  refine congrArg (fun a : EReal => Ideal.ofBits .f32 0x3F000000#32 * a) ((hostAll_read _ _ _ _).trans (Finset.sum_congr rfl fun p _ => ?_))
  refine congrArg (fun s => Ideal.div s (Ideal.ofBits .f32 0x45000000#32)) ((hostRow_read _ _ _ _).trans (Finset.sum_congr rfl fun q _ => ?_))
  exact congrArg₂ (fun a b : EReal => a * b) (refDiff_apply x g y _) (refDiff_apply x g y _)

/-- The kernel and the reference compute the same loss. -/
theorem algebraic : Cert.algebraic_LossHeadIdeal_LossHeadRefIdeal := by
  intro m g m' g' _ hm
  refine ⟨fun c => total (m ((c : Thread nD τ).loc main_arg0)) (m ((c : Thread nD τ).loc main_arg1)) (m ((c : Thread nD τ).loc main_arg2)), ?_, ?_⟩
  · exact (θ_run defs _ _).mono (fun _ h c => ⟨(h c).1.trans ((dats m 0 c).arrAt_eq_of_cover 3 _ (fun t hf => flushed3_eq m c t hf) cover3),
      (h c).2.2.2.2⟩) (run_blocks m g)
  · refine (θ_run Cert.LossHeadRefIdeal.defs _ _).mono (fun _ h c => ⟨(h c).1.trans ?_, (h c).2⟩)
      (Cert.LossHeadRefIdeal.Value.run m' g')
    rw [(hm c).1, (hm c).2.1, (hm c).2.2]
    exact refLoss_eq _ _ _

end Cert.LossHeadIdeal.Value

end
-- ==== Proof.MixOut.lean ====
/- The output projection added to the residual: each block the kernel writes back is a block of the residual plus the product of
   the attention's features with the weight's first half of rows and of the gated features with its second half. -/
module

public import proofs.«01_k».proof.Proof.Products
public import proofs.«01_k».proof.Defs
public import proofs.«01_k».proof.Proof.Gen.MixOutIdeal.Value
public import proofs.«01_k».proof.Proof.Gen.MixOutRefIdeal.Run

@[expose] public section

set_option maxRecDepth 16384

noncomputable section

namespace Cert.MixOutIdeal.Value

open Cert.MixOutIdeal Cert.MixOutIdeal.Gen Idealize.ShloMosaic Idealize.ShloMosaic.TcCoe Idealize.SL.Sem
open Idealize.ShloMosaic.ValueIdx Cert.Reading
open Idealize.ShloMosaic.Pipeline (Dat)

/-- Offsets of zero on three axes. -/
theorem origin3 : (![0, 0, 0] : Fin 3 → Nat) = fun _ => 0 := funext fun a => by fin_cases a <;> rfl

variable (m : (ℓ : Loc nD τ sig) → Buf (Elt Ideal) ℓ)

/-- The features of the attention through the first 1024 rows of a weight plus the gated ones through the others. -/
def halves (a b : S1x4096x1024.Idx → EReal) (w : S2048x2048.Idx → EReal) (i : S4096x2048.Idx) : EReal :=
  (∑ k : Fin 1024, a (ix3 (0 : Fin 1) (i 0) k) * w (ix2 (k.castAdd 1024 : Fin 2048) (i 1)))
    + ∑ k : Fin 1024, b (ix3 (0 : Fin 1) (i 0) k) * w (ix2 (k.natAdd 1024 : Fin 2048) (i 1))

/-- The residual plus the two products. -/
def joined (x : S1x4096x2048.Idx → EReal) (a b : S1x4096x1024.Idx → EReal) (w : S2048x2048.Idx → EReal) (i : S4096x2048.Idx) : EReal :=
  x (ix3 (0 : Fin 1) (i 0) (i 1)) + halves a b w i

/-- The body's result at an index. -/
theorem pay_apply (x0 : Vec Ideal S1024x1024 .bf16) (x1 : Vec Ideal S1x1024x1024 .bf16) (x2 : Vec Ideal S1024x1024 .bf16)
    (x3 : Vec Ideal S1x1024x1024 .bf16) (x4 : Vec Ideal S1024x1024 .f32) (j : S1024x1024.Idx) :
    (k0_pay1 x0 x1 x2 x3 x4 j : EReal) = (x4 j : EReal)
      + ((∑ k : Fin 1024, (x0 (ix2 (j 0) k) : EReal) * x1 (ix3 (0 : Fin 1) k (j 1)))
        + ∑ k : Fin 1024, (x2 (ix2 (j 0) k) : EReal) * x3 (ix3 (0 : Fin 1) k (j 1))) := by
  unfold k0_pay1
  rw [shapeCast_self, shapeCast_self, shapeCast_self]
  have e (a : Vec Ideal S1024x1024 .bf16) (b : Vec Ideal S1x1024x1024 .bf16) :=
    (plain_read dot_S1024x1024_S1024x1024_S1024x1024_1_0_0_1_n_n_wf a (shapeCast S1024x1024 b shapeCasts_S1x1024x1024_S1024x1024)
      (fun _ => Ideal.ofBits .f32 0x00000000#32) j).trans ((zero_acc _).trans
        (Finset.sum_congr rfl fun k _ => congrArg (a (ix2 (j 0) k) * ·) (flat_read b _ (ix2 k (j 1)))))
  exact congrArg ((x4 j : EReal) + ·) (congrArg₂ (· + ·) (e x0 x1) (e x2 x3))

/-- The blocks a point reads and writes. -/
theorem index_facts : ∀ t : Fin cfg0.N, (win0_0.index t 0 = t.val / 2 ∧ win0_0.index t 1 = 0)
    ∧ (win0_1.index t 0 = 0 ∧ win0_1.index t 1 = 0 ∧ win0_1.index t 2 = t.val % 2)
    ∧ (win0_2.index t 0 = t.val / 2 ∧ win0_2.index t 1 = 0)
    ∧ (win0_3.index t 0 = 1 ∧ win0_3.index t 1 = 0 ∧ win0_3.index t 2 = t.val % 2)
    ∧ (win0_4.index t 0 = t.val / 2 ∧ win0_4.index t 1 = t.val % 2)
    ∧ win0_5.index t 0 = t.val / 2 ∧ win0_5.index t 1 = t.val % 2 := by
  decide +kernel

/-- The residual as the kernel finds it, -/
theorem x_apply (c : Dev nD) (i : S4096x2048.Idx) :
    (V m c main_v0 i : EReal) = (m ((c : Thread nD τ).loc main_arg0) (ix3 0 (i 0) (i 1)) : EReal) := by
  have e : V m c main_v0 = shapeCast S4096x2048 (m ((c : Thread nD τ).loc main_arg0)) shapeCasts_S1x4096x2048_S4096x2048 := by
    show StableHlo.after hostOps0 (fun b => m (c, b)) (Proc.devRef .tc main_v0) = _
    after_results
    try rfl
  rw [e]; exact flat_read _ _ i

/-- the features of the attention, -/
theorem a_apply (c : Dev nD) (i : S4096x1024.Idx) :
    (V m c main_v2 i : EReal) = (m ((c : Thread nD τ).loc main_arg1) (ix3 0 (i 0) (i 1)) : EReal) := by
  have e : V m c main_v2 = (truncf (F := Ideal) .bf16 (shapeCast S4096x1024 (m ((c : Thread nD τ).loc main_arg1))
      shapeCasts_S1x4096x1024_S4096x1024) bitsLt_bf16_f32 : FVec Ideal S4096x1024 .bf16) := by
    show StableHlo.after hostOps0 (fun b => m (c, b)) (Proc.devRef .tc main_v2) = _
    after_results
    rfl
  rw [e]; exact flat_read _ _ i

/-- the gated ones, -/
theorem b_apply (c : Dev nD) (i : S4096x1024.Idx) :
    (V m c main_v4 i : EReal) = (m ((c : Thread nD τ).loc main_arg2) (ix3 0 (i 0) (i 1)) : EReal) := by
  have e : V m c main_v4 = (truncf (F := Ideal) .bf16 (shapeCast S4096x1024 (m ((c : Thread nD τ).loc main_arg2))
      shapeCasts_S1x4096x1024_S4096x1024) bitsLt_bf16_f32 : FVec Ideal S4096x1024 .bf16) := by
    show StableHlo.after hostOps0 (fun b => m (c, b)) (Proc.devRef .tc main_v4) = _
    after_results
    rfl
  rw [e]; exact flat_read _ _ i

/-- and the weight, its rows in two halves. -/
theorem w_apply (c : Dev nD) (i : S2x1024x2048.Idx) (r : Fin 2048) (hr : r.val = (i 0).val * 1024 + (i 1).val) :
    (V m c main_v6 i : EReal) = (m ((c : Thread nD τ).loc main_arg3) (ix2 r (i 2)) : EReal) := by
  have e : V m c main_v6 = shapeCast S2x1024x2048 (truncf (F := Ideal) .bf16 (m ((c : Thread nD τ).loc main_arg3))
      bitsLt_bf16_f32 : FVec Ideal S2048x2048 .bf16) shapeCasts_S2048x2048_S2x1024x2048 := by
    show StableHlo.after hostOps0 (fun b => m (c, b)) (Proc.devRef .tc main_v6) = _
    after_results
    rfl
  rw [e]
  refine (shapeCast_apply _ _ i (ix2 r (i 2)) ?_).trans rfl
  rw [Shape.rowMajor_val_two, Shape.rowMajor_val_three]
  show r.val * 2048 + (i 2).val = ((i 0).val * 1024 + (i 1).val) * 2048 + (i 2).val
  rw [hr]

set_option maxHeartbeats 1000000 in
/-- What point `t` writes back is block `t` of the sum. -/
theorem flushed_eq (c : Dev nD) (t : Fin cfg0.N) :
    (dats m 0 c).flushed 5 t = (win0_5.blk t).view.read (Elt Ideal)
      (joined (m ((c : Thread nD τ).loc main_arg0)) (m ((c : Thread nD τ).loc main_arg1)) (m ((c : Thread nD τ).loc main_arg2))
        (m ((c : Thread nD τ).loc main_arg3))) := by
  rw [flushed5]
  show (cfg0.win 5).cut (grid0.coords t) (out0_5 (iblk m c 0 t) (iblk m c 1 t) (iblk m c 2 t) (iblk m c 3 t) (iblk m c 4 t)) = _
  unfold out0_5
  rw [View.canon_unit_zero origin, View.ld_unit_zero origin, View.ld_unit_zero origin3, View.ld_unit_zero origin,
    View.ld_unit_zero origin3, View.ld_unit_zero origin]
  obtain ⟨⟨a0, a1⟩, ⟨b0, b1, b2⟩, ⟨c0, c1⟩, ⟨f0, f1, f2⟩, ⟨e0, e1⟩, d0, d1⟩ := index_facts t
  funext y
  show _ = joined _ _ _ _ ((win0_5.rect t).emb y)
  unfold joined halves
  refine (pay_apply _ _ _ _ _ _).trans (congrArg₂ (· + ·) ?_ (congrArg₂ (· + ·)
    (Finset.sum_congr rfl fun k _ => congrArg₂ (· * ·) ?_ ?_) (Finset.sum_congr rfl fun k _ => congrArg₂ (· * ·) ?_ ?_)))
  · refine Eq.trans ?_ (x_apply m c ((win0_5.rect t).emb y))
    refine congrArg (V m c main_v0) (funext fun a => Fin.ext ?_)
    match a with
    | ⟨0, _⟩ => exact (win0_4.rect_emb_val t _ 0).trans ((congrArg (· * 1024 + _) (e0.trans d0.symm)).trans (win0_5.rect_emb_val t y 0).symm)
    | ⟨1, _⟩ => exact (win0_4.rect_emb_val t _ 1).trans ((congrArg (· * 1024 + _) (e1.trans d1.symm)).trans (win0_5.rect_emb_val t y 1).symm)
  · refine Eq.trans ?_ (a_apply m c (ix2 ((win0_5.rect t).emb y 0) k))
    refine congrArg (V m c main_v2) (funext fun a => Fin.ext ?_)
    match a with
    | ⟨0, _⟩ => exact (win0_0.rect_emb_val t _ 0).trans ((congrArg (· * 1024 + _) (a0.trans d0.symm)).trans (win0_5.rect_emb_val t y 0).symm)
    | ⟨1, _⟩ => exact win0_0.rect_emb_val_of_index_zero t 1 a1 _
  · refine Eq.trans ?_ (w_apply m c (ix3 (0 : Fin 2) k ((win0_5.rect t).emb y 1)) (k.castAdd 1024 : Fin 2048)
      (by show k.val = 0 * 1024 + k.val; omega))
    refine congrArg (V m c main_v6) (funext fun a => Fin.ext ?_)
    match a with
    | ⟨0, _⟩ => exact (win0_1.rect_emb_val t _ 0).trans (by rw [b0]; rfl)
    | ⟨1, _⟩ => exact win0_1.rect_emb_val_of_index_zero t 1 b1 _
    | ⟨2, _⟩ => exact (win0_1.rect_emb_val t _ 2).trans ((congrArg (· * 1024 + _) (b2.trans d1.symm)).trans (win0_5.rect_emb_val t y 1).symm)
  · refine Eq.trans ?_ (b_apply m c (ix2 ((win0_5.rect t).emb y 0) k))
    refine congrArg (V m c main_v4) (funext fun a => Fin.ext ?_)
    match a with
    | ⟨0, _⟩ => exact (win0_2.rect_emb_val t _ 0).trans ((congrArg (· * 1024 + _) (c0.trans d0.symm)).trans (win0_5.rect_emb_val t y 0).symm)
    | ⟨1, _⟩ => exact win0_2.rect_emb_val_of_index_zero t 1 c1 _
  · refine Eq.trans ?_ (w_apply m c (ix3 (1 : Fin 2) k ((win0_5.rect t).emb y 1)) (k.natAdd 1024 : Fin 2048)
      (by show 1024 + k.val = 1 * 1024 + k.val; omega))
    refine congrArg (V m c main_v6) (funext fun a => Fin.ext ?_)
    match a with
    | ⟨0, _⟩ => exact (win0_3.rect_emb_val t _ 0).trans (by rw [f0]; rfl)
    | ⟨1, _⟩ => exact win0_3.rect_emb_val_of_index_zero t 1 f1 _
    | ⟨2, _⟩ => exact (win0_3.rect_emb_val t _ 2).trans ((congrArg (· * 1024 + _) (f2.trans d1.symm)).trans (win0_5.rect_emb_val t y 1).symm)

/-- The blocks of 1024 rows and columns cover the result. -/
theorem cover (i : S4096x2048.Idx) :
    ∃ t : Fin cfg0.N, (cfg0.win 5).flush t = true ∧ i ∈ ((cfg0.win 5).blk t).view.set := by
  have h0 : (i 0 : Nat) < 4096 := (i 0).isLt
  have h1 : (i 1 : Nat) < 2048 := (i 1).isLt
  have hN : cfg0.N = 8 := N_0
  obtain ⟨t, ht⟩ : ∃ t : Fin cfg0.N, t.val = (i 0 : Nat) / 1024 * 2 + (i 1 : Nat) / 1024 := ⟨⟨_, by omega⟩, rfl⟩
  refine ⟨t, flush0_5 t, ?_⟩
  obtain ⟨-, -, -, -, -, d0, d1⟩ := index_facts t
  show i ∈ ((View.whole main_v7).slice (win0_5.rect t)).set
  rw [View.set_slice_whole, Rect.mem_set_unit]
  intro a
  match a with
  | ⟨0, _⟩ =>
    show win0_5.index _ 0 * 1024 ≤ (i 0 : Nat) ∧ (i 0 : Nat) < win0_5.index _ 0 * 1024 + 1024
    rw [d0, ht]; omega
  | ⟨1, _⟩ =>
    show win0_5.index _ 1 * 1024 ≤ (i 1 : Nat) ∧ (i 1 : Nat) < win0_5.index _ 1 * 1024 + 1024
    rw [d1, ht]; omega

/-- The product of the features side by side with a weight is the two halves' products. -/
theorem sides (a b : S1x4096x1024.Idx → EReal) (w : S2048x2048.Idx → EReal) (i : S4096x2048.Idx) :
    (∑ q : Fin 2048, concatenate Cert.MixOutRefIdeal.S1x4096x2048 2 [⟨Cert.MixOutRefIdeal.S1x4096x1024, a⟩, ⟨Cert.MixOutRefIdeal.S1x4096x1024, b⟩]
      Cert.MixOutRefIdeal.Facts₀.concatenates_S1x4096x1024_S1x4096x1024_S1x4096x2048_d2 (ix3 (0 : Fin 1) (i 0) q) * w (ix2 q (i 1)))
      = halves a b w i := by
  refine (Fin.sum_univ_add (a := 1024) (b := 1024) _).trans (congrArg₂ (· + ·) (Finset.sum_congr rfl fun k _ => ?_)
    (Finset.sum_congr rfl fun k _ => ?_))
  · refine congrArg (· * _) (concatenate_pair_apply_left (t := Cert.MixOutRefIdeal.S1x4096x2048) (s₁ := S1x4096x1024) (s₂ := S1x4096x1024) 2 a b _ _ rfl (ix3 (0 : Fin 1) (i 0) k) fun e => ?_)
    match e with | ⟨0, _⟩ => rfl | ⟨1, _⟩ => rfl | ⟨2, _⟩ => rfl
  · refine congrArg (· * _) (concatenate_pair_apply_right (t := Cert.MixOutRefIdeal.S1x4096x2048) (s₁ := S1x4096x1024) (s₂ := S1x4096x1024) 2 a b _ _ rfl rfl (ix3 (0 : Fin 1) (i 0) k) (fun e he => ?_) ?_)
    · match e, he with
      | ⟨0, _⟩, _ => rfl
      | ⟨1, _⟩, _ => rfl
      | ⟨2, _⟩, he => exact absurd rfl he
    · show k.val + 1024 = 1024 + k.val; omega

/-- The reference's sum. -/
theorem ref_eq (x : FVec Ideal S1x4096x2048 .f32) (a b : FVec Ideal S1x4096x1024 .f32) (w : FVec Ideal S2048x2048 .f32) :
    shapeCast Cert.MixOutRefIdeal.S4096x2048 (addf x
      (Host.dotGeneral Cert.MixOutRefIdeal.dot_S1x4096x2048_S2048x2048_S1x4096x2048_2_0_01_1_n_n none
        (concatenate Cert.MixOutRefIdeal.S1x4096x2048 2 [⟨Cert.MixOutRefIdeal.S1x4096x1024, a⟩, ⟨Cert.MixOutRefIdeal.S1x4096x1024, b⟩]
          Cert.MixOutRefIdeal.Facts₀.concatenates_S1x4096x1024_S1x4096x1024_S1x4096x2048_d2) w))
      Cert.MixOutRefIdeal.Facts₀.shapeCasts_S1x4096x2048_S4096x2048 = joined x a b w := by
  funext i
  exact (flat_read _ _ i).trans (congrArg (x (ix3 (0 : Fin 1) (i 0) (i 1)) + ·)
    ((batchPlain_read Cert.MixOutRefIdeal.Gen.dot_S1x4096x2048_S2048x2048_S1x4096x2048_2_0_01_1_n_n_wf _ w (ix3 (0 : Fin 1) (i 0) (i 1))).trans
      (sides a b w i)))

/-- The kernel and the reference compute the same array. -/
theorem algebraic : Cert.algebraic_MixOutIdeal_MixOutRefIdeal := by
  intro m g m' g' _ hm
  refine ⟨fun c => joined (m ((c : Thread nD τ).loc main_arg0)) (m ((c : Thread nD τ).loc main_arg1)) (m ((c : Thread nD τ).loc main_arg2))
    (m ((c : Thread nD τ).loc main_arg3)), ?_, ?_⟩
  · exact (θ_run defs _ _).mono (fun _ h c => ⟨(h c).1.trans ((dats m 0 c).arrAt_eq_of_cover 5 _ (fun t _ => flushed_eq m c t) cover),
      (h c).2⟩) (run_blocks m g)
  · refine (θ_run Cert.MixOutRefIdeal.defs _ _).mono (fun _ h c => ⟨(h c).1.trans ?_, (h c).2⟩)
      (Cert.MixOutRefIdeal.Value.run m' g')
    rw [(hm c).1, (hm c).2.1, (hm c).2.2.1, (hm c).2.2.2]
    exact ref_eq _ _ _ _

end Cert.MixOutIdeal.Value

end
-- ==== Proof.lean ====
/- The certificate's claims, put together. The frames of the kernels are the generated ones; the references are
   straight-line host programs that declare no semaphore; the value claims are proved in the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Weights
public import proofs.«01_k».proof.Proof.Gen.Weights.Skeleton
public import proofs.«01_k».proof.Proof.Gen.Weights.Launch
public import proofs.«01_k».proof.Proof.Gen.Weights.Points
public import proofs.«01_k».proof.Proof.Gen.Weights.Frame
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points
public import proofs.«01_k».proof.Proof.Gen.WeightsIdeal.Frame
public import proofs.«01_k».proof.Proof.Gen.WeightsIdeal.Value
public import proofs.«01_k».proof.Proof.Gen.WeightsRefIdeal
public import proofs.«01_k».proof.Proof.Gen.WeightsRefIdeal.Run
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.InputIdeal.Value
public import proofs.«01_k».proof.Proof.Gen.InputRefIdeal
public import proofs.«01_k».proof.Proof.Gen.InputRefIdeal.Run
public import proofs.«01_k».proof.Proof.Gen.InWeight
public import proofs.«01_k».proof.Proof.Gen.InWeight.Skeleton
public import proofs.«01_k».proof.Proof.Gen.InWeight.Launch
public import proofs.«01_k».proof.Proof.Gen.InWeight.Points
public import proofs.«01_k».proof.Proof.Gen.InWeight.Frame
public import proofs.«01_k».proof.Proof.Gen.InWeightIdeal
public import proofs.«01_k».proof.Proof.Gen.InWeightIdeal.Skeleton
public import proofs.«01_k».proof.Proof.Gen.InWeightIdeal.Launch
public import proofs.«01_k».proof.Proof.Gen.InWeightIdeal.Points
public import proofs.«01_k».proof.Proof.Gen.InWeightIdeal.Frame
public import proofs.«01_k».proof.Proof.Gen.InWeightIdeal.Value
public import proofs.«01_k».proof.Proof.Gen.InWeightRefIdeal
public import proofs.«01_k».proof.Proof.Gen.InWeightRefIdeal.Run
public import proofs.«01_k».proof.Proof.Gen.InInput
public import proofs.«01_k».proof.Proof.Gen.InInput.Skeleton
public import proofs.«01_k».proof.Proof.Gen.InInput.Launch
public import proofs.«01_k».proof.Proof.Gen.InInput.Points
public import proofs.«01_k».proof.Proof.Gen.InInput.Frame
public import proofs.«01_k».proof.Proof.Gen.InInputIdeal
public import proofs.«01_k».proof.Proof.Gen.InInputIdeal.Skeleton
public import proofs.«01_k».proof.Proof.Gen.InInputIdeal.Launch
public import proofs.«01_k».proof.Proof.Gen.InInputIdeal.Points
public import proofs.«01_k».proof.Proof.Gen.InInputIdeal.Frame
public import proofs.«01_k».proof.Proof.Gen.InInputIdeal.Value
public import proofs.«01_k».proof.Proof.Gen.InInputRefIdeal
public import proofs.«01_k».proof.Proof.Gen.InInputRefIdeal.Run
public import proofs.«01_k».proof.Proof.Gen.OutInput
public import proofs.«01_k».proof.Proof.Gen.OutInput.Skeleton
public import proofs.«01_k».proof.Proof.Gen.OutInput.Launch
public import proofs.«01_k».proof.Proof.Gen.OutInput.Points
public import proofs.«01_k».proof.Proof.Gen.OutInput.Frame
public import proofs.«01_k».proof.Proof.Gen.OutInputIdeal
public import proofs.«01_k».proof.Proof.Gen.OutInputIdeal.Skeleton
public import proofs.«01_k».proof.Proof.Gen.OutInputIdeal.Launch
public import proofs.«01_k».proof.Proof.Gen.OutInputIdeal.Points
public import proofs.«01_k».proof.Proof.Gen.OutInputIdeal.Frame
public import proofs.«01_k».proof.Proof.Gen.OutInputIdeal.Value
public import proofs.«01_k».proof.Proof.Gen.OutInputRefIdeal
public import proofs.«01_k».proof.Proof.Gen.OutInputRefIdeal.Run
public import proofs.«01_k».proof.Proof.Gen.OutWeight
public import proofs.«01_k».proof.Proof.Gen.OutWeight.Skeleton
public import proofs.«01_k».proof.Proof.Gen.OutWeight.Launch
public import proofs.«01_k».proof.Proof.Gen.OutWeight.Points
public import proofs.«01_k».proof.Proof.Gen.OutWeight.Frame
public import proofs.«01_k».proof.Proof.Gen.OutWeightIdeal
public import proofs.«01_k».proof.Proof.Gen.OutWeightIdeal.Skeleton
public import proofs.«01_k».proof.Proof.Gen.OutWeightIdeal.Launch
public import proofs.«01_k».proof.Proof.Gen.OutWeightIdeal.Points
public import proofs.«01_k».proof.Proof.Gen.OutWeightIdeal.Frame
public import proofs.«01_k».proof.Proof.Gen.OutWeightIdeal.Value
public import proofs.«01_k».proof.Proof.Gen.OutWeightRefIdeal
public import proofs.«01_k».proof.Proof.Gen.OutWeightRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Mixed
public import proofs.«01_k».proof.Proof.Gen.Mixed.Skeleton
public import proofs.«01_k».proof.Proof.Gen.Mixed.Launch
public import proofs.«01_k».proof.Proof.Gen.Mixed.Points
public import proofs.«01_k».proof.Proof.Gen.Mixed.Frame
public import proofs.«01_k».proof.Proof.Gen.MixedIdeal
public import proofs.«01_k».proof.Proof.Gen.MixedIdeal.Skeleton
public import proofs.«01_k».proof.Proof.Gen.MixedIdeal.Launch
public import proofs.«01_k».proof.Proof.Gen.MixedIdeal.Points
public import proofs.«01_k».proof.Proof.Gen.MixedIdeal.Frame
public import proofs.«01_k».proof.Proof.Gen.MixedIdeal.Value
public import proofs.«01_k».proof.Proof.Gen.MixedRefIdeal
public import proofs.«01_k».proof.Proof.Gen.MixedRefIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.StepDown
public import proofs.«01_k».proof.Proof.Gen.StepDown.Skeleton
public import proofs.«01_k».proof.Proof.Gen.StepDown.Launch
public import proofs.«01_k».proof.Proof.Gen.StepDown.Points
public import proofs.«01_k».proof.Proof.Gen.StepDown.Frame
public import proofs.«01_k».proof.Proof.Gen.StepDownIdeal
public import proofs.«01_k».proof.Proof.Gen.StepDownIdeal.Skeleton
public import proofs.«01_k».proof.Proof.Gen.StepDownIdeal.Launch
public import proofs.«01_k».proof.Proof.Gen.StepDownIdeal.Points
public import proofs.«01_k».proof.Proof.Gen.StepDownIdeal.Frame
public import proofs.«01_k».proof.Proof.Gen.StepDownIdeal.Value
public import proofs.«01_k».proof.Proof.Gen.StepDownRefIdeal
public import proofs.«01_k».proof.Proof.Gen.StepDownRefIdeal.Run
public import proofs.«01_k».proof.Proof.Gen.StepOut
public import proofs.«01_k».proof.Proof.Gen.StepOut.Skeleton
public import proofs.«01_k».proof.Proof.Gen.StepOut.Launch
public import proofs.«01_k».proof.Proof.Gen.StepOut.Points
public import proofs.«01_k».proof.Proof.Gen.StepOut.Frame
public import proofs.«01_k».proof.Proof.Gen.StepOutIdeal
public import proofs.«01_k».proof.Proof.Gen.StepOutIdeal.Skeleton
public import proofs.«01_k».proof.Proof.Gen.StepOutIdeal.Launch
public import proofs.«01_k».proof.Proof.Gen.StepOutIdeal.Points
public import proofs.«01_k».proof.Proof.Gen.StepOutIdeal.Frame
public import proofs.«01_k».proof.Proof.Gen.StepOutIdeal.Value
public import proofs.«01_k».proof.Proof.Gen.StepOutRefIdeal
public import proofs.«01_k».proof.Proof.Gen.StepOutRefIdeal.Run
public import proofs.«01_k».proof.Proof.Gen.StepGate
public import proofs.«01_k».proof.Proof.Gen.StepGate.Skeleton
public import proofs.«01_k».proof.Proof.Gen.StepGate.Launch
public import proofs.«01_k».proof.Proof.Gen.StepGate.Points
public import proofs.«01_k».proof.Proof.Gen.StepGate.Frame
public import proofs.«01_k».proof.Proof.Gen.StepGateIdeal
public import proofs.«01_k».proof.Proof.Gen.StepGateIdeal.Skeleton
public import proofs.«01_k».proof.Proof.Gen.StepGateIdeal.Launch
public import proofs.«01_k».proof.Proof.Gen.StepGateIdeal.Points
public import proofs.«01_k».proof.Proof.Gen.StepGateIdeal.Frame
public import proofs.«01_k».proof.Proof.Gen.StepGateIdeal.Value
public import proofs.«01_k».proof.Proof.Gen.StepGateRefIdeal
public import proofs.«01_k».proof.Proof.Gen.StepGateRefIdeal.Run
public import proofs.«01_k».proof.Proof.Gen.StepIn
public import proofs.«01_k».proof.Proof.Gen.StepIn.Skeleton
public import proofs.«01_k».proof.Proof.Gen.StepIn.Launch
public import proofs.«01_k».proof.Proof.Gen.StepIn.Points
public import proofs.«01_k».proof.Proof.Gen.StepIn.Frame
public import proofs.«01_k».proof.Proof.Gen.StepInIdeal
public import proofs.«01_k».proof.Proof.Gen.StepInIdeal.Skeleton
public import proofs.«01_k».proof.Proof.Gen.StepInIdeal.Launch
public import proofs.«01_k».proof.Proof.Gen.StepInIdeal.Points
public import proofs.«01_k».proof.Proof.Gen.StepInIdeal.Frame
public import proofs.«01_k».proof.Proof.Gen.StepInIdeal.Value
public import proofs.«01_k».proof.Proof.Gen.StepInRefIdeal
public import proofs.«01_k».proof.Proof.Gen.StepInRefIdeal.Run
public import proofs.«01_k».proof.Proof.Gen.StepSmall
public import proofs.«01_k».proof.Proof.Gen.StepSmall.Skeleton
public import proofs.«01_k».proof.Proof.Gen.StepSmall.Launch
public import proofs.«01_k».proof.Proof.Gen.StepSmall.Points
public import proofs.«01_k».proof.Proof.Gen.StepSmall.Frame
public import proofs.«01_k».proof.Proof.Gen.StepSmallIdeal
public import proofs.«01_k».proof.Proof.Gen.StepSmallIdeal.Skeleton
public import proofs.«01_k».proof.Proof.Gen.StepSmallIdeal.Launch
public import proofs.«01_k».proof.Proof.Gen.StepSmallIdeal.Points
public import proofs.«01_k».proof.Proof.Gen.StepSmallIdeal.Frame
public import proofs.«01_k».proof.Proof.Gen.StepSmallIdeal.Value
public import proofs.«01_k».proof.Proof.Gen.StepSmallRefIdeal
public import proofs.«01_k».proof.Proof.Gen.StepSmallRefIdeal.Run
public import proofs.«01_k».proof.Proof.Gen.NormOut
public import proofs.«01_k».proof.Proof.Gen.NormOut.Skeleton
public import proofs.«01_k».proof.Proof.Gen.NormOut.Launch
public import proofs.«01_k».proof.Proof.Gen.NormOut.Points
public import proofs.«01_k».proof.Proof.Gen.NormOut.Frame
public import proofs.«01_k».proof.Proof.Gen.NormOutIdeal
public import proofs.«01_k».proof.Proof.Gen.NormOutIdeal.Skeleton
public import proofs.«01_k».proof.Proof.Gen.NormOutIdeal.Launch
public import proofs.«01_k».proof.Proof.Gen.NormOutIdeal.Points
public import proofs.«01_k».proof.Proof.Gen.NormOutIdeal.Frame
public import proofs.«01_k».proof.Proof.Gen.NormOutIdeal.Value
public import proofs.«01_k».proof.Proof.Gen.NormOutRefIdeal
public import proofs.«01_k».proof.Proof.Gen.NormOutRefIdeal.Run
public import proofs.«01_k».proof.Proof.Gen.NormBack
public import proofs.«01_k».proof.Proof.Gen.NormBack.Skeleton
public import proofs.«01_k».proof.Proof.Gen.NormBack.Launch
public import proofs.«01_k».proof.Proof.Gen.NormBack.Points
public import proofs.«01_k».proof.Proof.Gen.NormBack.Frame
public import proofs.«01_k».proof.Proof.Gen.NormBackIdeal
public import proofs.«01_k».proof.Proof.Gen.NormBackIdeal.Skeleton
public import proofs.«01_k».proof.Proof.Gen.NormBackIdeal.Launch
public import proofs.«01_k».proof.Proof.Gen.NormBackIdeal.Points
public import proofs.«01_k».proof.Proof.Gen.NormBackIdeal.Frame
public import proofs.«01_k».proof.Proof.Gen.NormBackIdeal.Value
public import proofs.«01_k».proof.Proof.Gen.NormBackRefIdeal
public import proofs.«01_k».proof.Proof.Gen.NormBackRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.Pre_finite
public import proofs.«01_k».proof.Proof.Gen.Pre_finite_act
public import proofs.«01_k».proof.Proof.Gate
public import proofs.«01_k».proof.Proof.Down
public import proofs.«01_k».proof.Proof.Weights
public import proofs.«01_k».proof.Proof.Input
public import proofs.«01_k».proof.Proof.InWeight
public import proofs.«01_k».proof.Proof.InInput
public import proofs.«01_k».proof.Proof.OutInput
public import proofs.«01_k».proof.Proof.OutWeight
public import proofs.«01_k».proof.Proof.Act
public import proofs.«01_k».proof.Proof.Mixed
public import proofs.«01_k».proof.Proof.Project
public import proofs.«01_k».proof.Proof.StepDown
public import proofs.«01_k».proof.Proof.StepOut
public import proofs.«01_k».proof.Proof.StepGate
public import proofs.«01_k».proof.Proof.StepIn
public import proofs.«01_k».proof.Proof.StepSmall
public import proofs.«01_k».proof.Proof.NormOut
public import proofs.«01_k».proof.Proof.NormBack
public import proofs.«01_k».proof.Proof.LossHead
public import proofs.«01_k».proof.Proof.MixOut
public import Idealize.ShloMosaic.Adequacy
public import Idealize.ShloMosaic.Init

@[expose] public section

noncomputable section

namespace Cert.Proof

open Idealize.ShloMosaic Idealize.SL.Sem

/-- The reference of the attention's query gradient ends with its arguments as they were and no counter raised. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference of the gate's gradients ends with its arguments as they were and no counter raised. -/
theorem frame_GateRefIdeal : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run m ρ)

/-- The reference of the down projection's weight gradient ends with its arguments as they were and no counter raised. -/
theorem frame_DownRefIdeal : Cert.quiescent_DownRefIdeal := fun m ρ _ =>
  (θ_run Cert.DownRefIdeal.defs _ _).mono (fun r h => ⟨fun c => (h c).2, sem_eq_zero_of_no_sems (by decide) r.2⟩)
    (Cert.DownRefIdeal.Value.run m ρ)

/-- The reference of the gate and up weights' gradients ends with its arguments as they were and no counter raised. -/
theorem frame_WeightsRefIdeal : Cert.quiescent_WeightsRefIdeal := fun m ρ _ =>
  (θ_run Cert.WeightsRefIdeal.defs _ _).mono (fun r h => ⟨fun c => (h c).2.2, sem_eq_zero_of_no_sems (by decide) r.2⟩)
    (Cert.WeightsRefIdeal.Value.run m ρ)

/-- The reference of the input's gradient ends with its arguments as they were and no counter raised. -/
theorem frame_InputRefIdeal : Cert.quiescent_InputRefIdeal := fun m ρ _ =>
  (θ_run Cert.InputRefIdeal.defs _ _).mono (fun r h => ⟨fun c => (h c).2, sem_eq_zero_of_no_sems (by decide) r.2⟩)
    (Cert.InputRefIdeal.Value.run m ρ)

/-- The reference of the input projection's weight gradient ends with its arguments as they were and no counter raised. -/
theorem frame_InWeightRefIdeal : Cert.quiescent_InWeightRefIdeal := fun m ρ _ =>
  (θ_run Cert.InWeightRefIdeal.defs _ _).mono (fun r h => ⟨fun c => (h c).2, sem_eq_zero_of_no_sems (by decide) r.2⟩)
    (Cert.InWeightRefIdeal.Value.run m ρ)

/-- The reference of the input projection's input gradient ends with its arguments as they were and no counter raised. -/
theorem frame_InInputRefIdeal : Cert.quiescent_InInputRefIdeal := fun m ρ _ =>
  (θ_run Cert.InInputRefIdeal.defs _ _).mono (fun r h => ⟨fun c => (h c).2, sem_eq_zero_of_no_sems (by decide) r.2⟩)
    (Cert.InInputRefIdeal.Value.run m ρ)

/-- The reference of the output projection's input gradient ends with its arguments as they were and no counter raised. -/
theorem frame_OutInputRefIdeal : Cert.quiescent_OutInputRefIdeal := fun m ρ _ =>
  (θ_run Cert.OutInputRefIdeal.defs _ _).mono (fun r h => ⟨fun c => (h c).2, sem_eq_zero_of_no_sems (by decide) r.2⟩)
    (Cert.OutInputRefIdeal.Value.run m ρ)

/-- The reference of the output projection's weight gradient ends with its arguments as they were and no counter raised. -/
theorem frame_OutWeightRefIdeal : Cert.quiescent_OutWeightRefIdeal := fun m ρ _ =>
  (θ_run Cert.OutWeightRefIdeal.defs _ _).mono (fun r h => ⟨fun c => (h c).2, sem_eq_zero_of_no_sems (by decide) r.2⟩)
    (Cert.OutWeightRefIdeal.Value.run m ρ)

/-- The reference of the gated activation ends with its arguments as they were and no counter raised. -/
theorem frame_ActRefIdeal : Cert.quiescent_ActRefIdeal := fun m ρ _ =>
  (θ_run Cert.ActRefIdeal.defs _ _).mono (fun r h => ⟨fun c => (h c).2.2.2, sem_eq_zero_of_no_sems (by decide) r.2⟩)
    (Cert.ActRefIdeal.Value.run m ρ)

/-- The reference of the down projection ends with its arguments as they were and no counter raised. -/
theorem frame_MixedRefIdeal : Cert.quiescent_MixedRefIdeal := fun m ρ _ =>
  (θ_run Cert.MixedRefIdeal.defs _ _).mono (fun r h => ⟨fun c => (h c).2, sem_eq_zero_of_no_sems (by decide) r.2⟩)
    (Cert.MixedRefIdeal.Value.run m ρ)

/-- The reference of the input projection ends with its arguments as they were and no counter raised. -/
theorem frame_ProjectRefIdeal : Cert.quiescent_ProjectRefIdeal := fun m ρ _ =>
  (θ_run Cert.ProjectRefIdeal.defs _ _).mono (fun r h => ⟨fun c => (h c).2, sem_eq_zero_of_no_sems (by decide) r.2⟩)
    (Cert.ProjectRefIdeal.Value.run m ρ)

/-- The reference of the down weight's step ends with its arguments as they were and no counter raised. -/
theorem frame_StepDownRefIdeal : Cert.quiescent_StepDownRefIdeal := fun m ρ _ =>
  (θ_run Cert.StepDownRefIdeal.defs _ _).mono (fun r h => ⟨fun c => (h c).2.2.2.2, sem_eq_zero_of_no_sems (by decide) r.2⟩)
    (Cert.StepDownRefIdeal.Value.run m ρ)

/-- The reference of the output weight's step ends with its arguments as they were and no counter raised. -/
theorem frame_StepOutRefIdeal : Cert.quiescent_StepOutRefIdeal := fun m ρ _ =>
  (θ_run Cert.StepOutRefIdeal.defs _ _).mono (fun r h => ⟨fun c => (h c).2.2.2.2, sem_eq_zero_of_no_sems (by decide) r.2⟩)
    (Cert.StepOutRefIdeal.Value.run m ρ)

/-- The reference of the gate weight's step ends with its arguments as they were and no counter raised. -/
theorem frame_StepGateRefIdeal : Cert.quiescent_StepGateRefIdeal := fun m ρ _ =>
  (θ_run Cert.StepGateRefIdeal.defs _ _).mono (fun r h => ⟨fun c => (h c).2.2.2.2, sem_eq_zero_of_no_sems (by decide) r.2⟩)
    (Cert.StepGateRefIdeal.Value.run m ρ)

/-- The reference of the input weight's step ends with its arguments as they were and no counter raised. -/
theorem frame_StepInRefIdeal : Cert.quiescent_StepInRefIdeal := fun m ρ _ =>
  (θ_run Cert.StepInRefIdeal.defs _ _).mono (fun r h => ⟨fun c => (h c).2.2.2.2, sem_eq_zero_of_no_sems (by decide) r.2⟩)
    (Cert.StepInRefIdeal.Value.run m ρ)

/-- The reference of the packed small parameters' step ends with its arguments as they were and no counter raised. -/
theorem frame_StepSmallRefIdeal : Cert.quiescent_StepSmallRefIdeal := fun m ρ _ =>
  (θ_run Cert.StepSmallRefIdeal.defs _ _).mono (fun r h => ⟨fun c => (h c).2.2.2.2, sem_eq_zero_of_no_sems (by decide) r.2⟩)
    (Cert.StepSmallRefIdeal.Value.run m ρ)

/-- The reference of the normed input ends with its arguments as they were and no counter raised. -/
theorem frame_NormOutRefIdeal : Cert.quiescent_NormOutRefIdeal := fun m ρ _ =>
  (θ_run Cert.NormOutRefIdeal.defs _ _).mono (fun r h => ⟨fun c => (h c).2, sem_eq_zero_of_no_sems (by decide) r.2⟩)
    (Cert.NormOutRefIdeal.Value.run m ρ)

/-- The reference of the norm's gradients ends with its arguments as they were and no counter raised. -/
theorem frame_NormBackRefIdeal : Cert.quiescent_NormBackRefIdeal := fun m ρ _ =>
  (θ_run Cert.NormBackRefIdeal.defs _ _).mono (fun r h => ⟨fun c => (h c).2.2.2, sem_eq_zero_of_no_sems (by decide) r.2⟩)
    (Cert.NormBackRefIdeal.Value.run m ρ)

/-- The reference of the loss ends with its arguments as they were and no counter raised. -/
theorem frame_LossHeadRefIdeal : Cert.quiescent_LossHeadRefIdeal := fun m ρ _ =>
  (θ_run Cert.LossHeadRefIdeal.defs _ _).mono (fun r h => ⟨fun c => (h c).2, sem_eq_zero_of_no_sems (by decide) r.2⟩)
    (Cert.LossHeadRefIdeal.Value.run m ρ)

/-- The reference of the output projection ends with its arguments as they were and no counter raised. -/
theorem frame_MixOutRefIdeal : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run m ρ)

theorem claim : Cert.Claim := ⟨Cert.Kernel.Gen.facts,
  Cert.KernelIdeal.Gen.facts,
  Cert.ReferenceIdeal.Gen.facts,
  Cert.Gate.Gen.facts,
  Cert.GateIdeal.Gen.facts,
  Cert.GateRefIdeal.Gen.facts,
  Cert.Down.Gen.facts,
  Cert.DownIdeal.Gen.facts,
  Cert.DownRefIdeal.Gen.facts,
  Cert.Weights.Gen.facts,
  Cert.WeightsIdeal.Gen.facts,
  Cert.WeightsRefIdeal.Gen.facts,
  Cert.Input.Gen.facts,
  Cert.InputIdeal.Gen.facts,
  Cert.InputRefIdeal.Gen.facts,
  Cert.InWeight.Gen.facts,
  Cert.InWeightIdeal.Gen.facts,
  Cert.InWeightRefIdeal.Gen.facts,
  Cert.InInput.Gen.facts,
  Cert.InInputIdeal.Gen.facts,
  Cert.InInputRefIdeal.Gen.facts,
  Cert.OutInput.Gen.facts,
  Cert.OutInputIdeal.Gen.facts,
  Cert.OutInputRefIdeal.Gen.facts,
  Cert.OutWeight.Gen.facts,
  Cert.OutWeightIdeal.Gen.facts,
  Cert.OutWeightRefIdeal.Gen.facts,
  Cert.Act.Gen.facts,
  Cert.ActIdeal.Gen.facts,
  Cert.ActRefIdeal.Gen.facts,
  Cert.Mixed.Gen.facts,
  Cert.MixedIdeal.Gen.facts,
  Cert.MixedRefIdeal.Gen.facts,
  Cert.Project.Gen.facts,
  Cert.ProjectIdeal.Gen.facts,
  Cert.ProjectRefIdeal.Gen.facts,
  Cert.StepDown.Gen.facts,
  Cert.StepDownIdeal.Gen.facts,
  Cert.StepDownRefIdeal.Gen.facts,
  Cert.StepOut.Gen.facts,
  Cert.StepOutIdeal.Gen.facts,
  Cert.StepOutRefIdeal.Gen.facts,
  Cert.StepGate.Gen.facts,
  Cert.StepGateIdeal.Gen.facts,
  Cert.StepGateRefIdeal.Gen.facts,
  Cert.StepIn.Gen.facts,
  Cert.StepInIdeal.Gen.facts,
  Cert.StepInRefIdeal.Gen.facts,
  Cert.StepSmall.Gen.facts,
  Cert.StepSmallIdeal.Gen.facts,
  Cert.StepSmallRefIdeal.Gen.facts,
  Cert.NormOut.Gen.facts,
  Cert.NormOutIdeal.Gen.facts,
  Cert.NormOutRefIdeal.Gen.facts,
  Cert.NormBack.Gen.facts,
  Cert.NormBackIdeal.Gen.facts,
  Cert.NormBackRefIdeal.Gen.facts,
  Cert.LossHead.Gen.facts,
  Cert.LossHeadIdeal.Gen.facts,
  Cert.LossHeadRefIdeal.Gen.facts,
  Cert.MixOut.Gen.facts,
  Cert.MixOutIdeal.Gen.facts,
  Cert.MixOutRefIdeal.Gen.facts,
  Cert.Pre_finite.Gen.facts,
  Cert.Pre_finite_act.Gen.facts,
  fun m ρ _ => Cert.Kernel.Gen.frame m ρ,
  fun m ρ _ => Cert.KernelIdeal.Gen.frame m ρ,
  frame_ReferenceIdeal,
  fun m ρ _ => Cert.Gate.Gen.frame m ρ,
  fun m ρ _ => Cert.GateIdeal.Gen.frame m ρ,
  fun m ρ _ => Cert.GateIdeal.Gen.frame m ρ,
  frame_GateRefIdeal,
  fun m ρ _ => frame_GateRefIdeal m ρ trivial,
  fun m ρ _ => Cert.Down.Gen.frame m ρ,
  fun m ρ _ => Cert.DownIdeal.Gen.frame m ρ,
  frame_DownRefIdeal,
  fun m ρ _ => Cert.Weights.Gen.frame m ρ,
  fun m ρ _ => Cert.WeightsIdeal.Gen.frame m ρ,
  frame_WeightsRefIdeal,
  fun m ρ _ => Cert.Input.Gen.frame m ρ,
  fun m ρ _ => Cert.InputIdeal.Gen.frame m ρ,
  frame_InputRefIdeal,
  fun m ρ _ => Cert.InWeight.Gen.frame m ρ,
  fun m ρ _ => Cert.InWeightIdeal.Gen.frame m ρ,
  frame_InWeightRefIdeal,
  fun m ρ _ => Cert.InInput.Gen.frame m ρ,
  fun m ρ _ => Cert.InInputIdeal.Gen.frame m ρ,
  frame_InInputRefIdeal,
  fun m ρ _ => Cert.OutInput.Gen.frame m ρ,
  fun m ρ _ => Cert.OutInputIdeal.Gen.frame m ρ,
  frame_OutInputRefIdeal,
  fun m ρ _ => Cert.OutWeight.Gen.frame m ρ,
  fun m ρ _ => Cert.OutWeightIdeal.Gen.frame m ρ,
  frame_OutWeightRefIdeal,
  fun m ρ _ => Cert.Act.Gen.frame m ρ,
  fun m ρ _ => Cert.ActIdeal.Gen.frame m ρ,
  fun m ρ _ => Cert.ActIdeal.Gen.frame m ρ,
  frame_ActRefIdeal,
  fun m ρ _ => frame_ActRefIdeal m ρ trivial,
  fun m ρ _ => Cert.Mixed.Gen.frame m ρ,
  fun m ρ _ => Cert.MixedIdeal.Gen.frame m ρ,
  frame_MixedRefIdeal,
  fun m ρ _ => Cert.Project.Gen.frame m ρ,
  fun m ρ _ => Cert.ProjectIdeal.Gen.frame m ρ,
  frame_ProjectRefIdeal,
  fun m ρ _ => Cert.StepDown.Gen.frame m ρ,
  fun m ρ _ => Cert.StepDownIdeal.Gen.frame m ρ,
  frame_StepDownRefIdeal,
  fun m ρ _ => Cert.StepOut.Gen.frame m ρ,
  fun m ρ _ => Cert.StepOutIdeal.Gen.frame m ρ,
  frame_StepOutRefIdeal,
  fun m ρ _ => Cert.StepGate.Gen.frame m ρ,
  fun m ρ _ => Cert.StepGateIdeal.Gen.frame m ρ,
  frame_StepGateRefIdeal,
  fun m ρ _ => Cert.StepIn.Gen.frame m ρ,
  fun m ρ _ => Cert.StepInIdeal.Gen.frame m ρ,
  frame_StepInRefIdeal,
  fun m ρ _ => Cert.StepSmall.Gen.frame m ρ,
  fun m ρ _ => Cert.StepSmallIdeal.Gen.frame m ρ,
  frame_StepSmallRefIdeal,
  fun m ρ _ => Cert.NormOut.Gen.frame m ρ,
  fun m ρ _ => Cert.NormOutIdeal.Gen.frame m ρ,
  frame_NormOutRefIdeal,
  fun m ρ _ => Cert.NormBack.Gen.frame m ρ,
  fun m ρ _ => Cert.NormBackIdeal.Gen.frame m ρ,
  frame_NormBackRefIdeal,
  fun m ρ _ => Cert.LossHead.Gen.frame m ρ,
  fun m ρ _ => Cert.LossHeadIdeal.Gen.frame m ρ,
  frame_LossHeadRefIdeal,
  fun m ρ _ => Cert.MixOut.Gen.frame m ρ,
  fun m ρ _ => Cert.MixOutIdeal.Gen.frame m ρ,
  frame_MixOutRefIdeal,
  ⟨IdealRules.named_const.statement Cert.KernelIdeal.κ "s" .f32 0x3DB504F3#32 _ rfl,
    IdealRules.named_const.statement Cert.KernelIdeal.κ "mask" .f32 0xF149F2CA#32 _ rfl⟩,
  trivial,
  Cert.GateIdeal.Value.algebraic,
  trivial,
  Cert.DownIdeal.Value.algebraic,
  trivial,
  Cert.WeightsIdeal.Value.algebraic,
  trivial,
  Cert.InputIdeal.Value.algebraic,
  trivial,
  Cert.InWeightIdeal.Value.algebraic,
  trivial,
  Cert.InInputIdeal.Value.algebraic,
  trivial,
  Cert.OutInputIdeal.Value.algebraic,
  trivial,
  Cert.OutWeightIdeal.Value.algebraic,
  trivial,
  Cert.ActIdeal.Value.algebraic,
  trivial,
  Cert.MixedIdeal.Value.algebraic,
  trivial,
  Cert.ProjectIdeal.Value.algebraic,
  ⟨IdealRules.named_const.statement Cert.StepDownIdeal.κ "r1" .f32 0x3FC48605#32 _ rfl,
    IdealRules.named_const.statement Cert.StepDownIdeal.κ "r2" .f32 0x42C8E6D3#32 _ rfl⟩,
  Cert.StepDownIdeal.Value.algebraic,
  ⟨IdealRules.named_const.statement Cert.StepOutIdeal.κ "r1" .f32 0x3FC48605#32 _ rfl,
    IdealRules.named_const.statement Cert.StepOutIdeal.κ "r2" .f32 0x42C8E6D3#32 _ rfl⟩,
  Cert.StepOutIdeal.Value.algebraic,
  ⟨IdealRules.named_const.statement Cert.StepGateIdeal.κ "r1" .f32 0x3FC48605#32 _ rfl,
    IdealRules.named_const.statement Cert.StepGateIdeal.κ "r2" .f32 0x42C8E6D3#32 _ rfl⟩,
  Cert.StepGateIdeal.Value.algebraic,
  ⟨IdealRules.named_const.statement Cert.StepInIdeal.κ "r1" .f32 0x3FC48605#32 _ rfl,
    IdealRules.named_const.statement Cert.StepInIdeal.κ "r2" .f32 0x42C8E6D3#32 _ rfl⟩,
  Cert.StepInIdeal.Value.algebraic,
  ⟨IdealRules.named_const.statement Cert.StepSmallIdeal.κ "r1" .f32 0x3FC48605#32 _ rfl,
    IdealRules.named_const.statement Cert.StepSmallIdeal.κ "r2" .f32 0x42C8E6D3#32 _ rfl⟩,
  Cert.StepSmallIdeal.Value.algebraic,
  trivial,
  Cert.NormOutIdeal.Value.algebraic,
  trivial,
  Cert.NormBackIdeal.Value.algebraic,
  trivial,
  Cert.LossHeadIdeal.Value.algebraic,
  trivial,
  Cert.MixOutIdeal.Value.algebraic⟩

end Cert.Proof

end
